-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10))).2.2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10))).2.2.2.2.2.2.2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6)) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8))).2.2.2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6)) (m ((c.tc : Thread Cert.Reference12Ideal.nD Cert.Reference12Ideal.τ).loc Cert.Reference12Ideal.main_arg7)) (m ((c.tc : Thread Cert.Reference12Ideal.nD Cert.Reference12Ideal.τ).loc Cert.Reference12Ideal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v296_0)) (v1 : (c : Dev Cert.KernelIdeal.nD) → Buf (Elt Ideal) ((c.tc : Thread Cert.KernelIdeal.nD Cert.KernelIdeal.τ).loc Cert.KernelIdeal.main_v296_1)) (v2 : (c : Dev Cert.KernelIdeal.nD) → Buf (Elt Ideal) ((c.tc : Thread Cert.KernelIdeal.nD Cert.KernelIdeal.τ).loc Cert.KernelIdeal.main_v296_2)) (v3 : (c : Dev Cert.KernelIdeal.nD) → Buf (Elt Ideal) ((c.tc : Thread Cert.KernelIdeal.nD Cert.KernelIdeal.τ).loc Cert.KernelIdeal.main_v296_3)) (v4 : (c : Dev Cert.KernelIdeal.nD) → Buf (Elt Ideal) ((c.tc : Thread Cert.KernelIdeal.nD Cert.KernelIdeal.τ).loc Cert.KernelIdeal.main_v296_4)) (v5 : (c : Dev Cert.KernelIdeal.nD) → Buf (Elt Ideal) ((c.tc : Thread Cert.KernelIdeal.nD Cert.KernelIdeal.τ).loc Cert.KernelIdeal.main_v296_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v296_0) = v0 c
          ∧ r.2.mem ((c.tc : Thread Cert.KernelIdeal.nD Cert.KernelIdeal.τ).loc Cert.KernelIdeal.main_v296_1) = v1 c
          ∧ r.2.mem ((c.tc : Thread Cert.KernelIdeal.nD Cert.KernelIdeal.τ).loc Cert.KernelIdeal.main_v296_2) = v2 c
          ∧ r.2.mem ((c.tc : Thread Cert.KernelIdeal.nD Cert.KernelIdeal.τ).loc Cert.KernelIdeal.main_v296_3) = v3 c
          ∧ r.2.mem ((c.tc : Thread Cert.KernelIdeal.nD Cert.KernelIdeal.τ).loc Cert.KernelIdeal.main_v296_4) = v4 c
          ∧ r.2.mem ((c.tc : Thread Cert.KernelIdeal.nD Cert.KernelIdeal.τ).loc Cert.KernelIdeal.main_v296_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_v317) = v1 c
          ∧ r.2.mem ((c.tc : Thread Cert.ReferenceIdeal.nD Cert.ReferenceIdeal.τ).loc Cert.ReferenceIdeal.main_v319) = v2 c
          ∧ r.2.mem ((c.tc : Thread Cert.ReferenceIdeal.nD Cert.ReferenceIdeal.τ).loc Cert.ReferenceIdeal.main_v321) = v3 c
          ∧ r.2.mem ((c.tc : Thread Cert.ReferenceIdeal.nD Cert.ReferenceIdeal.τ).loc Cert.ReferenceIdeal.main_v310) = v4 c
          ∧ r.2.mem ((c.tc : Thread Cert.ReferenceIdeal.nD Cert.ReferenceIdeal.τ).loc Cert.ReferenceIdeal.main_v322) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v11) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v9) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v9) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v45) = v0 c
          ∧ r.2.mem ((c.tc : Thread Cert.Reference11Ideal.nD Cert.Reference11Ideal.τ).loc Cert.Reference11Ideal.main_v46) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v69) = v0 c
          ∧ r.2.mem ((c.tc : Thread Cert.Reference12Ideal.nD Cert.Reference12Ideal.τ).loc Cert.Reference12Ideal.main_v98) = v1 c
          ∧ r.2.mem ((c.tc : Thread Cert.Reference12Ideal.nD Cert.Reference12Ideal.τ).loc Cert.Reference12Ideal.main_v99) = v2 c
          ∧ r.2.mem ((c.tc : Thread Cert.Reference12Ideal.nD Cert.Reference12Ideal.τ).loc Cert.Reference12Ideal.main_v100) = v3 c
          ∧ r.2.mem ((c.tc : Thread Cert.Reference12Ideal.nD Cert.Reference12Ideal.τ).loc Cert.Reference12Ideal.main_v7) = v4 c
          ∧ r.2.mem ((c.tc : Thread Cert.Reference12Ideal.nD Cert.Reference12Ideal.τ).loc Cert.Reference12Ideal.main_v68) = v5 c
          ∧ r.2.mem ((c.tc : Thread Cert.Reference12Ideal.nD Cert.Reference12Ideal.τ).loc Cert.Reference12Ideal.main_v61) = v6 c
          ∧ r.2.mem ((c.tc : Thread Cert.Reference12Ideal.nD Cert.Reference12Ideal.τ).loc Cert.Reference12Ideal.main_v101) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel10 : Cert.Kernel10.Facts) (hKernel10Ideal : Cert.Kernel10Ideal.Facts) (hReference10Ideal : Cert.Reference10Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts) (hPre_finite4 : Cert.Pre_finite4.Facts) (hPre_finite7 : Cert.Pre_finite7.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel10_Kernel10Ideal
    ∧ algebraic_Kernel10Ideal_Reference10Ideal (hKernel10Ideal := hKernel10Ideal) (hReference10Ideal := hReference10Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
-- ==== Pre_finite.lean ====
abbrev S2x2048x512 : Shape := ⟨3, ![2, 2048, 512]⟩
abbrev S4x2x2048x64 : Shape := ⟨4, ![4, 2, 2048, 64]⟩
abbrev S2x4x32 : Shape := ⟨3, ![2, 4, 32]⟩
abbrev S_ : Shape := ⟨0, ![]⟩

class Facts : Prop where
  bcast_S_S2x2048x512 : S_.BroadcastsInDim S2x2048x512 (![] : Fin 0 → Fin S2x2048x512.rank)
  bitsLt_bf16_f32 : FTy.bits .bf16 < FTy.bits .f32
  bcast_S_S4x2x2048x64 : S_.BroadcastsInDim S4x2x2048x64 (![] : Fin 0 → Fin S4x2x2048x64.rank)
  bcast_S_S2x4x32 : S_.BroadcastsInDim S2x4x32 (![] : Fin 0 → Fin S2x4x32.rank)

variable [Facts]

def fn_part1 {F : FTy → Type} [FloatOps F] (main_arg4 : FVec F S4x2x2048x64 .f32) (main_arg5 : FVec F S2x4x32 .f32) (main_arg6 : FVec F S2x2048x512 .f32) (main_v14 : IVec S2x2048x512 1) (main_v19 : IVec S2x2048x512 1) : IVec S2x2048x512 1 × IVec S4x2x2048x64 1 × IVec S2x4x32 1 :=
  let main_v20 : IVec S2x2048x512 1 := andi main_v14 main_v19
  let main_v21 : FVec F S2x2048x512 .f32 := subf main_arg6 main_arg6
  let main_cst_3 : FVec F S_ .f32 := constant S_ .f32 0x00000000#32
  let main_v22 : FVec F S2x2048x512 .f32 := broadcastInDim S2x2048x512 ![] bcast_S_S2x2048x512 main_cst_3
  let main_v23 : IVec S2x2048x512 1 := cmpf .oeq main_v21 main_v22
  let main_v24 : IVec S2x2048x512 1 := andi main_v20 main_v23
  let main_v25 : FVec F S4x2x2048x64 .f32 := subf main_arg4 main_arg4
  let main_cst_4 : FVec F S_ .f32 := constant S_ .f32 0x00000000#32
  let main_v26 : FVec F S4x2x2048x64 .f32 := broadcastInDim S4x2x2048x64 ![] bcast_S_S4x2x2048x64 main_cst_4
  let main_v27 : IVec S4x2x2048x64 1 := cmpf .oeq main_v25 main_v26
  let main_v28 : FVec F S2x4x32 .f32 := subf main_arg5 main_arg5
  let main_cst_5 : FVec F S_ .f32 := constant S_ .f32 0x00000000#32
  let main_v29 : FVec F S2x4x32 .f32 := broadcastInDim S2x4x32 ![] bcast_S_S2x4x32 main_cst_5
  let main_v30 : IVec S2x4x32 1 := cmpf .oeq main_v28 main_v29
  (main_v24, main_v27, main_v30)

def fn {F : FTy → Type} [FloatOps F] (main_arg0 : FVec F S2x2048x512 .f32) (main_arg1 : FVec F S2x2048x512 .bf16) (main_arg2 : FVec F S2x2048x512 .bf16) (main_arg3 : FVec F S2x2048x512 .bf16) (main_arg4 : FVec F S4x2x2048x64 .f32) (main_arg5 : FVec F S2x4x32 .f32) (main_arg6 : FVec F S2x2048x512 .f32) : IVec S2x2048x512 1 × IVec S4x2x2048x64 1 × IVec S2x4x32 1 :=
  let main_v0 : FVec F S2x2048x512 .f32 := subf main_arg0 main_arg0
  let main_cst : FVec F S_ .f32 := constant S_ .f32 0x00000000#32
  let main_v1 : FVec F S2x2048x512 .f32 := broadcastInDim S2x2048x512 ![] bcast_S_S2x2048x512 main_cst
  let main_v2 : IVec S2x2048x512 1 := cmpf .oeq main_v0 main_v1
  let main_v3 : FVec F S2x2048x512 .f32 := (extf .f32 · bitsLt_bf16_f32) main_arg1
  let main_v4 : FVec F S2x2048x512 .f32 := (extf .f32 · bitsLt_bf16_f32) main_arg1
  let main_v5 : FVec F S2x2048x512 .f32 := subf main_v3 main_v4
  let main_cst_0 : FVec F S_ .f32 := constant S_ .f32 0x00000000#32
  let main_v6 : FVec F S2x2048x512 .f32 := broadcastInDim S2x2048x512 ![] bcast_S_S2x2048x512 main_cst_0
  let main_v7 : IVec S2x2048x512 1 := cmpf .oeq main_v5 main_v6
  let main_v8 : IVec S2x2048x512 1 := andi main_v2 main_v7
  let main_v9 : FVec F S2x2048x512 .f32 := (extf .f32 · bitsLt_bf16_f32) main_arg2
  let main_v10 : FVec F S2x2048x512 .f32 := (extf .f32 · bitsLt_bf16_f32) main_arg2
  let main_v11 : FVec F S2x2048x512 .f32 := subf main_v9 main_v10
  let main_cst_1 : FVec F S_ .f32 := constant S_ .f32 0x00000000#32
  let main_v12 : FVec F S2x2048x512 .f32 := broadcastInDim S2x2048x512 ![] bcast_S_S2x2048x512 main_cst_1
  let main_v13 : IVec S2x2048x512 1 := cmpf .oeq main_v11 main_v12
  let main_v14 : IVec S2x2048x512 1 := andi main_v8 main_v13
  let main_v15 : FVec F S2x2048x512 .f32 := (extf .f32 · bitsLt_bf16_f32) main_arg3
  let main_v16 : FVec F S2x2048x512 .f32 := (extf .f32 · bitsLt_bf16_f32) main_arg3
  let main_v17 : FVec F S2x2048x512 .f32 := subf main_v15 main_v16
  let main_cst_2 : FVec F S_ .f32 := constant S_ .f32 0x00000000#32
  let main_v18 : FVec F S2x2048x512 .f32 := broadcastInDim S2x2048x512 ![] bcast_S_S2x2048x512 main_cst_2
  let main_v19 : IVec S2x2048x512 1 := cmpf .oeq main_v17 main_v18
  fn_part1 (F := F) main_arg4 main_arg5 main_arg6 main_v14 main_v19
-- ==== Pre_finite12.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bitsLt_bf16_f32 : FTy.bits .bf16 < FTy.bits .f32
  bcast_S_S4096x5760 : S_.BroadcastsInDim S4096x5760 (![] : Fin 0 → Fin S4096x5760.rank)
  bcast_S_S1x128 : S_.BroadcastsInDim S1x128 (![] : Fin 0 → Fin S1x128.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg8 : FVec F S1024x1024 .bf16) (main_v2 : IVec S4096x1024 1) (main_v5 : IVec S4096x512 1) (main_v10 : IVec S4096x5760 1) (main_v13 : IVec S1x128 1) (main_v18 : IVec S512x1024 1) : IVec S4096x1024 1 × IVec S4096x512 1 × IVec S4096x5760 1 × IVec S1x128 1 × IVec S512x1024 1 × IVec S1024x1024 1 :=
  let main_v19 : FVec F S1024x1024 .f32 := (extf .f32 · bitsLt_bf16_f32) main_arg8
  let main_v20 : FVec F S1024x1024 .f32 := (extf .f32 · bitsLt_bf16_f32) main_arg8
  let main_v21 : FVec F S1024x1024 .f32 := subf main_v19 main_v20
  let main_cst_4 : FVec F S_ .f32 := constant S_ .f32 0x00000000#32
  let main_v22 : FVec F S1024x1024 .f32 := broadcastInDim S1024x1024 ![] bcast_S_S1024x1024 main_cst_4
  let main_v23 : IVec S1024x1024 1 := cmpf .oeq main_v21 main_v22
  (main_v2, main_v5, main_v10, main_v13, main_v18, main_v23)

def fn {F : FTy → Type} [FloatOps F] (main_arg0 : FVec F S4096x1024 .f32) (main_arg1 : FVec F S4096x1024 .bf16) (main_arg2 : FVec F S4096x512 .f32) (main_arg3 : FVec F S4096x512 .f32) (main_arg4 : FVec F S4096x5760 .bf16) (main_arg5 : FVec F S1x128 .f32) (main_arg6 : FVec F S512x1024 .bf16) (main_arg7 : FVec F S512x1024 .bf16) (main_arg8 : FVec F S1024x1024 .bf16) : IVec S4096x1024 1 × IVec S4096x512 1 × IVec S4096x5760 1 × IVec S1x128 1 × IVec S512x1024 1 × IVec S1024x1024 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S4096x512 .f32 := subf main_arg3 main_arg3
  let main_cst_0 : FVec F S_ .f32 := constant S_ .f32 0x00000000#32
  let main_v4 : FVec F S4096x512 .f32 := broadcastInDim S4096x512 ![] bcast_S_S4096x512 main_cst_0
  let main_v5 : IVec S4096x512 1 := cmpf .oeq main_v3 main_v4
  let main_v6 : FVec F S4096x5760 .f32 := (extf .f32 · bitsLt_bf16_f32) main_arg4
  let main_v7 : FVec F S4096x5760 .f32 := (extf .f32 · bitsLt_bf16_f32) main_arg4
  let main_v8 : FVec F S4096x5760 .f32 := subf main_v6 main_v7
  let main_cst_1 : FVec F S_ .f32 := constant S_ .f32 0x00000000#32
  let main_v9 : FVec F S4096x5760 .f32 := broadcastInDim S4096x5760 ![] bcast_S_S4096x5760 main_cst_1
  let main_v10 : IVec S4096x5760 1 := cmpf .oeq main_v8 main_v9
  let main_v11 : FVec F S1x128 .f32 := subf main_arg5 main_arg5
  let main_cst_2 : FVec F S_ .f32 := constant S_ .f32 0x00000000#32
  let main_v12 : FVec F S1x128 .f32 := broadcastInDim S1x128 ![] bcast_S_S1x128 main_cst_2
  let main_v13 : IVec S1x128 1 := cmpf .oeq main_v11 main_v12
  let main_v14 : FVec F S512x1024 .f32 := (extf .f32 · bitsLt_bf16_f32) main_arg7
  let main_v15 : FVec F S512x1024 .f32 := (extf .f32 · bitsLt_bf16_f32) main_arg7
  let main_v16 : FVec F S512x1024 .f32 := subf main_v14 main_v15
  let main_cst_3 : FVec F S_ .f32 := constant S_ .f32 0x00000000#32
  let main_v17 : FVec F S512x1024 .f32 := broadcastInDim S512x1024 ![] bcast_S_S512x1024 main_cst_3
  let main_v18 : IVec S512x1024 1 := cmpf .oeq main_v16 main_v17
  fn_part1 (F := F) main_arg8 main_v2 main_v5 main_v10 main_v13 main_v18
-- ==== Pre_finite2.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_v4 : IVec S4096x2816 1) (main_v9 : IVec S4096x2816 1) (main_v14 : IVec S1024x5632 1) (main_v17 : IVec S4096x1024 1) (main_v18 : FVec F S1x1024 .f32) (main_cst_3 : FVec F S_ .f32) : IVec S4096x2816 1 × IVec S4096x2816 1 × IVec S1024x5632 1 × IVec S4096x1024 1 × IVec S1x1024 1 :=
  let main_v19 : FVec F S1x1024 .f32 := broadcastInDim S1x1024 ![] bcast_S_S1x1024 main_cst_3
  let main_v20 : IVec S1x1024 1 := cmpf .oeq main_v18 main_v19
  (main_v4, main_v9, main_v14, main_v17, main_v20)

def fn {F : FTy → Type} [FloatOps F] (main_arg0 : FVec F S4096x2816 .bf16) (main_arg1 : FVec F S4096x2816 .bf16) (main_arg2 : FVec F S1024x5632 .bf16) (main_arg3 : FVec F S4096x1024 .f32) (main_arg4 : FVec F S4096x1024 .f32) (main_arg5 : FVec F S1x1024 .f32) : IVec S4096x2816 1 × IVec S4096x2816 1 × IVec S1024x5632 1 × IVec S4096x1024 1 × IVec S1x1024 1 :=
  let main_v0 : FVec F S4096x2816 .f32 := (extf .f32 · bitsLt_bf16_f32) main_arg0
  let main_v1 : FVec F S4096x2816 .f32 := (extf .f32 · bitsLt_bf16_f32) main_arg0
  let main_v2 : FVec F S4096x2816 .f32 := subf main_v0 main_v1
  let main_cst : FVec F S_ .f32 := constant S_ .f32 0x00000000#32
  let main_v3 : FVec F S4096x2816 .f32 := broadcastInDim S4096x2816 ![] bcast_S_S4096x2816 main_cst
  let main_v4 : IVec S4096x2816 1 := cmpf .oeq main_v2 main_v3
  let main_v5 : FVec F S4096x2816 .f32 := (extf .f32 · bitsLt_bf16_f32) main_arg1
  let main_v6 : FVec F S4096x2816 .f32 := (extf .f32 · bitsLt_bf16_f32) main_arg1
  let main_v7 : FVec F S4096x2816 .f32 := subf main_v5 main_v6
  let main_cst_0 : FVec F S_ .f32 := constant S_ .f32 0x00000000#32
  let main_v8 : FVec F S4096x2816 .f32 := broadcastInDim S4096x2816 ![] bcast_S_S4096x2816 main_cst_0
  let main_v9 : IVec S4096x2816 1 := cmpf .oeq main_v7 main_v8
  let main_v10 : FVec F S1024x5632 .f32 := (extf .f32 · bitsLt_bf16_f32) main_arg2
  let main_v11 : FVec F S1024x5632 .f32 := (extf .f32 · bitsLt_bf16_f32) main_arg2
  let main_v12 : FVec F S1024x5632 .f32 := subf main_v10 main_v11
  let main_cst_1 : FVec F S_ .f32 := constant S_ .f32 0x00000000#32
  let main_v13 : FVec F S1024x5632 .f32 := broadcastInDim S1024x5632 ![] bcast_S_S1024x5632 main_cst_1
  let main_v14 : IVec S1024x5632 1 := cmpf .oeq main_v12 main_v13
  let main_v15 : FVec F S4096x1024 .f32 := subf main_arg3 main_arg3
  let main_cst_2 : FVec F S_ .f32 := constant S_ .f32 0x00000000#32
  let main_v16 : FVec F S4096x1024 .f32 := broadcastInDim S4096x1024 ![] bcast_S_S4096x1024 main_cst_2
  let main_v17 : IVec S4096x1024 1 := cmpf .oeq main_v15 main_v16
  let main_v18 : FVec F S1x1024 .f32 := subf main_arg5 main_arg5
  let main_cst_3 : FVec F S_ .f32 := constant S_ .f32 0x00000000#32
  fn_part1 (F := F) main_v4 main_v9 main_v14 main_v17 main_v18 main_cst_3
-- ==== Pre_finite4.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x2816 .bf16) (main_arg2 : FVec F S4096x2816 .bf16) (main_arg3 : FVec F S2816x1024 .bf16) : IVec S4096x1024 1 × IVec S4096x2816 1 × IVec S2816x1024 1 :=
  let main_v0 : FVec F S4096x1024 .f32 := subf main_arg0 main_arg0
  let main_cst : FVec F S_ .f32 := constant S_ .f32 0x00000000#32
  let main_v1 : FVec F S4096x1024 .f32 := broadcastInDim S4096x1024 ![] bcast_S_S4096x1024 main_cst
  let main_v2 : IVec S4096x1024 1 := cmpf .oeq main_v0 main_v1
  let main_v3 : FVec F S4096x2816 .f32 := (extf .f32 · bitsLt_bf16_f32) main_arg2
  let main_v4 : FVec F S4096x2816 .f32 := (extf .f32 · bitsLt_bf16_f32) main_arg2
  let main_v5 : FVec F S4096x2816 .f32 := subf main_v3 main_v4
  let main_cst_0 : FVec F S_ .f32 := constant S_ .f32 0x00000000#32
  let main_v6 : FVec F S4096x2816 .f32 := broadcastInDim S4096x2816 ![] bcast_S_S4096x2816 main_cst_0
  let main_v7 : IVec S4096x2816 1 := cmpf .oeq main_v5 main_v6
  let main_v8 : FVec F S2816x1024 .f32 := (extf .f32 · bitsLt_bf16_f32) main_arg3
  let main_v9 : FVec F S2816x1024 .f32 := (extf .f32 · bitsLt_bf16_f32) main_arg3
  let main_v10 : FVec F S2816x1024 .f32 := subf main_v8 main_v9
  let main_cst_1 : FVec F S_ .f32 := constant S_ .f32 0x00000000#32
  let main_v11 : FVec F S2816x1024 .f32 := broadcastInDim S2816x1024 ![] bcast_S_S2816x1024 main_cst_1
  let main_v12 : IVec S2816x1024 1 := cmpf .oeq main_v10 main_v11
  (main_v2, main_v7, main_v12)
-- ==== Pre_finite7.lean ====
abbrev S4096x2048 : Shape := ⟨2, ![4096, 2048]⟩
abbrev S4096x512 : Shape := ⟨2, ![4096, 512]⟩
abbrev S4096x1536 : Shape := ⟨2, ![4096, 1536]⟩
abbrev S4096x128 : Shape := ⟨2, ![4096, 128]⟩
abbrev S1024x5760 : Shape := ⟨2, ![1024, 5760]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S4096x512 : S_.BroadcastsInDim S4096x512 (![] : Fin 0 → Fin S4096x512.rank)
  bcast_S_S4096x1536 : S_.BroadcastsInDim S4096x1536 (![] : Fin 0 → Fin S4096x1536.rank)
  bcast_S_S4096x128 : S_.BroadcastsInDim S4096x128 (![] : Fin 0 → Fin S4096x128.rank)
  bcast_S_S1024x5760 : S_.BroadcastsInDim S1024x5760 (![] : Fin 0 → Fin S1024x5760.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part2 {F : FTy → Type} [FloatOps F] (main_arg10 : FVec F S1x1024 .f32) (main_v4 : IVec S4096x2048 1) (main_v9 : IVec S4096x512 1) (main_v14 : IVec S4096x512 1) (main_v19 : IVec S4096x512 1) (main_v24 : IVec S4096x1536 1) (main_v29 : IVec S4096x512 1) (main_v32 : IVec S4096x128 1) (main_v37 : IVec S1024x5760 1) (main_v38 : FVec F S4096x1024 .f32) (main_cst_7 : FVec F S_ .f32) : IVec S4096x2048 1 × IVec S4096x512 1 × IVec S4096x512 1 × IVec S4096x512 1 × IVec S4096x1536 1 × IVec S4096x512 1 × IVec S4096x128 1 × IVec S1024x5760 1 × IVec S4096x1024 1 × IVec S1x1024 1 :=
  let main_v39 : FVec F S4096x1024 .f32 := broadcastInDim S4096x1024 ![] bcast_S_S4096x1024 main_cst_7
  let main_v40 : IVec S4096x1024 1 := cmpf .oeq main_v38 main_v39
  let main_v41 : FVec F S1x1024 .f32 := subf main_arg10 main_arg10
  let main_cst_8 : FVec F S_ .f32 := constant S_ .f32 0x00000000#32
  let main_v42 : FVec F S1x1024 .f32 := broadcastInDim S1x1024 ![] bcast_S_S1x1024 main_cst_8
  let main_v43 : IVec S1x1024 1 := cmpf .oeq main_v41 main_v42
  (main_v4, main_v9, main_v14, main_v19, main_v24, main_v29, main_v32, main_v37, main_v40, main_v43)

def fn_part1 {F : FTy → Type} [FloatOps F] (main_arg4 : FVec F S4096x1536 .bf16) (main_arg5 : FVec F S4096x512 .bf16) (main_arg6 : FVec F S4096x128 .f32) (main_arg7 : FVec F S1024x5760 .bf16) (main_arg8 : FVec F S4096x1024 .f32) (main_arg10 : FVec F S1x1024 .f32) (main_v4 : IVec S4096x2048 1) (main_v9 : IVec S4096x512 1) (main_v14 : IVec S4096x512 1) (main_v19 : IVec S4096x512 1) : IVec S4096x2048 1 × IVec S4096x512 1 × IVec S4096x512 1 × IVec S4096x512 1 × IVec S4096x1536 1 × IVec S4096x512 1 × IVec S4096x128 1 × IVec S1024x5760 1 × IVec S4096x1024 1 × IVec S1x1024 1 :=
  let main_v20 : FVec F S4096x1536 .f32 := (extf .f32 · bitsLt_bf16_f32) main_arg4
  let main_v21 : FVec F S4096x1536 .f32 := (extf .f32 · bitsLt_bf16_f32) main_arg4
  let main_v22 : FVec F S4096x1536 .f32 := subf main_v20 main_v21
  let main_cst_3 : FVec F S_ .f32 := constant S_ .f32 0x00000000#32
  let main_v23 : FVec F S4096x1536 .f32 := broadcastInDim S4096x1536 ![] bcast_S_S4096x1536 main_cst_3
  let main_v24 : IVec S4096x1536 1 := cmpf .oeq main_v22 main_v23
  let main_v25 : FVec F S4096x512 .f32 := (extf .f32 · bitsLt_bf16_f32) main_arg5
  let main_v26 : FVec F S4096x512 .f32 := (extf .f32 · bitsLt_bf16_f32) main_arg5
  let main_v27 : FVec F S4096x512 .f32 := subf main_v25 main_v26
  let main_cst_4 : FVec F S_ .f32 := constant S_ .f32 0x00000000#32
  let main_v28 : FVec F S4096x512 .f32 := broadcastInDim S4096x512 ![] bcast_S_S4096x512 main_cst_4
  let main_v29 : IVec S4096x512 1 := cmpf .oeq main_v27 main_v28
  let main_v30 : FVec F S4096x128 .f32 := subf main_arg6 main_arg6
  let main_cst_5 : FVec F S_ .f32 := constant S_ .f32 0x00000000#32
  let main_v31 : FVec F S4096x128 .f32 := broadcastInDim S4096x128 ![] bcast_S_S4096x128 main_cst_5
  let main_v32 : IVec S4096x128 1 := cmpf .oeq main_v30 main_v31
  let main_v33 : FVec F S1024x5760 .f32 := (extf .f32 · bitsLt_bf16_f32) main_arg7
  let main_v34 : FVec F S1024x5760 .f32 := (extf .f32 · bitsLt_bf16_f32) main_arg7
  let main_v35 : FVec F S1024x5760 .f32 := subf main_v33 main_v34
  let main_cst_6 : FVec F S_ .f32 := constant S_ .f32 0x00000000#32
  let main_v36 : FVec F S1024x5760 .f32 := broadcastInDim S1024x5760 ![] bcast_S_S1024x5760 main_cst_6
  let main_v37 : IVec S1024x5760 1 := cmpf .oeq main_v35 main_v36
  let main_v38 : FVec F S4096x1024 .f32 := subf main_arg8 main_arg8
  let main_cst_7 : FVec F S_ .f32 := constant S_ .f32 0x00000000#32
  fn_part2 (F := F) main_arg10 main_v4 main_v9 main_v14 main_v19 main_v24 main_v29 main_v32 main_v37 main_v38 main_cst_7

def fn {F : FTy → Type} [FloatOps F] (main_arg0 : FVec F S4096x2048 .bf16) (main_arg1 : FVec F S4096x512 .bf16) (main_arg2 : FVec F S4096x512 .bf16) (main_arg3 : FVec F S4096x512 .bf16) (main_arg4 : FVec F S4096x1536 .bf16) (main_arg5 : FVec F S4096x512 .bf16) (main_arg6 : FVec F S4096x128 .f32) (main_arg7 : FVec F S1024x5760 .bf16) (main_arg8 : FVec F S4096x1024 .f32) (main_arg9 : FVec F S4096x1024 .f32) (main_arg10 : FVec F S1x1024 .f32) : IVec S4096x2048 1 × IVec S4096x512 1 × IVec S4096x512 1 × IVec S4096x512 1 × IVec S4096x1536 1 × IVec S4096x512 1 × IVec S4096x128 1 × IVec S1024x5760 1 × IVec S4096x1024 1 × IVec S1x1024 1 :=
  let main_v0 : FVec F S4096x2048 .f32 := (extf .f32 · bitsLt_bf16_f32) main_arg0
  let main_v1 : FVec F S4096x2048 .f32 := (extf .f32 · bitsLt_bf16_f32) main_arg0
  let main_v2 : FVec F S4096x2048 .f32 := subf main_v0 main_v1
  let main_cst : FVec F S_ .f32 := constant S_ .f32 0x00000000#32
  let main_v3 : FVec F S4096x2048 .f32 := broadcastInDim S4096x2048 ![] bcast_S_S4096x2048 main_cst
  let main_v4 : IVec S4096x2048 1 := cmpf .oeq main_v2 main_v3
  let main_v5 : FVec F S4096x512 .f32 := (extf .f32 · bitsLt_bf16_f32) main_arg1
  let main_v6 : FVec F S4096x512 .f32 := (extf .f32 · bitsLt_bf16_f32) main_arg1
  let main_v7 : FVec F S4096x512 .f32 := subf main_v5 main_v6
  let main_cst_0 : FVec F S_ .f32 := constant S_ .f32 0x00000000#32
  let main_v8 : FVec F S4096x512 .f32 := broadcastInDim S4096x512 ![] bcast_S_S4096x512 main_cst_0
  let main_v9 : IVec S4096x512 1 := cmpf .oeq main_v7 main_v8
  let main_v10 : FVec F S4096x512 .f32 := (extf .f32 · bitsLt_bf16_f32) main_arg2
  let main_v11 : FVec F S4096x512 .f32 := (extf .f32 · bitsLt_bf16_f32) main_arg2
  let main_v12 : FVec F S4096x512 .f32 := subf main_v10 main_v11
  let main_cst_1 : FVec F S_ .f32 := constant S_ .f32 0x00000000#32
  let main_v13 : FVec F S4096x512 .f32 := broadcastInDim S4096x512 ![] bcast_S_S4096x512 main_cst_1
  let main_v14 : IVec S4096x512 1 := cmpf .oeq main_v12 main_v13
  let main_v15 : FVec F S4096x512 .f32 := (extf .f32 · bitsLt_bf16_f32) main_arg3
  let main_v16 : FVec F S4096x512 .f32 := (extf .f32 · bitsLt_bf16_f32) main_arg3
  let main_v17 : FVec F S4096x512 .f32 := subf main_v15 main_v16
  let main_cst_2 : FVec F S_ .f32 := constant S_ .f32 0x00000000#32
  let main_v18 : FVec F S4096x512 .f32 := broadcastInDim S4096x512 ![] bcast_S_S4096x512 main_cst_2
  let main_v19 : IVec S4096x512 1 := cmpf .oeq main_v17 main_v18
  fn_part1 (F := F) main_arg4 main_arg5 main_arg6 main_arg7 main_arg8 main_arg10 main_v4 main_v9 main_v14 main_v19
-- ==== Kernel.lean ====
abbrev S2x2048x512 : Shape := ⟨3, ![2, 2048, 512]⟩
abbrev S4x2x2048x64 : Shape := ⟨4, ![4, 2, 2048, 64]⟩
abbrev S2x4x32 : Shape := ⟨3, ![2, 4, 32]⟩
abbrev S2x32x64x4x128 : Shape := ⟨5, ![2, 32, 64, 4, 128]⟩
abbrev S2x4x32x64x128 : Shape := ⟨5, ![2, 4, 32, 64, 128]⟩
abbrev S32x2x4x64x128 : Shape := ⟨5, ![32, 2, 4, 64, 128]⟩
abbrev S32x2x4 : Shape := ⟨3, ![32, 2, 4]⟩
abbrev S32x2x4x1x1 : Shape := ⟨5, ![32, 2, 4, 1, 1]⟩
abbrev S32x2x4x128x128 : Shape := ⟨5, ![32, 2, 4, 128, 128]⟩
abbrev S_ : Shape := ⟨0, ![]⟩
abbrev S1x2x4x128x128 : Shape := ⟨5, ![1, 2, 4, 128, 128]⟩
abbrev S1x2x4x64x128 : Shape := ⟨5, ![1, 2, 4, 64, 128]⟩
abbrev S16x2x4x128x128 : Shape := ⟨5, ![16, 2, 4, 128, 128]⟩
abbrev S2x32x4x128x128 : Shape := ⟨5, ![2, 32, 4, 128, 128]⟩
abbrev S4x2x32 : Shape := ⟨3, ![4, 2, 32]⟩
abbrev S4x2x32x1x1 : Shape := ⟨5, ![4, 2, 32, 1, 1]⟩
abbrev S4x2x32x8x128 : Shape := ⟨5, ![4, 2, 32, 8, 128]⟩
abbrev S4x2x256x128 : Shape := ⟨4, ![4, 2, 256, 128]⟩
abbrev S2x512x512 : Shape := ⟨3, ![2, 512, 512]⟩
abbrev S4x2x512x64 : Shape := ⟨4, ![4, 2, 512, 64]⟩
abbrev S4x2x64x128 : Shape := ⟨4, ![4, 2, 64, 128]⟩
abbrev S2x8x4x128x128 : Shape := ⟨5, ![2, 8, 4, 128, 128]⟩
abbrev S8x128x128 : Shape := ⟨3, ![8, 128, 128]⟩
abbrev S1x128x128 : Shape := ⟨3, ![1, 128, 128]⟩
abbrev S128x128 : Shape := ⟨2, ![128, 128]⟩
abbrev S1x1x1x128x128 : Shape := ⟨5, ![1, 1, 1, 128, 128]⟩
abbrev S1x64x128 : Shape := ⟨3, ![1, 64, 128]⟩
abbrev S64x128 : Shape := ⟨2, ![64, 128]⟩
abbrev S1x1x64x64 : Shape := ⟨4, ![1, 1, 64, 64]⟩
abbrev S64x64 : Shape := ⟨2, ![64, 64]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x1x128 : Shape := ⟨4, ![1, 1, 1, 128]⟩
abbrev S1x128 : Shape := ⟨2, ![1, 128]⟩
abbrev S8x128 : Shape := ⟨2, ![8, 128]⟩
abbrev S1x1x8x128 : Shape := ⟨4, ![1, 1, 8, 128]⟩

abbrev nBuf : Space → Nat
  | .hbm => 310
  | .vmem => 29
  | .smem => 0
  | _ => 0

abbrev hbmTy0_0 (i : Nat) : BufTy := match i % 128 with
  | 0 => ⟨S2x2048x512, .f32⟩
  | 1 => ⟨S2x2048x512, .bf16⟩
  | 2 => ⟨S2x2048x512, .bf16⟩
  | 3 => ⟨S2x2048x512, .bf16⟩
  | 4 => ⟨S4x2x2048x64, .f32⟩
  | 5 => ⟨S2x4x32, .f32⟩
  | 6 => ⟨S2x2048x512, .f32⟩
  | 7 => ⟨S2x32x64x4x128, .f32⟩
  | 8 => ⟨S2x4x32x64x128, .f32⟩
  | 9 => ⟨S32x2x4x64x128, .f32⟩
  | 10 => ⟨S2x2048x512, .f32⟩
  | 11 => ⟨S2x32x64x4x128, .f32⟩
  | 12 => ⟨S2x4x32x64x128, .f32⟩
  | 13 => ⟨S32x2x4x64x128, .f32⟩
  | 14 => ⟨S2x2048x512, .f32⟩
  | 15 => ⟨S2x32x64x4x128, .f32⟩
  | 16 => ⟨S2x4x32x64x128, .f32⟩
  | 17 => ⟨S32x2x4x64x128, .f32⟩
  | 18 => ⟨S32x2x4, .f32⟩
  | 19 => ⟨S32x2x4x1x1, .f32⟩
  | 20 => ⟨S32x2x4x128x128, .f32⟩
  | 21 => ⟨S_, .f32⟩
  | 22 => ⟨S1x2x4x128x128, .f32⟩
  | 23 => ⟨S1x2x4x64x128, .f32⟩
  | 24 => ⟨S1x2x4x64x128, .f32⟩
  | 25 => ⟨S1x2x4x128x128, .f32⟩
  | 26 => ⟨S1x2x4x64x128, .f32⟩
  | 27 => ⟨S1x2x4x64x128, .f32⟩
  | 28 => ⟨S1x2x4x64x128, .f32⟩
  | 29 => ⟨S1x2x4x64x128, .f32⟩
  | 30 => ⟨S1x2x4x128x128, .f32⟩
  | 31 => ⟨S1x2x4x128x128, .f32⟩
  | 32 => ⟨S1x2x4x64x128, .f32⟩
  | 33 => ⟨S1x2x4x128x128, .f32⟩
  | 34 => ⟨S1x2x4x128x128, .f32⟩
  | 35 => ⟨S1x2x4x64x128, .f32⟩
  | 36 => ⟨S1x2x4x64x128, .f32⟩
  | 37 => ⟨S1x2x4x64x128, .f32⟩
  | 38 => ⟨S1x2x4x64x128, .f32⟩
  | 39 => ⟨S1x2x4x128x128, .f32⟩
  | 40 => ⟨S1x2x4x128x128, .f32⟩
  | 41 => ⟨S1x2x4x64x128, .f32⟩
  | 42 => ⟨S1x2x4x128x128, .f32⟩
  | 43 => ⟨S1x2x4x128x128, .f32⟩
  | 44 => ⟨S1x2x4x64x128, .f32⟩
  | 45 => ⟨S1x2x4x64x128, .f32⟩
  | 46 => ⟨S1x2x4x64x128, .f32⟩
  | 47 => ⟨S1x2x4x64x128, .f32⟩
  | 48 => ⟨S1x2x4x128x128, .f32⟩
  | 49 => ⟨S1x2x4x128x128, .f32⟩
  | 50 => ⟨S1x2x4x64x128, .f32⟩
  | 51 => ⟨S1x2x4x128x128, .f32⟩
  | 52 => ⟨S1x2x4x128x128, .f32⟩
  | 53 => ⟨S1x2x4x64x128, .f32⟩
  | 54 => ⟨S1x2x4x64x128, .f32⟩
  | 55 => ⟨S1x2x4x64x128, .f32⟩
  | 56 => ⟨S1x2x4x64x128, .f32⟩
  | 57 => ⟨S1x2x4x128x128, .f32⟩
  | 58 => ⟨S1x2x4x128x128, .f32⟩
  | 59 => ⟨S1x2x4x64x128, .f32⟩
  | 60 => ⟨S1x2x4x128x128, .f32⟩
  | 61 => ⟨S1x2x4x128x128, .f32⟩
  | 62 => ⟨S1x2x4x64x128, .f32⟩
  | 63 => ⟨S1x2x4x64x128, .f32⟩
  | 64 => ⟨S1x2x4x64x128, .f32⟩
  | 65 => ⟨S1x2x4x64x128, .f32⟩
  | 66 => ⟨S1x2x4x128x128, .f32⟩
  | 67 => ⟨S1x2x4x128x128, .f32⟩
  | 68 => ⟨S1x2x4x64x128, .f32⟩
  | 69 => ⟨S1x2x4x128x128, .f32⟩
  | 70 => ⟨S1x2x4x128x128, .f32⟩
  | 71 => ⟨S1x2x4x64x128, .f32⟩
  | 72 => ⟨S1x2x4x64x128, .f32⟩
  | 73 => ⟨S1x2x4x64x128, .f32⟩
  | 74 => ⟨S1x2x4x64x128, .f32⟩
  | 75 => ⟨S1x2x4x128x128, .f32⟩
  | 76 => ⟨S1x2x4x128x128, .f32⟩
  | 77 => ⟨S1x2x4x64x128, .f32⟩
  | 78 => ⟨S1x2x4x128x128, .f32⟩
  | 79 => ⟨S1x2x4x128x128, .f32⟩
  | 80 => ⟨S1x2x4x64x128, .f32⟩
  | 81 => ⟨S1x2x4x64x128, .f32⟩
  | 82 => ⟨S1x2x4x64x128, .f32⟩
  | 83 => ⟨S1x2x4x64x128, .f32⟩
  | 84 => ⟨S1x2x4x128x128, .f32⟩
  | 85 => ⟨S1x2x4x128x128, .f32⟩
  | 86 => ⟨S1x2x4x64x128, .f32⟩
  | 87 => ⟨S1x2x4x128x128, .f32⟩
  | 88 => ⟨S1x2x4x128x128, .f32⟩
  | 89 => ⟨S1x2x4x64x128, .f32⟩
  | 90 => ⟨S1x2x4x64x128, .f32⟩
  | 91 => ⟨S1x2x4x64x128, .f32⟩
  | 92 => ⟨S1x2x4x64x128, .f32⟩
  | 93 => ⟨S1x2x4x128x128, .f32⟩
  | 94 => ⟨S1x2x4x128x128, .f32⟩
  | 95 => ⟨S1x2x4x64x128, .f32⟩
  | 96 => ⟨S1x2x4x128x128, .f32⟩
  | 97 => ⟨S1x2x4x128x128, .f32⟩
  | 98 => ⟨S1x2x4x64x128, .f32⟩
  | 99 => ⟨S1x2x4x64x128, .f32⟩
  | 100 => ⟨S1x2x4x64x128, .f32⟩
  | 101 => ⟨S1x2x4x64x128, .f32⟩
  | 102 => ⟨S1x2x4x128x128, .f32⟩
  | 103 => ⟨S1x2x4x128x128, .f32⟩
  | 104 => ⟨S1x2x4x64x128, .f32⟩
  | 105 => ⟨S1x2x4x128x128, .f32⟩
  | 106 => ⟨S1x2x4x128x128, .f32⟩
  | 107 => ⟨S1x2x4x64x128, .f32⟩
  | 108 => ⟨S1x2x4x64x128, .f32⟩
  | 109 => ⟨S1x2x4x64x128, .f32⟩
  | 110 => ⟨S1x2x4x64x128, .f32⟩
  | 111 => ⟨S1x2x4x128x128, .f32⟩
  | 112 => ⟨S1x2x4x128x128, .f32⟩
  | 113 => ⟨S1x2x4x64x128, .f32⟩
  | 114 => ⟨S1x2x4x128x128, .f32⟩
  | 115 => ⟨S1x2x4x128x128, .f32⟩
  | 116 => ⟨S1x2x4x64x128, .f32⟩
  | 117 => ⟨S1x2x4x64x128, .f32⟩
  | 118 => ⟨S1x2x4x64x128, .f32⟩
  | 119 => ⟨S1x2x4x64x128, .f32⟩
  | 120 => ⟨S1x2x4x128x128, .f32⟩
  | 121 => ⟨S1x2x4x128x128, .f32⟩
  | 122 => ⟨S1x2x4x64x128, .f32⟩
  | 123 => ⟨S1x2x4x128x128, .f32⟩
  | 124 => ⟨S1x2x4x128x128, .f32⟩
  | 125 => ⟨S1x2x4x64x128, .f32⟩
  | 126 => ⟨S1x2x4x64x128, .f32⟩
  | 127 => ⟨S1x2x4x64x128, .f32⟩
  | _ => ⟨S2x2048x512, .f32⟩

abbrev hbmTy0_1 (i : Nat) : BufTy := match i % 128 with
  | 0 => ⟨S1x2x4x64x128, .f32⟩
  | 1 => ⟨S1x2x4x128x128, .f32⟩
  | 2 => ⟨S1x2x4x128x128, .f32⟩
  | 3 => ⟨S1x2x4x64x128, .f32⟩
  | 4 => ⟨S1x2x4x128x128, .f32⟩
  | 5 => ⟨S1x2x4x128x128, .f32⟩
  | 6 => ⟨S1x2x4x64x128, .f32⟩
  | 7 => ⟨S1x2x4x64x128, .f32⟩
  | 8 => ⟨S1x2x4x64x128, .f32⟩
  | 9 => ⟨S1x2x4x64x128, .f32⟩
  | 10 => ⟨S1x2x4x128x128, .f32⟩
  | 11 => ⟨S1x2x4x128x128, .f32⟩
  | 12 => ⟨S1x2x4x64x128, .f32⟩
  | 13 => ⟨S1x2x4x128x128, .f32⟩
  | 14 => ⟨S1x2x4x128x128, .f32⟩
  | 15 => ⟨S1x2x4x64x128, .f32⟩
  | 16 => ⟨S1x2x4x64x128, .f32⟩
  | 17 => ⟨S1x2x4x64x128, .f32⟩
  | 18 => ⟨S1x2x4x64x128, .f32⟩
  | 19 => ⟨S1x2x4x128x128, .f32⟩
  | 20 => ⟨S1x2x4x128x128, .f32⟩
  | 21 => ⟨S1x2x4x64x128, .f32⟩
  | 22 => ⟨S1x2x4x128x128, .f32⟩
  | 23 => ⟨S1x2x4x128x128, .f32⟩
  | 24 => ⟨S1x2x4x64x128, .f32⟩
  | 25 => ⟨S1x2x4x64x128, .f32⟩
  | 26 => ⟨S1x2x4x64x128, .f32⟩
  | 27 => ⟨S1x2x4x64x128, .f32⟩
  | 28 => ⟨S1x2x4x128x128, .f32⟩
  | 29 => ⟨S1x2x4x128x128, .f32⟩
  | 30 => ⟨S1x2x4x64x128, .f32⟩
  | 31 => ⟨S1x2x4x128x128, .f32⟩
  | 32 => ⟨S1x2x4x128x128, .f32⟩
  | 33 => ⟨S1x2x4x64x128, .f32⟩
  | 34 => ⟨S1x2x4x64x128, .f32⟩
  | 35 => ⟨S1x2x4x64x128, .f32⟩
  | 36 => ⟨S1x2x4x64x128, .f32⟩
  | 37 => ⟨S1x2x4x128x128, .f32⟩
  | 38 => ⟨S1x2x4x128x128, .f32⟩
  | 39 => ⟨S1x2x4x64x128, .f32⟩
  | 40 => ⟨S1x2x4x128x128, .f32⟩
  | 41 => ⟨S1x2x4x128x128, .f32⟩
  | 42 => ⟨S1x2x4x64x128, .f32⟩
  | 43 => ⟨S1x2x4x64x128, .f32⟩
  | 44 => ⟨S1x2x4x64x128, .f32⟩
  | 45 => ⟨S1x2x4x64x128, .f32⟩
  | 46 => ⟨S1x2x4x128x128, .f32⟩
  | 47 => ⟨S1x2x4x128x128, .f32⟩
  | 48 => ⟨S1x2x4x64x128, .f32⟩
  | 49 => ⟨S1x2x4x128x128, .f32⟩
  | 50 => ⟨S1x2x4x128x128, .f32⟩
  | 51 => ⟨S1x2x4x64x128, .f32⟩
  | 52 => ⟨S1x2x4x64x128, .f32⟩
  | 53 => ⟨S1x2x4x64x128, .f32⟩
  | 54 => ⟨S1x2x4x64x128, .f32⟩
  | 55 => ⟨S1x2x4x128x128, .f32⟩
  | 56 => ⟨S1x2x4x128x128, .f32⟩
  | 57 => ⟨S1x2x4x64x128, .f32⟩
  | 58 => ⟨S1x2x4x128x128, .f32⟩
  | 59 => ⟨S1x2x4x128x128, .f32⟩
  | 60 => ⟨S1x2x4x64x128, .f32⟩
  | 61 => ⟨S1x2x4x64x128, .f32⟩
  | 62 => ⟨S1x2x4x64x128, .f32⟩
  | 63 => ⟨S1x2x4x64x128, .f32⟩
  | 64 => ⟨S1x2x4x128x128, .f32⟩
  | 65 => ⟨S1x2x4x128x128, .f32⟩
  | 66 => ⟨S1x2x4x64x128, .f32⟩
  | 67 => ⟨S1x2x4x128x128, .f32⟩
  | 68 => ⟨S1x2x4x128x128, .f32⟩
  | 69 => ⟨S1x2x4x64x128, .f32⟩
  | 70 => ⟨S1x2x4x64x128, .f32⟩
  | 71 => ⟨S1x2x4x64x128, .f32⟩
  | 72 => ⟨S1x2x4x64x128, .f32⟩
  | 73 => ⟨S1x2x4x128x128, .f32⟩
  | 74 => ⟨S1x2x4x128x128, .f32⟩
  | 75 => ⟨S1x2x4x64x128, .f32⟩
  | 76 => ⟨S1x2x4x128x128, .f32⟩
  | 77 => ⟨S1x2x4x128x128, .f32⟩
  | 78 => ⟨S1x2x4x64x128, .f32⟩
  | 79 => ⟨S1x2x4x64x128, .f32⟩
  | 80 => ⟨S1x2x4x64x128, .f32⟩
  | 81 => ⟨S1x2x4x64x128, .f32⟩
  | 82 => ⟨S1x2x4x128x128, .f32⟩
  | 83 => ⟨S1x2x4x128x128, .f32⟩
  | 84 => ⟨S1x2x4x64x128, .f32⟩
  | 85 => ⟨S1x2x4x128x128, .f32⟩
  | 86 => ⟨S1x2x4x128x128, .f32⟩
  | 87 => ⟨S1x2x4x64x128, .f32⟩
  | 88 => ⟨S1x2x4x64x128, .f32⟩
  | 89 => ⟨S1x2x4x64x128, .f32⟩
  | 90 => ⟨S1x2x4x64x128, .f32⟩
  | 91 => ⟨S1x2x4x128x128, .f32⟩
  | 92 => ⟨S1x2x4x128x128, .f32⟩
  | 93 => ⟨S1x2x4x64x128, .f32⟩
  | 94 => ⟨S1x2x4x128x128, .f32⟩
  | 95 => ⟨S1x2x4x128x128, .f32⟩
  | 96 => ⟨S1x2x4x64x128, .f32⟩
  | 97 => ⟨S1x2x4x64x128, .f32⟩
  | 98 => ⟨S1x2x4x64x128, .f32⟩
  | 99 => ⟨S1x2x4x64x128, .f32⟩
  | 100 => ⟨S1x2x4x128x128, .f32⟩
  | 101 => ⟨S1x2x4x128x128, .f32⟩
  | 102 => ⟨S1x2x4x64x128, .f32⟩
  | 103 => ⟨S1x2x4x128x128, .f32⟩
  | 104 => ⟨S1x2x4x128x128, .f32⟩
  | 105 => ⟨S1x2x4x64x128, .f32⟩
  | 106 => ⟨S1x2x4x64x128, .f32⟩
  | 107 => ⟨S1x2x4x64x128, .f32⟩
  | 108 => ⟨S1x2x4x64x128, .f32⟩
  | 109 => ⟨S1x2x4x128x128, .f32⟩
  | 110 => ⟨S1x2x4x128x128, .f32⟩
  | 111 => ⟨S1x2x4x64x128, .f32⟩
  | 112 => ⟨S1x2x4x128x128, .f32⟩
  | 113 => ⟨S1x2x4x128x128, .f32⟩
  | 114 => ⟨S1x2x4x64x128, .f32⟩
  | 115 => ⟨S1x2x4x64x128, .f32⟩
  | 116 => ⟨S1x2x4x64x128, .f32⟩
  | 117 => ⟨S1x2x4x64x128, .f32⟩
  | 118 => ⟨S1x2x4x128x128, .f32⟩
  | 119 => ⟨S1x2x4x128x128, .f32⟩
  | 120 => ⟨S1x2x4x64x128, .f32⟩
  | 121 => ⟨S1x2x4x128x128, .f32⟩
  | 122 => ⟨S1x2x4x128x128, .f32⟩
  | 123 => ⟨S1x2x4x64x128, .f32⟩
  | 124 => ⟨S1x2x4x64x128, .f32⟩
  | 125 => ⟨S1x2x4x64x128, .f32⟩
  | 126 => ⟨S1x2x4x64x128, .f32⟩
  | 127 => ⟨S1x2x4x128x128, .f32⟩
  | _ => ⟨S2x2048x512, .f32⟩

abbrev hbmTy0_2 (i : Nat) : BufTy := match i % 128 with
  | 0 => ⟨S1x2x4x128x128, .f32⟩
  | 1 => ⟨S1x2x4x64x128, .f32⟩
  | 2 => ⟨S1x2x4x128x128, .f32⟩
  | 3 => ⟨S1x2x4x128x128, .f32⟩
  | 4 => ⟨S1x2x4x64x128, .f32⟩
  | 5 => ⟨S1x2x4x64x128, .f32⟩
  | 6 => ⟨S1x2x4x64x128, .f32⟩
  | 7 => ⟨S1x2x4x64x128, .f32⟩
  | 8 => ⟨S1x2x4x128x128, .f32⟩
  | 9 => ⟨S1x2x4x128x128, .f32⟩
  | 10 => ⟨S1x2x4x64x128, .f32⟩
  | 11 => ⟨S1x2x4x128x128, .f32⟩
  | 12 => ⟨S1x2x4x128x128, .f32⟩
  | 13 => ⟨S1x2x4x64x128, .f32⟩
  | 14 => ⟨S1x2x4x64x128, .f32⟩
  | 15 => ⟨S1x2x4x64x128, .f32⟩
  | 16 => ⟨S1x2x4x64x128, .f32⟩
  | 17 => ⟨S1x2x4x128x128, .f32⟩
  | 18 => ⟨S1x2x4x128x128, .f32⟩
  | 19 => ⟨S1x2x4x64x128, .f32⟩
  | 20 => ⟨S1x2x4x128x128, .f32⟩
  | 21 => ⟨S1x2x4x128x128, .f32⟩
  | 22 => ⟨S1x2x4x64x128, .f32⟩
  | 23 => ⟨S1x2x4x64x128, .f32⟩
  | 24 => ⟨S1x2x4x64x128, .f32⟩
  | 25 => ⟨S1x2x4x64x128, .f32⟩
  | 26 => ⟨S1x2x4x128x128, .f32⟩
  | 27 => ⟨S1x2x4x128x128, .f32⟩
  | 28 => ⟨S1x2x4x64x128, .f32⟩
  | 29 => ⟨S1x2x4x128x128, .f32⟩
  | 30 => ⟨S1x2x4x128x128, .f32⟩
  | 31 => ⟨S1x2x4x64x128, .f32⟩
  | 32 => ⟨S1x2x4x64x128, .f32⟩
  | 33 => ⟨S1x2x4x64x128, .f32⟩
  | 34 => ⟨S1x2x4x64x128, .f32⟩
  | 35 => ⟨S1x2x4x128x128, .f32⟩
  | 36 => ⟨S1x2x4x128x128, .f32⟩
  | 37 => ⟨S1x2x4x64x128, .f32⟩
  | 38 => ⟨S1x2x4x128x128, .f32⟩
  | 39 => ⟨S1x2x4x128x128, .f32⟩
  | 40 => ⟨S16x2x4x128x128, .f32⟩
  | 41 => ⟨S16x2x4x128x128, .f32⟩
  | 42 => ⟨S32x2x4x128x128, .f32⟩
  | 43 => ⟨S2x32x4x128x128, .f32⟩
  | 44 => ⟨S4x2x32, .f32⟩
  | 45 => ⟨S4x2x32x1x1, .f32⟩
  | 46 => ⟨S4x2x32x8x128, .f32⟩
  | 47 => ⟨S4x2x256x128, .f32⟩
  | 48 => ⟨S2x2048x512, .f32⟩
  | 49 => ⟨S2x2048x512, .f32⟩
  | 50 => ⟨S2x2048x512, .f32⟩
  | 51 => ⟨S2x2048x512, .f32⟩
  | 52 => ⟨S4x2x2048x64, .f32⟩
  | 53 => ⟨S4x2x256x128, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | .local _ .vmem, ⟨0, _⟩ => ⟨S2x512x512, .f32⟩
  | .local _ .vmem, ⟨1, _⟩ => ⟨S2x512x512, .f32⟩
  | .local _ .vmem, ⟨2, _⟩ => ⟨S2x512x512, .bf16⟩
  | .local _ .vmem, ⟨3, _⟩ => ⟨S2x512x512, .bf16⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S4x2x512x64, .f32⟩
  | .local _ .vmem, ⟨9, _⟩ => ⟨S4x2x512x64, .f32⟩
  | .local _ .vmem, ⟨10, _⟩ => ⟨S4x2x64x128, .f32⟩
  | .local _ .vmem, ⟨11, _⟩ => ⟨S4x2x64x128, .f32⟩
  | .local _ .vmem, ⟨12, _⟩ => ⟨S2x8x4x128x128, .f32⟩
  | .local _ .vmem, ⟨13, _⟩ => ⟨S2x8x4x128x128, .f32⟩
  | .local _ .vmem, ⟨14, _⟩ => ⟨S2x512x512, .f32⟩
  | .local _ .vmem, ⟨15, _⟩ => ⟨S2x512x512, .f32⟩
  | .local _ .vmem, ⟨16, _⟩ => ⟨S2x512x512, .f32⟩
  | .local _ .vmem, ⟨17, _⟩ => ⟨S2x512x512, .f32⟩
  | .local _ .vmem, ⟨18, _⟩ => ⟨S2x512x512, .f32⟩
  | .local _ .vmem, ⟨19, _⟩ => ⟨S2x512x512, .f32⟩
  | .local _ .vmem, ⟨20, _⟩ => ⟨S2x512x512, .f32⟩
  | .local _ .vmem, ⟨21, _⟩ => ⟨S2x512x512, .f32⟩
  | .local _ .vmem, ⟨22, _⟩ => ⟨S2x512x512, .f32⟩
  | .local _ .vmem, ⟨23, _⟩ => ⟨S2x512x512, .f32⟩
  | .local _ .vmem, ⟨24, _⟩ => ⟨S4x2x512x64, .f32⟩
  | .local _ .vmem, ⟨25, _⟩ => ⟨S4x2x512x64, .f32⟩
  | .local _ .vmem, ⟨26, _⟩ => ⟨S4x2x64x128, .f32⟩
  | .local _ .vmem, ⟨27, _⟩ => ⟨S4x2x64x128, .f32⟩
  | .local _ .vmem, ⟨28, _⟩ => ⟨S8x128x128, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_v289 : Ref sig .tc := ⟨.hbm, 297, rfl⟩
abbrev main_v290 : Ref sig .tc := ⟨.hbm, 298, rfl⟩
abbrev main_v291 : Ref sig .tc := ⟨.hbm, 299, rfl⟩
abbrev main_v292 : Ref sig .tc := ⟨.hbm, 300, rfl⟩
abbrev main_v293 : Ref sig .tc := ⟨.hbm, 301, rfl⟩
abbrev main_v294 : Ref sig .tc := ⟨.hbm, 302, rfl⟩
abbrev main_v295 : Ref sig .tc := ⟨.hbm, 303, rfl⟩
abbrev main_v296_0 : Ref sig .tc := ⟨.hbm, 304, rfl⟩
abbrev main_v296_1 : Ref sig .tc := ⟨.hbm, 305, rfl⟩
abbrev main_v296_2 : Ref sig .tc := ⟨.hbm, 306, rfl⟩
abbrev main_v296_3 : Ref sig .tc := ⟨.hbm, 307, rfl⟩
abbrev main_v296_4 : Ref sig .tc := ⟨.hbm, 308, rfl⟩
abbrev main_v296_5 : Ref sig .tc := ⟨.hbm, 309, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_5 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_6 (i : grid0.Coords) : Fin 5 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v0.toNat, c0_i32_0.toNat, c0_i32_1.toNat, c0_i32_2.toNat]

def cc0_transform_7 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_13 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x2x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x2x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2x2048x512 : Shape := ⟨3, ![2, 2048, 512]⟩
abbrev S4x2x2048x64 : Shape := ⟨4, ![4, 2, 2048, 64]⟩
abbrev S2x4x32 : Shape := ⟨3, ![2, 4, 32]⟩
abbrev S2x32x64x4x128 : Shape := ⟨5, ![2, 32, 64, 4, 128]⟩
abbrev S2x4x32x64x128 : Shape := ⟨5, ![2, 4, 32, 64, 128]⟩
abbrev S32x2x4x64x128 : Shape := ⟨5, ![32, 2, 4, 64, 128]⟩
abbrev S4x2x32x64x64 : Shape := ⟨5, ![4, 2, 32, 64, 64]⟩
abbrev S32x2x4x64x64 : Shape := ⟨5, ![32, 2, 4, 64, 64]⟩
abbrev S32x2x4 : Shape := ⟨3, ![32, 2, 4]⟩
abbrev S32x2x4x1x1 : Shape := ⟨5, ![32, 2, 4, 1, 1]⟩
abbrev S32x2x4x128x128 : Shape := ⟨5, ![32, 2, 4, 128, 128]⟩
abbrev S_ : Shape := ⟨0, ![]⟩
abbrev S1x2x4x128x128 : Shape := ⟨5, ![1, 2, 4, 128, 128]⟩
abbrev S1x2x4x64x128 : Shape := ⟨5, ![1, 2, 4, 64, 128]⟩
abbrev S16x2x4x128x128 : Shape := ⟨5, ![16, 2, 4, 128, 128]⟩
abbrev S2x4x128x128 : Shape := ⟨4, ![2, 4, 128, 128]⟩
abbrev S2x4x64x128 : Shape := ⟨4, ![2, 4, 64, 128]⟩
abbrev S1x2x4x64x64 : Shape := ⟨5, ![1, 2, 4, 64, 64]⟩
abbrev S2x4x64x64 : Shape := ⟨4, ![2, 4, 64, 64]⟩
abbrev S1x2x4 : Shape := ⟨3, ![1, 2, 4]⟩
abbrev S2x4 : Shape := ⟨2, ![2, 4]⟩
abbrev S2x4x1x1 : Shape := ⟨4, ![2, 4, 1, 1]⟩
abbrev S2x4x128x64 : Shape := ⟨4, ![2, 4, 128, 64]⟩
abbrev S4x2x32 : Shape := ⟨3, ![4, 2, 32]⟩
abbrev S4x2x32x1x1 : Shape := ⟨5, ![4, 2, 32, 1, 1]⟩
abbrev S4x2x32x8x128 : Shape := ⟨5, ![4, 2, 32, 8, 128]⟩
abbrev S4x2x256x128 : Shape := ⟨4, ![4, 2, 256, 128]⟩

abbrev nBuf : Space → Nat
  | .hbm => 475
  | .vmem => 0
  | .smem => 0
  | _ => 0

abbrev hbmTy0_0 (i : Nat) : BufTy := match i % 128 with
  | 0 => ⟨S2x2048x512, .f32⟩
  | 1 => ⟨S2x2048x512, .bf16⟩
  | 2 => ⟨S2x2048x512, .bf16⟩
  | 3 => ⟨S2x2048x512, .bf16⟩
  | 4 => ⟨S4x2x2048x64, .f32⟩
  | 5 => ⟨S2x4x32, .f32⟩
  | 6 => ⟨S2x2048x512, .f32⟩
  | 7 => ⟨S2x32x64x4x128, .f32⟩
  | 8 => ⟨S2x4x32x64x128, .f32⟩
  | 9 => ⟨S32x2x4x64x128, .f32⟩
  | 10 => ⟨S2x2048x512, .f32⟩
  | 11 => ⟨S2x32x64x4x128, .f32⟩
  | 12 => ⟨S2x4x32x64x128, .f32⟩
  | 13 => ⟨S32x2x4x64x128, .f32⟩
  | 14 => ⟨S2x2048x512, .f32⟩
  | 15 => ⟨S2x32x64x4x128, .f32⟩
  | 16 => ⟨S2x4x32x64x128, .f32⟩
  | 17 => ⟨S32x2x4x64x128, .f32⟩
  | 18 => ⟨S2x2048x512, .f32⟩
  | 19 => ⟨S2x32x64x4x128, .f32⟩
  | 20 => ⟨S2x4x32x64x128, .f32⟩
  | 21 => ⟨S32x2x4x64x128, .f32⟩
  | 22 => ⟨S2x32x64x4x128, .f32⟩
  | 23 => ⟨S2x4x32x64x128, .f32⟩
  | 24 => ⟨S32x2x4x64x128, .f32⟩
  | 25 => ⟨S4x2x32x64x64, .f32⟩
  | 26 => ⟨S32x2x4x64x64, .f32⟩
  | 27 => ⟨S32x2x4, .f32⟩
  | 28 => ⟨S32x2x4x1x1, .f32⟩
  | 29 => ⟨S32x2x4x128x128, .f32⟩
  | 30 => ⟨S_, .f32⟩
  | 31 => ⟨S1x2x4x128x128, .f32⟩
  | 32 => ⟨S1x2x4x64x128, .f32⟩
  | 33 => ⟨S1x2x4x64x128, .f32⟩
  | 34 => ⟨S1x2x4x128x128, .f32⟩
  | 35 => ⟨S1x2x4x64x128, .f32⟩
  | 36 => ⟨S1x2x4x64x128, .f32⟩
  | 37 => ⟨S1x2x4x64x128, .f32⟩
  | 38 => ⟨S1x2x4x64x128, .f32⟩
  | 39 => ⟨S1x2x4x128x128, .f32⟩
  | 40 => ⟨S1x2x4x128x128, .f32⟩
  | 41 => ⟨S1x2x4x64x128, .f32⟩
  | 42 => ⟨S1x2x4x128x128, .f32⟩
  | 43 => ⟨S1x2x4x128x128, .f32⟩
  | 44 => ⟨S1x2x4x64x128, .f32⟩
  | 45 => ⟨S1x2x4x64x128, .f32⟩
  | 46 => ⟨S1x2x4x64x128, .f32⟩
  | 47 => ⟨S1x2x4x64x128, .f32⟩
  | 48 => ⟨S1x2x4x128x128, .f32⟩
  | 49 => ⟨S1x2x4x128x128, .f32⟩
  | 50 => ⟨S1x2x4x64x128, .f32⟩
  | 51 => ⟨S1x2x4x128x128, .f32⟩
  | 52 => ⟨S1x2x4x128x128, .f32⟩
  | 53 => ⟨S1x2x4x64x128, .f32⟩
  | 54 => ⟨S1x2x4x64x128, .f32⟩
  | 55 => ⟨S1x2x4x64x128, .f32⟩
  | 56 => ⟨S1x2x4x64x128, .f32⟩
  | 57 => ⟨S1x2x4x128x128, .f32⟩
  | 58 => ⟨S1x2x4x128x128, .f32⟩
  | 59 => ⟨S1x2x4x64x128, .f32⟩
  | 60 => ⟨S1x2x4x128x128, .f32⟩
  | 61 => ⟨S1x2x4x128x128, .f32⟩
  | 62 => ⟨S1x2x4x64x128, .f32⟩
  | 63 => ⟨S1x2x4x64x128, .f32⟩
  | 64 => ⟨S1x2x4x64x128, .f32⟩
  | 65 => ⟨S1x2x4x64x128, .f32⟩
  | 66 => ⟨S1x2x4x128x128, .f32⟩
  | 67 => ⟨S1x2x4x128x128, .f32⟩
  | 68 => ⟨S1x2x4x64x128, .f32⟩
  | 69 => ⟨S1x2x4x128x128, .f32⟩
  | 70 => ⟨S1x2x4x128x128, .f32⟩
  | 71 => ⟨S1x2x4x64x128, .f32⟩
  | 72 => ⟨S1x2x4x64x128, .f32⟩
  | 73 => ⟨S1x2x4x64x128, .f32⟩
  | 74 => ⟨S1x2x4x64x128, .f32⟩
  | 75 => ⟨S1x2x4x128x128, .f32⟩
  | 76 => ⟨S1x2x4x128x128, .f32⟩
  | 77 => ⟨S1x2x4x64x128, .f32⟩
  | 78 => ⟨S1x2x4x128x128, .f32⟩
  | 79 => ⟨S1x2x4x128x128, .f32⟩
  | 80 => ⟨S1x2x4x64x128, .f32⟩
  | 81 => ⟨S1x2x4x64x128, .f32⟩
  | 82 => ⟨S1x2x4x64x128, .f32⟩
  | 83 => ⟨S1x2x4x64x128, .f32⟩
  | 84 => ⟨S1x2x4x128x128, .f32⟩
  | 85 => ⟨S1x2x4x128x128, .f32⟩
  | 86 => ⟨S1x2x4x64x128, .f32⟩
  | 87 => ⟨S1x2x4x128x128, .f32⟩
  | 88 => ⟨S1x2x4x128x128, .f32⟩
  | 89 => ⟨S1x2x4x64x128, .f32⟩
  | 90 => ⟨S1x2x4x64x128, .f32⟩
  | 91 => ⟨S1x2x4x64x128, .f32⟩
  | 92 => ⟨S1x2x4x64x128, .f32⟩
  | 93 => ⟨S1x2x4x128x128, .f32⟩
  | 94 => ⟨S1x2x4x128x128, .f32⟩
  | 95 => ⟨S1x2x4x64x128, .f32⟩
  | 96 => ⟨S1x2x4x128x128, .f32⟩
  | 97 => ⟨S1x2x4x128x128, .f32⟩
  | 98 => ⟨S1x2x4x64x128, .f32⟩
  | 99 => ⟨S1x2x4x64x128, .f32⟩
  | 100 => ⟨S1x2x4x64x128, .f32⟩
  | 101 => ⟨S1x2x4x64x128, .f32⟩
  | 102 => ⟨S1x2x4x128x128, .f32⟩
  | 103 => ⟨S1x2x4x128x128, .f32⟩
  | 104 => ⟨S1x2x4x64x128, .f32⟩
  | 105 => ⟨S1x2x4x128x128, .f32⟩
  | 106 => ⟨S1x2x4x128x128, .f32⟩
  | 107 => ⟨S1x2x4x64x128, .f32⟩
  | 108 => ⟨S1x2x4x64x128, .f32⟩
  | 109 => ⟨S1x2x4x64x128, .f32⟩
  | 110 => ⟨S1x2x4x64x128, .f32⟩
  | 111 => ⟨S1x2x4x128x128, .f32⟩
  | 112 => ⟨S1x2x4x128x128, .f32⟩
  | 113 => ⟨S1x2x4x64x128, .f32⟩
  | 114 => ⟨S1x2x4x128x128, .f32⟩
  | 115 => ⟨S1x2x4x128x128, .f32⟩
  | 116 => ⟨S1x2x4x64x128, .f32⟩
  | 117 => ⟨S1x2x4x64x128, .f32⟩
  | 118 => ⟨S1x2x4x64x128, .f32⟩
  | 119 => ⟨S1x2x4x64x128, .f32⟩
  | 120 => ⟨S1x2x4x128x128, .f32⟩
  | 121 => ⟨S1x2x4x128x128, .f32⟩
  | 122 => ⟨S1x2x4x64x128, .f32⟩
  | 123 => ⟨S1x2x4x128x128, .f32⟩
  | 124 => ⟨S1x2x4x128x128, .f32⟩
  | 125 => ⟨S1x2x4x64x128, .f32⟩
  | 126 => ⟨S1x2x4x64x128, .f32⟩
  | 127 => ⟨S1x2x4x64x128, .f32⟩
  | _ => ⟨S2x2048x512, .f32⟩

abbrev hbmTy0_1 (i : Nat) : BufTy := match i % 128 with
  | 0 => ⟨S1x2x4x64x128, .f32⟩
  | 1 => ⟨S1x2x4x128x128, .f32⟩
  | 2 => ⟨S1x2x4x128x128, .f32⟩
  | 3 => ⟨S1x2x4x64x128, .f32⟩
  | 4 => ⟨S1x2x4x128x128, .f32⟩
  | 5 => ⟨S1x2x4x128x128, .f32⟩
  | 6 => ⟨S1x2x4x64x128, .f32⟩
  | 7 => ⟨S1x2x4x64x128, .f32⟩
  | 8 => ⟨S1x2x4x64x128, .f32⟩
  | 9 => ⟨S1x2x4x64x128, .f32⟩
  | 10 => ⟨S1x2x4x128x128, .f32⟩
  | 11 => ⟨S1x2x4x128x128, .f32⟩
  | 12 => ⟨S1x2x4x64x128, .f32⟩
  | 13 => ⟨S1x2x4x128x128, .f32⟩
  | 14 => ⟨S1x2x4x128x128, .f32⟩
  | 15 => ⟨S1x2x4x64x128, .f32⟩
  | 16 => ⟨S1x2x4x64x128, .f32⟩
  | 17 => ⟨S1x2x4x64x128, .f32⟩
  | 18 => ⟨S1x2x4x64x128, .f32⟩
  | 19 => ⟨S1x2x4x128x128, .f32⟩
  | 20 => ⟨S1x2x4x128x128, .f32⟩
  | 21 => ⟨S1x2x4x64x128, .f32⟩
  | 22 => ⟨S1x2x4x128x128, .f32⟩
  | 23 => ⟨S1x2x4x128x128, .f32⟩
  | 24 => ⟨S1x2x4x64x128, .f32⟩
  | 25 => ⟨S1x2x4x64x128, .f32⟩
  | 26 => ⟨S1x2x4x64x128, .f32⟩
  | 27 => ⟨S1x2x4x64x128, .f32⟩
  | 28 => ⟨S1x2x4x128x128, .f32⟩
  | 29 => ⟨S1x2x4x128x128, .f32⟩
  | 30 => ⟨S1x2x4x64x128, .f32⟩
  | 31 => ⟨S1x2x4x128x128, .f32⟩
  | 32 => ⟨S1x2x4x128x128, .f32⟩
  | 33 => ⟨S1x2x4x64x128, .f32⟩
  | 34 => ⟨S1x2x4x64x128, .f32⟩
  | 35 => ⟨S1x2x4x64x128, .f32⟩
  | 36 => ⟨S1x2x4x64x128, .f32⟩
  | 37 => ⟨S1x2x4x128x128, .f32⟩
  | 38 => ⟨S1x2x4x128x128, .f32⟩
  | 39 => ⟨S1x2x4x64x128, .f32⟩
  | 40 => ⟨S1x2x4x128x128, .f32⟩
  | 41 => ⟨S1x2x4x128x128, .f32⟩
  | 42 => ⟨S1x2x4x64x128, .f32⟩
  | 43 => ⟨S1x2x4x64x128, .f32⟩
  | 44 => ⟨S1x2x4x64x128, .f32⟩
  | 45 => ⟨S1x2x4x64x128, .f32⟩
  | 46 => ⟨S1x2x4x128x128, .f32⟩
  | 47 => ⟨S1x2x4x128x128, .f32⟩
  | 48 => ⟨S1x2x4x64x128, .f32⟩
  | 49 => ⟨S1x2x4x128x128, .f32⟩
  | 50 => ⟨S1x2x4x128x128, .f32⟩
  | 51 => ⟨S1x2x4x64x128, .f32⟩
  | 52 => ⟨S1x2x4x64x128, .f32⟩
  | 53 => ⟨S1x2x4x64x128, .f32⟩
  | 54 => ⟨S1x2x4x64x128, .f32⟩
  | 55 => ⟨S1x2x4x128x128, .f32⟩
  | 56 => ⟨S1x2x4x128x128, .f32⟩
  | 57 => ⟨S1x2x4x64x128, .f32⟩
  | 58 => ⟨S1x2x4x128x128, .f32⟩
  | 59 => ⟨S1x2x4x128x128, .f32⟩
  | 60 => ⟨S1x2x4x64x128, .f32⟩
  | 61 => ⟨S1x2x4x64x128, .f32⟩
  | 62 => ⟨S1x2x4x64x128, .f32⟩
  | 63 => ⟨S1x2x4x64x128, .f32⟩
  | 64 => ⟨S1x2x4x128x128, .f32⟩
  | 65 => ⟨S1x2x4x128x128, .f32⟩
  | 66 => ⟨S1x2x4x64x128, .f32⟩
  | 67 => ⟨S1x2x4x128x128, .f32⟩
  | 68 => ⟨S1x2x4x128x128, .f32⟩
  | 69 => ⟨S1x2x4x64x128, .f32⟩
  | 70 => ⟨S1x2x4x64x128, .f32⟩
  | 71 => ⟨S1x2x4x64x128, .f32⟩
  | 72 => ⟨S1x2x4x64x128, .f32⟩
  | 73 => ⟨S1x2x4x128x128, .f32⟩
  | 74 => ⟨S1x2x4x128x128, .f32⟩
  | 75 => ⟨S1x2x4x64x128, .f32⟩
  | 76 => ⟨S1x2x4x128x128, .f32⟩
  | 77 => ⟨S1x2x4x128x128, .f32⟩
  | 78 => ⟨S1x2x4x64x128, .f32⟩
  | 79 => ⟨S1x2x4x64x128, .f32⟩
  | 80 => ⟨S1x2x4x64x128, .f32⟩
  | 81 => ⟨S1x2x4x64x128, .f32⟩
  | 82 => ⟨S1x2x4x128x128, .f32⟩
  | 83 => ⟨S1x2x4x128x128, .f32⟩
  | 84 => ⟨S1x2x4x64x128, .f32⟩
  | 85 => ⟨S1x2x4x128x128, .f32⟩
  | 86 => ⟨S1x2x4x128x128, .f32⟩
  | 87 => ⟨S1x2x4x64x128, .f32⟩
  | 88 => ⟨S1x2x4x64x128, .f32⟩
  | 89 => ⟨S1x2x4x64x128, .f32⟩
  | 90 => ⟨S1x2x4x64x128, .f32⟩
  | 91 => ⟨S1x2x4x128x128, .f32⟩
  | 92 => ⟨S1x2x4x128x128, .f32⟩
  | 93 => ⟨S1x2x4x64x128, .f32⟩
  | 94 => ⟨S1x2x4x128x128, .f32⟩
  | 95 => ⟨S1x2x4x128x128, .f32⟩
  | 96 => ⟨S1x2x4x64x128, .f32⟩
  | 97 => ⟨S1x2x4x64x128, .f32⟩
  | 98 => ⟨S1x2x4x64x128, .f32⟩
  | 99 => ⟨S1x2x4x64x128, .f32⟩
  | 100 => ⟨S1x2x4x128x128, .f32⟩
  | 101 => ⟨S1x2x4x128x128, .f32⟩
  | 102 => ⟨S1x2x4x64x128, .f32⟩
  | 103 => ⟨S1x2x4x128x128, .f32⟩
  | 104 => ⟨S1x2x4x128x128, .f32⟩
  | 105 => ⟨S1x2x4x64x128, .f32⟩
  | 106 => ⟨S1x2x4x64x128, .f32⟩
  | 107 => ⟨S1x2x4x64x128, .f32⟩
  | 108 => ⟨S1x2x4x64x128, .f32⟩
  | 109 => ⟨S1x2x4x128x128, .f32⟩
  | 110 => ⟨S1x2x4x128x128, .f32⟩
  | 111 => ⟨S1x2x4x64x128, .f32⟩
  | 112 => ⟨S1x2x4x128x128, .f32⟩
  | 113 => ⟨S1x2x4x128x128, .f32⟩
  | 114 => ⟨S1x2x4x64x128, .f32⟩
  | 115 => ⟨S1x2x4x64x128, .f32⟩
  | 116 => ⟨S1x2x4x64x128, .f32⟩
  | 117 => ⟨S1x2x4x64x128, .f32⟩
  | 118 => ⟨S1x2x4x128x128, .f32⟩
  | 119 => ⟨S1x2x4x128x128, .f32⟩
  | 120 => ⟨S1x2x4x64x128, .f32⟩
  | 121 => ⟨S1x2x4x128x128, .f32⟩
  | 122 => ⟨S1x2x4x128x128, .f32⟩
  | 123 => ⟨S1x2x4x64x128, .f32⟩
  | 124 => ⟨S1x2x4x64x128, .f32⟩
  | 125 => ⟨S1x2x4x64x128, .f32⟩
  | 126 => ⟨S1x2x4x64x128, .f32⟩
  | 127 => ⟨S1x2x4x128x128, .f32⟩
  | _ => ⟨S2x2048x512, .f32⟩

abbrev hbmTy0_2 (i : Nat) : BufTy := match i % 128 with
  | 0 => ⟨S1x2x4x128x128, .f32⟩
  | 1 => ⟨S1x2x4x64x128, .f32⟩
  | 2 => ⟨S1x2x4x128x128, .f32⟩
  | 3 => ⟨S1x2x4x128x128, .f32⟩
  | 4 => ⟨S1x2x4x64x128, .f32⟩
  | 5 => ⟨S1x2x4x64x128, .f32⟩
  | 6 => ⟨S1x2x4x64x128, .f32⟩
  | 7 => ⟨S1x2x4x64x128, .f32⟩
  | 8 => ⟨S1x2x4x128x128, .f32⟩
  | 9 => ⟨S1x2x4x128x128, .f32⟩
  | 10 => ⟨S1x2x4x64x128, .f32⟩
  | 11 => ⟨S1x2x4x128x128, .f32⟩
  | 12 => ⟨S1x2x4x128x128, .f32⟩
  | 13 => ⟨S1x2x4x64x128, .f32⟩
  | 14 => ⟨S1x2x4x64x128, .f32⟩
  | 15 => ⟨S1x2x4x64x128, .f32⟩
  | 16 => ⟨S1x2x4x64x128, .f32⟩
  | 17 => ⟨S1x2x4x128x128, .f32⟩
  | 18 => ⟨S1x2x4x128x128, .f32⟩
  | 19 => ⟨S1x2x4x64x128, .f32⟩
  | 20 => ⟨S1x2x4x128x128, .f32⟩
  | 21 => ⟨S1x2x4x128x128, .f32⟩
  | 22 => ⟨S1x2x4x64x128, .f32⟩
  | 23 => ⟨S1x2x4x64x128, .f32⟩
  | 24 => ⟨S1x2x4x64x128, .f32⟩
  | 25 => ⟨S1x2x4x64x128, .f32⟩
  | 26 => ⟨S1x2x4x128x128, .f32⟩
  | 27 => ⟨S1x2x4x128x128, .f32⟩
  | 28 => ⟨S1x2x4x64x128, .f32⟩
  | 29 => ⟨S1x2x4x128x128, .f32⟩
  | 30 => ⟨S1x2x4x128x128, .f32⟩
  | 31 => ⟨S1x2x4x64x128, .f32⟩
  | 32 => ⟨S1x2x4x64x128, .f32⟩
  | 33 => ⟨S1x2x4x64x128, .f32⟩
  | 34 => ⟨S1x2x4x64x128, .f32⟩
  | 35 => ⟨S1x2x4x128x128, .f32⟩
  | 36 => ⟨S1x2x4x128x128, .f32⟩
  | 37 => ⟨S1x2x4x64x128, .f32⟩
  | 38 => ⟨S1x2x4x128x128, .f32⟩
  | 39 => ⟨S1x2x4x128x128, .f32⟩
  | 40 => ⟨S1x2x4x64x128, .f32⟩
  | 41 => ⟨S1x2x4x64x128, .f32⟩
  | 42 => ⟨S1x2x4x64x128, .f32⟩
  | 43 => ⟨S1x2x4x64x128, .f32⟩
  | 44 => ⟨S1x2x4x128x128, .f32⟩
  | 45 => ⟨S1x2x4x128x128, .f32⟩
  | 46 => ⟨S1x2x4x64x128, .f32⟩
  | 47 => ⟨S1x2x4x128x128, .f32⟩
  | 48 => ⟨S1x2x4x128x128, .f32⟩
  | 49 => ⟨S16x2x4x128x128, .f32⟩
  | 50 => ⟨S16x2x4x128x128, .f32⟩
  | 51 => ⟨S32x2x4x128x128, .f32⟩
  | 52 => ⟨S32x2x4, .f32⟩
  | 53 => ⟨S_, .f32⟩
  | 54 => ⟨S2x4x128x128, .f32⟩
  | 55 => ⟨S_, .f32⟩
  | 56 => ⟨S32x2x4x64x128, .f32⟩
  | 57 => ⟨S_, .f32⟩
  | 58 => ⟨S32x2x4x64x128, .f32⟩
  | 59 => ⟨S_, .f32⟩
  | 60 => ⟨S32x2x4x64x128, .f32⟩
  | 61 => ⟨S_, .f32⟩
  | 62 => ⟨S32x2x4x64x64, .f32⟩
  | 63 => ⟨S_, .f32⟩
  | 64 => ⟨S32x2x4x64x128, .f32⟩
  | 65 => ⟨S_, .f32⟩
  | 66 => ⟨S32x2x4, .f32⟩
  | 67 => ⟨S_, .i32⟩
  | 68 => ⟨S32x2x4x128x128, .f32⟩
  | 69 => ⟨S32x2x4x64x128, .f32⟩
  | 70 => ⟨S32x2x4x64x128, .f32⟩
  | 71 => ⟨S32x2x4x64x128, .f32⟩
  | 72 => ⟨S32x2x4x64x64, .f32⟩
  | 73 => ⟨S32x2x4x64x128, .f32⟩
  | 74 => ⟨S32x2x4, .f32⟩
  | 75 => ⟨S32x2x4x64x128, .f32⟩
  | 76 => ⟨S_, .i32⟩
  | 77 => ⟨S2x4x128x128, .f32⟩
  | 78 => ⟨S32x2x4x64x128, .f32⟩
  | 79 => ⟨S32x2x4x64x128, .f32⟩
  | 80 => ⟨S32x2x4x64x128, .f32⟩
  | 81 => ⟨S32x2x4x64x64, .f32⟩
  | 82 => ⟨S32x2x4x64x128, .f32⟩
  | 83 => ⟨S32x2x4, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S1x2x4x128x128, .f32⟩
  | 95 => ⟨S2x4x128x128, .f32⟩
  | 96 => ⟨S_, .i32⟩
  | 97 => ⟨S_, .i32⟩
  | 98 => ⟨S_, .i32⟩
  | 99 => ⟨S_, .i32⟩
  | 100 => ⟨S1x2x4x64x128, .f32⟩
  | 101 => ⟨S2x4x64x128, .f32⟩
  | 102 => ⟨S_, .i32⟩
  | 103 => ⟨S_, .i32⟩
  | 104 => ⟨S_, .i32⟩
  | 105 => ⟨S_, .i32⟩
  | 106 => ⟨S1x2x4x64x128, .f32⟩
  | 107 => ⟨S2x4x64x128, .f32⟩
  | 108 => ⟨S_, .i32⟩
  | 109 => ⟨S_, .i32⟩
  | 110 => ⟨S_, .i32⟩
  | 111 => ⟨S_, .i32⟩
  | 112 => ⟨S1x2x4x64x128, .f32⟩
  | 113 => ⟨S2x4x64x128, .f32⟩
  | 114 => ⟨S_, .i32⟩
  | 115 => ⟨S_, .i32⟩
  | 116 => ⟨S_, .i32⟩
  | 117 => ⟨S_, .i32⟩
  | 118 => ⟨S1x2x4x64x64, .f32⟩
  | 119 => ⟨S2x4x64x64, .f32⟩
  | 120 => ⟨S_, .i32⟩
  | 121 => ⟨S_, .i32⟩
  | 122 => ⟨S_, .i32⟩
  | 123 => ⟨S_, .i32⟩
  | 124 => ⟨S1x2x4x64x128, .f32⟩
  | 125 => ⟨S2x4x64x128, .f32⟩
  | 126 => ⟨S_, .i32⟩
  | 127 => ⟨S_, .i32⟩
  | _ => ⟨S2x2048x512, .f32⟩

abbrev hbmTy0_3 (i : Nat) : BufTy := match i % 128 with
  | 0 => ⟨S1x2x4, .f32⟩
  | 1 => ⟨S2x4, .f32⟩
  | 2 => ⟨S_, .i32⟩
  | 3 => ⟨S_, .i32⟩
  | 4 => ⟨S_, .i32⟩
  | 5 => ⟨S_, .i32⟩
  | 6 => ⟨S1x2x4x64x128, .f32⟩
  | 7 => ⟨S2x4x64x128, .f32⟩
  | 8 => ⟨S2x4x64x128, .f32⟩
  | 9 => ⟨S2x4x64x128, .f32⟩
  | 10 => ⟨S2x4x64x128, .f32⟩
  | 11 => ⟨S2x4x64x128, .f32⟩
  | 12 => ⟨S2x4x64x128, .f32⟩
  | 13 => ⟨S2x4x1x1, .f32⟩
  | 14 => ⟨S2x4x128x128, .f32⟩
  | 15 => ⟨S2x4x128x128, .f32⟩
  | 16 => ⟨S2x4x128x128, .f32⟩
  | 17 => ⟨S2x4x128x128, .f32⟩
  | 18 => ⟨S2x4x128x64, .f32⟩
  | 19 => ⟨S2x4x64x128, .f32⟩
  | 20 => ⟨S2x4x128x64, .f32⟩
  | 21 => ⟨S2x4x64x128, .f32⟩
  | 22 => ⟨S2x4x128x128, .f32⟩
  | 23 => ⟨S2x4x128x128, .f32⟩
  | 24 => ⟨S2x4x128x128, .f32⟩
  | 25 => ⟨S_, .f32⟩
  | 26 => ⟨S2x4, .f32⟩
  | 27 => ⟨S2x4x1x1, .f32⟩
  | 28 => ⟨S_, .f32⟩
  | 29 => ⟨S2x4, .f32⟩
  | 30 => ⟨S2x4x128x64, .f32⟩
  | 31 => ⟨S2x4x64x128, .f32⟩
  | 32 => ⟨S2x4x64x128, .f32⟩
  | 33 => ⟨S2x4x64x64, .f32⟩
  | 34 => ⟨S2x4x128x128, .f32⟩
  | 35 => ⟨S2x4x128x128, .f32⟩
  | 36 => ⟨S2x4x64x128, .f32⟩
  | 37 => ⟨S2x4x64x128, .f32⟩
  | 38 => ⟨S2x4x128x128, .f32⟩
  | 39 => ⟨S2x4x128x128, .f32⟩
  | 40 => ⟨S2x4x64x128, .f32⟩
  | 41 => ⟨S1x2x4x64x128, .f32⟩
  | 42 => ⟨S_, .i32⟩
  | 43 => ⟨S_, .i32⟩
  | 44 => ⟨S_, .i32⟩
  | 45 => ⟨S_, .i32⟩
  | 46 => ⟨S32x2x4x64x128, .f32⟩
  | 47 => ⟨S1x2x4x64x128, .f32⟩
  | 48 => ⟨S_, .i32⟩
  | 49 => ⟨S_, .i32⟩
  | 50 => ⟨S_, .i32⟩
  | 51 => ⟨S_, .i32⟩
  | 52 => ⟨S32x2x4x64x128, .f32⟩
  | 53 => ⟨S1x2x4x64x128, .f32⟩
  | 54 => ⟨S_, .i32⟩
  | 55 => ⟨S_, .i32⟩
  | 56 => ⟨S_, .i32⟩
  | 57 => ⟨S_, .i32⟩
  | 58 => ⟨S32x2x4x64x128, .f32⟩
  | 59 => ⟨S1x2x4x64x64, .f32⟩
  | 60 => ⟨S_, .i32⟩
  | 61 => ⟨S_, .i32⟩
  | 62 => ⟨S_, .i32⟩
  | 63 => ⟨S_, .i32⟩
  | 64 => ⟨S32x2x4x64x64, .f32⟩
  | 65 => ⟨S1x2x4x64x128, .f32⟩
  | 66 => ⟨S_, .i32⟩
  | 67 => ⟨S_, .i32⟩
  | 68 => ⟨S_, .i32⟩
  | 69 => ⟨S_, .i32⟩
  | 70 => ⟨S32x2x4x64x128, .f32⟩
  | 71 => ⟨S1x2x4, .f32⟩
  | 72 => ⟨S_, .i32⟩
  | 73 => ⟨S_, .i32⟩
  | 74 => ⟨S32x2x4, .f32⟩
  | 75 => ⟨S_, .i32⟩
  | 76 => ⟨S_, .i32⟩
  | 77 => ⟨S4x2x32x64x64, .f32⟩
  | 78 => ⟨S4x2x2048x64, .f32⟩
  | 79 => ⟨S4x2x32, .f32⟩
  | 80 => ⟨S4x2x32x1x1, .f32⟩
  | 81 => ⟨S4x2x32x8x128, .f32⟩
  | 82 => ⟨S2x32x64x4x128, .f32⟩
  | 83 => ⟨S2x2048x512, .f32⟩
  | 84 => ⟨S2x32x64x4x128, .f32⟩
  | 85 => ⟨S2x2048x512, .f32⟩
  | 86 => ⟨S2x32x64x4x128, .f32⟩
  | 87 => ⟨S2x2048x512, .f32⟩
  | 88 => ⟨S2x32x64x4x128, .f32⟩
  | 89 => ⟨S2x2048x512, .f32⟩
  | 90 => ⟨S4x2x256x128, .f32⟩
  | _ => ⟨S2x2048x512, .f32⟩

abbrev hbmTy (i : Nat) : BufTy := match i / 128 with
  | 0 => hbmTy0_0 i
  | 1 => hbmTy0_1 i
  | 2 => hbmTy0_2 i
  | 3 => hbmTy0_3 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_v241 : Ref sig .tc := ⟨.hbm, 249, rfl⟩
abbrev main_v242 : Ref sig .tc := ⟨.hbm, 250, rfl⟩
abbrev main_v243 : Ref sig .tc := ⟨.hbm, 251, rfl⟩
abbrev main_v244 : Ref sig .tc := ⟨.hbm, 252, rfl⟩
abbrev main_v245 : Ref sig .tc := ⟨.hbm, 253, rfl⟩
abbrev main_v246 : Ref sig .tc := ⟨.hbm, 254, rfl⟩
abbrev main_v247 : Ref sig .tc := ⟨.hbm, 255, rfl⟩
abbrev main_v248 : Ref sig .tc := ⟨.hbm, 256, rfl⟩
abbrev main_v249 : Ref sig .tc := ⟨.hbm, 257, rfl⟩
abbrev main_v250 : Ref sig .tc := ⟨.hbm, 258, rfl⟩
abbrev main_v251 : Ref sig .tc := ⟨.hbm, 259, rfl⟩
abbrev main_v252 : Ref sig .tc := ⟨.hbm, 260, rfl⟩
abbrev main_v253 : Ref sig .tc := ⟨.hbm, 261, rfl⟩
abbrev main_v254 : Ref sig .tc := ⟨.hbm, 262, rfl⟩
abbrev main_v255 : Ref sig .tc := ⟨.hbm, 263, rfl⟩
abbrev main_v256 : Ref sig .tc := ⟨.hbm, 264, rfl⟩
abbrev main_v257 : Ref sig .tc := ⟨.hbm, 265, rfl⟩
abbrev main_v258 : Ref sig .tc := ⟨.hbm, 266, rfl⟩
abbrev main_v259 : Ref sig .tc := ⟨.hbm, 267, rfl⟩
abbrev main_v260 : Ref sig .tc := ⟨.hbm, 268, rfl⟩
abbrev main_v261 : Ref sig .tc := ⟨.hbm, 269, rfl⟩
abbrev main_v262 : Ref sig .tc := ⟨.hbm, 270, rfl⟩
abbrev main_v263 : Ref sig .tc := ⟨.hbm, 271, rfl⟩
abbrev main_v264 : Ref sig .tc := ⟨.hbm, 272, rfl⟩
abbrev main_v265 : Ref sig .tc := ⟨.hbm, 273, rfl⟩
abbrev main_v266 : Ref sig .tc := ⟨.hbm, 274, rfl⟩
abbrev main_v267 : Ref sig .tc := ⟨.hbm, 275, rfl⟩
abbrev main_v268 : Ref sig .tc := ⟨.hbm, 276, rfl⟩
abbrev main_v269 : Ref sig .tc := ⟨.hbm, 277, rfl⟩
abbrev main_v270 : Ref sig .tc := ⟨.hbm, 278, rfl⟩
abbrev main_v271 : Ref sig .tc := ⟨.hbm, 279, rfl⟩
abbrev main_v272 : Ref sig .tc := ⟨.hbm, 280, rfl⟩
abbrev main_v273 : Ref sig .tc := ⟨.hbm, 281, rfl⟩
abbrev main_v274 : Ref sig .tc := ⟨.hbm, 282, rfl⟩
abbrev main_v275 : Ref sig .tc := ⟨.hbm, 283, rfl⟩
abbrev main_v276 : Ref sig .tc := ⟨.hbm, 284, rfl⟩
abbrev main_v277 : Ref sig .tc := ⟨.hbm, 285, rfl⟩
abbrev main_v278 : Ref sig .tc := ⟨.hbm, 286, rfl⟩
abbrev main_v279 : Ref sig .tc := ⟨.hbm, 287, rfl⟩
abbrev main_v280 : Ref sig .tc := ⟨.hbm, 288, rfl⟩
abbrev main_v281 : Ref sig .tc := ⟨.hbm, 289, rfl⟩
abbrev main_v282 : Ref sig .tc := ⟨.hbm, 290, rfl⟩
abbrev main_v283 : Ref sig .tc := ⟨.hbm, 291, rfl⟩
abbrev main_v284 : Ref sig .tc := ⟨.hbm, 292, rfl⟩
abbrev main_v285 : Ref sig .tc := ⟨.hbm, 293, rfl⟩
abbrev main_v286 : Ref sig .tc := ⟨.hbm, 294, rfl⟩
abbrev main_v287 : Ref sig .tc := ⟨.hbm, 295, rfl⟩
abbrev main_v288 : Ref sig .tc := ⟨.hbm, 296, rfl⟩
abbrev main_v289 : Ref sig .tc := ⟨.hbm, 297, rfl⟩
abbrev main_v290 : Ref sig .tc := ⟨.hbm, 298, rfl⟩
abbrev main_v291 : Ref sig .tc := ⟨.hbm, 299, rfl⟩
abbrev main_v292 : Ref sig .tc := ⟨.hbm, 300, rfl⟩
abbrev main_v293 : Ref sig .tc := ⟨.hbm, 301, rfl⟩
abbrev main_v294 : Ref sig .tc := ⟨.hbm, 302, rfl⟩
abbrev main_v295 : Ref sig .tc := ⟨.hbm, 303, rfl⟩
abbrev main_v296 : Ref sig .tc := ⟨.hbm, 304, rfl⟩
abbrev main_v297 : Ref sig .tc := ⟨.hbm, 305, rfl⟩
abbrev main_v298 : Ref sig .tc := ⟨.hbm, 306, rfl⟩
abbrev main_v299 : Ref sig .tc := ⟨.hbm, 307, rfl⟩
abbrev main_v300 : Ref sig .tc := ⟨.hbm, 308, rfl⟩
abbrev main_cst_0 : Ref sig .tc := ⟨.hbm, 309, rfl⟩
abbrev main_v301 : Ref sig .tc := ⟨.hbm, 310, rfl⟩
abbrev main_cst_1 : Ref sig .tc := ⟨.hbm, 311, rfl⟩
abbrev main_v302 : Ref sig .tc := ⟨.hbm, 312, rfl⟩
abbrev main_cst_2 : Ref sig .tc := ⟨.hbm, 313, rfl⟩
abbrev main_v303 : Ref sig .tc := ⟨.hbm, 314, rfl⟩
abbrev main_cst_3 : Ref sig .tc := ⟨.hbm, 315, rfl⟩
abbrev main_v304 : Ref sig .tc := ⟨.hbm, 316, rfl⟩
abbrev main_cst_4 : Ref sig .tc := ⟨.hbm, 317, rfl⟩
abbrev main_v305 : Ref sig .tc := ⟨.hbm, 318, rfl⟩
abbrev main_cst_5 : Ref sig .tc := ⟨.hbm, 319, rfl⟩
abbrev main_v306 : Ref sig .tc := ⟨.hbm, 320, rfl⟩
abbrev main_cst_6 : Ref sig .tc := ⟨.hbm, 321, rfl⟩
abbrev main_v307 : Ref sig .tc := ⟨.hbm, 322, rfl⟩
abbrev main_c : Ref sig .tc := ⟨.hbm, 323, rfl⟩
abbrev main_v308_0 : Ref sig .tc := ⟨.hbm, 324, rfl⟩
abbrev main_v308_1 : Ref sig .tc := ⟨.hbm, 325, rfl⟩
abbrev main_v308_2 : Ref sig .tc := ⟨.hbm, 326, rfl⟩
abbrev main_v308_3 : Ref sig .tc := ⟨.hbm, 327, rfl⟩
abbrev main_v308_4 : Ref sig .tc := ⟨.hbm, 328, rfl⟩
abbrev main_v308_5 : Ref sig .tc := ⟨.hbm, 329, rfl⟩
abbrev main_v308_6 : Ref sig .tc := ⟨.hbm, 330, rfl⟩
abbrev main_v308_7 : Ref sig .tc := ⟨.hbm, 331, rfl⟩
abbrev main_v308_8 : Ref sig .tc := ⟨.hbm, 332, rfl⟩
abbrev main_v308_9 : Ref sig .tc := ⟨.hbm, 333, rfl⟩
abbrev main_v308_10 : Ref sig .tc := ⟨.hbm, 334, rfl⟩
abbrev main_v308_11 : Ref sig .tc := ⟨.hbm, 335, rfl⟩
abbrev main_v308_12 : Ref sig .tc := ⟨.hbm, 336, rfl⟩
abbrev main_v308_13 : Ref sig .tc := ⟨.hbm, 337, rfl⟩
abbrev main_v308_14 : Ref sig .tc := ⟨.hbm, 338, rfl⟩
abbrev main_v308_15 : Ref sig .tc := ⟨.hbm, 339, rfl⟩
abbrev main_while0c_c_22 : Ref sig .tc := ⟨.hbm, 340, rfl⟩
abbrev main_while0c_v323 : Ref sig .tc := ⟨.hbm, 341, rfl⟩
abbrev main_while0b_c_22 : Ref sig .tc := ⟨.hbm, 342, rfl⟩
abbrev main_while0b_v323 : Ref sig .tc := ⟨.hbm, 343, rfl⟩
abbrev main_while0b_c_23 : Ref sig .tc := ⟨.hbm, 344, rfl⟩
abbrev main_while0b_v324 : Ref sig .tc := ⟨.hbm, 345, rfl⟩
abbrev main_while0b_call0_c : Ref sig .tc := ⟨.hbm, 346, rfl⟩
abbrev main_while0b_call0_c_0 : Ref sig .tc := ⟨.hbm, 347, rfl⟩
abbrev main_while0b_call0_c_1 : Ref sig .tc := ⟨.hbm, 348, rfl⟩
abbrev main_while0b_call0_c_2 : Ref sig .tc := ⟨.hbm, 349, rfl⟩
abbrev main_while0b_call0_v0 : Ref sig .tc := ⟨.hbm, 350, rfl⟩
abbrev main_while0b_v325 : Ref sig .tc := ⟨.hbm, 351, rfl⟩
abbrev main_while0b_call1_c : Ref sig .tc := ⟨.hbm, 352, rfl⟩
abbrev main_while0b_call1_c_0 : Ref sig .tc := ⟨.hbm, 353, rfl⟩
abbrev main_while0b_call1_c_1 : Ref sig .tc := ⟨.hbm, 354, rfl⟩
abbrev main_while0b_call1_c_2 : Ref sig .tc := ⟨.hbm, 355, rfl⟩
abbrev main_while0b_call1_v0 : Ref sig .tc := ⟨.hbm, 356, rfl⟩
abbrev main_while0b_v326 : Ref sig .tc := ⟨.hbm, 357, rfl⟩
abbrev main_while0b_call2_c : Ref sig .tc := ⟨.hbm, 358, rfl⟩
abbrev main_while0b_call2_c_0 : Ref sig .tc := ⟨.hbm, 359, rfl⟩
abbrev main_while0b_call2_c_1 : Ref sig .tc := ⟨.hbm, 360, rfl⟩
abbrev main_while0b_call2_c_2 : Ref sig .tc := ⟨.hbm, 361, rfl⟩
abbrev main_while0b_call2_v0 : Ref sig .tc := ⟨.hbm, 362, rfl⟩
abbrev main_while0b_v327 : Ref sig .tc := ⟨.hbm, 363, rfl⟩
abbrev main_while0b_call3_c : Ref sig .tc := ⟨.hbm, 364, rfl⟩
abbrev main_while0b_call3_c_0 : Ref sig .tc := ⟨.hbm, 365, rfl⟩
abbrev main_while0b_call3_c_1 : Ref sig .tc := ⟨.hbm, 366, rfl⟩
abbrev main_while0b_call3_c_2 : Ref sig .tc := ⟨.hbm, 367, rfl⟩
abbrev main_while0b_call3_v0 : Ref sig .tc := ⟨.hbm, 368, rfl⟩
abbrev main_while0b_v328 : Ref sig .tc := ⟨.hbm, 369, rfl⟩
abbrev main_while0b_call4_c : Ref sig .tc := ⟨.hbm, 370, rfl⟩
abbrev main_while0b_call4_c_0 : Ref sig .tc := ⟨.hbm, 371, rfl⟩
abbrev main_while0b_call4_c_1 : Ref sig .tc := ⟨.hbm, 372, rfl⟩
abbrev main_while0b_call4_c_2 : Ref sig .tc := ⟨.hbm, 373, rfl⟩
abbrev main_while0b_call4_v0 : Ref sig .tc := ⟨.hbm, 374, rfl⟩
abbrev main_while0b_v329 : Ref sig .tc := ⟨.hbm, 375, rfl⟩
abbrev main_while0b_call5_c : Ref sig .tc := ⟨.hbm, 376, rfl⟩
abbrev main_while0b_call5_c_0 : Ref sig .tc := ⟨.hbm, 377, rfl⟩
abbrev main_while0b_call5_c_1 : Ref sig .tc := ⟨.hbm, 378, rfl⟩
abbrev main_while0b_call5_c_2 : Ref sig .tc := ⟨.hbm, 379, rfl⟩
abbrev main_while0b_call5_v0 : Ref sig .tc := ⟨.hbm, 380, rfl⟩
abbrev main_while0b_v330 : Ref sig .tc := ⟨.hbm, 381, rfl⟩
abbrev main_while0b_call6_c : Ref sig .tc := ⟨.hbm, 382, rfl⟩
abbrev main_while0b_call6_c_0 : Ref sig .tc := ⟨.hbm, 383, rfl⟩
abbrev main_while0b_call6_v0 : Ref sig .tc := ⟨.hbm, 384, rfl⟩
abbrev main_while0b_v331 : Ref sig .tc := ⟨.hbm, 385, rfl⟩
abbrev main_while0b_call7_c : Ref sig .tc := ⟨.hbm, 386, rfl⟩
abbrev main_while0b_call7_c_0 : Ref sig .tc := ⟨.hbm, 387, rfl⟩
abbrev main_while0b_call7_c_1 : Ref sig .tc := ⟨.hbm, 388, rfl⟩
abbrev main_while0b_call7_c_2 : Ref sig .tc := ⟨.hbm, 389, rfl⟩
abbrev main_while0b_call7_v0 : Ref sig .tc := ⟨.hbm, 390, rfl⟩
abbrev main_while0b_v332 : Ref sig .tc := ⟨.hbm, 391, rfl⟩
abbrev main_while0b_v333 : Ref sig .tc := ⟨.hbm, 392, rfl⟩
abbrev main_while0b_v334 : Ref sig .tc := ⟨.hbm, 393, rfl⟩
abbrev main_while0b_v335 : Ref sig .tc := ⟨.hbm, 394, rfl⟩
abbrev main_while0b_v336 : Ref sig .tc := ⟨.hbm, 395, rfl⟩
abbrev main_while0b_v337 : Ref sig .tc := ⟨.hbm, 396, rfl⟩
abbrev main_while0b_v338 : Ref sig .tc := ⟨.hbm, 397, rfl⟩
abbrev main_while0b_v339 : Ref sig .tc := ⟨.hbm, 398, rfl⟩
abbrev main_while0b_v340 : Ref sig .tc := ⟨.hbm, 399, rfl⟩
abbrev main_while0b_v341 : Ref sig .tc := ⟨.hbm, 400, rfl⟩
abbrev main_while0b_v342 : Ref sig .tc := ⟨.hbm, 401, rfl⟩
abbrev main_while0b_v343 : Ref sig .tc := ⟨.hbm, 402, rfl⟩
abbrev main_while0b_v344 : Ref sig .tc := ⟨.hbm, 403, rfl⟩
abbrev main_while0b_v345 : Ref sig .tc := ⟨.hbm, 404, rfl⟩
abbrev main_while0b_v346 : Ref sig .tc := ⟨.hbm, 405, rfl⟩
abbrev main_while0b_v347 : Ref sig .tc := ⟨.hbm, 406, rfl⟩
abbrev main_while0b_v348 : Ref sig .tc := ⟨.hbm, 407, rfl⟩
abbrev main_while0b_v349 : Ref sig .tc := ⟨.hbm, 408, rfl⟩
abbrev main_while0b_cst_24 : Ref sig .tc := ⟨.hbm, 409, rfl⟩
abbrev main_while0b_v350 : Ref sig .tc := ⟨.hbm, 410, rfl⟩
abbrev main_while0b_v351 : Ref sig .tc := ⟨.hbm, 411, rfl⟩
abbrev main_while0b_cst_25 : Ref sig .tc := ⟨.hbm, 412, rfl⟩
abbrev main_while0b_v352 : Ref sig .tc := ⟨.hbm, 413, rfl⟩
abbrev main_while0b_v353 : Ref sig .tc := ⟨.hbm, 414, rfl⟩
abbrev main_while0b_v354 : Ref sig .tc := ⟨.hbm, 415, rfl⟩
abbrev main_while0b_v355 : Ref sig .tc := ⟨.hbm, 416, rfl⟩
abbrev main_while0b_v356 : Ref sig .tc := ⟨.hbm, 417, rfl⟩
abbrev main_while0b_v357 : Ref sig .tc := ⟨.hbm, 418, rfl⟩
abbrev main_while0b_v358 : Ref sig .tc := ⟨.hbm, 419, rfl⟩
abbrev main_while0b_v359 : Ref sig .tc := ⟨.hbm, 420, rfl⟩
abbrev main_while0b_v360 : Ref sig .tc := ⟨.hbm, 421, rfl⟩
abbrev main_while0b_v361 : Ref sig .tc := ⟨.hbm, 422, rfl⟩
abbrev main_while0b_v362 : Ref sig .tc := ⟨.hbm, 423, rfl⟩
abbrev main_while0b_v363 : Ref sig .tc := ⟨.hbm, 424, rfl⟩
abbrev main_while0b_call8_v0 : Ref sig .tc := ⟨.hbm, 425, rfl⟩
abbrev main_while0b_call8_c : Ref sig .tc := ⟨.hbm, 426, rfl⟩
abbrev main_while0b_call8_c_0 : Ref sig .tc := ⟨.hbm, 427, rfl⟩
abbrev main_while0b_call8_c_1 : Ref sig .tc := ⟨.hbm, 428, rfl⟩
abbrev main_while0b_call8_c_2 : Ref sig .tc := ⟨.hbm, 429, rfl⟩
abbrev main_while0b_v364 : Ref sig .tc := ⟨.hbm, 430, rfl⟩
abbrev main_while0b_call9_v0 : Ref sig .tc := ⟨.hbm, 431, rfl⟩
abbrev main_while0b_call9_c : Ref sig .tc := ⟨.hbm, 432, rfl⟩
abbrev main_while0b_call9_c_0 : Ref sig .tc := ⟨.hbm, 433, rfl⟩
abbrev main_while0b_call9_c_1 : Ref sig .tc := ⟨.hbm, 434, rfl⟩
abbrev main_while0b_call9_c_2 : Ref sig .tc := ⟨.hbm, 435, rfl⟩
abbrev main_while0b_v365 : Ref sig .tc := ⟨.hbm, 436, rfl⟩
abbrev main_while0b_call10_v0 : Ref sig .tc := ⟨.hbm, 437, rfl⟩
abbrev main_while0b_call10_c : Ref sig .tc := ⟨.hbm, 438, rfl⟩
abbrev main_while0b_call10_c_0 : Ref sig .tc := ⟨.hbm, 439, rfl⟩
abbrev main_while0b_call10_c_1 : Ref sig .tc := ⟨.hbm, 440, rfl⟩
abbrev main_while0b_call10_c_2 : Ref sig .tc := ⟨.hbm, 441, rfl⟩
abbrev main_while0b_v366 : Ref sig .tc := ⟨.hbm, 442, rfl⟩
abbrev main_while0b_call11_v0 : Ref sig .tc := ⟨.hbm, 443, rfl⟩
abbrev main_while0b_call11_c : Ref sig .tc := ⟨.hbm, 444, rfl⟩
abbrev main_while0b_call11_c_0 : Ref sig .tc := ⟨.hbm, 445, rfl⟩
abbrev main_while0b_call11_c_1 : Ref sig .tc := ⟨.hbm, 446, rfl⟩
abbrev main_while0b_call11_c_2 : Ref sig .tc := ⟨.hbm, 447, rfl⟩
abbrev main_while0b_v367 : Ref sig .tc := ⟨.hbm, 448, rfl⟩
abbrev main_while0b_call12_v0 : Ref sig .tc := ⟨.hbm, 449, rfl⟩
abbrev main_while0b_call12_c : Ref sig .tc := ⟨.hbm, 450, rfl⟩
abbrev main_while0b_call12_c_0 : Ref sig .tc := ⟨.hbm, 451, rfl⟩
abbrev main_while0b_call12_c_1 : Ref sig .tc := ⟨.hbm, 452, rfl⟩
abbrev main_while0b_call12_c_2 : Ref sig .tc := ⟨.hbm, 453, rfl⟩
abbrev main_while0b_v368 : Ref sig .tc := ⟨.hbm, 454, rfl⟩
abbrev main_while0b_call13_v0 : Ref sig .tc := ⟨.hbm, 455, rfl⟩
abbrev main_while0b_call13_c : Ref sig .tc := ⟨.hbm, 456, rfl⟩
abbrev main_while0b_call13_c_0 : Ref sig .tc := ⟨.hbm, 457, rfl⟩
abbrev main_while0b_v369 : Ref sig .tc := ⟨.hbm, 458, rfl⟩
abbrev main_while0b_c_26 : Ref sig .tc := ⟨.hbm, 459, rfl⟩
abbrev main_while0b_v370 : Ref sig .tc := ⟨.hbm, 460, rfl⟩
abbrev main_v309 : Ref sig .tc := ⟨.hbm, 461, rfl⟩
abbrev main_v310 : Ref sig .tc := ⟨.hbm, 462, rfl⟩
abbrev main_v311 : Ref sig .tc := ⟨.hbm, 463, rfl⟩
abbrev main_v312 : Ref sig .tc := ⟨.hbm, 464, rfl⟩
abbrev main_v313 : Ref sig .tc := ⟨.hbm, 465, rfl⟩
abbrev main_v314 : Ref sig .tc := ⟨.hbm, 466, rfl⟩
abbrev main_v315 : Ref sig .tc := ⟨.hbm, 467, rfl⟩
abbrev main_v316 : Ref sig .tc := ⟨.hbm, 468, rfl⟩
abbrev main_v317 : Ref sig .tc := ⟨.hbm, 469, rfl⟩
abbrev main_v318 : Ref sig .tc := ⟨.hbm, 470, rfl⟩
abbrev main_v319 : Ref sig .tc := ⟨.hbm, 471, rfl⟩
abbrev main_v320 : Ref sig .tc := ⟨.hbm, 472, rfl⟩
abbrev main_v321 : Ref sig .tc := ⟨.hbm, 473, rfl⟩
abbrev main_v322 : Ref sig .tc := ⟨.hbm, 474, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S8x1024 : Shape := ⟨2, ![8, 1024]⟩
abbrev S256x2816 : Shape := ⟨2, ![256, 2816]⟩
abbrev S1024x2816 : Shape := ⟨2, ![1024, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩
abbrev S8x1024 : Shape := ⟨2, ![8, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x2816, .f32⟩
  | .hbm, ⟨7, _⟩ => ⟨S4096x2816, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x5632, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S8x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 6
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .bf16⟩
  | .hbm, ⟨5, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S4096x2816, .bf16⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S2x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2x1408, .f32⟩
  | .hbm, ⟨10, _⟩ => ⟨S2x1024x1408, .f32⟩
  | .hbm, ⟨11, _⟩ => ⟨S2x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x2816 : Shape := ⟨2, ![4096, 2816]⟩
abbrev S4x1024x1408 : Shape := ⟨3, ![4, 1024, 1408]⟩
abbrev S2x1024x1408 : Shape := ⟨3, ![2, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S2x1024x1408, .bf16⟩
  | .hbm, ⟨4, _⟩ => ⟨S_, .f32⟩
  | .hbm, ⟨5, _⟩ => ⟨S1024x2816, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2x1408, .f32⟩
  | .hbm, ⟨12, _⟩ => ⟨S2x1024x1408, .f32⟩
  | .hbm, ⟨13, _⟩ => ⟨S2x1024x1408, .bf16⟩
  | .hbm, ⟨14, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S4096x2048 : Shape := ⟨2, ![4096, 2048]⟩
abbrev S4096x512 : Shape := ⟨2, ![4096, 512]⟩
abbrev S4096x1536 : Shape := ⟨2, ![4096, 1536]⟩
abbrev S4096x128 : Shape := ⟨2, ![4096, 128]⟩
abbrev S1024x5760 : Shape := ⟨2, ![1024, 5760]⟩
abbrev S4096x1024 : Shape := ⟨2, ![4096, 1024]⟩
abbrev S1x1024 : Shape := ⟨2, ![1, 1024]⟩
abbrev S8x1024 : Shape := ⟨2, ![8, 1024]⟩
abbrev S256x2048 : Shape := ⟨2, ![256, 2048]⟩
abbrev S256x512 : Shape := ⟨2, ![256, 512]⟩
abbrev S256x128 : Shape := ⟨2, ![256, 128]⟩
abbrev S1024x2048 : Shape := ⟨2, ![1024, 2048]⟩
abbrev S1024x512 : Shape := ⟨2, ![1024, 512]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 35
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1536, .bf16⟩
  | .hbm, ⟨5, _⟩ => ⟨S4096x512, .bf16⟩
  | .hbm, ⟨6, _⟩ => ⟨S4096x128, .f32⟩
  | .hbm, ⟨7, _⟩ => ⟨S1024x5760, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S8x1024, .f32⟩
  | .local _ .vmem, ⟨0, _⟩ => ⟨S256x2048, .bf16⟩
  | .local _ .vmem, ⟨1, _⟩ => ⟨S256x2048, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x128, .f32⟩
  | .local _ .vmem, ⟨17, _⟩ => ⟨S256x128, .f32⟩
  | .local _ .vmem, ⟨18, _⟩ => ⟨S1024x2048, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x128, .bf16⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x1024, .f32⟩
  | .local _ .vmem, ⟨32, _⟩ => ⟨S256x1024, .f32⟩
  | .local _ .vmem, ⟨33, _⟩ => ⟨S256x1024, .f32⟩
  | .local _ .vmem, ⟨34, _⟩ => ⟨S8x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem21_0 : DmaSem sig := 32
abbrev cc0_sem21_1 : DmaSem sig := 33
abbrev cc0_sem22_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_12 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_13 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_14 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_15 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_16 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_17 (i : grid0.Coords) : Fin 2 → Nat :=
  let arg0 : BitVec 32 := BitVec.ofNat 32 (i 0).val
  let c0_i32 : BitVec 32 := 0#32
  let c44_i32 : BitVec 32 := 44#32
  let c0_i32_0 : BitVec 32 := 0#32
  ![c0_i32.toNat, c44_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference7Ideal.lean ====
abbrev S4096x2048 : Shape := ⟨2, ![4096, 2048]⟩
abbrev S4096x512 : Shape := ⟨2, ![4096, 512]⟩
abbrev S4096x1536 : Shape := ⟨2, ![4096, 1536]⟩
abbrev S4096x128 : Shape := ⟨2, ![4096, 128]⟩
abbrev S1024x5760 : Shape := ⟨2, ![1024, 5760]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5760 : Shape := ⟨2, ![4096, 5760]⟩
abbrev S1024 : Shape := ⟨1, ![1024]⟩
abbrev S8x1024 : Shape := ⟨2, ![8, 1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1536, .bf16⟩
  | .hbm, ⟨5, _⟩ => ⟨S4096x512, .bf16⟩
  | .hbm, ⟨6, _⟩ => ⟨S4096x128, .f32⟩
  | .hbm, ⟨7, _⟩ => ⟨S1024x5760, .bf16⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x2048, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x1536, .f32⟩
  | .hbm, ⟨16, _⟩ => ⟨S4096x512, .f32⟩
  | .hbm, ⟨17, _⟩ => ⟨S1024x5760, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x5760, .f32⟩
  | .hbm, ⟨38, _⟩ => ⟨S4096x5760, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S8x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S512x1408 : Shape := ⟨2, ![512, 1408]⟩
abbrev S1408x1024 : Shape := ⟨2, ![1408, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel21.lean ====
abbrev S4096x1024 : Shape := ⟨2, ![4096, 1024]⟩
abbrev S4096x512 : Shape := ⟨2, ![4096, 512]⟩
abbrev S1024x5760 : Shape := ⟨2, ![1024, 5760]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S4096x1024 : Shape := ⟨2, ![4096, 1024]⟩
abbrev S4096x512 : Shape := ⟨2, ![4096, 512]⟩
abbrev S1024x5760 : Shape := ⟨2, ![1024, 5760]⟩
abbrev S_ : Shape := ⟨0, ![]⟩
abbrev S1024x512 : Shape := ⟨2, ![1024, 512]⟩
abbrev S512x1024 : Shape := ⟨2, ![512, 1024]⟩
abbrev S1024x2048 : Shape := ⟨2, ![1024, 2048]⟩
abbrev S1024x3200 : Shape := ⟨2, ![1024, 3200]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S1024x2048, .bf16⟩
  | .hbm, ⟨12, _⟩ => ⟨S1024x3200, .bf16⟩
  | .hbm, ⟨13, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel22.lean ====
abbrev S4096x1024 : Shape := ⟨2, ![4096, 1024]⟩
abbrev S4096x512 : Shape := ⟨2, ![4096, 512]⟩
abbrev S1024x5760 : Shape := ⟨2, ![1024, 5760]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi c5_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S4096x1024 : Shape := ⟨2, ![4096, 1024]⟩
abbrev S4096x512 : Shape := ⟨2, ![4096, 512]⟩
abbrev S1024x5760 : Shape := ⟨2, ![1024, 5760]⟩
abbrev S_ : Shape := ⟨0, ![]⟩
abbrev S1024x512 : Shape := ⟨2, ![1024, 512]⟩
abbrev S512x1024 : Shape := ⟨2, ![512, 1024]⟩
abbrev S1024x2560 : Shape := ⟨2, ![1024, 2560]⟩
abbrev S1024x2688 : Shape := ⟨2, ![1024, 2688]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S1024x2560, .bf16⟩
  | .hbm, ⟨12, _⟩ => ⟨S1024x2688, .bf16⟩
  | .hbm, ⟨13, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel23.lean ====
abbrev S4096x1024 : Shape := ⟨2, ![4096, 1024]⟩
abbrev S4096x512 : Shape := ⟨2, ![4096, 512]⟩
abbrev S1024x5760 : Shape := ⟨2, ![1024, 5760]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x1024 : Shape := ⟨2, ![4096, 1024]⟩
abbrev S4096x512 : Shape := ⟨2, ![4096, 512]⟩
abbrev S1024x5760 : Shape := ⟨2, ![1024, 5760]⟩
abbrev S_ : Shape := ⟨0, ![]⟩
abbrev S1024x512 : Shape := ⟨2, ![1024, 512]⟩
abbrev S512x1024 : Shape := ⟨2, ![512, 1024]⟩
abbrev S1024x3072 : Shape := ⟨2, ![1024, 3072]⟩
abbrev S1024x2176 : Shape := ⟨2, ![1024, 2176]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S1024x3072, .bf16⟩
  | .hbm, ⟨12, _⟩ => ⟨S1024x2176, .bf16⟩
  | .hbm, ⟨13, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel24.lean ====
abbrev S4096x1024 : Shape := ⟨2, ![4096, 1024]⟩
abbrev S4096x1536 : Shape := ⟨2, ![4096, 1536]⟩
abbrev S1024x5760 : Shape := ⟨2, ![1024, 5760]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x1024 : Shape := ⟨2, ![4096, 1024]⟩
abbrev S4096x1536 : Shape := ⟨2, ![4096, 1536]⟩
abbrev S1024x5760 : Shape := ⟨2, ![1024, 5760]⟩
abbrev S_ : Shape := ⟨0, ![]⟩
abbrev S1024x1536 : Shape := ⟨2, ![1024, 1536]⟩
abbrev S1536x1024 : Shape := ⟨2, ![1536, 1024]⟩
abbrev S1024x3584 : Shape := ⟨2, ![1024, 3584]⟩
abbrev S1024x640 : Shape := ⟨2, ![1024, 640]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x5760, .bf16⟩
  | .hbm, ⟨3, _⟩ => ⟨S_, .f32⟩
  | .hbm, ⟨4, _⟩ => ⟨S1024x1536, .f32⟩
  | .hbm, ⟨5, _⟩ => ⟨S4096x1024, .f32⟩
  | .hbm, ⟨6, _⟩ => ⟨S4096x1536, .f32⟩
  | .hbm, ⟨7, _⟩ => ⟨S4096x1536, .f32⟩
  | .hbm, ⟨8, _⟩ => ⟨S1536x1024, .f32⟩
  | .hbm, ⟨9, _⟩ => ⟨S1024x1536, .f32⟩
  | .hbm, ⟨10, _⟩ => ⟨S1024x1536, .bf16⟩
  | .hbm, ⟨11, _⟩ => ⟨S1024x3584, .bf16⟩
  | .hbm, ⟨12, _⟩ => ⟨S1024x640, .bf16⟩
  | .hbm, ⟨13, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel25.lean ====
abbrev S4096x1024 : Shape := ⟨2, ![4096, 1024]⟩
abbrev S4096x512 : Shape := ⟨2, ![4096, 512]⟩
abbrev S1024x5760 : Shape := ⟨2, ![1024, 5760]⟩
abbrev S1024x1024 : Shape := ⟨2, ![1024, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S4096x512 : Shape := ⟨2, ![4096, 512]⟩
abbrev S1024x5760 : Shape := ⟨2, ![1024, 5760]⟩
abbrev S_ : Shape := ⟨0, ![]⟩
abbrev S1024x512 : Shape := ⟨2, ![1024, 512]⟩
abbrev S512x1024 : Shape := ⟨2, ![512, 1024]⟩
abbrev S1024x5120 : Shape := ⟨2, ![1024, 5120]⟩
abbrev S1024x128 : Shape := ⟨2, ![1024, 128]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x5760, .bf16⟩
  | .hbm, ⟨3, _⟩ => ⟨S_, .f32⟩
  | .hbm, ⟨4, _⟩ => ⟨S1024x512, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S512x1024, .f32⟩
  | .hbm, ⟨9, _⟩ => ⟨S1024x512, .f32⟩
  | .hbm, ⟨10, _⟩ => ⟨S1024x512, .bf16⟩
  | .hbm, ⟨11, _⟩ => ⟨S1024x5120, .bf16⟩
  | .hbm, ⟨12, _⟩ => ⟨S1024x128, .bf16⟩
  | .hbm, ⟨13, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel26.lean ====
abbrev S4096x1024 : Shape := ⟨2, ![4096, 1024]⟩
abbrev S4096x128 : Shape := ⟨2, ![4096, 128]⟩
abbrev S1024x5760 : Shape := ⟨2, ![1024, 5760]⟩
abbrev S1024x1024 : Shape := ⟨2, ![1024, 1024]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x5760, .bf16⟩
  | .hbm, ⟨3, _⟩ => ⟨S1024x5760, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c44_i32 : BitVec 32 := 44#32
  let v0 : BitVec 32 := Scalar.addi c44_i32 arg1
  let c0_i32 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S4096x128 : Shape := ⟨2, ![4096, 128]⟩
abbrev S1024x5760 : Shape := ⟨2, ![1024, 5760]⟩
abbrev S1024x5632 : Shape := ⟨2, ![1024, 5632]⟩
abbrev S_ : Shape := ⟨0, ![]⟩
abbrev S1024x128 : Shape := ⟨2, ![1024, 128]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x5760, .bf16⟩
  | .hbm, ⟨3, _⟩ => ⟨S1024x5632, .bf16⟩
  | .hbm, ⟨4, _⟩ => ⟨S_, .f32⟩
  | .hbm, ⟨5, _⟩ => ⟨S1024x128, .f32⟩
  | .hbm, ⟨6, _⟩ => ⟨S4096x1024, .f32⟩
  | .hbm, ⟨7, _⟩ => ⟨S4096x128, .f32⟩
  | .hbm, ⟨8, _⟩ => ⟨S128x1024, .f32⟩
  | .hbm, ⟨9, _⟩ => ⟨S1024x128, .f32⟩
  | .hbm, ⟨10, _⟩ => ⟨S1024x128, .bf16⟩
  | .hbm, ⟨11, _⟩ => ⟨S1024x5760, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel11.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x512 : Shape := ⟨2, ![1, 512]⟩

abbrev nBuf : Space → Nat
  | .hbm => 10
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5760, .bf16⟩
  | .hbm, ⟨4, _⟩ => ⟨S1x128, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference11Ideal.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x2048 : Shape := ⟨2, ![4096, 2048]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x5760, .bf16⟩
  | .hbm, ⟨4, _⟩ => ⟨S1x128, .f32⟩
  | .hbm, ⟨5, _⟩ => ⟨S512x1024, .bf16⟩
  | .hbm, ⟨6, _⟩ => ⟨S512x1024, .bf16⟩
  | .hbm, ⟨7, _⟩ => ⟨S1024x1024, .bf16⟩
  | .hbm, ⟨8, _⟩ => ⟨S4096x5760, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S4096x512, .f32⟩
  | .hbm, ⟨13, _⟩ => ⟨S4096x2048, .f32⟩
  | .hbm, ⟨14, _⟩ => ⟨S128, .f32⟩
  | .hbm, ⟨15, _⟩ => ⟨S4096x4x128, .f32⟩
  | .hbm, ⟨16, _⟩ => ⟨S4096x4x128, .f32⟩
  | .hbm, ⟨17, _⟩ => ⟨S_, .f32⟩
  | .hbm, ⟨18, _⟩ => ⟨S4096x4, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x1, .f32⟩
  | .hbm, ⟨27, _⟩ => ⟨S4096x4x128, .f32⟩
  | .hbm, ⟨28, _⟩ => ⟨S4096x4x128, .f32⟩
  | .hbm, ⟨29, _⟩ => ⟨S1x1x128, .f32⟩
  | .hbm, ⟨30, _⟩ => ⟨S4096x4x128, .f32⟩
  | .hbm, ⟨31, _⟩ => ⟨S4096x4x128, .f32⟩
  | .hbm, ⟨32, _⟩ => ⟨S4096x4x128, .f32⟩
  | .hbm, ⟨33, _⟩ => ⟨S4096x4x128, .f32⟩
  | .hbm, ⟨34, _⟩ => ⟨S4096x4x128, .f32⟩
  | .hbm, ⟨35, _⟩ => ⟨S_, .f32⟩
  | .hbm, ⟨36, _⟩ => ⟨S4096x4x128, .f32⟩
  | .hbm, ⟨37, _⟩ => ⟨S4096x4x128, .f32⟩
  | .hbm, ⟨38, _⟩ => ⟨S_, .f32⟩
  | .hbm, ⟨39, _⟩ => ⟨S4096x4x128, .f32⟩
  | .hbm, ⟨40, _⟩ => ⟨S4096x4x128, .f32⟩
  | .hbm, ⟨41, _⟩ => ⟨S4096x4x128, .f32⟩
  | .hbm, ⟨42, _⟩ => ⟨S4096x4x128, .f32⟩
  | .hbm, ⟨43, _⟩ => ⟨S4096x512, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]
-- ==== Kernel12.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x2048 : Shape := ⟨2, ![4096, 2048]⟩
abbrev S8x128 : Shape := ⟨2, ![8, 128]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1x512 : Shape := ⟨2, ![1, 512]⟩
abbrev S128 : Shape := ⟨1, ![128]⟩

abbrev nBuf : Space → Nat
  | .hbm => 17
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x512, .f32⟩
  | .hbm, ⟨3, _⟩ => ⟨S4096x512, .f32⟩
  | .hbm, ⟨4, _⟩ => ⟨S4096x5760, .bf16⟩
  | .hbm, ⟨5, _⟩ => ⟨S1x128, .f32⟩
  | .hbm, ⟨6, _⟩ => ⟨S512x1024, .bf16⟩
  | .hbm, ⟨7, _⟩ => ⟨S512x1024, .bf16⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x512, .bf16⟩
  | .hbm, ⟨12, _⟩ => ⟨S4096x2048, .bf16⟩
  | .hbm, ⟨13, _⟩ => ⟨S1024x1024, .f32⟩
  | .hbm, ⟨14, _⟩ => ⟨S512x1024, .f32⟩
  | .hbm, ⟨15, _⟩ => ⟨S512x1024, .f32⟩
  | .hbm, ⟨16, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x128, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x2048, .bf16⟩
  | .local _ .vmem, ⟨25, _⟩ => ⟨S256x2048, .bf16⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | .local _ .vmem, ⟨29, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference12Ideal.lean ====
abbrev S4096x1024 : Shape := ⟨2, ![4096, 1024]⟩
abbrev S4096x512 : Shape := ⟨2, ![4096, 512]⟩
abbrev S4096x5760 : Shape := ⟨2, ![4096, 5760]⟩
abbrev S1x128 : Shape := ⟨2, ![1, 128]⟩
abbrev S512x1024 : Shape := ⟨2, ![512, 1024]⟩
abbrev S1024x1024 : Shape := ⟨2, ![1024, 1024]⟩
abbrev S4096x2048 : Shape := ⟨2, ![4096, 2048]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1024x512 : Shape := ⟨2, ![1024, 512]⟩
abbrev S8x128 : Shape := ⟨2, ![8, 128]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x512, .f32⟩
  | 3 => ⟨S4096x512, .f32⟩
  | 4 => ⟨S4096x5760, .bf16⟩
  | 5 => ⟨S1x128, .f32⟩
  | 6 => ⟨S512x1024, .bf16⟩
  | 7 => ⟨S512x1024, .bf16⟩
  | 8 => ⟨S1024x1024, .bf16⟩
  | 9 => ⟨S4096x1024, .f32⟩
  | 10 => ⟨S4096x5760, .f32⟩
  | 11 => ⟨S512x1024, .f32⟩
  | 12 => ⟨S512x1024, .f32⟩
  | 13 => ⟨S1024x1024, .f32⟩
  | 14 => ⟨S4096x1024, .f32⟩
  | 15 => ⟨S1024x1024, .f32⟩
  | 16 => ⟨S1024x1024, .f32⟩
  | 17 => ⟨S4096x1024, .f32⟩
  | 18 => ⟨S4096x512, .f32⟩
  | 19 => ⟨S4096x2048, .f32⟩
  | 20 => ⟨S128, .f32⟩
  | 21 => ⟨S4096x4x128, .f32⟩
  | 22 => ⟨S4096x4x128, .f32⟩
  | 23 => ⟨S_, .f32⟩
  | 24 => ⟨S4096x4, .f32⟩
  | 25 => ⟨S4096x4x1, .f32⟩
  | 26 => ⟨S_, .f32⟩
  | 27 => ⟨S4096x4x1, .f32⟩
  | 28 => ⟨S4096x4x1, .f32⟩
  | 29 => ⟨S_, .f32⟩
  | 30 => ⟨S4096x4x1, .f32⟩
  | 31 => ⟨S4096x4x1, .f32⟩
  | 32 => ⟨S4096x4x1, .f32⟩
  | 33 => ⟨S4096x4x1, .f32⟩
  | 34 => ⟨S_, .f32⟩
  | 35 => ⟨S4096x4x1, .f32⟩
  | 36 => ⟨S4096x4x1, .f32⟩
  | 37 => ⟨S4096x4x128, .f32⟩
  | 38 => ⟨S4096x4x128, .f32⟩
  | 39 => ⟨S1x1x128, .f32⟩
  | 40 => ⟨S4096x4x128, .f32⟩
  | 41 => ⟨S4096x4x128, .f32⟩
  | 42 => ⟨S4096x4x128, .f32⟩
  | 43 => ⟨S4096x4x128, .f32⟩
  | 44 => ⟨S4096x4x128, .f32⟩
  | 45 => ⟨S_, .f32⟩
  | 46 => ⟨S4096x4x128, .f32⟩
  | 47 => ⟨S4096x4x128, .f32⟩
  | 48 => ⟨S_, .f32⟩
  | 49 => ⟨S4096x4x128, .f32⟩
  | 50 => ⟨S4096x4x128, .f32⟩
  | 51 => ⟨S_, .f32⟩
  | 52 => ⟨S4096x4x128, .f32⟩
  | 53 => ⟨S4096x4x128, .f32⟩
  | 54 => ⟨S4096x4x128, .f32⟩
  | 55 => ⟨S4096x4x128, .f32⟩
  | 56 => ⟨S4096x4x128, .f32⟩
  | 57 => ⟨S4096x512, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S1024x512, .f32⟩
  | 92 => ⟨S512x1024, .f32⟩
  | 93 => ⟨S4096x512, .f32⟩
  | 94 => ⟨S4096x1024, .f32⟩
  | 95 => ⟨S_, .f32⟩
  | 96 => ⟨S4096x2048, .f32⟩
  | 97 => ⟨S4096x1024, .f32⟩
  | 98 => ⟨S4096x1024, .f32⟩
  | 99 => ⟨S1024x512, .f32⟩
  | 100 => ⟨S512x1024, .f32⟩
  | 101 => ⟨S4096x512, .f32⟩
  | 102 => ⟨S4096x1024, .f32⟩
  | 103 => ⟨S_, .f32⟩
  | 104 => ⟨S4096x2048, .f32⟩
  | 105 => ⟨S4096x2048, .f32⟩
  | 106 => ⟨S4096x4x128, .f32⟩
  | 107 => ⟨S4096x4x128, .f32⟩
  | 108 => ⟨S4096x4x128, .f32⟩
  | 109 => ⟨S4096x4x128, .f32⟩
  | 110 => ⟨S4096x4x128, .f32⟩
  | 111 => ⟨S4096x4x128, .f32⟩
  | 112 => ⟨S4096x4x128, .f32⟩
  | 113 => ⟨S4096x512, .f32⟩
  | 114 => ⟨S4096x4x128, .f32⟩
  | 115 => ⟨S_, .f32⟩
  | 116 => ⟨S128, .f32⟩
  | 117 => ⟨S1x1x128, .f32⟩
  | 118 => ⟨S4096x4x128, .f32⟩
  | 119 => ⟨S4096x4x128, .f32⟩
  | 120 => ⟨S_, .f32⟩
  | 121 => ⟨S128, .f32⟩
  | 122 => ⟨S4096x4x128, .f32⟩
  | 123 => ⟨S_, .f32⟩
  | 124 => ⟨S4096x4, .f32⟩
  | 125 => ⟨S4096x4x1, .f32⟩
  | 126 => ⟨S4096x4x128, .f32⟩
  | 127 => ⟨S4096x4x128, .f32⟩
  | _ => ⟨S4096x1024, .f32⟩

abbrev hbmTy0_1 (i : Nat) : BufTy := match i % 128 with
  | 0 => ⟨S4096x4x1, .f32⟩
  | 1 => ⟨S_, .f32⟩
  | 2 => ⟨S4096x4x1, .f32⟩
  | 3 => ⟨S4096x4x1, .f32⟩
  | 4 => ⟨S_, .f32⟩
  | 5 => ⟨S4096x4, .f32⟩
  | 6 => ⟨S4096x4x128, .f32⟩
  | 7 => ⟨S4096x4x128, .f32⟩
  | 8 => ⟨S4096x4x128, .f32⟩
  | 9 => ⟨S4096x4x128, .f32⟩
  | 10 => ⟨S4096x4x128, .f32⟩
  | 11 => ⟨S4096x512, .f32⟩
  | 12 => ⟨S4096x512, .bf16⟩
  | 13 => ⟨S4096x2048, .bf16⟩
  | 14 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v30_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v30_1 : Ref sig .tc := ⟨.hbm, 54, rfl⟩
abbrev main_v30_0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_12 : Ref sig .tc := ⟨.hbm, 120, rfl⟩
abbrev main_v83 : Ref sig .tc := ⟨.hbm, 121, rfl⟩
abbrev main_v84 : Ref sig .tc := ⟨.hbm, 122, rfl⟩
abbrev main_cst_13 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_14 : Ref sig .tc := ⟨.hbm, 129, rfl⟩
abbrev main_v90 : Ref sig .tc := ⟨.hbm, 130, rfl⟩
abbrev main_v91 : Ref sig .tc := ⟨.hbm, 131, rfl⟩
abbrev main_cst_15 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]
-- ==== Proof.Tile.lean ====
/- One chunk of one (batch, head) pair, as the kernel computes it from the tiles it loads: the products of the backward
   step, the state's gradient that goes on to the chunk before, and the lists of stores that a grid point makes. -/
module

public import proofs.«01_k».proof.Proof.Gen.KernelIdeal.Value

@[expose] public section

set_option maxRecDepth 16384

noncomputable section

namespace Cert.ScanBwd

open Idealize.ShloMosaic Cert.KernelIdeal Cert.KernelIdeal.Gen

variable {F : FTy → Type} [FloatOps F]

/-! ## The products of one chunk -/

/-- The chunk's state, from the block it is loaded in. -/
def stT (S : Vec F S1x1x1x128x128 .f32) : FVec F S128x128 .f32 :=
  shapeCast S128x128 S shapeCasts_S1x1x1x128x128_S128x128

/-- The state as a factor of a product. -/
def sbT (S : Vec F S1x1x1x128x128 .f32) : FVec F S128x128 .bf16 := truncf .bf16 (stT S) bitsLt_bf16_f32

/-- The output's cotangent as a factor of a product. -/
def doT (d : Vec F S1x64x128 .f32) : FVec F S64x128 .bf16 :=
  truncf .bf16 (shapeCast S64x128 d shapeCasts_S1x64x128_S64x128 : FVec F S64x128 .f32) bitsLt_bf16_f32

/-- A bf16 tile without its unit axis. -/
def flT (x : Vec F S1x64x128 .bf16) : FVec F S64x128 .bf16 := shapeCast S64x128 x shapeCasts_S1x64x128_S64x128

/-- w = u − wk · Sᵀ. -/
def wT (u : Vec F S1x64x128 .f32) (wk : Vec F S1x64x128 .bf16) (S : Vec F S1x1x1x128x128 .f32) : FVec F S64x128 .bf16 :=
  truncf .bf16 (subf (shapeCast S64x128 u shapeCasts_S1x64x128_S64x128 : FVec F S64x128 .f32)
    (matmul dot_S64x128_S128x128_S64x128_1_1_0_0_n_n none (flT wk) (sbT S) (constant S64x128 .f32 0x00000000#32)))
    bitsLt_bf16_f32

/-- The gradient of w (and of u): pᵀ · do + kdec · Dᵀ. -/
def dwT (p : Vec F S1x1x64x64 .f32) (d : Vec F S1x64x128 .f32) (kd : Vec F S1x64x128 .bf16) (D : FVec F S128x128 .f32) :
    FVec F S64x128 .f32 :=
  addf (matmul dot_S64x64_S64x128_S64x128_0_0_1_1_n_n none
      (truncf .bf16 (shapeCast S64x64 p shapeCasts_S1x1x64x64_S64x64 : FVec F S64x64 .f32) bitsLt_bf16_f32) (doT d)
      (constant S64x128 .f32 0x00000000#32))
    (matmul dot_S64x128_S128x128_S64x128_1_1_0_0_n_n none (flT kd) (truncf .bf16 D bitsLt_bf16_f32)
      (constant S64x128 .f32 0x00000000#32))

/-- The gradient of wk: −dw · S. -/
def dwkT (dw : FVec F S64x128 .f32) (S : Vec F S1x1x1x128x128 .f32) : FVec F S64x128 .f32 :=
  subf (broadcast S64x128 (FloatOps.ofBits .f32 0x00000000#32))
    (matmul dot_S64x128_S128x128_S64x128_1_0_0_1_n_n none (truncf .bf16 dw bitsLt_bf16_f32) (sbT S)
      (constant S64x128 .f32 0x00000000#32))

/-- The gradient of the scaled query: do · S. -/
def dqT (d : Vec F S1x64x128 .f32) (S : Vec F S1x1x1x128x128 .f32) : FVec F S64x128 .f32 :=
  matmul dot_S64x128_S128x128_S64x128_1_0_0_1_n_n none (doT d) (sbT S) (constant S64x128 .f32 0x00000000#32)

/-- The gradient of kdec: w · D. -/
def dkT (w : FVec F S64x128 .bf16) (D : FVec F S128x128 .f32) : FVec F S64x128 .f32 :=
  matmul dot_S64x128_S128x128_S64x128_1_0_0_1_n_n none w (truncf .bf16 D bitsLt_bf16_f32)
    (constant S64x128 .f32 0x00000000#32)

/-- The gradient of p: do · wᵀ. -/
def dpT (d : Vec F S1x64x128 .f32) (w : FVec F S64x128 .bf16) : FVec F S64x64 .f32 :=
  matmul dot_S64x128_S64x128_S64x64_1_1_0_0_n_n none (doT d) w (constant S64x64 .f32 0x00000000#32)

/-- The gradient of the decay: the sum of S ∘ D. -/
def degT (S : Vec F S1x1x1x128x128 .f32) (D : FVec F S128x128 .f32) : FVec F S1x1 .f32 :=
  shapeCast S1x1 (multiReduction .add [0] S1 (shapeCast S128x1
    (multiReduction .add [1] S128 (mulf (stT S) D) 0x00000000#32 reduces_S128x128_S128 (.inl rfl) rfl)
    shapeCasts_S128_S128x1) 0x00000000#32 reduces_S128x1_S1 (.inl rfl) rfl) shapeCasts_S1_S1x1

/-- The state's gradient for the chunk before: e ∘ D + doᵀ · q − dwᵀ · wk. -/
def newT (e : Vec F S1x1x1x128 .f32) (D : FVec F S128x128 .f32) (d : Vec F S1x64x128 .f32) (q wk : Vec F S1x64x128 .bf16)
    (dw : FVec F S64x128 .f32) : FVec F S128x128 .f32 :=
  subf (addf (mulf (broadcastTo S128x128 (shapeCast S1x128 e shapeCasts_S1x1x1x128_S1x128 : FVec F S1x128 .f32)
        broadcasts_S1x128_S128x128) D)
      (matmul dot_S64x128_S64x128_S128x128_0_0_1_1_n_n none (doT d) (flT q) (constant S128x128 .f32 0x00000000#32)))
    (matmul dot_S64x128_S64x128_S128x128_0_0_1_1_n_n none (truncf .bf16 dw bitsLt_bf16_f32) (flT wk)
      (constant S128x128 .f32 0x00000000#32))

/-! ## The tiles of a grid point -/

theorem inbA (b : Fin 2) (n : Fin 8) (h : Fin 4) :
    ∀ a, (![b.val, n.val * 64, h.val * 128] : Fin 3 → ℕ) a + S1x64x128.size a ≤ S2x512x512.size a := by
  revert b n h; decide

theorem inbP (b : Fin 2) (n : Fin 8) (h : Fin 4) :
    ∀ a, (![h.val, b.val, n.val * 64, 0] : Fin 4 → ℕ) a + S1x1x64x64.size a ≤ S4x2x512x64.size a := by
  revert b n h; decide

theorem inbE (b : Fin 2) (n : Fin 8) (h : Fin 4) :
    ∀ a, (![h.val, b.val, n.val * 8, 0] : Fin 4 → ℕ) a + S1x1x1x128.size a ≤ S4x2x64x128.size a := by
  revert b n h; decide

theorem inbG (b : Fin 2) (n : Fin 8) (h : Fin 4) :
    ∀ a, (![h.val, b.val, n.val * 8, 0] : Fin 4 → ℕ) a + S1x1x8x128.size a ≤ S4x2x64x128.size a := by
  revert b n h; decide

theorem inbS (b : Fin 2) (n : Fin 8) (h : Fin 4) :
    ∀ a, (![b.val, n.val, h.val, 0, 0] : Fin 5 → ℕ) a + S1x1x1x128x128.size a ≤ S2x8x4x128x128.size a := by
  revert b n h; decide

theorem inbD (b : Fin 2) (h : Fin 4) :
    ∀ a, (![b.val * 4 + h.val, 0, 0] : Fin 3 → ℕ) a + S1x128x128.size a ≤ S8x128x128.size a := by
  revert b h; decide

/-- Where chunk `n` of pair `(b, h)` lies in a block of activations. -/
abbrev rA (b : Fin 2) (n : Fin 8) (h : Fin 4) : Rect S2x512x512 :=
  Rect.unit ![b.val, n.val * 64, h.val * 128] S1x64x128.size (inbA b n h)
/-- Where it lies in a block of p. -/
abbrev rP (b : Fin 2) (n : Fin 8) (h : Fin 4) : Rect S4x2x512x64 :=
  Rect.unit ![h.val, b.val, n.val * 64, 0] S1x1x64x64.size (inbP b n h)
/-- The row of its decay. -/
abbrev rE (b : Fin 2) (n : Fin 8) (h : Fin 4) : Rect S4x2x64x128 :=
  Rect.unit ![h.val, b.val, n.val * 8, 0] S1x1x1x128.size (inbE b n h)
/-- The eight rows of its decay's gradient. -/
abbrev rG (b : Fin 2) (n : Fin 8) (h : Fin 4) : Rect S4x2x64x128 :=
  Rect.unit ![h.val, b.val, n.val * 8, 0] S1x1x8x128.size (inbG b n h)
/-- Where its state lies. -/
abbrev rS (b : Fin 2) (n : Fin 8) (h : Fin 4) : Rect S2x8x4x128x128 :=
  Rect.unit ![b.val, n.val, h.val, 0, 0] S1x1x1x128x128.size (inbS b n h)
/-- Where the pair's state gradient lies in the scratch. -/
abbrev rD (b : Fin 2) (h : Fin 4) : Rect S8x128x128 :=
  Rect.unit ![b.val * 4 + h.val, 0, 0] S1x128x128.size (inbD b h)

/-- What a grid point reads: eight blocks. -/
structure Blk (F : FTy → Type) where
  u : Vec F S2x512x512 .f32
  wk : Vec F S2x512x512 .bf16
  q : Vec F S2x512x512 .bf16
  kd : Vec F S2x512x512 .bf16
  p : Vec F S4x2x512x64 .f32
  e : Vec F S4x2x64x128 .f32
  s : Vec F S2x8x4x128x128 .f32
  d : Vec F S2x512x512 .f32

variable (X : Blk F)

namespace Blk

/-- dw of a chunk, from the state gradient `D` that comes into it. -/
def dw (b : Fin 2) (n : Fin 8) (h : Fin 4) (D : FVec F S128x128 .f32) : FVec F S64x128 .f32 :=
  dwT (View.ld X.p (rP b n h)) (View.ld X.d (rA b n h)) (View.ld X.kd (rA b n h)) D

/-- w of a chunk. -/
def w (b : Fin 2) (n : Fin 8) (h : Fin 4) : FVec F S64x128 .bf16 :=
  wT (View.ld X.u (rA b n h)) (View.ld X.wk (rA b n h)) (View.ld X.s (rS b n h))

/-- The state gradient that leaves a chunk. -/
def new (b : Fin 2) (n : Fin 8) (h : Fin 4) (D : FVec F S128x128 .f32) : FVec F S128x128 .f32 :=
  newT (View.ld X.e (rE b n h)) D (View.ld X.d (rA b n h)) (View.ld X.q (rA b n h)) (View.ld X.wk (rA b n h)) (X.dw b n h D)

/-- The state gradient that comes into the chunk visited `j`-th: the chunks run 7, 6, …, 0. -/
def D (D0 : Fin 2 → Fin 4 → FVec F S128x128 .f32) (b : Fin 2) (h : Fin 4) : ℕ → FVec F S128x128 .f32
  | 0 => D0 b h
  | j + 1 => X.new b (Fin.ofNat 8 (7 - j)) h (D D0 b h j)

end Blk

/-- The stores of a grid point in the order in which the run lists them: the last first. -/
def stores {S : Shape} {e : EltTy} (f : Fin 2 → Fin 8 → Fin 4 → View.Piece (Elt F) S e) : List (View.Piece (Elt F) S e) :=
  ([0, 1, 2, 3, 4, 5, 6, 7] : List (Fin 8)).flatMap fun n => ([1, 0] : List (Fin 2)).flatMap fun b =>
    ([3, 2, 1, 0] : List (Fin 4)).map fun h => f b n h

namespace Blk

variable (D0 : Fin 2 → Fin 4 → FVec F S128x128 .f32)

/-- The state gradient that comes into chunk `n`. -/
abbrev Dc (b : Fin 2) (n : Fin 8) (h : Fin 4) : FVec F S128x128 .f32 := X.D D0 b h (7 - n.val)

def pDw (b : Fin 2) (n : Fin 8) (h : Fin 4) : View.Piece (Elt F) S2x512x512 .f32 :=
  ⟨rA b n h, shapeCast S1x64x128 (X.dw b n h (X.Dc D0 b n h)) shapeCasts_S64x128_S1x64x128⟩
def pDwk (b : Fin 2) (n : Fin 8) (h : Fin 4) : View.Piece (Elt F) S2x512x512 .f32 :=
  ⟨rA b n h, shapeCast S1x64x128 (dwkT (X.dw b n h (X.Dc D0 b n h)) (View.ld X.s (rS b n h))) shapeCasts_S64x128_S1x64x128⟩
def pDq (b : Fin 2) (n : Fin 8) (h : Fin 4) : View.Piece (Elt F) S2x512x512 .f32 :=
  ⟨rA b n h, shapeCast S1x64x128 (dqT (View.ld X.d (rA b n h)) (View.ld X.s (rS b n h))) shapeCasts_S64x128_S1x64x128⟩
def pDk (b : Fin 2) (n : Fin 8) (h : Fin 4) : View.Piece (Elt F) S2x512x512 .f32 :=
  ⟨rA b n h, shapeCast S1x64x128 (dkT (X.w b n h) (X.Dc D0 b n h)) shapeCasts_S64x128_S1x64x128⟩
def pDp (b : Fin 2) (n : Fin 8) (h : Fin 4) : View.Piece (Elt F) S4x2x512x64 .f32 :=
  ⟨rP b n h, shapeCast S1x1x64x64 (dpT (View.ld X.d (rA b n h)) (X.w b n h)) shapeCasts_S64x64_S1x1x64x64⟩
def pDe (b : Fin 2) (n : Fin 8) (h : Fin 4) : View.Piece (Elt F) S4x2x64x128 .f32 :=
  ⟨rG b n h, shapeCast S1x1x8x128 (broadcastTo S8x128 (shapeCast S1x1 (degT (View.ld X.s (rS b n h)) (X.Dc D0 b n h))
    shapeCasts_S1x1_S1x1 : FVec F S1x1 .f32) broadcasts_S1x1_S8x128) shapeCasts_S8x128_S1x1x8x128⟩
def pD (b : Fin 2) (h : Fin 4) : View.Piece (Elt F) S8x128x128 .f32 :=
  ⟨rD b h, shapeCast S1x128x128 (X.D D0 b h 8) shapeCasts_S128x128_S1x128x128⟩

/-- The stores into the scratch, last first. -/
def scratch : List (View.Piece (Elt F) S8x128x128 .f32) :=
  ([1, 0] : List (Fin 2)).flatMap fun b => ([3, 2, 1, 0] : List (Fin 4)).map fun h => X.pD D0 b h

end Blk

end Cert.ScanBwd

end
-- ==== Proof.Lists.lean ====
/- The stores that the run of the kernel's body found are the stores of `Tile`: compared once per case, whole lists at a
   time. -/
module

public import proofs.«01_k».proof.Proof.Tile
public import Idealize.ShloMosaic.Lib.Pipeline.ReadBack

@[expose] public section

set_option maxRecDepth 16384

noncomputable section

namespace Cert.ScanBwd

open Idealize.ShloMosaic Cert.KernelIdeal Cert.KernelIdeal.Gen

variable {F : FTy → Type} [FloatOps F]
variable (c : Dev nD) (i : grid0.Coords) (arg1 : Memref sig .tc .vmem S2x512x512 .f32) (harg1 : arg1.IsWhole)
  (arg2 : Memref sig .tc .vmem S2x512x512 .bf16) (harg2 : arg2.IsWhole) (arg3 : Memref sig .tc .vmem S2x512x512 .bf16)
  (harg3 : arg3.IsWhole) (arg4 : Memref sig .tc .vmem S2x512x512 .bf16) (harg4 : arg4.IsWhole)
  (arg5 : Memref sig .tc .vmem S4x2x512x64 .f32) (harg5 : arg5.IsWhole) (arg6 : Memref sig .tc .vmem S4x2x64x128 .f32)
  (harg6 : arg6.IsWhole) (arg7 : Memref sig .tc .vmem S2x8x4x128x128 .f32) (harg7 : arg7.IsWhole)
  (arg8 : Memref sig .tc .vmem S2x512x512 .f32) (harg8 : arg8.IsWhole) (arg9 : Memref sig .tc .vmem S2x512x512 .f32)
  (harg9 : arg9.IsWhole) (arg10 : Memref sig .tc .vmem S2x512x512 .f32) (harg10 : arg10.IsWhole)
  (arg11 : Memref sig .tc .vmem S2x512x512 .f32) (harg11 : arg11.IsWhole) (arg12 : Memref sig .tc .vmem S2x512x512 .f32)
  (harg12 : arg12.IsWhole) (arg13 : Memref sig .tc .vmem S4x2x512x64 .f32) (harg13 : arg13.IsWhole)
  (arg14 : Memref sig .tc .vmem S4x2x64x128 .f32) (harg14 : arg14.IsWhole)
  (arg15 : Memref sig .tc .vmem S8x128x128 .f32) (harg15 : arg15.IsWhole)
  (x0 : Vec F S2x512x512 .f32) (x1 x2 x3 : Vec F S2x512x512 .bf16) (x4 : Vec F S4x2x512x64 .f32)
  (x5 : Vec F S4x2x64x128 .f32) (x6 : Vec F S2x8x4x128x128 .f32) (x7 : Vec F S2x512x512 .f32)
  (xs0 : Vec F S8x128x128 .f32)

/-- The blocks as the staging buffers hold them. -/
abbrev held : Blk F :=
  ⟨arg1.view.read (Elt F) (harg1.unread x0), arg2.view.read (Elt F) (harg2.unread x1),
   arg3.view.read (Elt F) (harg3.unread x2), arg4.view.read (Elt F) (harg4.unread x3),
   arg5.view.read (Elt F) (harg5.unread x4), arg6.view.read (Elt F) (harg6.unread x5),
   arg7.view.read (Elt F) (harg7.unread x6), arg8.view.read (Elt F) (harg8.unread x7)⟩

/-- The state gradients that a point finds in the scratch. -/
def carried (T : Vec F S8x128x128 .f32) (b : Fin 2) (h : Fin 4) : FVec F S128x128 .f32 :=
  shapeCast S128x128 (View.ld T (rD b h)) shapeCasts_S1x128x128_S128x128

theorem held_eq : held arg1 harg1 arg2 harg2 arg3 harg3 arg4 harg4 arg5 harg5 arg6 harg6 arg7 harg7 arg8 harg8
    x0 x1 x2 x3 x4 x5 x6 x7 = ⟨x0, x1, x2, x3, x4, x5, x6, x7⟩ := by
  simp only [held, harg1.read_unread, harg2.read_unread, harg3.read_unread, harg4.read_unread, harg5.read_unread,
    harg6.read_unread, harg7.read_unread, harg8.read_unread]

/-- The scratch after the fill of the first point. -/
def zeros : Vec F S8x128x128 .f32 :=
  shapeCast S8x128x128 (broadcast S8x128x128 (FloatOps.ofBits .f32 0x00000000#32) : FVec F S8x128x128 .f32)
    shapeCasts_S8x128x128_S8x128x128

/-- The fill. -/
def fill : View.Piece (Elt F) S8x128x128 .f32 :=
  ⟨Rect.unit ![0, 0, 0] S8x128x128.size (by decide), zeros⟩

/-- The state gradients that the first point finds there. -/
def filled (b : Fin 2) (h : Fin 4) : FVec F S128x128 .f32 :=
  shapeCast S128x128 (arg15.view.readCov [fill] (rD b h).toLoadRect) shapeCasts_S1x128x128_S128x128

theorem filled_eq : filled (F := F) arg15 = carried zeros := by
  funext b h
  unfold filled carried fill
  rw [View.readCov_fill arg15.view _ zeros [] (rD b h) (by decide)]

/-- At a point that carries the scratch on, the run stores the lists of `Tile`. -/
theorem listsB (hc0 : ¬cond0_0 i) :
    let R := kernelRun0_B c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 x6 x7 xs0
    let X := held arg1 harg1 arg2 harg2 arg3 harg3 arg4 harg4 arg5 harg5 arg6 harg6 arg7 harg7 arg8 harg8 x0 x1 x2 x3 x4 x5 x6 x7
    let D := (carried (arg15.view.read (Elt F) (harg15.unread xs0)))
    R.1 = stores (X.pDw D) ∧
      R.2.1 = stores (X.pDwk D) ∧
      R.2.2.1 = stores (X.pDq) ∧
      R.2.2.2.1 = stores (X.pDk D) ∧
      R.2.2.2.2.1 = stores (X.pDp) ∧
      R.2.2.2.2.2.1 = stores (X.pDe D) ∧
      R.2.2.2.2.2.2.1 = X.scratch D :=
  ⟨by sl_kernel_rfl, by sl_kernel_rfl, by sl_kernel_rfl, by sl_kernel_rfl, by sl_kernel_rfl, by sl_kernel_rfl, by sl_kernel_rfl⟩

/-- At the first point, which fills the scratch with zeros first, the run stores the lists of `Tile`. -/
theorem listsA (hc0 : cond0_0 i) :
    let R := kernelRun0_A c i arg1 harg1 arg2 harg2 arg3 harg3 arg4 harg4 arg5 harg5 arg6 harg6 arg7 harg7 arg8 harg8 arg9 harg9 arg10 harg10
      arg11 harg11 arg12 harg12 arg13 harg13 arg14 harg14 arg15 harg15 hc0 x0 x1 x2 x3 x4 x5 x6 x7
    let X := held arg1 harg1 arg2 harg2 arg3 harg3 arg4 harg4 arg5 harg5 arg6 harg6 arg7 harg7 arg8 harg8 x0 x1 x2 x3 x4 x5 x6 x7
    let D := (filled arg15)
    R.1 = stores (X.pDw D) ∧
      R.2.1 = stores (X.pDwk D) ∧
      R.2.2.1 = stores (X.pDq) ∧
      R.2.2.2.1 = stores (X.pDk D) ∧
      R.2.2.2.2.1 = stores (X.pDp) ∧
      R.2.2.2.2.2.1 = stores (X.pDe D) ∧
      R.2.2.2.2.2.2.1 = X.scratch D ++ [fill] :=
  ⟨by sl_kernel_rfl, by sl_kernel_rfl, by sl_kernel_rfl, by sl_kernel_rfl, by sl_kernel_rfl, by sl_kernel_rfl, by sl_kernel_rfl⟩

end Cert.ScanBwd

end
-- ==== Proof.Spec.lean ====
/- The mathematics: the backward pass of the gated delta rule, chunk by chunk, over the extended reals. Chunk n of a pair
   (b, h) has w = u − wk · Sᵀ, the output o = q · Sᵀ + p · w, and hands on e ∘ S + wᵀ · kd; D is the gradient of the state
   that it hands on, and the chunks are walked from the last to the first. -/
module

public import proofs.«01_k».proof.Proof.Lists
public import Idealize.ShloMosaic.Lib.Pointwise

@[expose] public section

set_option maxRecDepth 16384

noncomputable section

namespace Cert.ScanBwd

open Idealize.ShloMosaic

/-- The scan's inputs and saved states, by chunk, batch and head. -/
structure Data where
  u : Fin 32 → Fin 2 → Fin 4 → Fin 64 → Fin 128 → EReal
  wk : Fin 32 → Fin 2 → Fin 4 → Fin 64 → Fin 128 → EReal
  q : Fin 32 → Fin 2 → Fin 4 → Fin 64 → Fin 128 → EReal
  kd : Fin 32 → Fin 2 → Fin 4 → Fin 64 → Fin 128 → EReal
  d : Fin 32 → Fin 2 → Fin 4 → Fin 64 → Fin 128 → EReal
  p : Fin 32 → Fin 2 → Fin 4 → Fin 64 → Fin 64 → EReal
  e : Fin 32 → Fin 2 → Fin 4 → EReal
  s : Fin 32 → Fin 2 → Fin 4 → Fin 128 → Fin 128 → EReal

namespace Data

variable (X : Data)

/-- w = u − wk · Sᵀ. -/
def w (n : Fin 32) (b : Fin 2) (h : Fin 4) (l : Fin 64) (v : Fin 128) : EReal :=
  X.u n b h l v - ∑ k : Fin 128, X.wk n b h l k * X.s n b h v k

/-- The gradient of w and of u, from the gradient D of the state handed on. -/
def dw (n : Fin 32) (b : Fin 2) (h : Fin 4) (D : Fin 128 → Fin 128 → EReal) (l : Fin 64) (v : Fin 128) : EReal :=
  ∑ t : Fin 64, X.p n b h t l * X.d n b h t v + ∑ k : Fin 128, X.kd n b h l k * D v k

/-- The gradient of the chunk's own state. -/
def new (n : Fin 32) (b : Fin 2) (h : Fin 4) (D : Fin 128 → Fin 128 → EReal) (v k : Fin 128) : EReal :=
  X.e n b h * D v k + ∑ t : Fin 64, X.d n b h t v * X.q n b h t k - ∑ l : Fin 64, X.dw n b h D l v * X.wk n b h l k

/-- The gradient of the state after `j` chunks, from the last. -/
def D (b : Fin 2) (h : Fin 4) : ℕ → Fin 128 → Fin 128 → EReal
  | 0 => fun _ _ => 0
  | j + 1 => X.new (Fin.ofNat 32 (31 - j)) b h (D b h j)

/-- The gradient of the state that chunk `n` hands on. -/
def Dn (n : Fin 32) (b : Fin 2) (h : Fin 4) : Fin 128 → Fin 128 → EReal := X.D b h (31 - n.val)

/-- The gradient of u. -/
def gU (n : Fin 32) (b : Fin 2) (h : Fin 4) (l : Fin 64) (v : Fin 128) : EReal := X.dw n b h (X.Dn n b h) l v

/-- The gradient of wk. -/
def gWk (n : Fin 32) (b : Fin 2) (h : Fin 4) (l : Fin 64) (k : Fin 128) : EReal :=
  0 - ∑ v : Fin 128, X.gU n b h l v * X.s n b h v k

/-- The gradient of q. -/
def gQ (n : Fin 32) (b : Fin 2) (h : Fin 4) (l : Fin 64) (k : Fin 128) : EReal :=
  ∑ v : Fin 128, X.d n b h l v * X.s n b h v k

/-- The gradient of kd. -/
def gKd (n : Fin 32) (b : Fin 2) (h : Fin 4) (l : Fin 64) (k : Fin 128) : EReal :=
  ∑ v : Fin 128, X.w n b h l v * X.Dn n b h v k

/-- The gradient of p. -/
def gP (n : Fin 32) (b : Fin 2) (h : Fin 4) (t s : Fin 64) : EReal :=
  ∑ v : Fin 128, X.d n b h t v * X.w n b h s v

/-- The gradient of the decay. -/
def gE (n : Fin 32) (b : Fin 2) (h : Fin 4) : EReal :=
  ∑ v : Fin 128, ∑ k : Fin 128, X.s n b h v k * X.Dn n b h v k

end Data

/-! ## The arrays that hold them -/

/-- Activations: row 64 n + l, column 128 h + v. -/
def actArr (f : Fin 32 → Fin 2 → Fin 4 → Fin 64 → Fin 128 → EReal) : Cert.KernelIdeal.S2x2048x512.Idx → EReal := fun i =>
  f ⟨(i 1).val / 64, by have h : (i 1).val < 2048 := (i 1).isLt; omega⟩ (i 0)
    ⟨(i 2).val / 128, by have h : (i 2).val < 512 := (i 2).isLt; omega⟩ ⟨(i 1).val % 64, Nat.mod_lt _ (by omega)⟩
    ⟨(i 2).val % 128, Nat.mod_lt _ (by omega)⟩

/-- The scores. -/
def scoreArr (f : Fin 32 → Fin 2 → Fin 4 → Fin 64 → Fin 64 → EReal) : Cert.KernelIdeal.S4x2x2048x64.Idx → EReal := fun i =>
  f ⟨(i 2).val / 64, by have h : (i 2).val < 2048 := (i 2).isLt; omega⟩ (i 1) (i 0)
    ⟨(i 2).val % 64, Nat.mod_lt _ (by omega)⟩ (i 3)

/-- The decays, each in eight rows. -/
def decayArr (f : Fin 32 → Fin 2 → Fin 4 → EReal) : Cert.KernelIdeal.S4x2x256x128.Idx → EReal := fun i =>
  f ⟨(i 2).val / 8, by have h : (i 2).val < 256 := (i 2).isLt; omega⟩ (i 1) (i 0)

end Cert.ScanBwd

end
-- ==== Proof.Point.lean ====
/- What one grid point computes, over the extended reals: each store's payload is a block of the mathematics of `Spec`. -/
module

public import proofs.«01_k».proof.Proof.Spec

@[expose] public section

set_option maxRecDepth 16384

noncomputable section

namespace Cert.ScanBwd

open Idealize.ShloMosaic Cert.KernelIdeal Cert.KernelIdeal.Gen

/-- The chunk that point `t` visits at place `n` of its block. -/
def gn (t : Fin 4) (n : Fin 8) : Fin 32 := ⟨(3 - t.val) * 8 + n.val, by omega⟩

/-- The blocks of point `t` are the chunks 8 (3 − t), … of the data. -/
structure Blk.Is (B : Blk Ideal) (X : Data) (t : Fin 4) : Prop where
  u : ∀ (b : Fin 2) (n : Fin 8) (h : Fin 4) (l : Fin 64) (v : Fin 128),
    B.u (ix3 b ⟨n.val * 64 + l.val, by omega⟩ ⟨h.val * 128 + v.val, by omega⟩) = X.u (gn t n) b h l v
  wk : ∀ (b : Fin 2) (n : Fin 8) (h : Fin 4) (l : Fin 64) (v : Fin 128),
    B.wk (ix3 b ⟨n.val * 64 + l.val, by omega⟩ ⟨h.val * 128 + v.val, by omega⟩) = X.wk (gn t n) b h l v
  q : ∀ (b : Fin 2) (n : Fin 8) (h : Fin 4) (l : Fin 64) (v : Fin 128),
    B.q (ix3 b ⟨n.val * 64 + l.val, by omega⟩ ⟨h.val * 128 + v.val, by omega⟩) = X.q (gn t n) b h l v
  kd : ∀ (b : Fin 2) (n : Fin 8) (h : Fin 4) (l : Fin 64) (v : Fin 128),
    B.kd (ix3 b ⟨n.val * 64 + l.val, by omega⟩ ⟨h.val * 128 + v.val, by omega⟩) = X.kd (gn t n) b h l v
  d : ∀ (b : Fin 2) (n : Fin 8) (h : Fin 4) (l : Fin 64) (v : Fin 128),
    B.d (ix3 b ⟨n.val * 64 + l.val, by omega⟩ ⟨h.val * 128 + v.val, by omega⟩) = X.d (gn t n) b h l v
  p : ∀ (b : Fin 2) (n : Fin 8) (h : Fin 4) (r : Fin 64) (s : Fin 64),
    B.p (ix4 h b ⟨n.val * 64 + r.val, by omega⟩ s) = X.p (gn t n) b h r s
  e : ∀ (b : Fin 2) (n : Fin 8) (h : Fin 4) (k : Fin 128),
    B.e (ix4 h b ⟨n.val * 8, by omega⟩ k) = X.e (gn t n) b h
  s : ∀ (b : Fin 2) (n : Fin 8) (h : Fin 4) (v k : Fin 128), B.s (ix5 b n h v k) = X.s (gn t n) b h v k

variable {B : Blk Ideal} {X : Data} {t : Fin 4} (H : B.Is X t)

/-- A matrix as a function of two indices. -/
abbrev mat (D : FVec Ideal S128x128 .f32) : Fin 128 → Fin 128 → EReal := fun v k => D (ix2 v k)

include H

theorem Blk.Is.w_apply (b : Fin 2) (n : Fin 8) (h : Fin 4) (l : Fin 64) (v : Fin 128) :
    B.w b n h (ix2 l v) = X.w (gn t n) b h l v := by
  unfold Blk.w
  pointwise [wT, flT, sbT, stT]
  simp only [H.u, H.wk, H.s, Data.w]

theorem Blk.Is.dw_apply (b : Fin 2) (n : Fin 8) (h : Fin 4) (D : FVec Ideal S128x128 .f32) (l : Fin 64) (v : Fin 128) :
    B.dw b n h D (ix2 l v) = X.dw (gn t n) b h (mat D) l v := by
  unfold Blk.dw
  pointwise [dwT, doT, flT]
  simp only [H.p, H.d, H.kd, Data.dw]

theorem Blk.Is.new_apply (b : Fin 2) (n : Fin 8) (h : Fin 4) (D : FVec Ideal S128x128 .f32) (v k : Fin 128) :
    B.new b n h D (ix2 v k) = X.new (gn t n) b h (mat D) v k := by
  unfold Blk.new
  pointwise [newT, doT, flT]
  simp only [H.e, H.d, H.q, H.wk, H.dw_apply, Data.new]

variable {D0 : Fin 2 → Fin 4 → FVec Ideal S128x128 .f32} (H0 : ∀ b h, mat (D0 b h) = X.D b h (8 * t.val))

include H0

/-- The state's gradient along the chunks of a point. -/
theorem Blk.Is.D_apply (b : Fin 2) (h : Fin 4) : ∀ j, j ≤ 8 → mat (B.D D0 b h j) = X.D b h (8 * t.val + j)
  | 0, _ => H0 b h
  | j + 1, hj => by
    have ih := Blk.Is.D_apply b h j (by omega)
    funext v k
    show B.new b _ h (B.D D0 b h j) (ix2 v k) = X.new _ b h (X.D b h (8 * t.val + j)) v k
    rw [H.new_apply, ih]
    congr 1
    apply Fin.ext
    show (3 - t.val) * 8 + (7 - j) % 8 = (31 - (8 * t.val + j)) % 32
    omega

theorem Blk.Is.Dc_apply (b : Fin 2) (n : Fin 8) (h : Fin 4) : mat (B.Dc D0 b n h) = X.Dn (gn t n) b h := by
  rw [H.D_apply H0 b h (7 - n.val) (by omega)]
  unfold Data.Dn
  congr 1
  simp only [gn]
  omega

theorem Blk.Is.pDw_apply (b : Fin 2) (n : Fin 8) (h : Fin 4) (o : Fin 1) (l : Fin 64) (v : Fin 128) :
    (B.pDw D0 b n h).2 (ix3 o l v) = X.gU (gn t n) b h l v := by
  unfold Blk.pDw Data.gU
  rw [← H.Dc_apply H0, ← H.dw_apply]
  pointwise

theorem Blk.Is.pDwk_apply (b : Fin 2) (n : Fin 8) (h : Fin 4) (o : Fin 1) (l : Fin 64) (k : Fin 128) :
    (B.pDwk D0 b n h).2 (ix3 o l k) = X.gWk (gn t n) b h l k := by
  unfold Blk.pDwk Data.gWk Data.gU
  pointwise [dwkT, sbT, stT]
  simp only [H.s, H.dw_apply, H.Dc_apply H0]

theorem Blk.Is.pDk_apply (b : Fin 2) (n : Fin 8) (h : Fin 4) (o : Fin 1) (l : Fin 64) (k : Fin 128) :
    (B.pDk D0 b n h).2 (ix3 o l k) = X.gKd (gn t n) b h l k := by
  unfold Blk.pDk Data.gKd
  rw [← H.Dc_apply H0]
  pointwise [dkT]
  simp only [H.w_apply]

theorem Blk.Is.pDe_apply (b : Fin 2) (n : Fin 8) (h : Fin 4) (o o' : Fin 1) (r : Fin 8) (k : Fin 128) :
    (B.pDe D0 b n h).2 (ix4 o o' r k) = X.gE (gn t n) b h := by
  unfold Blk.pDe Data.gE
  rw [← H.Dc_apply H0]
  pointwise [degT, stT]
  simp only [H.s]

theorem Blk.Is.pD_apply (b : Fin 2) (h : Fin 4) (o : Fin 1) (v k : Fin 128) :
    (B.pD D0 b h).2 (ix3 o v k) = X.D b h (8 * (t.val + 1)) v k := by
  unfold Blk.pD
  rw [show 8 * (t.val + 1) = 8 * t.val + 8 by omega, ← H.D_apply H0 b h 8 le_rfl]
  pointwise

omit H0

theorem Blk.Is.pDq_apply (b : Fin 2) (n : Fin 8) (h : Fin 4) (o : Fin 1) (l : Fin 64) (k : Fin 128) :
    (B.pDq b n h).2 (ix3 o l k) = X.gQ (gn t n) b h l k := by
  unfold Blk.pDq Data.gQ
  pointwise [dqT, doT, sbT, stT]
  simp only [H.s, H.d]

theorem Blk.Is.pDp_apply (b : Fin 2) (n : Fin 8) (h : Fin 4) (o o' : Fin 1) (r s : Fin 64) :
    (B.pDp b n h).2 (ix4 o o' r s) = X.gP (gn t n) b h r s := by
  unfold Blk.pDp Data.gP
  pointwise [dpT, doT]
  simp only [H.d, H.w_apply]

end Cert.ScanBwd

end
-- ==== Proof.Region.lean ====
/- The whole region, over the extended reals: every output array is the mathematics of `Spec`. -/
module

public import proofs.«01_k».proof.Proof.Point
public import Idealize.ShloMosaic.Lib.Pipeline.ValueKit
public import Idealize.ShloMosaic.Lib.Pipeline.CanonAppend

@[expose] public section

set_option maxRecDepth 16384

noncomputable section

namespace Cert.ScanBwd

open Idealize.ShloMosaic Cert.KernelIdeal Cert.KernelIdeal.Gen Cert.KernelIdeal.Value
open Idealize.ShloMosaic.TcCoe

/-! ## Blocks of the arrays, and how the stores fill them -/

/-- A point's block of an array of activations. -/
def actBlk (f : Fin 32 → Fin 2 → Fin 4 → Fin 64 → Fin 128 → EReal) (t : Fin 4) : S2x512x512.Idx → EReal := fun y =>
  f (gn t ⟨(y 1).val / 64, by have h : (y 1).val < 512 := (y 1).isLt; omega⟩) (y 0)
    ⟨(y 2).val / 128, by have h : (y 2).val < 512 := (y 2).isLt; omega⟩ ⟨(y 1).val % 64, Nat.mod_lt _ (by omega)⟩
    ⟨(y 2).val % 128, Nat.mod_lt _ (by omega)⟩

/-- A point's block of the scores. -/
def scoreBlk (f : Fin 32 → Fin 2 → Fin 4 → Fin 64 → Fin 64 → EReal) (t : Fin 4) : S4x2x512x64.Idx → EReal := fun y =>
  f (gn t ⟨(y 2).val / 64, by have h : (y 2).val < 512 := (y 2).isLt; omega⟩) (y 1) (y 0)
    ⟨(y 2).val % 64, Nat.mod_lt _ (by omega)⟩ (y 3)

/-- A point's block of the decays. -/
def decayBlk (f : Fin 32 → Fin 2 → Fin 4 → EReal) (t : Fin 4) : S4x2x64x128.Idx → EReal := fun y =>
  f (gn t ⟨(y 2).val / 8, by have h : (y 2).val < 64 := (y 2).isLt; omega⟩) (y 1) (y 0)

/-- The scratch. -/
def scratchBlk (f : Fin 2 → Fin 4 → Fin 128 → Fin 128 → EReal) : S8x128x128.Idx → EReal := fun y =>
  f ⟨(y 0).val / 4, by have h : (y 0).val < 8 := (y 0).isLt; omega⟩ ⟨(y 0).val % 4, Nat.mod_lt _ (by omega)⟩ (y 1) (y 2)

theorem congr5 {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  subst ha hb hc hd he; rfl

section Embed

variable (t : Fin 4) (b : Fin 2) (n : Fin 8) (h : Fin 4)

theorem actBlk_emb (f : Fin 32 → Fin 2 → Fin 4 → Fin 64 → Fin 128 → EReal) (x : S1x64x128.Idx) :
    actBlk f t ((rA b n h).emb x) = f (gn t n) b h (x 1) (x 2) := by
  have h0 : (x 0).val < 1 := (x 0).isLt
  have h1 : (x 1).val < 64 := (x 1).isLt
  have h2 : (x 2).val < 128 := (x 2).isLt
  refine congr5 f (congrArg (gn t) (Fin.ext ?_)) (Fin.ext ?_) (Fin.ext ?_) (Fin.ext ?_) (Fin.ext ?_)
  · show (n.val * 64 + 1 * (x 1).val) / 64 = n.val; omega
  · show b.val + 1 * (x 0).val = b.val; omega
  · show (h.val * 128 + 1 * (x 2).val) / 128 = h.val; omega
  · show (n.val * 64 + 1 * (x 1).val) % 64 = (x 1).val; omega
  · show (h.val * 128 + 1 * (x 2).val) % 128 = (x 2).val; omega

theorem scoreBlk_emb (f : Fin 32 → Fin 2 → Fin 4 → Fin 64 → Fin 64 → EReal) (x : S1x1x64x64.Idx) :
    scoreBlk f t ((rP b n h).emb x) = f (gn t n) b h (x 2) (x 3) := by
  have h0 : (x 0).val < 1 := (x 0).isLt
  have h1 : (x 1).val < 1 := (x 1).isLt
  have h2 : (x 2).val < 64 := (x 2).isLt
  refine congr5 f (congrArg (gn t) (Fin.ext ?_)) (Fin.ext ?_) (Fin.ext ?_) (Fin.ext ?_) (Fin.ext ?_)
  · show (n.val * 64 + 1 * (x 2).val) / 64 = n.val; omega
  · show b.val + 1 * (x 1).val = b.val; omega
  · show h.val + 1 * (x 0).val = h.val; omega
  · show (n.val * 64 + 1 * (x 2).val) % 64 = (x 2).val; omega
  · show 0 + 1 * (x 3).val = (x 3).val; omega

theorem decayBlk_emb (f : Fin 32 → Fin 2 → Fin 4 → EReal) (x : S1x1x8x128.Idx) :
    decayBlk f t ((rG b n h).emb x) = f (gn t n) b h := by
  have h0 : (x 0).val < 1 := (x 0).isLt
  have h1 : (x 1).val < 1 := (x 1).isLt
  have h2 : (x 2).val < 8 := (x 2).isLt
  refine congr5 (fun a b c (_ _ : Unit) => f a b c) (d := ()) (e := ()) (congrArg (gn t) (Fin.ext ?_)) (Fin.ext ?_) (Fin.ext ?_) rfl rfl
  · show (n.val * 8 + 1 * (x 2).val) / 8 = n.val; omega
  · show b.val + 1 * (x 1).val = b.val; omega
  · show h.val + 1 * (x 0).val = h.val; omega

theorem scratchBlk_emb (f : Fin 2 → Fin 4 → Fin 128 → Fin 128 → EReal) (x : S1x128x128.Idx) :
    scratchBlk f ((rD b h).emb x) = f b h (x 1) (x 2) := by
  have h0 : (x 0).val < 1 := (x 0).isLt
  refine congr5 (fun a b c d (_ : Unit) => f a b c d) (e := ()) (Fin.ext ?_) (Fin.ext ?_) (Fin.ext ?_) (Fin.ext ?_) rfl
  · show (b.val * 4 + h.val + 1 * (x 0).val) / 4 = b.val; omega
  · show (b.val * 4 + h.val + 1 * (x 0).val) % 4 = h.val; omega
  · show 0 + 1 * (x 1).val = (x 1).val; omega
  · show 0 + 1 * (x 2).val = (x 2).val; omega

theorem slab_apply (U : Vec Ideal S1x128x128 .f32) (v k : Fin 128) :
    shapeCast S128x128 U shapeCasts_S1x128x128_S128x128 (ix2 v k) = U (ix3 0 v k) := by
  pointwise

theorem carried_apply (T : Vec Ideal S8x128x128 .f32) (v k : Fin 128) :
    carried T b h (ix2 v k) = T ((rD b h).emb (ix3 0 v k : S1x128x128.Idx)) :=
  slab_apply (fun x => T ((rD b h).emb x)) v k

/-- The scratch, as the next point finds it. -/
theorem carried_scratchBlk (f : Fin 2 → Fin 4 → Fin 128 → Fin 128 → EReal) : mat (carried (F := Ideal) (scratchBlk f) b h) = f b h := by
  funext v k
  refine (carried_apply b h _ v k).trans ?_
  exact scratchBlk_emb b h f (ix3 0 v k : S1x128x128.Idx)

theorem carried_zeros : mat (carried (F := Ideal) zeros b h) = fun _ _ => 0 := by
  funext v k
  refine (carried_apply b h _ v k).trans ?_
  unfold zeros
  pointwise

end Embed

/-- A buffer written with the stores of a point, where every store is a part of one array and together they cover it. -/
theorem read_stores {κ : Kind} {sp : Space} {S : Shape} {e : EltTy} (v : View sig κ sp S e) (G : S.Idx → Elt Ideal e)
    {f : Fin 2 → Fin 8 → Fin 4 → View.Piece (Elt Ideal) S e} (hf : ∀ b n h x, (f b n h).2 x = G ((f b n h).1.emb x))
    {L : List (View.Piece (Elt Ideal) S e)} (hL : L = stores f) (hc : ∀ y, ∃ p ∈ L, y ∈ p.1.set) :
    v.read (Elt Ideal) (v.writes (Elt Ideal) v.junk L) = G := by
  rw [View.read_writes_junk_eq_canon]
  funext y
  refine View.canon_apply_of_pieces G L ?_ y (hc y)
  subst hL
  simp only [stores, List.mem_flatMap, List.mem_map]
  rintro p ⟨n, -, b, -, h, -, rfl⟩ x
  exact hf b n h x

/-- The scratch likewise; the first point's fill lies under the stores. -/
theorem read_scratch {κ : Kind} {sp : Space} (v : View sig κ sp S8x128x128 .f32) {G : S8x128x128.Idx → EReal} {B : Blk Ideal}
    {D0 : Fin 2 → Fin 4 → FVec Ideal S128x128 .f32} (hf : ∀ b h x, (B.pD D0 b h).2 x = G ((B.pD D0 b h).1.emb x))
    {L L' : List (View.Piece (Elt Ideal) S8x128x128 .f32)} (hL : L = B.scratch D0 ++ L') :
    v.read (Elt Ideal) (v.writes (Elt Ideal) v.junk L) = G := by
  rw [View.read_writes_junk_eq_canon, hL]
  funext y
  refine View.canon_append_of_pieces G L' _ ?_ y ?_
  · simp only [Blk.scratch, List.mem_flatMap, List.mem_map]
    rintro p ⟨b, -, h, -, rfl⟩ x
    exact hf b h x
  · have h0 : (y 0).val < 8 := (y 0).isLt
    refine ⟨B.pD D0 ⟨(y 0).val / 4, by omega⟩ ⟨(y 0).val % 4, by omega⟩, ?_, ?_⟩
    · simp only [Blk.scratch, List.mem_flatMap, List.mem_map]
      exact ⟨_, (by decide : ∀ z : Fin 2, z ∈ ([1, 0] : List (Fin 2))) _, _,
        (by decide : ∀ z : Fin 4, z ∈ ([3, 2, 1, 0] : List (Fin 4))) _, rfl⟩
    · show y ∈ (rD _ _).set
      rw [Rect.mem_set_unit]
      intro a
      fin_cases a
      · show (y 0).val / 4 * 4 + (y 0).val % 4 ≤ (y 0).val ∧ (y 0).val < (y 0).val / 4 * 4 + (y 0).val % 4 + 1
        omega
      · exact ⟨Nat.zero_le _, by have h : (y 1).val < 128 := (y 1).isLt; show (y 1).val < 0 + 128; omega⟩
      · exact ⟨Nat.zero_le _, by have h : (y 2).val < 128 := (y 2).isLt; show (y 2).val < 0 + 128; omega⟩

section Pieces

variable {B : Blk Ideal} {X : Data} {t : Fin 4} (H : B.Is X t)
variable {D0 : Fin 2 → Fin 4 → FVec Ideal S128x128 .f32} (H0 : ∀ b h, mat (D0 b h) = X.D b h (8 * t.val))

include H

theorem Blk.Is.pDq_emb (b n h) (x : (B.pDq b n h).1.shape.Idx) :
    (B.pDq b n h).2 x = actBlk X.gQ t ((B.pDq b n h).1.emb x) :=
  (congrArg (B.pDq b n h).2 (eq_ix3 x)).trans ((H.pDq_apply b n h _ _ _ ).trans (actBlk_emb t b n h X.gQ x).symm)

theorem Blk.Is.pDp_emb (b n h) (x : (B.pDp b n h).1.shape.Idx) :
    (B.pDp b n h).2 x = scoreBlk X.gP t ((B.pDp b n h).1.emb x) :=
  (congrArg (B.pDp b n h).2 (eq_ix4 x)).trans ((H.pDp_apply b n h _ _ _ _ ).trans (scoreBlk_emb t b n h X.gP x).symm)

include H0

theorem Blk.Is.pDw_emb (b n h) (x : (B.pDw D0 b n h).1.shape.Idx) :
    (B.pDw D0 b n h).2 x = actBlk X.gU t ((B.pDw D0 b n h).1.emb x) :=
  (congrArg (B.pDw D0 b n h).2 (eq_ix3 x)).trans ((H.pDw_apply H0 b n h _ _ _ ).trans (actBlk_emb t b n h X.gU x).symm)

theorem Blk.Is.pDwk_emb (b n h) (x : (B.pDwk D0 b n h).1.shape.Idx) :
    (B.pDwk D0 b n h).2 x = actBlk X.gWk t ((B.pDwk D0 b n h).1.emb x) :=
  (congrArg (B.pDwk D0 b n h).2 (eq_ix3 x)).trans ((H.pDwk_apply H0 b n h _ _ _ ).trans (actBlk_emb t b n h X.gWk x).symm)

theorem Blk.Is.pDk_emb (b n h) (x : (B.pDk D0 b n h).1.shape.Idx) :
    (B.pDk D0 b n h).2 x = actBlk X.gKd t ((B.pDk D0 b n h).1.emb x) :=
  (congrArg (B.pDk D0 b n h).2 (eq_ix3 x)).trans ((H.pDk_apply H0 b n h _ _ _ ).trans (actBlk_emb t b n h X.gKd x).symm)

theorem Blk.Is.pDe_emb (b n h) (x : (B.pDe D0 b n h).1.shape.Idx) :
    (B.pDe D0 b n h).2 x = decayBlk X.gE t ((B.pDe D0 b n h).1.emb x) :=
  (congrArg (B.pDe D0 b n h).2 (eq_ix4 x)).trans ((H.pDe_apply H0 b n h _ _ _ _ ).trans (decayBlk_emb t b n h X.gE x).symm)

theorem Blk.Is.pD_emb (b h) (x : (B.pD D0 b h).1.shape.Idx) :
    (B.pD D0 b h).2 x = scratchBlk (fun b h => X.D b h (8 * (t.val + 1))) ((B.pD D0 b h).1.emb x) :=
  (congrArg (B.pD D0 b h).2 (eq_ix3 x)).trans ((H.pD_apply H0 b h _ _ _).trans (scratchBlk_emb b h (fun b h => X.D b h (8 * (t.val + 1))) x).symm)

end Pieces

/-! ## A point's outputs -/

section Outputs

variable (c : Dev nD) (i : grid0.Coords) (arg1 : Memref sig .tc .vmem S2x512x512 .f32) (harg1 : arg1.IsWhole)
  (arg2 : Memref sig .tc .vmem S2x512x512 .bf16) (harg2 : arg2.IsWhole) (arg3 : Memref sig .tc .vmem S2x512x512 .bf16)
  (harg3 : arg3.IsWhole) (arg4 : Memref sig .tc .vmem S2x512x512 .bf16) (harg4 : arg4.IsWhole)
  (arg5 : Memref sig .tc .vmem S4x2x512x64 .f32) (harg5 : arg5.IsWhole) (arg6 : Memref sig .tc .vmem S4x2x64x128 .f32)
  (harg6 : arg6.IsWhole) (arg7 : Memref sig .tc .vmem S2x8x4x128x128 .f32) (harg7 : arg7.IsWhole)
  (arg8 : Memref sig .tc .vmem S2x512x512 .f32) (harg8 : arg8.IsWhole) (arg9 : Memref sig .tc .vmem S2x512x512 .f32)
  (harg9 : arg9.IsWhole) (arg10 : Memref sig .tc .vmem S2x512x512 .f32) (harg10 : arg10.IsWhole)
  (arg11 : Memref sig .tc .vmem S2x512x512 .f32) (harg11 : arg11.IsWhole) (arg12 : Memref sig .tc .vmem S2x512x512 .f32)
  (harg12 : arg12.IsWhole) (arg13 : Memref sig .tc .vmem S4x2x512x64 .f32) (harg13 : arg13.IsWhole)
  (arg14 : Memref sig .tc .vmem S4x2x64x128 .f32) (harg14 : arg14.IsWhole)
  (arg15 : Memref sig .tc .vmem S8x128x128 .f32) (harg15 : arg15.IsWhole)
  (x0 : Vec Ideal S2x512x512 .f32) (x1 x2 x3 : Vec Ideal S2x512x512 .bf16) (x4 : Vec Ideal S4x2x512x64 .f32)
  (x5 : Vec Ideal S4x2x64x128 .f32) (x6 : Vec Ideal S2x8x4x128x128 .f32) (x7 : Vec Ideal S2x512x512 .f32)
  (xs0 : Vec Ideal S8x128x128 .f32)

variable {X : Data} {t : Fin 4} (H : Blk.Is ⟨x0, x1, x2, x3, x4, x5, x6, x7⟩ X t)

include H

theorem outsA (hc0 : cond0_0 i) (H0 : ∀ b h, mat (carried (F := Ideal) zeros b h) = X.D b h (8 * t.val)) :
    out0_A_8 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = actBlk X.gU t ∧
      out0_A_9 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = actBlk X.gWk t ∧
      out0_A_10 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = actBlk X.gQ t ∧
      out0_A_11 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = actBlk X.gKd t ∧
      out0_A_12 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = scoreBlk X.gP t ∧
      out0_A_13 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = decayBlk X.gE t ∧
      sout0_A_0 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 = scratchBlk (fun b h => X.D b h (8 * (t.val + 1))) := by
  have L := listsA (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 x0 x1 x2 x3 x4 x5 x6 x7 hc0
  simp only [held_eq, filled_eq] at L
  obtain ⟨l0, l1, l2, l3, l4, l5, l6⟩ := L
  refine ⟨?_, ?_, ?_, ?_, ?_, ?_, ?_⟩
  · exact read_stores _ _ (H.pDw_emb H0) l0 (cover0_A_8 _ _ _ _ _ _ _ _ _ _ _ _ _ _ _ _ _ _ _ _ _ _ _ _ _ _ _ _ _ _ _ _ _ _ _ _ _ _ _ _ _ )
  · exact read_stores _ _ (H.pDwk_emb H0) l1 (cover0_A_9 _ _ _ _ _ _ _ _ _ _ _ _ _ _ _ _ _ _ _ _ _ _ _ _ _ _ _ _ _ _ _ _ _ _ _ _ _ _ _ _ _ )
  · exact read_stores _ _ (H.pDq_emb) l2 (cover0_A_10 _ _ _ _ _ _ _ _ _ _ _ _ _ _ _ _ _ _ _ _ _ _ _ _ _ _ _ _ _ _ _ _ _ _ _ _ _ _ _ _ _ )
  · exact read_stores _ _ (H.pDk_emb H0) l3 (cover0_A_11 _ _ _ _ _ _ _ _ _ _ _ _ _ _ _ _ _ _ _ _ _ _ _ _ _ _ _ _ _ _ _ _ _ _ _ _ _ _ _ _ _ )
  · exact read_stores _ _ (H.pDp_emb) l4 (cover0_A_12 _ _ _ _ _ _ _ _ _ _ _ _ _ _ _ _ _ _ _ _ _ _ _ _ _ _ _ _ _ _ _ _ _ _ _ _ _ _ _ _ _ )
  · exact read_stores _ _ (H.pDe_emb H0) l5 (cover0_A_13 _ _ _ _ _ _ _ _ _ _ _ _ _ _ _ _ _ _ _ _ _ _ _ _ _ _ _ _ _ _ _ _ _ _ _ _ _ _ _ _ _ )
  · exact read_scratch _ (H.pD_emb H0) l6

theorem outsB (hc0 : ¬cond0_0 i) (H0 : ∀ b h, mat (carried (F := Ideal) xs0 b h) = X.D b h (8 * t.val)) :
    out0_B_8 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = actBlk X.gU t ∧
      out0_B_9 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = actBlk X.gWk t ∧
      out0_B_10 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = actBlk X.gQ t ∧
      out0_B_11 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = actBlk X.gKd t ∧
      out0_B_12 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = scoreBlk X.gP t ∧
      out0_B_13 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = decayBlk X.gE t ∧
      sout0_B_0 c i arg1 harg1 arg2 harg2 arg3 harg3 arg4 harg4 arg5 harg5 arg6 harg6 arg7 harg7 arg8 harg8 arg9
        harg9 arg10 harg10 arg11 harg11 arg12 harg12 arg13 harg13 arg14 harg14 arg15 harg15 hc0 x0 x1 x2 x3 x4 x5 x6
        x7 xs0 = scratchBlk (fun b h => X.D b h (8 * (t.val + 1))) := by
  have L := listsB (F := Ideal) c i arg1 harg1 arg2 harg2 arg3 harg3 arg4 harg4 arg5 harg5 arg6 harg6 arg7 harg7 arg8 harg8 arg9
    harg9 arg10 harg10 arg11 harg11 arg12 harg12 arg13 harg13 arg14 harg14 arg15 harg15 x0 x1 x2 x3 x4 x5 x6 x7 xs0 hc0
  simp only [held_eq, harg15.read_unread] at L
  obtain ⟨l0, l1, l2, l3, l4, l5, l6⟩ := L
  refine ⟨?_, ?_, ?_, ?_, ?_, ?_, ?_⟩
  · exact read_stores _ _ (H.pDw_emb H0) l0 (cover0_B_8 _ _ _ _ _ _ _ _ _ _ _ _ _ _ _ _ _ _ _ _ _ _ _ _ _ _ _ _ _ _ _ _ _ _ _ _ _ _ _ _ _ _ )
  · exact read_stores _ _ (H.pDwk_emb H0) l1 (cover0_B_9 _ _ _ _ _ _ _ _ _ _ _ _ _ _ _ _ _ _ _ _ _ _ _ _ _ _ _ _ _ _ _ _ _ _ _ _ _ _ _ _ _ _ )
  · exact read_stores _ _ (H.pDq_emb) l2 (cover0_B_10 _ _ _ _ _ _ _ _ _ _ _ _ _ _ _ _ _ _ _ _ _ _ _ _ _ _ _ _ _ _ _ _ _ _ _ _ _ _ _ _ _ _ )
  · exact read_stores _ _ (H.pDk_emb H0) l3 (cover0_B_11 _ _ _ _ _ _ _ _ _ _ _ _ _ _ _ _ _ _ _ _ _ _ _ _ _ _ _ _ _ _ _ _ _ _ _ _ _ _ _ _ _ _ )
  · exact read_stores _ _ (H.pDp_emb) l4 (cover0_B_12 _ _ _ _ _ _ _ _ _ _ _ _ _ _ _ _ _ _ _ _ _ _ _ _ _ _ _ _ _ _ _ _ _ _ _ _ _ _ _ _ _ _ )
  · exact read_stores _ _ (H.pDe_emb H0) l5 (cover0_B_13 _ _ _ _ _ _ _ _ _ _ _ _ _ _ _ _ _ _ _ _ _ _ _ _ _ _ _ _ _ _ _ _ _ _ _ _ _ _ _ _ _ _ )
  · exact read_scratch _ (H.pD_emb H0) (l6.trans (List.append_nil _).symm)

end Outputs

/-! ## The points -/

section Points

variable (m : (ℓ : Loc nD τ sig) → Buf (Elt Ideal) ℓ) (c : Dev nD)

/-- The blocks that point `t` finds staged. -/
def staged (t : Fin cfg0.N) : Blk Ideal :=
  ⟨iblk m c 0 t, iblk m c 1 t, iblk m c 2 t, iblk m c 3 t, iblk m c 4 t, iblk m c 5 t, iblk m c 6 t, iblk m c 7 t⟩

variable {X : Data} (H : ∀ t : Fin cfg0.N, (staged m c t).Is X t)

include H

/-- What every point leaves. -/
theorem outs : ∀ (n : ℕ) (hn : n < cfg0.N), outsAt0 m c n hn =
    (actBlk X.gU ⟨n, hn⟩, actBlk X.gWk ⟨n, hn⟩, actBlk X.gQ ⟨n, hn⟩, actBlk X.gKd ⟨n, hn⟩, scoreBlk X.gP ⟨n, hn⟩,
      decayBlk X.gE ⟨n, hn⟩, scratchBlk (fun b h => X.D b h (8 * (n + 1))))
  | 0, hn => by
    refine (outsAt0_A m c ⟨0, hn⟩ rfl).trans ?_
    obtain ⟨l0, l1, l2, l3, l4, l5, l6⟩ := outsA (t := ⟨0, hn⟩) c (grid0.coords ⟨0, hn⟩) _ (hs0_0 ⟨0, hn⟩) _ (hs0_1 ⟨0, hn⟩) _
      (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _
      (hs0_9 ⟨0, hn⟩) _ (hs0_10 ⟨0, hn⟩) _ (hs0_11 ⟨0, hn⟩) _ (hs0_12 ⟨0, hn⟩) _ (hs0_13 ⟨0, hn⟩) scM0_0 (Memref.isWhole_whole _)
      _ _ _ _ _ _ _ _ (H ⟨0, hn⟩) ((hcond0_0 ⟨0, hn⟩).mpr rfl) (fun b h => carried_zeros b h)
    rw [l0, l1, l2, l3, l4, l5, l6]
  | n + 1, hn => by
    have h4 : n + 1 < 4 := lt_of_lt_of_eq hn N_0
    have h0 : ¬(n + 1) % 4 = 0 := by omega
    have ih := outs n (by omega)
    refine (outsAt0_B m c ⟨n + 1, hn⟩ h0).trans ?_
    obtain ⟨l0, l1, l2, l3, l4, l5, l6⟩ := outsB (t := ⟨n + 1, hn⟩) c (grid0.coords ⟨n + 1, hn⟩) _ (hs0_0 ⟨n + 1, hn⟩) _
      (hs0_1 ⟨n + 1, hn⟩) _ (hs0_2 ⟨n + 1, hn⟩) _ (hs0_3 ⟨n + 1, hn⟩) _ (hs0_4 ⟨n + 1, hn⟩) _ (hs0_5 ⟨n + 1, hn⟩) _
      (hs0_6 ⟨n + 1, hn⟩) _ (hs0_7 ⟨n + 1, hn⟩) _ (hs0_8 ⟨n + 1, hn⟩) _ (hs0_9 ⟨n + 1, hn⟩) _ (hs0_10 ⟨n + 1, hn⟩) _
      (hs0_11 ⟨n + 1, hn⟩) _ (hs0_12 ⟨n + 1, hn⟩) _ (hs0_13 ⟨n + 1, hn⟩) scM0_0 (Memref.isWhole_whole _)
      _ _ _ _ _ _ _ _ _ (H ⟨n + 1, hn⟩) (fun h => h0 ((hcond0_0 ⟨n + 1, hn⟩).mp h))
      (fun b h => (congrArg (fun T => mat (carried (F := Ideal) T b h)) (congrArg (fun o => o.2.2.2.2.2.2) ih)).trans
        (carried_scratchBlk b h (fun b h => X.D b h (8 * (n + 1)))))
    rw [← l0, ← l1, ← l2, ← l3, ← l4, ← l5, ← l6]
    rfl

end Points

end Cert.ScanBwd

end
-- ==== Proof.Arrays.lean ====
/- The region's arrays: the blocks that it reads, and the arrays that it leaves. -/
module

public import proofs.«01_k».proof.Proof.Region

@[expose] public section

set_option maxRecDepth 16384

noncomputable section

namespace Cert.ScanBwd

open Idealize.ShloMosaic Cert.KernelIdeal Cert.KernelIdeal.Gen Cert.KernelIdeal.Value
open Idealize.ShloMosaic.TcCoe

/-- The scan's data, from the arguments and the array of states. -/
def inData (u : Vec Ideal S2x2048x512 .f32) (wk q kd : Vec Ideal S2x2048x512 .bf16) (p : Vec Ideal S4x2x2048x64 .f32)
    (e : Vec Ideal S2x4x32 .f32) (d : Vec Ideal S2x2048x512 .f32) (s : Vec Ideal S32x2x4x128x128 .f32) : Data where
  u n b h l v := u (ix3 b ⟨n.val * 64 + l.val, by omega⟩ ⟨h.val * 128 + v.val, by omega⟩)
  wk n b h l v := wk (ix3 b ⟨n.val * 64 + l.val, by omega⟩ ⟨h.val * 128 + v.val, by omega⟩)
  q n b h l v := q (ix3 b ⟨n.val * 64 + l.val, by omega⟩ ⟨h.val * 128 + v.val, by omega⟩)
  kd n b h l v := kd (ix3 b ⟨n.val * 64 + l.val, by omega⟩ ⟨h.val * 128 + v.val, by omega⟩)
  d n b h l v := d (ix3 b ⟨n.val * 64 + l.val, by omega⟩ ⟨h.val * 128 + v.val, by omega⟩)
  p n b h r s := p (ix4 h b ⟨n.val * 64 + r.val, by omega⟩ s)
  e n b h := e (ix3 b h n)
  s n b h v k := s (ix5 n b h v k)

theorem idx_0 (t : Fin grid0.N) : win0_0.index t 0 = 0 ∧ win0_0.index t 1 = 3 - t.val ∧ win0_0.index t 2 = 0 := by
  revert t; decide +kernel

theorem idx_1 (t : Fin grid0.N) : win0_1.index t 0 = 0 ∧ win0_1.index t 1 = 3 - t.val ∧ win0_1.index t 2 = 0 := by
  revert t; decide +kernel

theorem idx_2 (t : Fin grid0.N) : win0_2.index t 0 = 0 ∧ win0_2.index t 1 = 3 - t.val ∧ win0_2.index t 2 = 0 := by
  revert t; decide +kernel

theorem idx_3 (t : Fin grid0.N) : win0_3.index t 0 = 0 ∧ win0_3.index t 1 = 3 - t.val ∧ win0_3.index t 2 = 0 := by
  revert t; decide +kernel

theorem idx_7 (t : Fin grid0.N) : win0_7.index t 0 = 0 ∧ win0_7.index t 1 = 3 - t.val ∧ win0_7.index t 2 = 0 := by
  revert t; decide +kernel

theorem idx_8 (t : Fin grid0.N) : win0_8.index t 0 = 0 ∧ win0_8.index t 1 = 3 - t.val ∧ win0_8.index t 2 = 0 := by
  revert t; decide +kernel

theorem idx_9 (t : Fin grid0.N) : win0_9.index t 0 = 0 ∧ win0_9.index t 1 = 3 - t.val ∧ win0_9.index t 2 = 0 := by
  revert t; decide +kernel

theorem idx_10 (t : Fin grid0.N) : win0_10.index t 0 = 0 ∧ win0_10.index t 1 = 3 - t.val ∧ win0_10.index t 2 = 0 := by
  revert t; decide +kernel

theorem idx_11 (t : Fin grid0.N) : win0_11.index t 0 = 0 ∧ win0_11.index t 1 = 3 - t.val ∧ win0_11.index t 2 = 0 := by
  revert t; decide +kernel

theorem idx_4 (t : Fin grid0.N) :
    win0_4.index t 0 = 0 ∧ win0_4.index t 1 = 0 ∧ win0_4.index t 2 = 3 - t.val ∧ win0_4.index t 3 = 0 := by
  revert t; decide +kernel

theorem idx_5 (t : Fin grid0.N) :
    win0_5.index t 0 = 0 ∧ win0_5.index t 1 = 0 ∧ win0_5.index t 2 = 3 - t.val ∧ win0_5.index t 3 = 0 := by
  revert t; decide +kernel

theorem idx_12 (t : Fin grid0.N) :
    win0_12.index t 0 = 0 ∧ win0_12.index t 1 = 0 ∧ win0_12.index t 2 = 3 - t.val ∧ win0_12.index t 3 = 0 := by
  revert t; decide +kernel

theorem idx_13 (t : Fin grid0.N) :
    win0_13.index t 0 = 0 ∧ win0_13.index t 1 = 0 ∧ win0_13.index t 2 = 3 - t.val ∧ win0_13.index t 3 = 0 := by
  revert t; decide +kernel

theorem idx_6 (t : Fin grid0.N) :
    win0_6.index t 0 = 0 ∧ win0_6.index t 1 = 3 - t.val ∧ win0_6.index t 2 = 0 ∧ win0_6.index t 3 = 0 ∧ win0_6.index t 4 = 0 := by
  revert t; decide +kernel

/-- A point's blocks are chunks of the data when each entry read is the arrays' entry. -/
theorem Blk.Is.of {t : Fin 4} {bu : FVec Ideal S2x512x512 .f32} {bw bq bk : FVec Ideal S2x512x512 .bf16}
    {bp : FVec Ideal S4x2x512x64 .f32} {be : FVec Ideal S4x2x64x128 .f32} {bs : FVec Ideal S2x8x4x128x128 .f32}
    {bd : FVec Ideal S2x512x512 .f32}
    {u : Vec Ideal S2x2048x512 .f32} {wk q kd : Vec Ideal S2x2048x512 .bf16} {p : Vec Ideal S4x2x2048x64 .f32}
    {e : Vec Ideal S2x4x32 .f32} {d : Vec Ideal S2x2048x512 .f32} {s : Vec Ideal S32x2x4x128x128 .f32}
    (hu : ∀ (b : Fin 2) (n : Fin 8) (h : Fin 4) (l : Fin 64) (v : Fin 128),
      bu (ix3 b ⟨n.val * 64 + l.val, by omega⟩ ⟨h.val * 128 + v.val, by omega⟩)
        = u (ix3 b ⟨(gn t n).val * 64 + l.val, by omega⟩ ⟨h.val * 128 + v.val, by omega⟩))
    (hwk : ∀ (b : Fin 2) (n : Fin 8) (h : Fin 4) (l : Fin 64) (v : Fin 128),
      bw (ix3 b ⟨n.val * 64 + l.val, by omega⟩ ⟨h.val * 128 + v.val, by omega⟩)
        = wk (ix3 b ⟨(gn t n).val * 64 + l.val, by omega⟩ ⟨h.val * 128 + v.val, by omega⟩))
    (hq : ∀ (b : Fin 2) (n : Fin 8) (h : Fin 4) (l : Fin 64) (v : Fin 128),
      bq (ix3 b ⟨n.val * 64 + l.val, by omega⟩ ⟨h.val * 128 + v.val, by omega⟩)
        = q (ix3 b ⟨(gn t n).val * 64 + l.val, by omega⟩ ⟨h.val * 128 + v.val, by omega⟩))
    (hkd : ∀ (b : Fin 2) (n : Fin 8) (h : Fin 4) (l : Fin 64) (v : Fin 128),
      bk (ix3 b ⟨n.val * 64 + l.val, by omega⟩ ⟨h.val * 128 + v.val, by omega⟩)
        = kd (ix3 b ⟨(gn t n).val * 64 + l.val, by omega⟩ ⟨h.val * 128 + v.val, by omega⟩))
    (hd : ∀ (b : Fin 2) (n : Fin 8) (h : Fin 4) (l : Fin 64) (v : Fin 128),
      bd (ix3 b ⟨n.val * 64 + l.val, by omega⟩ ⟨h.val * 128 + v.val, by omega⟩)
        = d (ix3 b ⟨(gn t n).val * 64 + l.val, by omega⟩ ⟨h.val * 128 + v.val, by omega⟩))
    (hp : ∀ (b : Fin 2) (n : Fin 8) (h : Fin 4) (r s : Fin 64),
      bp (ix4 h b ⟨n.val * 64 + r.val, by omega⟩ s) = p (ix4 h b ⟨(gn t n).val * 64 + r.val, by omega⟩ s))
    (he : ∀ (b : Fin 2) (n : Fin 8) (h : Fin 4) (k : Fin 128),
      be (ix4 h b ⟨n.val * 8, by omega⟩ k) = e (ix3 b h (gn t n)))
    (hs : ∀ (b : Fin 2) (n : Fin 8) (h : Fin 4) (v k : Fin 128), bs (ix5 b n h v k) = s (ix5 (gn t n) b h v k)) :
    (Blk.mk bu bw bq bk bp be bs bd).Is (inData u wk q kd p e d s) t :=
  ⟨hu, hwk, hq, hkd, hd, hp, he, hs⟩

theorem act_cut (f : Fin 32 → Fin 2 → Fin 4 → Fin 64 → Fin 128 → EReal) (t : Fin 4) (y : S2x512x512.Idx) :
    actBlk f t y = actArr f (ix3 (y 0) ⟨(3 - t.val) * 512 + (y 1).val, by have h : (y 1).val < 512 := (y 1).isLt; omega⟩ (y 2)) := by
  have h : (y 1).val < 512 := (y 1).isLt
  refine congr5 (f := f) (Fin.ext ?_) rfl rfl (Fin.ext ?_) rfl
  · show (3 - t.val) * 8 + (y 1).val / 64 = ((3 - t.val) * 512 + (y 1).val) / 64; omega
  · show (y 1).val % 64 = ((3 - t.val) * 512 + (y 1).val) % 64; omega

theorem score_cut (f : Fin 32 → Fin 2 → Fin 4 → Fin 64 → Fin 64 → EReal) (t : Fin 4) (y : S4x2x512x64.Idx) :
    scoreBlk f t y = scoreArr f (ix4 (y 0) (y 1)
      ⟨(3 - t.val) * 512 + (y 2).val, by have h : (y 2).val < 512 := (y 2).isLt; omega⟩ (y 3)) := by
  have h : (y 2).val < 512 := (y 2).isLt
  refine congr5 (f := f) (Fin.ext ?_) rfl rfl (Fin.ext ?_) rfl
  · show (3 - t.val) * 8 + (y 2).val / 64 = ((3 - t.val) * 512 + (y 2).val) / 64; omega
  · show (y 2).val % 64 = ((3 - t.val) * 512 + (y 2).val) % 64; omega

theorem decay_cut (f : Fin 32 → Fin 2 → Fin 4 → EReal) (t : Fin 4) (y : S4x2x64x128.Idx) :
    decayBlk f t y = decayArr f (ix4 (y 0) (y 1)
      ⟨(3 - t.val) * 64 + (y 2).val, by have h : (y 2).val < 64 := (y 2).isLt; omega⟩ (y 3)) := by
  have h : (y 2).val < 64 := (y 2).isLt
  refine congr5 (f := fun n b h _ _ => f n b h) (d := ()) (e := ()) (Fin.ext ?_) rfl rfl rfl rfl
  show (3 - t.val) * 8 + (y 2).val / 8 = ((3 - t.val) * 64 + (y 2).val) / 8; omega

variable (m : (ℓ : Loc nD τ sig) → Buf (Elt Ideal) ℓ) (c : Dev nD)

theorem u_blk (t : Fin cfg0.N) (b : Fin 2) (n : Fin 8) (h : Fin 4) (l : Fin 64) (v : Fin 128) :
    iblk m c 0 t (ix3 b ⟨n.val * 64 + l.val, by omega⟩ ⟨h.val * 128 + v.val, by omega⟩)
      = m ((c : Thread nD τ).loc main_arg0) (ix3 b ⟨(gn t n).val * 64 + l.val, by omega⟩ ⟨h.val * 128 + v.val, by omega⟩) := by
  have e := idx_0 t
  blk_ext! [iblk, V, e, gn]

theorem wk_blk (t : Fin cfg0.N) (b : Fin 2) (n : Fin 8) (h : Fin 4) (l : Fin 64) (v : Fin 128) :
    iblk m c 1 t (ix3 b ⟨n.val * 64 + l.val, by omega⟩ ⟨h.val * 128 + v.val, by omega⟩)
      = m ((c : Thread nD τ).loc main_arg1) (ix3 b ⟨(gn t n).val * 64 + l.val, by omega⟩ ⟨h.val * 128 + v.val, by omega⟩) := by
  have e := idx_1 t
  blk_ext! [iblk, V, e, gn]

theorem q_blk (t : Fin cfg0.N) (b : Fin 2) (n : Fin 8) (h : Fin 4) (l : Fin 64) (v : Fin 128) :
    iblk m c 2 t (ix3 b ⟨n.val * 64 + l.val, by omega⟩ ⟨h.val * 128 + v.val, by omega⟩)
      = m ((c : Thread nD τ).loc main_arg2) (ix3 b ⟨(gn t n).val * 64 + l.val, by omega⟩ ⟨h.val * 128 + v.val, by omega⟩) := by
  have e := idx_2 t
  blk_ext! [iblk, V, e, gn]

theorem kd_blk (t : Fin cfg0.N) (b : Fin 2) (n : Fin 8) (h : Fin 4) (l : Fin 64) (v : Fin 128) :
    iblk m c 3 t (ix3 b ⟨n.val * 64 + l.val, by omega⟩ ⟨h.val * 128 + v.val, by omega⟩)
      = m ((c : Thread nD τ).loc main_arg3) (ix3 b ⟨(gn t n).val * 64 + l.val, by omega⟩ ⟨h.val * 128 + v.val, by omega⟩) := by
  have e := idx_3 t
  blk_ext! [iblk, V, e, gn]

theorem d_blk (t : Fin cfg0.N) (b : Fin 2) (n : Fin 8) (h : Fin 4) (l : Fin 64) (v : Fin 128) :
    iblk m c 7 t (ix3 b ⟨n.val * 64 + l.val, by omega⟩ ⟨h.val * 128 + v.val, by omega⟩)
      = m ((c : Thread nD τ).loc main_arg6) (ix3 b ⟨(gn t n).val * 64 + l.val, by omega⟩ ⟨h.val * 128 + v.val, by omega⟩) := by
  have e := idx_7 t
  blk_ext! [iblk, V, e, gn]

theorem p_blk (t : Fin cfg0.N) (b : Fin 2) (n : Fin 8) (h : Fin 4) (r s : Fin 64) :
    iblk m c 4 t (ix4 h b ⟨n.val * 64 + r.val, by omega⟩ s)
      = m ((c : Thread nD τ).loc main_arg4) (ix4 h b ⟨(gn t n).val * 64 + r.val, by omega⟩ s) := by
  have e := idx_4 t
  blk_ext! [iblk, V, e, gn]

theorem e_blk (t : Fin cfg0.N) (b : Fin 2) (n : Fin 8) (h : Fin 4) (k : Fin 128) :
    iblk m c 5 t (ix4 h b ⟨n.val * 8, by omega⟩ k)
      = V m c main_v295 (ix4 h b ⟨(gn t n).val * 8, by omega⟩ k) := by
  have e := idx_5 t
  blk_ext! [iblk, e, gn]

theorem s_blk (t : Fin cfg0.N) (b : Fin 2) (n : Fin 8) (h : Fin 4) (v k : Fin 128) :
    iblk m c 6 t (ix5 b n h v k) = V m c main_v291 (ix5 b (gn t n) h v k) := by
  have e := idx_6 t
  blk_ext! [iblk, e, gn]

/-- The decays as the region reads them: each in eight rows of 128. -/
def rowsOf (e : Vec Ideal S2x4x32 .f32) : Vec Ideal S4x2x256x128 .f32 :=
  shapeCast S4x2x256x128 (broadcastInDim S4x2x32x8x128 ![0, 1, 2, 3, 4]
    bcast_S4x2x32x1x1_S4x2x32x8x128_0_1_2_3_4 (broadcastInDim S4x2x32x1x1 ![0, 1, 2] bcast_S4x2x32_S4x2x32x1x1_0_1_2
      (transpose S4x2x32 [1, 0, 2] e transposes_S2x4x32_S4x2x32_1_0_2))) shapeCasts_S4x2x32x8x128_S4x2x256x128

theorem rowsOf_apply (e : Vec Ideal S2x4x32 .f32) (h : Fin 4) (b : Fin 2) (n : Fin 32) (k : Fin 128) :
    rowsOf e (ix4 h b ⟨n.val * 8, by omega⟩ k) = e (ix3 b h n) := by
  pointwise [rowsOf]

theorem rows_entry : V m c main_v295 = rowsOf (m ((c : Thread nD τ).loc main_arg5)) := by sl_kernel_rfl

variable (s : Vec Ideal S32x2x4x128x128 .f32)

/-- The data of the run. -/
def argData : Data := inData (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) s

variable (hs : ∀ (b : Fin 2) (n : Fin 32) (h : Fin 4) (v k : Fin 128), V m c main_v291 (ix5 b n h v k) = s (ix5 n b h v k))

include hs

/-- The blocks of every point are chunks of the data. -/
theorem staged_is (t : Fin cfg0.N) : (staged m c t).Is (argData m c s) t :=
  Blk.Is.of (u_blk m c t) (wk_blk m c t) (q_blk m c t) (kd_blk m c t) (d_blk m c t) (p_blk m c t)
    (fun b n h k => (e_blk m c t b n h k).trans ((congrFun (rows_entry m c) _).trans (rowsOf_apply _ h b (gn t n) k)))
    (fun b n h v k => (s_blk m c t b n h v k).trans (hs b (gn t n) h v k))

theorem arr8 : (dats m 0 c).arrAt 8 cfg0.N = actArr (argData m c s).gU := by
  refine (dats m 0 c).arrAt_eq_of_covers 8 _ (by decide +kernel) fun t hf y => ?_
  have e := idx_8 t
  blk_simp
  rw [after0_8, outs m c (staged_is m c s hs)]
  exact (act_cut (argData m c s).gU t y).trans (congrArg (actArr (argData m c s).gU) (by blk_ext [e]))

theorem arr9 : (dats m 0 c).arrAt 9 cfg0.N = actArr (argData m c s).gWk := by
  refine (dats m 0 c).arrAt_eq_of_covers 9 _ (by decide +kernel) fun t hf y => ?_
  have e := idx_9 t
  blk_simp
  rw [after0_9, outs m c (staged_is m c s hs)]
  exact (act_cut (argData m c s).gWk t y).trans (congrArg (actArr (argData m c s).gWk) (by blk_ext [e]))

theorem arr10 : (dats m 0 c).arrAt 10 cfg0.N = actArr (argData m c s).gQ := by
  refine (dats m 0 c).arrAt_eq_of_covers 10 _ (by decide +kernel) fun t hf y => ?_
  have e := idx_10 t
  blk_simp
  rw [after0_10, outs m c (staged_is m c s hs)]
  exact (act_cut (argData m c s).gQ t y).trans (congrArg (actArr (argData m c s).gQ) (by blk_ext [e]))

theorem arr11 : (dats m 0 c).arrAt 11 cfg0.N = actArr (argData m c s).gKd := by
  refine (dats m 0 c).arrAt_eq_of_covers 11 _ (by decide +kernel) fun t hf y => ?_
  have e := idx_11 t
  blk_simp
  rw [after0_11, outs m c (staged_is m c s hs)]
  exact (act_cut (argData m c s).gKd t y).trans (congrArg (actArr (argData m c s).gKd) (by blk_ext [e]))

theorem arr12 : (dats m 0 c).arrAt 12 cfg0.N = scoreArr (argData m c s).gP := by
  refine (dats m 0 c).arrAt_eq_of_covers 12 _ (by decide +kernel) fun t hf y => ?_
  have e := idx_12 t
  blk_simp
  rw [after0_12, outs m c (staged_is m c s hs)]
  exact (score_cut (argData m c s).gP t y).trans (congrArg (scoreArr (argData m c s).gP) (by blk_ext [e]))

theorem arr13 : (dats m 0 c).arrAt 13 cfg0.N = decayArr (argData m c s).gE := by
  refine (dats m 0 c).arrAt_eq_of_covers 13 _ (by decide +kernel) fun t hf y => ?_
  have e := idx_13 t
  blk_simp
  rw [after0_13, outs m c (staged_is m c s hs)]
  exact (decay_cut (argData m c s).gE t y).trans (congrArg (decayArr (argData m c s).gE) (by blk_ext [e]))

end Cert.ScanBwd

end
-- ==== Proof.Real.lean ====
/- Real entries: where the scan's data are real numbers, sums of negated products are negated sums. -/
module

public import proofs.«01_k».proof.Proof.Spec

@[expose] public section

noncomputable section

namespace Cert.ScanBwd

open Idealize.ShloMosaic

/-- A real number among the extended reals. -/
def IsReal (x : EReal) : Prop := x ≠ ⊤ ∧ x ≠ ⊥

namespace IsReal

theorem iff_coe {x : EReal} : IsReal x ↔ ∃ r : ℝ, x = (r : EReal) :=
  ⟨fun h => ⟨x.toReal, (EReal.coe_toReal h.1 h.2).symm⟩, fun ⟨r, h⟩ => h ▸ ⟨EReal.coe_ne_top r, EReal.coe_ne_bot r⟩⟩

theorem zero : IsReal 0 := ⟨EReal.zero_ne_top, EReal.zero_ne_bot⟩

theorem add {x y : EReal} (hx : IsReal x) (hy : IsReal y) : IsReal (x + y) := by
  obtain ⟨a, rfl⟩ := iff_coe.mp hx
  obtain ⟨b, rfl⟩ := iff_coe.mp hy
  exact iff_coe.mpr ⟨a + b, (EReal.coe_add a b).symm⟩

theorem mul {x y : EReal} (hx : IsReal x) (hy : IsReal y) : IsReal (x * y) := by
  obtain ⟨a, rfl⟩ := iff_coe.mp hx
  obtain ⟨b, rfl⟩ := iff_coe.mp hy
  exact iff_coe.mpr ⟨a * b, (EReal.coe_mul a b).symm⟩

theorem neg {x : EReal} (hx : IsReal x) : IsReal (-x) := by
  obtain ⟨a, rfl⟩ := iff_coe.mp hx
  exact iff_coe.mpr ⟨-a, (EReal.coe_neg a).symm⟩

theorem sub {x y : EReal} (hx : IsReal x) (hy : IsReal y) : IsReal (x - y) := by
  rw [sub_eq_add_neg]; exact hx.add hy.neg

theorem sum {ι : Type} (s : Finset ι) {f : ι → EReal} (h : ∀ i, IsReal (f i)) : IsReal (∑ i ∈ s, f i) := by
  classical
  induction s using Finset.induction_on with
  | empty => rw [Finset.sum_empty]; exact zero
  | insert a s ha ih => rw [Finset.sum_insert ha]; exact (h a).add ih

/-- An extended real less itself is zero only where it is real. -/
theorem of_sub_self {x : EReal} (h : x - x = 0) : IsReal x := by
  refine ⟨?_, ?_⟩ <;> rintro rfl <;> simp at h

end IsReal

theorem sum_neg {ι : Type} (s : Finset ι) {f : ι → EReal} (h : ∀ i, IsReal (f i)) : ∑ i ∈ s, -f i = -∑ i ∈ s, f i := by
  classical
  induction s using Finset.induction_on with
  | empty => simp
  | insert a s ha ih =>
    rw [Finset.sum_insert ha, Finset.sum_insert ha, ih, EReal.neg_add (Or.inr (IsReal.sum s h).1) (Or.inl (h a).1), sub_eq_add_neg]

/-- Products with negated factors add up to the negated sum of the products. -/
theorem sum_neg_mul {ι : Type} (s : Finset ι) {f g : ι → EReal} (hf : ∀ i, IsReal (f i)) (hg : ∀ i, IsReal (g i)) :
    ∑ i ∈ s, -f i * g i = -∑ i ∈ s, f i * g i := by
  rw [← sum_neg s fun i => (hf i).mul (hg i)]
  exact Finset.sum_congr rfl fun i _ => EReal.neg_mul _ _

/-- All the scan's data are real. -/
structure Data.Real (X : Data) : Prop where
  wk : ∀ n b h l v, IsReal (X.wk n b h l v)
  q : ∀ n b h l v, IsReal (X.q n b h l v)
  kd : ∀ n b h l v, IsReal (X.kd n b h l v)
  d : ∀ n b h l v, IsReal (X.d n b h l v)
  p : ∀ n b h l v, IsReal (X.p n b h l v)
  e : ∀ n b h, IsReal (X.e n b h)
  s : ∀ n b h v k, IsReal (X.s n b h v k)

namespace Data.Real

variable {X : Data} (R : X.Real)

include R

theorem dw {D : Fin 128 → Fin 128 → EReal} (hD : ∀ v k, IsReal (D v k)) (n : Fin 32) (b : Fin 2) (h : Fin 4) (l : Fin 64)
    (v : Fin 128) : IsReal (X.dw n b h D l v) :=
  (IsReal.sum _ fun _ => (R.p _ _ _ _ _).mul (R.d _ _ _ _ _)).add (IsReal.sum _ fun _ => (R.kd _ _ _ _ _).mul (hD _ _))

theorem D (b : Fin 2) (h : Fin 4) : ∀ (j : ℕ) (v k : Fin 128), IsReal (X.D b h j v k)
  | 0, _, _ => IsReal.zero
  | j + 1, v, k => (((R.e _ _ _).mul (Data.Real.D b h j v k)).add (IsReal.sum _ fun _ => (R.d _ _ _ _ _).mul (R.q _ _ _ _ _))).sub
      (IsReal.sum _ fun _ => (R.dw (Data.Real.D b h j) _ _ _ _ _).mul (R.wk _ _ _ _ _))

/-- The state's gradient with its last sum over negated factors. -/
theorem new_neg {D : Fin 128 → Fin 128 → EReal} (hD : ∀ v k, IsReal (D v k)) (n : Fin 32) (b : Fin 2) (h : Fin 4) (v k : Fin 128) :
    X.e n b h * D v k + ∑ t : Fin 64, X.d n b h t v * X.q n b h t k + ∑ l : Fin 64, -X.dw n b h D l v * X.wk n b h l k
      = X.new n b h D v k := by
  rw [sum_neg_mul _ (fun _ => R.dw hD _ _ _ _ _) (fun _ => R.wk _ _ _ _ _)]; rfl

/-- The gradient of wk with negated factors. -/
theorem gWk_neg (n : Fin 32) (b : Fin 2) (h : Fin 4) (l : Fin 64) (k : Fin 128) :
    ∑ v : Fin 128, -X.gU n b h l v * X.s n b h v k = X.gWk n b h l k := by
  rw [Data.gWk, zero_sub]
  exact sum_neg_mul _ (fun v => R.dw (R.D b h (31 - n.val)) n b h l v) (fun v => R.s n b h v k)

end Data.Real

end Cert.ScanBwd

end
-- ==== Proof.Slices.lean ====
/- A chunk of a stacked array: what slicing it out and writing it back read. -/
module

public import proofs.«01_k».proof.Proof.Real
public import proofs.«01_k».proof.Proof.Gen.ReferenceIdeal
public import Idealize.ShloMosaic.Lib.DynamicIndex
public import Idealize.ShloMosaic.Lib.WordCmp

@[expose] public section

set_option maxRecDepth 16384

noncomputable section

namespace Cert.ScanBwd

open Idealize.ShloMosaic Cert.ReferenceIdeal Cert.ReferenceIdeal.Gen

/-- The start of chunk `i` along the first of five axes, as the loop's body spells it. -/
abbrev start5 (i : IVec S_ 32) : Fin 5 → ℤ := fun k =>
  ((![i, constantI S_ 32 0#32, constantI S_ 32 0#32, constantI S_ 32 0#32, constantI S_ 32 0#32] : Fin 5 → IVec S_ 32) k
    (Shape.Idx.first h_S_)).toInt

/-- The same along the first of three axes. -/
abbrev start3 (i : IVec S_ 32) : Fin 3 → ℤ := fun k =>
  ((![i, constantI S_ 32 0#32, constantI S_ 32 0#32] : Fin 3 → IVec S_ 32) k (Shape.Idx.first h_S_)).toInt

theorem start5_eq (n : Fin 32) : ∀ k, start5 (fun _ => BitVec.ofNat 32 n.val) k = ((![n.val, 0, 0, 0, 0] : Fin 5 → ℕ) k : ℤ) := by
  intro k; fin_cases k
  · exact toInt_ofNat_of_lt (by omega)
  all_goals rfl

theorem start3_eq (n : Fin 32) : ∀ k, start3 (fun _ => BitVec.ofNat 32 n.val) k = ((![n.val, 0, 0] : Fin 3 → ℕ) k : ℤ) := by
  intro k; fin_cases k
  · exact toInt_ofNat_of_lt (by omega)
  all_goals rfl

theorem chunk_ite {α : Type} (n n' : Fin 32) (a b : α) :
    (if _ : n.val ≤ n'.val ∧ n'.val < n.val + 1 then a else b) = if n' = n then a else b := by
  by_cases h : n' = n
  · subst h; rw [dif_pos ⟨le_rfl, by omega⟩, if_pos rfl]
  · rw [dif_neg (fun c => h (Fin.ext (by omega))), if_neg h]

theorem fits_act (n : Fin 32) : S32x2x4x64x128.Slices ![n.val, 0, 0, 0, 0] S1x2x4x64x128 := by
  revert n; decide +kernel

theorem act_slice (x : FVec Ideal S32x2x4x64x128 .f32) (n : Fin 32) (b : Fin 2) (h : Fin 4) (l : Fin 64) (v : Fin 128) :
    shapeCast S2x4x64x128 (Host.dynamicSlice S1x2x4x64x128 x (start5 fun _ => BitVec.ofNat 32 n.val)
      sliceFits_S32x2x4x64x128_S1x2x4x64x128) shapeCasts_S1x2x4x64x128_S2x4x64x128 (ix4 b h l v) = x (ix5 n b h l v) := by
  rw [WordCmp.dynamicSlice_eq_extract _ x _ _ _ (fits_act n) (start5_eq n)]
  pointwise

theorem act_update (x : FVec Ideal S32x2x4x64x128 .f32) (y : FVec Ideal S2x4x64x128 .f32) (n n' : Fin 32) (b : Fin 2) (h : Fin 4) (l : Fin 64) (v : Fin 128) :
    Host.dynamicUpdateSlice x (broadcastInDim S1x2x4x64x128 ![1, 2, 3, 4] bcast_S2x4x64x128_S1x2x4x64x128_1_2_3_4 y)
      (start5 fun _ => BitVec.ofNat 32 n.val) updateFits_S32x2x4x64x128_S1x2x4x64x128 (ix5 n' b h l v)
      = if n' = n then y (ix4 b h l v) else x (ix5 n' b h l v) := by
  rw [WordCmp.dynamicUpdateSlice_eq_update x _ _ _ _ (fits_act n) (start5_eq n)]
  pointwise
  exact chunk_ite n n' _ _

theorem fits_state (n : Fin 32) : S32x2x4x128x128.Slices ![n.val, 0, 0, 0, 0] S1x2x4x128x128 := by
  revert n; decide +kernel

theorem state_slice (x : FVec Ideal S32x2x4x128x128 .f32) (n : Fin 32) (b : Fin 2) (h : Fin 4) (l : Fin 128) (v : Fin 128) :
    shapeCast S2x4x128x128 (Host.dynamicSlice S1x2x4x128x128 x (start5 fun _ => BitVec.ofNat 32 n.val)
      sliceFits_S32x2x4x128x128_S1x2x4x128x128) shapeCasts_S1x2x4x128x128_S2x4x128x128 (ix4 b h l v) = x (ix5 n b h l v) := by
  rw [WordCmp.dynamicSlice_eq_extract _ x _ _ _ (fits_state n) (start5_eq n)]
  pointwise

theorem fits_score (n : Fin 32) : S32x2x4x64x64.Slices ![n.val, 0, 0, 0, 0] S1x2x4x64x64 := by
  revert n; decide +kernel

theorem score_slice (x : FVec Ideal S32x2x4x64x64 .f32) (n : Fin 32) (b : Fin 2) (h : Fin 4) (l : Fin 64) (v : Fin 64) :
    shapeCast S2x4x64x64 (Host.dynamicSlice S1x2x4x64x64 x (start5 fun _ => BitVec.ofNat 32 n.val)
      sliceFits_S32x2x4x64x64_S1x2x4x64x64) shapeCasts_S1x2x4x64x64_S2x4x64x64 (ix4 b h l v) = x (ix5 n b h l v) := by
  rw [WordCmp.dynamicSlice_eq_extract _ x _ _ _ (fits_score n) (start5_eq n)]
  pointwise

theorem score_update (x : FVec Ideal S32x2x4x64x64 .f32) (y : FVec Ideal S2x4x64x64 .f32) (n n' : Fin 32) (b : Fin 2) (h : Fin 4) (l : Fin 64) (v : Fin 64) :
    Host.dynamicUpdateSlice x (broadcastInDim S1x2x4x64x64 ![1, 2, 3, 4] bcast_S2x4x64x64_S1x2x4x64x64_1_2_3_4 y)
      (start5 fun _ => BitVec.ofNat 32 n.val) updateFits_S32x2x4x64x64_S1x2x4x64x64 (ix5 n' b h l v)
      = if n' = n then y (ix4 b h l v) else x (ix5 n' b h l v) := by
  rw [WordCmp.dynamicUpdateSlice_eq_update x _ _ _ _ (fits_score n) (start5_eq n)]
  pointwise
  exact chunk_ite n n' _ _

theorem fits_decay (n : Fin 32) : S32x2x4.Slices ![n.val, 0, 0] S1x2x4 := by
  revert n; decide +kernel

theorem decay_slice (x : FVec Ideal S32x2x4 .f32) (n : Fin 32) (b : Fin 2) (h : Fin 4) :
    shapeCast S2x4 (Host.dynamicSlice S1x2x4 x (start3 fun _ => BitVec.ofNat 32 n.val) sliceFits_S32x2x4_S1x2x4)
      shapeCasts_S1x2x4_S2x4 (ix2 b h) = x (ix3 n b h) := by
  rw [WordCmp.dynamicSlice_eq_extract _ x _ _ _ (fits_decay n) (start3_eq n)]
  pointwise

theorem decay_update (x : FVec Ideal S32x2x4 .f32) (y : FVec Ideal S2x4 .f32) (n n' : Fin 32) (b : Fin 2) (h : Fin 4) :
    Host.dynamicUpdateSlice x (broadcastInDim S1x2x4 ![1, 2] bcast_S2x4_S1x2x4_1_2 y)
      (start3 fun _ => BitVec.ofNat 32 n.val) updateFits_S32x2x4_S1x2x4 (ix3 n' b h)
      = if n' = n then y (ix2 b h) else x (ix3 n' b h) := by
  rw [WordCmp.dynamicUpdateSlice_eq_update x _ _ _ _ (fits_decay n) (start3_eq n)]
  pointwise
  exact chunk_ite n n' _ _

end Cert.ScanBwd

end
-- ==== Proof.RefStep.lean ====
/- One trip of the reference's loop over the chunks, from the last to the first: the gradients of the chunk that it visits. -/
module

public import proofs.«01_k».proof.Proof.Slices
public import proofs.«01_k».proof.Proof.Gen.ReferenceIdeal.Run

@[expose] public section

set_option maxRecDepth 16384

noncomputable section

namespace Cert.ScanBwd

open Idealize.ShloMosaic Cert.ReferenceIdeal Cert.ReferenceIdeal.Gen Cert.ReferenceIdeal.Value
open Idealize.ShloMosaic.TcCoe Idealize.ShloMosaic.StableHlo

/-- The chunk of trip `j`. -/
abbrev chunk (j : ℕ) : Fin 32 := Fin.ofNat 32 (31 - j)

/-- What the loop's buffers hold before trip `j`: the data, and the gradients of the chunks visited. -/
structure Inv (X : Data) (V0 : Valuation τ sig (Elt Ideal)) (j : ℕ) : Prop where
  count : V0 (Proc.devRef .tc main_v308_8) = fun _ => BitVec.ofNat 32 j
  s : ∀ n b h v k, V0 (Proc.devRef .tc main_v308_0) (ix5 n b h v k) = X.s n b h v k
  u : ∀ n b h l v, V0 (Proc.devRef .tc main_v308_1) (ix5 n b h l v) = X.u n b h l v
  wk : ∀ n b h l v, V0 (Proc.devRef .tc main_v308_2) (ix5 n b h l v) = X.wk n b h l v
  q : ∀ n b h l v, V0 (Proc.devRef .tc main_v308_3) (ix5 n b h l v) = X.q n b h l v
  p : ∀ n b h l v, V0 (Proc.devRef .tc main_v308_4) (ix5 n b h l v) = X.p n b h l v
  kd : ∀ n b h l v, V0 (Proc.devRef .tc main_v308_5) (ix5 n b h l v) = X.kd n b h l v
  e : ∀ n b h, V0 (Proc.devRef .tc main_v308_6) (ix3 n b h) = X.e n b h
  d : ∀ n b h l v, V0 (Proc.devRef .tc main_v308_7) (ix5 n b h l v) = X.d n b h l v
  D : ∀ b h v k, V0 (Proc.devRef .tc main_v308_9) (ix4 b h v k) = X.D b h j v k
  gU : ∀ n b h l v, 32 ≤ n.val + j → V0 (Proc.devRef .tc main_v308_10) (ix5 n b h l v) = X.gU n b h l v
  gWk : ∀ n b h l v, 32 ≤ n.val + j → V0 (Proc.devRef .tc main_v308_11) (ix5 n b h l v) = X.gWk n b h l v
  gQ : ∀ n b h l v, 32 ≤ n.val + j → V0 (Proc.devRef .tc main_v308_12) (ix5 n b h l v) = X.gQ n b h l v
  gP : ∀ n b h l v, 32 ≤ n.val + j → V0 (Proc.devRef .tc main_v308_13) (ix5 n b h l v) = X.gP n b h l v
  gKd : ∀ n b h l v, 32 ≤ n.val + j → V0 (Proc.devRef .tc main_v308_14) (ix5 n b h l v) = X.gKd n b h l v
  gE : ∀ n b h, 32 ≤ n.val + j → V0 (Proc.devRef .tc main_v308_15) (ix3 n b h) = X.gE n b h

theorem chunk_word : ∀ j : Fin 32, 32#32 - BitVec.ofNat 32 j.val - 1#32 = BitVec.ofNat 32 (chunk j.val).val := by decide

theorem later {j : ℕ} {n : Fin 32} (hj : j < 32) (hn : 32 ≤ n.val + (j + 1)) (c : ¬ n = chunk j) : 32 ≤ n.val + j := by
  by_contra h
  refine c (Fin.ext ?_)
  show n.val = (31 - j) % 32
  omega

variable {X : Data} {V0 : Valuation τ sig (Elt Ideal)} {j : ℕ} (H : Inv X V0 j) (hj : j < 32)

include H hj

theorem Inv.idx : res_main_while0b_v324 V0 = fun _ => BitVec.ofNat 32 (chunk j).val := by
  funext i
  show 32#32 - V0 (Proc.devRef .tc main_v308_8) i - 1#32 = _
  rw [H.count]
  exact chunk_word ⟨j, hj⟩

theorem Inv.s_at (b : Fin 2) (h : Fin 4) (v k : Fin 128) : res_main_while0b_v325 V0 (ix4 b h v k) = X.s (chunk j) b h v k := by
  unfold res_main_while0b_v325
  rw [H.idx hj]
  exact (state_slice _ _ b h v k).trans (H.s _ b h v k)

theorem Inv.wk_at (b : Fin 2) (h : Fin 4) (l : Fin 64) (v : Fin 128) : res_main_while0b_v327 V0 (ix4 b h l v) = X.wk (chunk j) b h l v := by
  unfold res_main_while0b_v327
  rw [H.idx hj]
  exact (act_slice _ _ b h l v).trans (H.wk _ b h l v)

theorem Inv.q_at (b : Fin 2) (h : Fin 4) (l : Fin 64) (v : Fin 128) : res_main_while0b_v328 V0 (ix4 b h l v) = X.q (chunk j) b h l v := by
  unfold res_main_while0b_v328
  rw [H.idx hj]
  exact (act_slice _ _ b h l v).trans (H.q _ b h l v)

theorem Inv.p_at (b : Fin 2) (h : Fin 4) (l v : Fin 64) : res_main_while0b_v329 V0 (ix4 b h l v) = X.p (chunk j) b h l v := by
  unfold res_main_while0b_v329
  rw [H.idx hj]
  exact (score_slice _ _ b h l v).trans (H.p _ b h l v)

theorem Inv.kd_at (b : Fin 2) (h : Fin 4) (l : Fin 64) (v : Fin 128) : res_main_while0b_v330 V0 (ix4 b h l v) = X.kd (chunk j) b h l v := by
  unfold res_main_while0b_v330
  rw [H.idx hj]
  exact (act_slice _ _ b h l v).trans (H.kd _ b h l v)

theorem Inv.d_at (b : Fin 2) (h : Fin 4) (l : Fin 64) (v : Fin 128) : res_main_while0b_v332 V0 (ix4 b h l v) = X.d (chunk j) b h l v := by
  unfold res_main_while0b_v332
  rw [H.idx hj]
  exact (act_slice _ _ b h l v).trans (H.d _ b h l v)

theorem Inv.w_at (b : Fin 2) (h : Fin 4) (l : Fin 64) (v : Fin 128) : res_main_while0b_v334 V0 (ix4 b h l v) = X.w (chunk j) b h l v := by
  unfold res_main_while0b_v334
  rw [H.idx hj]
  refine (congrArg₂ (fun x y : EReal => x - y) ((act_slice _ _ b h l v).trans (H.u _ b h l v)) ?_ :)
  have e := fun k => H.wk_at hj b h l k
  have e' := fun k => H.s_at hj b h v k
  revert e e'
  generalize res_main_while0b_v327 V0 = x
  generalize res_main_while0b_v325 V0 = y
  intro e e'
  pointwise
  simp only [e, e']

theorem Inv.e_at (b : Fin 2) (h : Fin 4) : res_main_while0b_v338 V0 (ix4 b h 0 0) = X.e (chunk j) b h := by
  unfold res_main_while0b_v338
  rw [H.idx hj]
  refine Eq.trans ?_ ((decay_slice _ _ b h).trans (H.e _ b h))
  generalize shapeCast S2x4 _ _ = y
  pointwise

theorem Inv.Dn_chunk (b : Fin 2) (h : Fin 4) : X.Dn (chunk j) b h = X.D b h j := by
  unfold Data.Dn
  congr 1
  show 31 - (31 - j) % 32 = j
  omega

theorem Inv.dw_at (b : Fin 2) (h : Fin 4) (l : Fin 64) (v : Fin 128) :
    res_main_while0b_v355 V0 (ix4 b h l v) = X.gU (chunk j) b h l v := by
  have e := fun l v => H.kd_at hj b h l v
  have e' := fun l v => H.p_at hj b h l v
  have e'' := fun l v => H.d_at hj b h l v
  have e4 := fun v k => H.D b h v k
  unfold Data.gU
  rw [H.Dn_chunk hj]
  unfold res_main_while0b_v355 Data.dw
  revert e e' e'' e4
  generalize res_main_while0b_v330 V0 = x
  generalize res_main_while0b_v329 V0 = y
  generalize res_main_while0b_v332 V0 = z
  generalize V0 (Proc.devRef .tc main_v308_9) = D
  intro e e' e'' e4
  pointwise
  rw [add_comm]
  simp only [e, e', e'', e4, mul_comm]

theorem Inv.ndw_at (b : Fin 2) (h : Fin 4) (l : Fin 64) (v : Fin 128) :
    res_main_while0b_v360 V0 (ix4 b h l v) = -X.gU (chunk j) b h l v := by
  rw [← H.dw_at hj b h l v]
  unfold res_main_while0b_v360
  generalize res_main_while0b_v355 V0 = x
  pointwise

theorem Inv.D_step (R : X.Real) (b : Fin 2) (h : Fin 4) (v k : Fin 128) :
    step_main_v308_9 V0 (ix4 b h v k) = X.D b h (j + 1) v k := by
  have e := H.e_at hj b h
  have e1 := fun l v => H.d_at hj b h l v
  have e2 := fun l v => H.q_at hj b h l v
  have e3 := fun l v => H.ndw_at hj b h l v
  have e4 := fun l v => H.wk_at hj b h l v
  have e5 := fun v k => H.D b h v k
  refine Eq.trans ?_ (R.new_neg (R.D b h j) (chunk j) b h v k)
  have e6 := fun l v => congrArg (X.dw (chunk j) b h · l v) (H.Dn_chunk hj b h)
  unfold step_main_v308_9 Data.gU at *
  revert e e1 e2 e3 e4 e5
  generalize res_main_while0b_v338 V0 = x
  generalize res_main_while0b_v332 V0 = y
  generalize res_main_while0b_v328 V0 = z
  generalize res_main_while0b_v360 V0 = w
  generalize res_main_while0b_v327 V0 = t
  generalize V0 (Proc.devRef .tc main_v308_9) = D
  intro e e1 e2 e3 e4 e5
  simp only [id]
  pointwise
  simp only [e, e1, e2, e3, e4, e5, e6]

theorem Inv.gU_step (n : Fin 32) (b : Fin 2) (h : Fin 4) (l : Fin 64) (v : Fin 128) (hn : 32 ≤ n.val + (j + 1)) :
    step_main_v308_10 V0 (ix5 n b h l v) = X.gU n b h l v := by
  unfold step_main_v308_10
  simp only [id]
  rw [H.idx hj]
  refine (act_update _ _ _ n b h l v).trans ?_
  by_cases c : n = chunk j
  · rw [if_pos c, H.dw_at hj, c]
  · rw [if_neg c, H.gU n b h l v (later hj hn c)]

theorem Inv.gWk_step (R : X.Real) (n : Fin 32) (b : Fin 2) (h : Fin 4) (l : Fin 64) (v : Fin 128) (hn : 32 ≤ n.val + (j + 1)) :
    step_main_v308_11 V0 (ix5 n b h l v) = X.gWk n b h l v := by
  unfold step_main_v308_11
  simp only [id]
  rw [H.idx hj]
  refine (act_update _ _ _ n b h l v).trans ?_
  by_cases c : n = chunk j
  · rw [if_pos c, c, ← R.gWk_neg]
    have e := fun v => H.ndw_at hj b h l v
    have e' := fun k => H.s_at hj b h k v
    revert e e'
    generalize res_main_while0b_v360 V0 = x
    generalize res_main_while0b_v325 V0 = y
    intro e e'
    pointwise
    simp only [e, e']
  · rw [if_neg c, H.gWk n b h l v (later hj hn c)]

theorem Inv.gQ_step (n : Fin 32) (b : Fin 2) (h : Fin 4) (l : Fin 64) (v : Fin 128) (hn : 32 ≤ n.val + (j + 1)) :
    step_main_v308_12 V0 (ix5 n b h l v) = X.gQ n b h l v := by
  unfold step_main_v308_12
  simp only [id]
  rw [H.idx hj]
  refine (act_update _ _ _ n b h l v).trans ?_
  by_cases c : n = chunk j
  · rw [if_pos c, c, Data.gQ]
    have e := fun v => H.d_at hj b h l v
    have e' := fun k => H.s_at hj b h k v
    revert e e'
    generalize res_main_while0b_v332 V0 = x
    generalize res_main_while0b_v325 V0 = y
    intro e e'
    pointwise
    simp only [e, e']
  · rw [if_neg c, H.gQ n b h l v (later hj hn c)]

theorem Inv.gP_step (n : Fin 32) (b : Fin 2) (h : Fin 4) (l v : Fin 64) (hn : 32 ≤ n.val + (j + 1)) :
    step_main_v308_13 V0 (ix5 n b h l v) = X.gP n b h l v := by
  unfold step_main_v308_13
  simp only [id]
  rw [H.idx hj]
  refine (score_update _ _ _ n b h l v).trans ?_
  by_cases c : n = chunk j
  · rw [if_pos c, c, Data.gP]
    have e := fun v => H.d_at hj b h l v
    have e' := fun k => H.w_at hj b h v k
    revert e e'
    generalize res_main_while0b_v332 V0 = x
    generalize res_main_while0b_v334 V0 = y
    intro e e'
    pointwise
    simp only [e, e']
  · rw [if_neg c, H.gP n b h l v (later hj hn c)]

theorem Inv.gKd_step (n : Fin 32) (b : Fin 2) (h : Fin 4) (l : Fin 64) (v : Fin 128) (hn : 32 ≤ n.val + (j + 1)) :
    step_main_v308_14 V0 (ix5 n b h l v) = X.gKd n b h l v := by
  unfold step_main_v308_14
  simp only [id]
  rw [H.idx hj]
  refine (act_update _ _ _ n b h l v).trans ?_
  by_cases c : n = chunk j
  · rw [if_pos c, c, Data.gKd, H.Dn_chunk hj]
    have e := fun v => H.w_at hj b h l v
    have e' := fun k => H.D b h k v
    revert e e'
    generalize res_main_while0b_v334 V0 = x
    generalize V0 (Proc.devRef .tc main_v308_9) = y
    intro e e'
    pointwise
    simp only [e, e', mul_comm]
  · rw [if_neg c, H.gKd n b h l v (later hj hn c)]

theorem Inv.gE_step (n : Fin 32) (b : Fin 2) (h : Fin 4) (hn : 32 ≤ n.val + (j + 1)) :
    step_main_v308_15 V0 (ix3 n b h) = X.gE n b h := by
  unfold step_main_v308_15
  simp only [id]
  rw [H.idx hj]
  refine (decay_update _ _ _ n b h).trans ?_
  by_cases c : n = chunk j
  · rw [if_pos c, c, Data.gE, H.Dn_chunk hj]
    have e := fun v k => H.s_at hj b h v k
    have e' := fun v k => H.D b h v k
    revert e e'
    generalize res_main_while0b_v325 V0 = x
    generalize V0 (Proc.devRef .tc main_v308_9) = y
    intro e e'
    pointwise
    simp only [e, e', mul_comm, Finset.univ_unique, Finset.sum_singleton]
  · rw [if_neg c, H.gE n b h (later hj hn c)]

/-- One trip keeps the invariant. -/
theorem Inv.step (R : X.Real) : Inv X (STEP V0) (j + 1) where
  count := by
    rw [STEP_main_v308_8]
    unfold step_main_v308_8
    simp only [id]
    rw [H.count]
    funext i
    show BitVec.ofNat 32 j + 1#32 = BitVec.ofNat 32 (j + 1)
    rw [BitVec.ofNat_add]
  s n b h v k := by rw [STEP_main_v308_0]; exact H.s n b h v k
  u n b h l v := by rw [STEP_main_v308_1]; exact H.u n b h l v
  wk n b h l v := by rw [STEP_main_v308_2]; exact H.wk n b h l v
  q n b h l v := by rw [STEP_main_v308_3]; exact H.q n b h l v
  p n b h l v := by rw [STEP_main_v308_4]; exact H.p n b h l v
  kd n b h l v := by rw [STEP_main_v308_5]; exact H.kd n b h l v
  e n b h := by rw [STEP_main_v308_6]; exact H.e n b h
  d n b h l v := by rw [STEP_main_v308_7]; exact H.d n b h l v
  D b h v k := by rw [STEP_main_v308_9]; exact H.D_step hj R b h v k
  gU n b h l v hn := by rw [STEP_main_v308_10]; exact H.gU_step hj n b h l v hn
  gWk n b h l v hn := by rw [STEP_main_v308_11]; exact H.gWk_step hj R n b h l v hn
  gQ n b h l v hn := by rw [STEP_main_v308_12]; exact H.gQ_step hj n b h l v hn
  gP n b h l v hn := by rw [STEP_main_v308_13]; exact H.gP_step hj n b h l v hn
  gKd n b h l v hn := by rw [STEP_main_v308_14]; exact H.gKd_step hj n b h l v hn
  gE n b h hn := by rw [STEP_main_v308_15]; exact H.gE_step hj n b h hn

end Cert.ScanBwd

end
-- ==== Proof.Entry.lean ====
/- What the host lines of the two programs hand on: the kernel's states are the reference's, and the reference's loop starts
   at the data's chunks. -/
module

public import proofs.«01_k».proof.Proof.Arrays
public import proofs.«01_k».proof.Proof.RefStep
public import proofs.«01_k».proof.Proof.Gen.ReferenceIdeal.Step

@[expose] public section

set_option maxRecDepth 100000

noncomputable section

namespace Cert.ScanBwd

open Idealize.ShloMosaic Idealize.ShloMosaic.TcCoe Idealize.ShloMosaic.StableHlo

section Host

variable {F : FTy → Type} [FloatOps F]

/-- The states before every chunk, from the arguments. -/
abbrev statesOf := Cert.ReferenceIdeal.Step.A_main_v299 (F := F)

open Cert.KernelIdeal Cert.KernelIdeal.Gen Cert.KernelIdeal.Value in
theorem kernel_states (m : (ℓ : Loc nD τ sig) → Buf (Elt F) ℓ) (c : Dev nD) : V m c main_v291 =
    transpose S2x32x4x128x128 [1, 0, 2, 3, 4] (statesOf (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)))
      transposes_S32x2x4x128x128_S2x32x4x128x128_1_0_2_3_4 := by sl_kernel_rfl

open Cert.ReferenceIdeal Cert.ReferenceIdeal.Gen Cert.ReferenceIdeal.Value

variable (m : (ℓ : Loc nD τ sig) → Buf (Elt F) ℓ) (c : Dev nD)

theorem entry_0 : entryContents preI m c (Proc.devRef .tc main_v308_0) =
    Cert.ReferenceIdeal.Step.A_main_v299 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_1 : entryContents preI m c (Proc.devRef .tc main_v308_1) =
    Cert.ReferenceIdeal.Step.A_main_v2 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_2 : entryContents preI m c (Proc.devRef .tc main_v308_2) =
    Cert.ReferenceIdeal.Step.A_main_v6 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_3 : entryContents preI m c (Proc.devRef .tc main_v308_3) =
    Cert.ReferenceIdeal.Step.A_main_v10 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_4 : entryContents preI m c (Proc.devRef .tc main_v308_4) =
    Cert.ReferenceIdeal.Step.A_main_v19 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_5 : entryContents preI m c (Proc.devRef .tc main_v308_5) =
    Cert.ReferenceIdeal.Step.A_main_v14 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_6 : entryContents preI m c (Proc.devRef .tc main_v308_6) =
    Cert.ReferenceIdeal.Step.A_main_v300 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_7 : entryContents preI m c (Proc.devRef .tc main_v308_7) =
    Cert.ReferenceIdeal.Step.A_main_v17 (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by sl_kernel_rfl

theorem entry_9 : entryContents preI m c (Proc.devRef .tc main_v308_9) =
    broadcastInDim S2x4x128x128 ![] bcast_S_S2x4x128x128 (constant S_ .f32 0x00000000#32) := by sl_kernel_rfl

end Host

end Cert.ScanBwd

end
-- ==== Proof.Finite.lean ====
/- Finite inputs: the precondition makes every argument real, and with them every state of the scan. -/
module

public import proofs.«01_k».proof.Proof.Entry
public import proofs.«01_k».proof.Pre_finite

@[expose] public section

set_option maxRecDepth 100000

noncomputable section

namespace Cert.ScanBwd

open Idealize.ShloMosaic

/-- An array of real numbers. -/
def AllReal {s : Shape} (x : s.Idx → EReal) : Prop := ∀ i, IsReal (x i)

theorem concat_real (t : Shape) (a : Fin t.rank) (xs : List ((s : Shape) × (s.Idx → EReal)))
    (hc : Shape.Concatenates (xs.map (·.1)) t a) (h : ∀ p ∈ xs, AllReal p.2) : AllReal (concatenate t a xs hc) :=
  fun _ => h _ (List.getElem_mem _) _

section States

open Cert.ReferenceIdeal Cert.ReferenceIdeal.Gen Cert.ReferenceIdeal.Step

theorem outer_real {x y : FVec Ideal S1x2x4x64x128 .f32} (hx : AllReal x) (hy : AllReal y) :
    AllReal (Host.dotGeneral dot_S1x2x4x64x128_S1x2x4x64x128_S1x2x4x128x128_3_3_4_4_012_012 none x y) := by
  intro i
  rw [eq_ix5 i]
  pointwise
  exact IsReal.sum _ fun _ => (hx _).mul (hy _)

theorem inner_real {x : FVec Ideal S1x2x4x64x128 .f32} {y : FVec Ideal S1x2x4x128x128 .f32} (hx : AllReal x) (hy : AllReal y) :
    AllReal (Host.dotGeneral dot_S1x2x4x64x128_S1x2x4x128x128_S1x2x4x64x128_4_4_3_3_012_012 none x y) := by
  intro i
  rw [eq_ix5 i]
  pointwise
  exact IsReal.sum _ fun _ => (hx _).mul (hy _)

/-- A chunk's state handed on is real where its own state and the inputs are. -/
theorem next_real {e : FVec Ideal S32x2x4x128x128 .f32} {u w k : FVec Ideal S32x2x4x64x128 .f32}
    {s : FVec Ideal S1x2x4x128x128 .f32} (he : AllReal e) (hu : AllReal u) (hw : AllReal w) (hk : AllReal k) (hs : AllReal s)
    (o : Fin 5 → ℕ) (h₁ : S32x2x4x128x128.Slices o S1x2x4x128x128) (h₂ : S32x2x4x64x128.Slices o S1x2x4x64x128) :
    AllReal (addf (mulf (extractStridedSlice S1x2x4x128x128 o e h₁) s)
      (Host.dotGeneral dot_S1x2x4x64x128_S1x2x4x64x128_S1x2x4x128x128_3_3_4_4_012_012 none
        (subf (extractStridedSlice S1x2x4x64x128 o u h₂)
          (Host.dotGeneral dot_S1x2x4x64x128_S1x2x4x128x128_S1x2x4x64x128_4_4_3_3_012_012 none
            (extractStridedSlice S1x2x4x64x128 o w h₂) s))
        (extractStridedSlice S1x2x4x64x128 o k h₂))) :=
  fun i => IsReal.add ((he _).mul (hs i)) (outer_real (fun i => (hu _).sub (inner_real (fun _ => hw _) hs i)) (fun _ => hk _) i)

variable {a0 : FVec Ideal S2x2048x512 .f32} {a1 a2 a3 : FVec Ideal S2x2048x512 .bf16} {a4 : FVec Ideal S4x2x2048x64 .f32}
  {a5 : FVec Ideal S2x4x32 .f32} {a6 : FVec Ideal S2x2048x512 .f32}

variable (h0 : AllReal (s := S2x2048x512) a0) (h1 : AllReal (s := S2x2048x512) a1) (h3 : AllReal (s := S2x2048x512) a3)
  (h5 : AllReal (s := S2x4x32) a5)

include h0 in
theorem u_real : AllReal (s := S32x2x4x64x128) (A_main_v2 (F := Ideal) a0 a1 a2 a3 a4 a5 a6) := fun _ => h0 _

include h1 in
theorem wk_real : AllReal (s := S32x2x4x64x128) (A_main_v6 (F := Ideal) a0 a1 a2 a3 a4 a5 a6) := fun _ => h1 _

include h3 in
theorem kd_real : AllReal (s := S32x2x4x64x128) (A_main_v14 (F := Ideal) a0 a1 a2 a3 a4 a5 a6) := fun _ => h3 _

include h5 in
theorem dec_real : AllReal (s := S32x2x4x128x128) (A_main_v22 (F := Ideal) a0 a1 a2 a3 a4 a5 a6) := fun _ => h5 _

theorem state0_real : AllReal (s := S1x2x4x128x128) (K_main_v23 (F := Ideal)) := by
  intro i
  rw [eq_ix5 i]
  pointwise [K_main_v23, K_main_cst]
  exact IsReal.zero

include h0 h3 in
theorem state1_real : AllReal (s := S1x2x4x128x128) (A_main_v26 (F := Ideal) a0 a1 a2 a3 a4 a5 a6) :=
  outer_real (fun _ => h0 _) (fun _ => h3 _)

include h0 h1 h3 h5

theorem state2_real : AllReal (s := S1x2x4x128x128) (A_main_v35 (F := Ideal) a0 a1 a2 a3 a4 a5 a6) :=
  next_real (dec_real h5) (u_real h0) (wk_real h1) (kd_real h3) (state1_real h0 h3) _ _ _

theorem state3_real : AllReal (s := S1x2x4x128x128) (A_main_v44 (F := Ideal) a0 a1 a2 a3 a4 a5 a6) :=
  next_real (dec_real h5) (u_real h0) (wk_real h1) (kd_real h3) (state2_real h0 h1 h3 h5) _ _ _

theorem state4_real : AllReal (s := S1x2x4x128x128) (A_main_v53 (F := Ideal) a0 a1 a2 a3 a4 a5 a6) :=
  next_real (dec_real h5) (u_real h0) (wk_real h1) (kd_real h3) (state3_real h0 h1 h3 h5) _ _ _

theorem state5_real : AllReal (s := S1x2x4x128x128) (A_main_v62 (F := Ideal) a0 a1 a2 a3 a4 a5 a6) :=
  next_real (dec_real h5) (u_real h0) (wk_real h1) (kd_real h3) (state4_real h0 h1 h3 h5) _ _ _

theorem state6_real : AllReal (s := S1x2x4x128x128) (A_main_v71 (F := Ideal) a0 a1 a2 a3 a4 a5 a6) :=
  next_real (dec_real h5) (u_real h0) (wk_real h1) (kd_real h3) (state5_real h0 h1 h3 h5) _ _ _

theorem state7_real : AllReal (s := S1x2x4x128x128) (A_main_v80 (F := Ideal) a0 a1 a2 a3 a4 a5 a6) :=
  next_real (dec_real h5) (u_real h0) (wk_real h1) (kd_real h3) (state6_real h0 h1 h3 h5) _ _ _

theorem state8_real : AllReal (s := S1x2x4x128x128) (A_main_v89 (F := Ideal) a0 a1 a2 a3 a4 a5 a6) :=
  next_real (dec_real h5) (u_real h0) (wk_real h1) (kd_real h3) (state7_real h0 h1 h3 h5) _ _ _

theorem state9_real : AllReal (s := S1x2x4x128x128) (A_main_v98 (F := Ideal) a0 a1 a2 a3 a4 a5 a6) :=
  next_real (dec_real h5) (u_real h0) (wk_real h1) (kd_real h3) (state8_real h0 h1 h3 h5) _ _ _

theorem state10_real : AllReal (s := S1x2x4x128x128) (A_main_v107 (F := Ideal) a0 a1 a2 a3 a4 a5 a6) :=
  next_real (dec_real h5) (u_real h0) (wk_real h1) (kd_real h3) (state9_real h0 h1 h3 h5) _ _ _

theorem state11_real : AllReal (s := S1x2x4x128x128) (A_main_v116 (F := Ideal) a0 a1 a2 a3 a4 a5 a6) :=
  next_real (dec_real h5) (u_real h0) (wk_real h1) (kd_real h3) (state10_real h0 h1 h3 h5) _ _ _

theorem state12_real : AllReal (s := S1x2x4x128x128) (A_main_v125 (F := Ideal) a0 a1 a2 a3 a4 a5 a6) :=
  next_real (dec_real h5) (u_real h0) (wk_real h1) (kd_real h3) (state11_real h0 h1 h3 h5) _ _ _

theorem state13_real : AllReal (s := S1x2x4x128x128) (A_main_v134 (F := Ideal) a0 a1 a2 a3 a4 a5 a6) :=
  next_real (dec_real h5) (u_real h0) (wk_real h1) (kd_real h3) (state12_real h0 h1 h3 h5) _ _ _

theorem state14_real : AllReal (s := S1x2x4x128x128) (A_main_v143 (F := Ideal) a0 a1 a2 a3 a4 a5 a6) :=
  next_real (dec_real h5) (u_real h0) (wk_real h1) (kd_real h3) (state13_real h0 h1 h3 h5) _ _ _

theorem state15_real : AllReal (s := S1x2x4x128x128) (A_main_v152 (F := Ideal) a0 a1 a2 a3 a4 a5 a6) :=
  next_real (dec_real h5) (u_real h0) (wk_real h1) (kd_real h3) (state14_real h0 h1 h3 h5) _ _ _

theorem state16_real : AllReal (s := S1x2x4x128x128) (A_main_v161 (F := Ideal) a0 a1 a2 a3 a4 a5 a6) :=
  next_real (dec_real h5) (u_real h0) (wk_real h1) (kd_real h3) (state15_real h0 h1 h3 h5) _ _ _

theorem state17_real : AllReal (s := S1x2x4x128x128) (A_main_v170 (F := Ideal) a0 a1 a2 a3 a4 a5 a6) :=
  next_real (dec_real h5) (u_real h0) (wk_real h1) (kd_real h3) (state16_real h0 h1 h3 h5) _ _ _

theorem state18_real : AllReal (s := S1x2x4x128x128) (A_main_v179 (F := Ideal) a0 a1 a2 a3 a4 a5 a6) :=
  next_real (dec_real h5) (u_real h0) (wk_real h1) (kd_real h3) (state17_real h0 h1 h3 h5) _ _ _

theorem state19_real : AllReal (s := S1x2x4x128x128) (A_main_v188 (F := Ideal) a0 a1 a2 a3 a4 a5 a6) :=
  next_real (dec_real h5) (u_real h0) (wk_real h1) (kd_real h3) (state18_real h0 h1 h3 h5) _ _ _

theorem state20_real : AllReal (s := S1x2x4x128x128) (A_main_v197 (F := Ideal) a0 a1 a2 a3 a4 a5 a6) :=
  next_real (dec_real h5) (u_real h0) (wk_real h1) (kd_real h3) (state19_real h0 h1 h3 h5) _ _ _

theorem state21_real : AllReal (s := S1x2x4x128x128) (A_main_v206 (F := Ideal) a0 a1 a2 a3 a4 a5 a6) :=
  next_real (dec_real h5) (u_real h0) (wk_real h1) (kd_real h3) (state20_real h0 h1 h3 h5) _ _ _

theorem state22_real : AllReal (s := S1x2x4x128x128) (A_main_v215 (F := Ideal) a0 a1 a2 a3 a4 a5 a6) :=
  next_real (dec_real h5) (u_real h0) (wk_real h1) (kd_real h3) (state21_real h0 h1 h3 h5) _ _ _

theorem state23_real : AllReal (s := S1x2x4x128x128) (A_main_v224 (F := Ideal) a0 a1 a2 a3 a4 a5 a6) :=
  next_real (dec_real h5) (u_real h0) (wk_real h1) (kd_real h3) (state22_real h0 h1 h3 h5) _ _ _

theorem state24_real : AllReal (s := S1x2x4x128x128) (A_main_v233 (F := Ideal) a0 a1 a2 a3 a4 a5 a6) :=
  next_real (dec_real h5) (u_real h0) (wk_real h1) (kd_real h3) (state23_real h0 h1 h3 h5) _ _ _

theorem state25_real : AllReal (s := S1x2x4x128x128) (A_main_v242 (F := Ideal) a0 a1 a2 a3 a4 a5 a6) :=
  next_real (dec_real h5) (u_real h0) (wk_real h1) (kd_real h3) (state24_real h0 h1 h3 h5) _ _ _

theorem state26_real : AllReal (s := S1x2x4x128x128) (A_main_v251 (F := Ideal) a0 a1 a2 a3 a4 a5 a6) :=
  next_real (dec_real h5) (u_real h0) (wk_real h1) (kd_real h3) (state25_real h0 h1 h3 h5) _ _ _

theorem state27_real : AllReal (s := S1x2x4x128x128) (A_main_v260 (F := Ideal) a0 a1 a2 a3 a4 a5 a6) :=
  next_real (dec_real h5) (u_real h0) (wk_real h1) (kd_real h3) (state26_real h0 h1 h3 h5) _ _ _

theorem state28_real : AllReal (s := S1x2x4x128x128) (A_main_v269 (F := Ideal) a0 a1 a2 a3 a4 a5 a6) :=
  next_real (dec_real h5) (u_real h0) (wk_real h1) (kd_real h3) (state27_real h0 h1 h3 h5) _ _ _

theorem state29_real : AllReal (s := S1x2x4x128x128) (A_main_v278 (F := Ideal) a0 a1 a2 a3 a4 a5 a6) :=
  next_real (dec_real h5) (u_real h0) (wk_real h1) (kd_real h3) (state28_real h0 h1 h3 h5) _ _ _

theorem state30_real : AllReal (s := S1x2x4x128x128) (A_main_v287 (F := Ideal) a0 a1 a2 a3 a4 a5 a6) :=
  next_real (dec_real h5) (u_real h0) (wk_real h1) (kd_real h3) (state29_real h0 h1 h3 h5) _ _ _

theorem state31_real : AllReal (s := S1x2x4x128x128) (A_main_v296 (F := Ideal) a0 a1 a2 a3 a4 a5 a6) :=
  next_real (dec_real h5) (u_real h0) (wk_real h1) (kd_real h3) (state30_real h0 h1 h3 h5) _ _ _

theorem states297_real : AllReal (s := S16x2x4x128x128) (A_main_v297 (F := Ideal) a0 a1 a2 a3 a4 a5 a6) := by
  refine concat_real _ _ _ _ ?_
  simp only [List.forall_mem_cons, List.not_mem_nil, false_imp_iff, implies_true, and_true]
  exact ⟨state0_real, state1_real h0 h3, state2_real h0 h1 h3 h5, state3_real h0 h1 h3 h5, state4_real h0 h1 h3 h5,
    state5_real h0 h1 h3 h5, state6_real h0 h1 h3 h5, state7_real h0 h1 h3 h5, state8_real h0 h1 h3 h5,
    state9_real h0 h1 h3 h5, state10_real h0 h1 h3 h5, state11_real h0 h1 h3 h5, state12_real h0 h1 h3 h5,
    state13_real h0 h1 h3 h5, state14_real h0 h1 h3 h5, state15_real h0 h1 h3 h5⟩

theorem states298_real : AllReal (s := S16x2x4x128x128) (A_main_v298 (F := Ideal) a0 a1 a2 a3 a4 a5 a6) := by
  refine concat_real _ _ _ _ ?_
  simp only [List.forall_mem_cons, List.not_mem_nil, false_imp_iff, implies_true, and_true]
  exact ⟨state16_real h0 h1 h3 h5, state17_real h0 h1 h3 h5, state18_real h0 h1 h3 h5, state19_real h0 h1 h3 h5,
    state20_real h0 h1 h3 h5, state21_real h0 h1 h3 h5, state22_real h0 h1 h3 h5, state23_real h0 h1 h3 h5,
    state24_real h0 h1 h3 h5, state25_real h0 h1 h3 h5, state26_real h0 h1 h3 h5, state27_real h0 h1 h3 h5,
    state28_real h0 h1 h3 h5, state29_real h0 h1 h3 h5, state30_real h0 h1 h3 h5, state31_real h0 h1 h3 h5⟩

/-- Every state is real. -/
theorem states_real : AllReal (s := S32x2x4x128x128) (statesOf (F := Ideal) a0 a1 a2 a3 a4 a5 a6) := by
  refine concat_real _ _ _ _ ?_
  simp only [List.forall_mem_cons, List.not_mem_nil, false_imp_iff, implies_true, and_true]
  exact ⟨states297_real h0 h1 h3 h5, states298_real h0 h1 h3 h5⟩

end States

section Pre

open Cert.Pre_finite

theorem and_ones {s : Shape} {x y : IVec s 1} (h : andi x y = fun _ => 1#1) : (x = fun _ => 1#1) ∧ y = fun _ => 1#1 := by
  have key : ∀ a b : BitVec 1, a &&& b = 1#1 → a = 1#1 ∧ b = 1#1 := by decide
  exact ⟨funext fun i => (key _ _ (congrFun h i)).1, funext fun i => (key _ _ (congrFun h i)).2⟩

theorem real_of_ones {s : Shape} {x z : s.Idx → EReal} (hz : ∀ i, z i = 0)
    (h : ∀ i, (cmpf (F := Ideal) (φ := .f32) .oeq (fun i => x i - x i) z) i = 1#1) : AllReal x := by
  intro i
  have e := h i
  refine IsReal.of_sub_self ?_
  by_contra c
  have e' : BitVec.ofBool (decide (x i - x i = z i)) = 1#1 := e
  rw [hz i, decide_eq_false c] at e'
  exact absurd e' (by decide)

variable [Cert.Pre_finite.Facts]
variable {a0 : FVec Ideal S2x2048x512 .f32} {a1 a2 a3 : FVec Ideal S2x2048x512 .bf16} {a4 : FVec Ideal S4x2x2048x64 .f32}
  {a5 : FVec Ideal S2x4x32 .f32} {a6 : FVec Ideal S2x2048x512 .f32}

/-- The precondition makes every argument real. -/
theorem real_of_pre (h : (fn (F := Ideal) a0 a1 a2 a3 a4 a5 a6).1 = (fun _ => 1#1)
    ∧ (fn (F := Ideal) a0 a1 a2 a3 a4 a5 a6).2.1 = (fun _ => 1#1) ∧ (fn (F := Ideal) a0 a1 a2 a3 a4 a5 a6).2.2 = fun _ => 1#1) :
    AllReal (s := S2x2048x512) a0 ∧ AllReal (s := S2x2048x512) a1 ∧ AllReal (s := S2x2048x512) a2
      ∧ AllReal (s := S2x2048x512) a3 ∧ AllReal (s := S4x2x2048x64) a4 ∧ AllReal (s := S2x4x32) a5
      ∧ AllReal (s := S2x2048x512) a6 := by
  obtain ⟨ha, hp, he⟩ := h
  obtain ⟨ha, h6⟩ := and_ones ha
  obtain ⟨ha, h3⟩ := and_ones ha
  obtain ⟨ha, h2⟩ := and_ones ha
  obtain ⟨h0, h1⟩ := and_ones ha
  have hz : Ideal.ofBits .f32 0x00000000#32 = (0 : EReal) := by pointwise
  exact ⟨real_of_ones (fun _ => hz) (congrFun h0), real_of_ones (fun _ => hz) (congrFun h1), real_of_ones (fun _ => hz) (congrFun h2),
    real_of_ones (fun _ => hz) (congrFun h3), real_of_ones (fun _ => hz) (congrFun hp), real_of_ones (fun _ => hz) (congrFun he),
    real_of_ones (fun _ => hz) (congrFun h6)⟩

/-- With real arguments the scan's data are real. -/
theorem inData_real (h0 : AllReal (s := S2x2048x512) a0) (h1 : AllReal (s := S2x2048x512) a1) (h2 : AllReal (s := S2x2048x512) a2)
    (h3 : AllReal (s := S2x2048x512) a3) (h4 : AllReal (s := S4x2x2048x64) a4) (h5 : AllReal (s := S2x4x32) a5)
    (h6 : AllReal (s := S2x2048x512) a6) : (inData a0 a1 a2 a3 a4 a5 a6 (statesOf a0 a1 a2 a3 a4 a5 a6)).Real where
  wk _ _ _ _ _ := h1 _
  q _ _ _ _ _ := h2 _
  kd _ _ _ _ _ := h3 _
  d _ _ _ _ _ := h6 _
  p _ _ _ _ _ := h4 _
  e _ _ _ := h5 _
  s _ _ _ _ _ := states_real h0 h1 h3 h5 _

end Pre

end Cert.ScanBwd

end
-- ==== Proof.RefRun.lean ====
/- The reference's run: its loop leaves the gradients of every chunk, and its results are the arrays that hold them. -/
module

public import proofs.«01_k».proof.Proof.Finite

@[expose] public section

set_option maxRecDepth 16384

noncomputable section

namespace Cert.ScanBwd

open Idealize.ShloMosaic Cert.ReferenceIdeal Cert.ReferenceIdeal.Gen Cert.ReferenceIdeal.Value Cert.ReferenceIdeal.Step
open Idealize.ShloMosaic.TcCoe Idealize.ShloMosaic.StableHlo

section Chunks

variable (a0 : FVec Ideal S2x2048x512 .f32) (a1 a2 a3 : FVec Ideal S2x2048x512 .bf16) (a4 : FVec Ideal S4x2x2048x64 .f32)
  (a5 : FVec Ideal S2x4x32 .f32) (a6 : FVec Ideal S2x2048x512 .f32)

theorem u_chunk (n : Fin 32) (b : Fin 2) (h : Fin 4) (l : Fin 64) (v : Fin 128) :
    A_main_v2 (F := Ideal) a0 a1 a2 a3 a4 a5 a6 (ix5 n b h l v)
      = a0 (ix3 b ⟨n.val * 64 + l.val, by omega⟩ ⟨h.val * 128 + v.val, by omega⟩) := by
  pointwise [A_main_v2, A_main_v1, A_main_v0]

theorem wk_chunk (n : Fin 32) (b : Fin 2) (h : Fin 4) (l : Fin 64) (v : Fin 128) :
    A_main_v6 (F := Ideal) a0 a1 a2 a3 a4 a5 a6 (ix5 n b h l v)
      = a1 (ix3 b ⟨n.val * 64 + l.val, by omega⟩ ⟨h.val * 128 + v.val, by omega⟩) := by
  pointwise [A_main_v6, A_main_v5, A_main_v4, A_main_v3]

theorem q_chunk (n : Fin 32) (b : Fin 2) (h : Fin 4) (l : Fin 64) (v : Fin 128) :
    A_main_v10 (F := Ideal) a0 a1 a2 a3 a4 a5 a6 (ix5 n b h l v)
      = a2 (ix3 b ⟨n.val * 64 + l.val, by omega⟩ ⟨h.val * 128 + v.val, by omega⟩) := by
  pointwise [A_main_v10, A_main_v9, A_main_v8, A_main_v7]

theorem kd_chunk (n : Fin 32) (b : Fin 2) (h : Fin 4) (l : Fin 64) (v : Fin 128) :
    A_main_v14 (F := Ideal) a0 a1 a2 a3 a4 a5 a6 (ix5 n b h l v)
      = a3 (ix3 b ⟨n.val * 64 + l.val, by omega⟩ ⟨h.val * 128 + v.val, by omega⟩) := by
  pointwise [A_main_v14, A_main_v13, A_main_v12, A_main_v11]

theorem d_chunk (n : Fin 32) (b : Fin 2) (h : Fin 4) (l : Fin 64) (v : Fin 128) :
    A_main_v17 (F := Ideal) a0 a1 a2 a3 a4 a5 a6 (ix5 n b h l v)
      = a6 (ix3 b ⟨n.val * 64 + l.val, by omega⟩ ⟨h.val * 128 + v.val, by omega⟩) := by
  pointwise [A_main_v17, A_main_v16, A_main_v15]

theorem p_chunk (n : Fin 32) (b : Fin 2) (h : Fin 4) (r s : Fin 64) :
    A_main_v19 (F := Ideal) a0 a1 a2 a3 a4 a5 a6 (ix5 n b h r s) = a4 (ix4 h b ⟨n.val * 64 + r.val, by omega⟩ s) := by
  pointwise [A_main_v19, A_main_v18]

theorem e_chunk (n : Fin 32) (b : Fin 2) (h : Fin 4) :
    A_main_v300 (F := Ideal) a0 a1 a2 a3 a4 a5 a6 (ix3 n b h) = a5 (ix3 b h n) := by
  pointwise [A_main_v300]

end Chunks

section Results

variable {V0 : Valuation τ sig (Elt Ideal)}

theorem act_out (x : FVec Ideal S32x2x4x64x128 .f32) {f : Fin 32 → Fin 2 → Fin 4 → Fin 64 → Fin 128 → EReal}
    (H : ∀ n b h l v, x (ix5 n b h l v) = f n b h l v) :
    shapeCast S2x2048x512 (transpose S2x32x64x4x128 [1, 0, 3, 2, 4] x transposes_S32x2x4x64x128_S2x32x64x4x128_1_0_3_2_4)
      shapeCasts_S2x32x64x4x128_S2x2048x512 = actArr f := by
  funext i
  rw [eq_ix3 i]
  pointwise
  exact H _ _ _ _ _

theorem out_gU {f : Fin 32 → Fin 2 → Fin 4 → Fin 64 → Fin 128 → EReal}
    (H : ∀ n b h l v, V0 (Proc.devRef .tc main_v308_10) (ix5 n b h l v) = f n b h l v) : out_main_v315 V0 = actArr f := by
  unfold out_main_v315
  revert H
  generalize V0 (Proc.devRef .tc main_v308_10) = x
  exact act_out x

theorem out_gWk {f : Fin 32 → Fin 2 → Fin 4 → Fin 64 → Fin 128 → EReal}
    (H : ∀ n b h l v, V0 (Proc.devRef .tc main_v308_11) (ix5 n b h l v) = f n b h l v) : out_main_v317 V0 = actArr f := by
  unfold out_main_v317
  revert H
  generalize V0 (Proc.devRef .tc main_v308_11) = x
  exact act_out x

theorem out_gQ {f : Fin 32 → Fin 2 → Fin 4 → Fin 64 → Fin 128 → EReal}
    (H : ∀ n b h l v, V0 (Proc.devRef .tc main_v308_12) (ix5 n b h l v) = f n b h l v) : out_main_v319 V0 = actArr f := by
  unfold out_main_v319
  revert H
  generalize V0 (Proc.devRef .tc main_v308_12) = x
  exact act_out x

theorem out_gKd {f : Fin 32 → Fin 2 → Fin 4 → Fin 64 → Fin 128 → EReal}
    (H : ∀ n b h l v, V0 (Proc.devRef .tc main_v308_14) (ix5 n b h l v) = f n b h l v) : out_main_v321 V0 = actArr f := by
  unfold out_main_v321
  revert H
  generalize V0 (Proc.devRef .tc main_v308_14) = x
  exact act_out x

theorem out_gP {f : Fin 32 → Fin 2 → Fin 4 → Fin 64 → Fin 64 → EReal}
    (H : ∀ n b h l v, V0 (Proc.devRef .tc main_v308_13) (ix5 n b h l v) = f n b h l v) : out_main_v310 V0 = scoreArr f := by
  unfold out_main_v310
  revert H
  generalize V0 (Proc.devRef .tc main_v308_13) = x
  intro H
  funext i
  rw [eq_ix4 i]
  pointwise
  exact H _ _ _ _ _

theorem out_gE {f : Fin 32 → Fin 2 → Fin 4 → EReal}
    (H : ∀ n b h, V0 (Proc.devRef .tc main_v308_15) (ix3 n b h) = f n b h) : out_main_v322 V0 = decayArr f := by
  unfold out_main_v322
  revert H
  generalize V0 (Proc.devRef .tc main_v308_15) = x
  intro H
  funext i
  rw [eq_ix4 i]
  pointwise
  exact H _ _ _

end Results

section Loop

variable (m : (ℓ : Loc nD τ sig) → Buf (Elt Ideal) ℓ) (c : Dev nD)

/-- The data of the reference's run. -/
def refData : Data := inData (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))
  (statesOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)))

/-- The loop starts at the data, with no gradient yet. -/
theorem inv_entry : Inv (refData m c) (entryContents preI m c) 0 where
  count := ctr_entry m c
  s n b h v k := by rw [entry_0]; rfl
  u n b h l v := by rw [entry_1]; exact u_chunk _ _ _ _ _ _ _ n b h l v
  wk n b h l v := by rw [entry_2]; exact wk_chunk _ _ _ _ _ _ _ n b h l v
  q n b h l v := by rw [entry_3]; exact q_chunk _ _ _ _ _ _ _ n b h l v
  p n b h l v := by rw [entry_4]; exact p_chunk _ _ _ _ _ _ _ n b h l v
  kd n b h l v := by rw [entry_5]; exact kd_chunk _ _ _ _ _ _ _ n b h l v
  e n b h := by rw [entry_6]; exact e_chunk _ _ _ _ _ _ _ n b h
  d n b h l v := by rw [entry_7]; exact d_chunk _ _ _ _ _ _ _ n b h l v
  D b h v k := by
    rw [entry_9]
    show broadcastInDim S2x4x128x128 ![] bcast_S_S2x4x128x128 (constant (F := Ideal) S_ .f32 0x00000000#32) (ix4 b h v k) = (0 : EReal)
    pointwise
  gU n b h l v hn := absurd hn (by omega)
  gWk n b h l v hn := absurd hn (by omega)
  gQ n b h l v hn := absurd hn (by omega)
  gP n b h l v hn := absurd hn (by omega)
  gKd n b h l v hn := absurd hn (by omega)
  gE n b h hn := absurd hn (by omega)

variable {m c} (R : (refData m c).Real)

include R

theorem inv_at : ∀ j, j ≤ 32 → Inv (refData m c) (STEP^[j] (entryContents preI m c)) j
  | 0, _ => inv_entry m c
  | j + 1, hj => by
    rw [Function.iterate_succ_apply']
    exact (inv_at j (by omega)).step (by omega) R

/-- The reference's results. -/
theorem ref_results :
    out_main_v315 (STEP^[32] (entryContents preI m c)) = actArr (refData m c).gU
      ∧ out_main_v317 (STEP^[32] (entryContents preI m c)) = actArr (refData m c).gWk
      ∧ out_main_v319 (STEP^[32] (entryContents preI m c)) = actArr (refData m c).gQ
      ∧ out_main_v321 (STEP^[32] (entryContents preI m c)) = actArr (refData m c).gKd
      ∧ out_main_v310 (STEP^[32] (entryContents preI m c)) = scoreArr (refData m c).gP
      ∧ out_main_v322 (STEP^[32] (entryContents preI m c)) = decayArr (refData m c).gE :=
  have I := inv_at R 32 le_rfl
  ⟨out_gU fun n b h l v => I.gU n b h l v (by omega), out_gWk fun n b h l v => I.gWk n b h l v (by omega),
    out_gQ fun n b h l v => I.gQ n b h l v (by omega), out_gKd fun n b h l v => I.gKd n b h l v (by omega),
    out_gP fun n b h l v => I.gP n b h l v (by omega), out_gE fun n b h => I.gE n b h (by omega)⟩

end Loop

end Cert.ScanBwd

end
-- ==== Proof.Equal.lean ====
/- The kernel's results and the reference's are the same arrays. -/
module

public import proofs.«01_k».proof.Proof.RefRun

@[expose] public section

set_option maxRecDepth 16384

noncomputable section

namespace Cert.ScanBwd

open Idealize.ShloMosaic Idealize.ShloMosaic.TcCoe Idealize.SL.Sem

section Kernel

open Cert.KernelIdeal Cert.KernelIdeal.Gen Cert.KernelIdeal.Value

variable (m : (ℓ : Loc nD τ sig) → Buf (Elt Ideal) ℓ) (c : Dev nD)

/-- The states of the kernel's arguments. -/
def kernelStates : Vec Ideal S32x2x4x128x128 .f32 := statesOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6))

theorem batch_first (s : Vec Ideal S32x2x4x128x128 .f32) (b : Fin 2) (n : Fin 32) (h : Fin 4) (v k : Fin 128) :
    transpose S2x32x4x128x128 [1, 0, 2, 3, 4] s transposes_S32x2x4x128x128_S2x32x4x128x128_1_0_2_3_4 (ix5 b n h v k)
      = s (ix5 n b h v k) := by
  pointwise

theorem states_block (b : Fin 2) (n : Fin 32) (h : Fin 4) (v k : Fin 128) :
    V m c main_v291 (ix5 b n h v k) = kernelStates m c (ix5 n b h v k) := by
  unfold kernelStates
  exact (congrFun (kernel_states m c) _).trans (batch_first _ b n h v k)

/-- The data of the kernel's run. -/
def kernelData : Data := argData m c (kernelStates m c)

end Kernel

theorem data_congr (f : Vec Ideal Cert.KernelIdeal.S2x2048x512 .f32 → Vec Ideal Cert.KernelIdeal.S2x2048x512 .bf16 →
      Vec Ideal Cert.KernelIdeal.S2x2048x512 .bf16 → Vec Ideal Cert.KernelIdeal.S2x2048x512 .bf16 →
      Vec Ideal Cert.KernelIdeal.S4x2x2048x64 .f32 → Vec Ideal Cert.KernelIdeal.S2x4x32 .f32 →
      Vec Ideal Cert.KernelIdeal.S2x2048x512 .f32 → Data)
    {x0 y0 : Vec Ideal Cert.KernelIdeal.S2x2048x512 .f32} {x1 y1 x2 y2 x3 y3 : Vec Ideal Cert.KernelIdeal.S2x2048x512 .bf16}
    {x4 y4 : Vec Ideal Cert.KernelIdeal.S4x2x2048x64 .f32} {x5 y5 : Vec Ideal Cert.KernelIdeal.S2x4x32 .f32}
    {x6 y6 : Vec Ideal Cert.KernelIdeal.S2x2048x512 .f32} (h0 : x0 = y0) (h1 : x1 = y1) (h2 : x2 = y2) (h3 : x3 = y3) (h4 : x4 = y4)
    (h5 : x5 = y5) (h6 : x6 = y6) : f x0 x1 x2 x3 x4 x5 x6 = f y0 y1 y2 y3 y4 y5 y6 := by
  subst h0 h1 h2 h3 h4 h5 h6; rfl

/-- From the same arguments both programs work on the same data. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    {x0 : Vec Ideal Cert.KernelIdeal.S2x2048x512 .f32}
    {x1 : Vec Ideal Cert.KernelIdeal.S2x2048x512 .bf16}
    {x2 : Vec Ideal Cert.KernelIdeal.S2x2048x512 .bf16}
    {x3 : Vec Ideal Cert.KernelIdeal.S2x2048x512 .bf16}
    {x4 : Vec Ideal Cert.KernelIdeal.S4x2x2048x64 .f32}
    {x5 : Vec Ideal Cert.KernelIdeal.S2x4x32 .f32}
    {x6 : Vec Ideal Cert.KernelIdeal.S2x2048x512 .f32}
    (r0 : m' ((c.tc : Thread Cert.ReferenceIdeal.nD Cert.ReferenceIdeal.τ).loc Cert.ReferenceIdeal.main_arg0) = x0)
    (r1 : m' ((c.tc : Thread Cert.ReferenceIdeal.nD Cert.ReferenceIdeal.τ).loc Cert.ReferenceIdeal.main_arg1) = x1)
    (r2 : m' ((c.tc : Thread Cert.ReferenceIdeal.nD Cert.ReferenceIdeal.τ).loc Cert.ReferenceIdeal.main_arg2) = x2)
    (r3 : m' ((c.tc : Thread Cert.ReferenceIdeal.nD Cert.ReferenceIdeal.τ).loc Cert.ReferenceIdeal.main_arg3) = x3)
    (r4 : m' ((c.tc : Thread Cert.ReferenceIdeal.nD Cert.ReferenceIdeal.τ).loc Cert.ReferenceIdeal.main_arg4) = x4)
    (r5 : m' ((c.tc : Thread Cert.ReferenceIdeal.nD Cert.ReferenceIdeal.τ).loc Cert.ReferenceIdeal.main_arg5) = x5)
    (r6 : m' ((c.tc : Thread Cert.ReferenceIdeal.nD Cert.ReferenceIdeal.τ).loc Cert.ReferenceIdeal.main_arg6) = x6)
    (k0 : m ((c.tc : Thread Cert.KernelIdeal.nD Cert.KernelIdeal.τ).loc Cert.KernelIdeal.main_arg0) = x0)
    (k1 : m ((c.tc : Thread Cert.KernelIdeal.nD Cert.KernelIdeal.τ).loc Cert.KernelIdeal.main_arg1) = x1)
    (k2 : m ((c.tc : Thread Cert.KernelIdeal.nD Cert.KernelIdeal.τ).loc Cert.KernelIdeal.main_arg2) = x2)
    (k3 : m ((c.tc : Thread Cert.KernelIdeal.nD Cert.KernelIdeal.τ).loc Cert.KernelIdeal.main_arg3) = x3)
    (k4 : m ((c.tc : Thread Cert.KernelIdeal.nD Cert.KernelIdeal.τ).loc Cert.KernelIdeal.main_arg4) = x4)
    (k5 : m ((c.tc : Thread Cert.KernelIdeal.nD Cert.KernelIdeal.τ).loc Cert.KernelIdeal.main_arg5) = x5)
    (k6 : m ((c.tc : Thread Cert.KernelIdeal.nD Cert.KernelIdeal.τ).loc Cert.KernelIdeal.main_arg6) = x6) :
    refData m' c = kernelData m c := by
  unfold refData kernelData argData kernelStates
  exact (data_congr (fun a0 a1 a2 a3 a4 a5 a6 => inData a0 a1 a2 a3 a4 a5 a6 (statesOf a0 a1 a2 a3 a4 a5 a6))
    r0 r1 r2 r3 r4 r5 r6).trans (data_congr (fun a0 a1 a2 a3 a4 a5 a6 => inData a0 a1 a2 a3 a4 a5 a6 (statesOf a0 a1 a2 a3 a4 a5 a6))
    k0 k1 k2 k3 k4 k5 k6).symm

end Cert.ScanBwd
end
-- ==== Proof.Runs.lean ====
/- Both programs' runs: the same six arrays at the end of either, its arguments kept. -/
module

public import proofs.«01_k».proof.Proof.Equal
public import proofs.«01_k».proof.Proof.Finite
public import Idealize.ShloMosaic.Lib.Quiescent

@[expose] public section

set_option maxRecDepth 16384

noncomputable section

namespace Cert.ScanBwd

open Idealize.ShloMosaic Idealize.ShloMosaic.TcCoe Idealize.SL.Sem

/-- The precondition's broadcasts are well formed. -/
theorem pre_facts : Cert.Pre_finite.Facts where
  bcast_S_S2x2048x512 := by decide
  bitsLt_bf16_f32 := by decide
  bcast_S_S4x2x2048x64 := by decide
  bcast_S_S2x4x32 := by decide

section Kernel

open Cert.KernelIdeal Cert.KernelIdeal.Gen Cert.KernelIdeal.Value

variable (m : (ℓ : Loc nD τ sig) → Buf (Elt Ideal) ℓ) (ρ : Dev nD → PrngReg)

theorem kernel_run : θ_run (defs (F := Ideal)) (onTc (τ := τ) (main (F := Ideal))) ⟨m, fun _ => 0, ρ⟩ fun r => ∀ c : Dev nD,
      r.2.mem ((c : Thread nD τ).loc main_v296_0) = actArr (kernelData m c).gU
      ∧ r.2.mem ((c : Thread nD τ).loc main_v296_1) = actArr (kernelData m c).gWk
      ∧ r.2.mem ((c : Thread nD τ).loc main_v296_2) = actArr (kernelData m c).gQ
      ∧ r.2.mem ((c : Thread nD τ).loc main_v296_3) = actArr (kernelData m c).gKd
      ∧ r.2.mem ((c : Thread nD τ).loc main_v296_4) = scoreArr (kernelData m c).gP
      ∧ r.2.mem ((c : Thread nD τ).loc main_v296_5) = decayArr (kernelData m c).gE
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨h0, h1, h2, h3, h4, h5, kept⟩ := h c
    exact ⟨h0.trans (arr8 m c _ (states_block m c)), h1.trans (arr9 m c _ (states_block m c)),
      h2.trans (arr10 m c _ (states_block m c)), h3.trans (arr11 m c _ (states_block m c)),
      h4.trans (arr12 m c _ (states_block m c)), h5.trans (arr13 m c _ (states_block m c)), kept⟩) (run_blocks m ρ)

/-- Under the precondition the kernel works on reals. -/
theorem kernel_real [Cert.Pre_finite.Facts] (c : Dev nD)
    (h : (Cert.Pre_finite.fn (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))).1 = (fun _ => 1#1)
      ∧ (Cert.Pre_finite.fn (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))).2.1 = (fun _ => 1#1)
      ∧ (Cert.Pre_finite.fn (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))).2.2 = (fun _ => 1#1)) :
    (kernelData m c).Real := by
  obtain ⟨h0, h1, h2, h3, h4, h5, h6⟩ := real_of_pre h
  exact inData_real h0 h1 h2 h3 h4 h5 h6

end Kernel

section Reference

open Cert.ReferenceIdeal Cert.ReferenceIdeal.Gen Cert.ReferenceIdeal.Value

variable (m : (ℓ : Loc nD τ sig) → Buf (Elt Ideal) ℓ) (ρ : Dev nD → PrngReg)

theorem reference_run (R : ∀ c, (refData m c).Real) :
    θ_run (defs (F := Ideal)) (onTc (τ := τ) (main (F := Ideal))) ⟨m, fun _ => 0, ρ⟩ fun r => ∀ c : Dev nD,
      r.2.mem ((c.tc : Thread nD τ).loc main_v315) = actArr (refData m c).gU
      ∧ r.2.mem ((c.tc : Thread nD τ).loc main_v317) = actArr (refData m c).gWk
      ∧ r.2.mem ((c.tc : Thread nD τ).loc main_v319) = actArr (refData m c).gQ
      ∧ r.2.mem ((c.tc : Thread nD τ).loc main_v321) = actArr (refData m c).gKd
      ∧ r.2.mem ((c.tc : Thread nD τ).loc main_v310) = scoreArr (refData m c).gP
      ∧ r.2.mem ((c.tc : Thread nD τ).loc main_v322) = decayArr (refData m c).gE
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, kept⟩ := h c
    obtain ⟨e0, e1, e2, e3, e4, e5⟩ := ref_results (R c)
    exact ⟨h0.trans e0, h1.trans e1, h2.trans e2, h3.trans e3, h4.trans e4, h5.trans e5, kept⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run defs _ _).mono (fun r h => ⟨fun c => (h c).2.2.2.2.2.2, sem_eq_zero_of_no_sems (by decide) r.2⟩) (Value.run m ρ)

end Reference

end Cert.ScanBwd

end
-- ==== Proof.Blocks.lean ====
/- Sums in blocks, and a product accumulated over them. -/
module

public import Idealize.ShloMosaic.Lib.Pointwise

@[expose] public section

noncomputable section

namespace Cert.FeedForward

open Idealize.ShloMosaic

/-- A sum over 4096 rows, as four sums over 1024. -/
theorem sum_rows (f : Fin 4096 → EReal) :
    (((∑ l : Fin 1024, f ⟨l.val, by omega⟩) + ∑ l : Fin 1024, f ⟨1024 + l.val, by omega⟩)
      + ∑ l : Fin 1024, f ⟨2048 + l.val, by omega⟩) + ∑ l : Fin 1024, f ⟨3072 + l.val, by omega⟩ = ∑ r : Fin 4096, f r := by
  have e : ∀ (n : ℕ) (g : Fin (n + 1024) → EReal),
      (∑ r : Fin n, g ⟨r.val, by omega⟩) + ∑ l : Fin 1024, g ⟨n + l.val, by omega⟩ = ∑ r, g r := fun n g => (Fin.sum_univ_add g).symm
  rw [e 1024 (fun r => f ⟨r.val, by omega⟩), e 2048 (fun r => f ⟨r.val, by omega⟩)]
  exact e 3072 f

end Cert.FeedForward

end
-- ==== Proof.DwDown.lean ====
/- The gradient of the second feed-forward weight: one product over the tokens, in blocks. -/
module

public import proofs.«01_k».proof.Proof.Blocks
public import proofs.«01_k».proof.Proof.Gen.Kernel3Ideal.Value
public import proofs.«01_k».proof.Proof.Gen.Reference3Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwDown

open Idealize.ShloMosaic Idealize.ShloMosaic.TcCoe Idealize.SL.Sem Cert.FeedForward

/-- The product of the transposed activations with the gradient. -/
def grad (a : Fin 4096 → Fin 2816 → EReal) (d : Fin 4096 → Fin 1024 → EReal) (p : Fin 2816) (q : Fin 1024) : EReal :=
  ∑ r : Fin 4096, a r p * d r q

/-- The whole array of the weight's gradient. -/
def gradArr (a : Vec Ideal Cert.Kernel3Ideal.S4096x2816 .bf16) (d : Vec Ideal Cert.Kernel3Ideal.S4096x1024 .f32) :
    Vec Ideal Cert.Kernel3Ideal.S2816x1024 .bf16 :=
  fun i => grad (fun r p => a (ix2 r p)) (fun r q => d (ix2 r q)) (i 0) (i 1)

section Kernel

open Cert.Kernel3Ideal Cert.Kernel3Ideal.Gen Cert.Kernel3Ideal.Value

theorem hz : (![0, 0] : Fin 2 → Nat) = fun _ => 0 := funext fun a => by fin_cases a <;> rfl

section Cases

variable {F : FTy → Type} [FloatOps F] (c : Dev nD) (i : grid0.Coords)
  (a3 : Memref sig .tc .vmem S1024x1408 .bf16) (h3 : a3.IsWhole) (a4 : Memref sig .tc .vmem S1024x1024 .f32) (h4 : a4.IsWhole)
  (a5 : Memref sig .tc .vmem S1408x1024 .bf16) (h5 : a5.IsWhole) (a6 : Memref sig .tc .vmem S1408x1024 .f32) (h6 : a6.IsWhole)
  (x : Vec F S1024x1408 .bf16) (y : Vec F S1024x1024 .f32) (acc : Vec F S1408x1024 .f32)

/-- The first point of a block starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz,
    View.ld_unit_zero (S := S1024x1024) hz]

/-- The next ones add to what the scratch holds. -/
theorem next (hc0 : ¬cond0_0 i) (hc1 : ¬cond0_1 i) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  rw [View.canon_unit_zero (S := S1408x1024) hz]
  simp only [View.readAt_eq_ld, h3.read_unread, h4.read_unread, h6.read_unread, View.ld_unit_zero (S := S1024x1408) hz,
    View.ld_unit_zero (S := S1024x1024) hz, View.ld_unit_zero (S := S1408x1024) hz]

/-- The last one writes the sum out. -/
theorem last (hc0 : ¬cond0_0 i) (hc1 : cond0_1 i) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  rw [View.canon_unit_zero (S := S1408x1024) hz, View.readCov_unit_zero (S := S1408x1024) _ hz]
  simp only [View.readAt_eq_ld, h3.read_unread, h4.read_unread, h6.read_unread, View.ld_unit_zero (S := S1024x1408) hz,
    View.ld_unit_zero (S := S1024x1024) hz, View.ld_unit_zero (S := S1408x1024) hz]

end Cases

theorem start_apply (x : FVec Ideal S1024x1408 .bf16) (y : FVec Ideal S1024x1024 .f32) (p : Fin 1408) (q : Fin 1024) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1408x1024 .f32) (x : FVec Ideal S1024x1408 .bf16) (y : FVec Ideal S1024x1024 .f32)
    (p : Fin 1408) (q : Fin 1024) :
    (k0_pay2 (F := Ideal) acc x y (ix2 p q) : EReal) = acc (ix2 p q) + ∑ l : Fin 1024, (x (ix2 l p) : EReal) * y (ix2 l q) := by
  pointwise [k0_pay2]

theorem write_apply (acc : FVec Ideal S1408x1024 .f32) (p : Fin 1408) (q : Fin 1024) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = t.val / 4 := by
  revert t; decide +kernel

theorem idx_1 (t : Fin grid0.N) : win0_1.index t 0 = t.val % 4 ∧ win0_1.index t 1 = 0 := by
  revert t; decide +kernel

theorem idx_2 (t : Fin grid0.N) : win0_2.index t 0 = t.val / 4 ∧ win0_2.index t 1 = 0 := by
  revert t; decide +kernel

theorem a_blk (t : Fin cfg0.N) (h : t.val < 8) (l : Fin 1024) (p : Fin 1408) :
    iblk m c 0 t (ix2 l p) = m ((c : Thread nD τ).loc main_arg0) (ix2 ⟨t.val % 4 * 1024 + l.val, by omega⟩ ⟨t.val / 4 * 1408 + p.val, by omega⟩) := by
  have e := idx_0 t
  blk_ext! [iblk, V, e]

theorem d_blk (t : Fin cfg0.N) (h : t.val < 8) (l : Fin 1024) (q : Fin 1024) :
    iblk m c 1 t (ix2 l q) = m ((c : Thread nD τ).loc main_arg1) (ix2 ⟨t.val % 4 * 1024 + l.val, by omega⟩ q) := by
  have e := idx_1 t
  blk_ext! [iblk, V, e]

/-- The argument arrays, by index. -/
abbrev acts (r : Fin 4096) (p : Fin 2816) : EReal := m ((c : Thread nD τ).loc main_arg0) (ix2 r p)
abbrev cots (r : Fin 4096) (q : Fin 1024) : EReal := m ((c : Thread nD τ).loc main_arg1) (ix2 r q)

/-- What a point adds, at an entry of the result. -/
def term (k : ℕ) (hk : k < 4) (p : Fin 2816) (q : Fin 1024) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1408) : EReal := iblk m c 0 t (ix2 l p)
def dAt (t : Fin cfg0.N) (l : Fin 1024) (q : Fin 1024) : EReal := iblk m c 1 t (ix2 l q)

/-- A column of a point's block, in the whole array. -/
def col (n : ℕ) (h : n < 8) (p : Fin 1408) : Fin 2816 := ⟨n / 4 * 1408 + p.val, by omega⟩

theorem col_eq {n n' : ℕ} (h : n < 8) (h' : n' < 8) (e : n / 4 = n' / 4) (p : Fin 1408) : col n h p = col n' h' p :=
  Fin.ext (by unfold col; dsimp only; rw [e])

theorem point_sum (t : Fin cfg0.N) (h : t.val < 8) (k : ℕ) (hk : t.val % 4 = k) (p : Fin 1408) (q : Fin 1024) :
    ∑ l : Fin 1024, aAt m c t l p * dAt m c t l q = term m c k (by omega) (col t.val h p) q := by
  subst hk
  exact Finset.sum_congr rfl fun l _ => congrArg₂ (· * ·) (a_blk m c t h l p) (d_blk m c t h l q)

/-- What the scratch holds after a point, and the block it writes. -/
def held (n : ℕ) (h : n < cfg0.N) (p : Fin 1408) (q : Fin 1024) : EReal := (outsAt0 m c n h).2 (ix2 p q)
def wrote (n : ℕ) (h : n < cfg0.N) (p : Fin 1408) (q : Fin 1024) : EReal := (outsAt0 m c n h).1 (ix2 p q)

theorem held_0 (t : Fin cfg0.N) (h : t.val < 8) (h0 : t.val % 4 = 0) (p : Fin 1408) (q : Fin 1024) :
    held m c t.val t.isLt p q = term m c 0 (by omega) (col t.val h p) q := by
  unfold held
  rw [outsAt0_A m c t h0 (by omega)]
  dsimp only
  rw [first]
  exact (start_apply _ _ p q).trans (point_sum m c t h 0 h0 p q)

theorem held_next (t : Fin cfg0.N) (h : t.val < 8) (k : ℕ) (hk : t.val % 4 = k + 1) (hk' : k < 2) (p : Fin 1408) (q : Fin 1024) :
    held m c t.val t.isLt p q = held m c (t.val - 1) (Nat.lt_of_le_of_lt (Nat.sub_le _ _) t.isLt) p q
      + term m c (k + 1) (by omega) (col t.val h p) q := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 8) (hk : t.val % 4 = 3) (p : Fin 1408) (q : Fin 1024) :
    wrote m c t.val t.isLt p q = held m c (t.val - 1) (Nat.lt_of_le_of_lt (Nat.sub_le _ _) t.isLt) p q
      + term m c 3 (by omega) (col t.val h p) q := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 8) (hk : n % 4 = 1) (p : Fin 1408) (q : Fin 1024) :
    held m c n hn p q = term m c 0 (by omega) (col n h p) q + term m c 1 (by omega) (col n h p) q := by
  refine (held_next m c ⟨n, hn⟩ h 0 hk (by omega) p q).trans (congrArg (· + _) ?_)
  refine (held_0 m c ⟨n - 1, by omega⟩ (by dsimp only; omega) (by dsimp only; omega) p q).trans ?_
  exact congrArg (fun z => term m c 0 (by omega) z q) (col_eq _ _ (by dsimp only; omega) p)

theorem held_2 (n : ℕ) (hn : n < cfg0.N) (h : n < 8) (hk : n % 4 = 2) (p : Fin 1408) (q : Fin 1024) :
    held m c n hn p q = (term m c 0 (by omega) (col n h p) q + term m c 1 (by omega) (col n h p) q)
      + term m c 2 (by omega) (col n h p) q := by
  refine (held_next m c ⟨n, hn⟩ h 1 hk (by omega) p q).trans (congrArg (· + _) ?_)
  refine (held_1 m c (n - 1) (by omega) (by omega) (by omega) p q).trans ?_
  rw [col_eq (n := n - 1) _ h (by omega) p]

/-- The four points' terms are the whole product. -/
theorem term_sum (p : Fin 2816) (q : Fin 1024) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 8) (hk : t.val % 4 = 3) (p : Fin 1408) (q : Fin 1024) :
    wrote m c t.val t.isLt p q = grad (acts m c) (cots m c) (col t.val h p) q := by
  rw [← term_sum]
  refine (wrote_last m c t h hk p q).trans (congrArg (· + _) ?_)
  refine (held_2 m c (t.val - 1) (by omega) (by omega) (by omega) p q).trans ?_
  rw [col_eq (n := t.val - 1) _ h (by omega) p]

theorem final : (dats m 0 c).arrAt 2 cfg0.N = gradArr (m ((c : Thread nD τ).loc main_arg0)) (m ((c : Thread nD τ).loc main_arg1)) := by
  refine (dats m 0 c).arrAt_eq_of_covers 2 _ (by decide +kernel) fun t hf y => ?_
  have e := idx_2 t
  have hN : t.val < 8 := lt_of_lt_of_eq t.isLt N_0
  have hk : t.val % 4 = 3 := (flush0_2 t).mp hf
  blk_simp
  rw [after0_2]
  rw [eq_ix2 y]
  refine (written m c t hN hk (y 0) (y 1)).trans ?_
  show gradArr (m ((c : Thread nD τ).loc main_arg0)) (m ((c : Thread nD τ).loc main_arg1)) (ix2 (col t.val hN (y 0)) (y 1)) = _
  exact congrArg (gradArr _ _) (by blk_ext [e, col])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Kernel

section Reference

open Cert.Reference3Ideal Cert.Reference3Ideal.Gen Cert.Reference3Ideal.Value

theorem ref_apply (a : FVec Ideal S4096x2816 .bf16) (d : FVec Ideal S4096x1024 .f32) (p : Fin 2816) (q : Fin 1024) :
    (truncf .bf16 (transpose S2816x1024 [1, 0] (Host.dotGeneral (F := Ideal) dot_S4096x1024_S4096x2816_S1024x2816_0_0_1_1_n_n none d
      (extf .f32 a bitsLt_bf16_f32)) transposes_S1024x2816_S2816x1024_1_0) bitsLt_bf16_f32 : FVec Ideal S2816x1024 .bf16) (ix2 p q)
      = ∑ r : Fin 4096, (d (ix2 r q) : EReal) * a (ix2 r p) := by
  pointwise

theorem ref_eq (a : FVec Ideal S4096x2816 .bf16) (d : FVec Ideal S4096x1024 .f32) :
    (truncf .bf16 (transpose S2816x1024 [1, 0] (Host.dotGeneral (F := Ideal) dot_S4096x1024_S4096x2816_S1024x2816_0_0_1_1_n_n none d
      (extf .f32 a bitsLt_bf16_f32)) transposes_S1024x2816_S2816x1024_1_0) bitsLt_bf16_f32 : FVec Ideal S2816x1024 .bf16)
      = gradArr a d := by
  funext i
  rw [eq_ix2 i]
  exact (ref_apply a d (i 0) (i 1)).trans (Finset.sum_congr rfl fun r _ => EReal.mul_comm _ _)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v5)
          = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run m ρ)

end Reference

end Cert.DwDown

end
-- ==== Proof.DwGate.lean ====
/- The gradient of the gate half of the first feed-forward weight: one product over the tokens, in blocks, by tiles of
   columns. -/
module

public import proofs.«01_k».proof.Proof.Blocks
public import proofs.«01_k».proof.Proof.Gen.Kernel5Ideal.Value
public import proofs.«01_k».proof.Proof.Gen.Reference5Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwGate

open Idealize.ShloMosaic Idealize.ShloMosaic.TcCoe Idealize.SL.Sem Cert.FeedForward

/-- The product of the transposed activations with the gradient. -/
def grad (a : Fin 4096 → Fin 1024 → EReal) (d : Fin 4096 → Fin 2816 → EReal) (p : Fin 1024) (q : Fin 2816) : EReal :=
  ∑ r : Fin 4096, a r p * d r q

/-- A column of a tile, in the whole weight. -/
def tileCol (j : Fin 2) (q : Fin 1408) : Fin 2816 := ⟨j.val * 1408 + q.val, by omega⟩

/-- The whole array of the weight's gradient. -/
def gradArr (a : Vec Ideal Cert.Kernel5Ideal.S4096x1024 .bf16) (d : Vec Ideal Cert.Kernel5Ideal.S4096x2816 .bf16) :
    Vec Ideal Cert.Kernel5Ideal.S2x1024x1408 .bf16 :=
  fun i => grad (fun r p => a (ix2 r p)) (fun r q => d (ix2 r q)) (i 1) (tileCol (i 0) (i 2))

section Kernel

open Cert.Kernel5Ideal Cert.Kernel5Ideal.Gen Cert.Kernel5Ideal.Value

theorem hz : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F] (c : Dev nD) (i : grid0.Coords)
  (a3 : Memref sig .tc .vmem S1024x1024 .bf16) (h3 : a3.IsWhole) (a4 : Memref sig .tc .vmem S1024x1408 .bf16) (h4 : a4.IsWhole)
  (a5 : Memref sig .tc .vmem S1x1024x1408 .bf16) (h5 : a5.IsWhole) (a6 : Memref sig .tc .vmem S1024x1408 .f32) (h6 : a6.IsWhole)
  (x : Vec F S1024x1024 .bf16) (y : Vec F S1024x1408 .bf16) (acc : Vec F S1024x1408 .f32)

/-- The first point of a block starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1024x1408) hz,
    View.ld_unit_zero (S := S1024x1024) hz]

/-- The next ones add to what the scratch holds. -/
theorem next (hc0 : ¬cond0_0 i) (hc1 : ¬cond0_1 i) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  rw [View.canon_unit_zero (S := S1024x1408) hz]
  simp only [View.readAt_eq_ld, h3.read_unread, h4.read_unread, h6.read_unread, View.ld_unit_zero (S := S1024x1408) hz,
    View.ld_unit_zero (S := S1024x1024) hz]

/-- The last one writes the sum out. -/
theorem last (hc0 : ¬cond0_0 i) (hc1 : cond0_1 i) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  rw [View.canon_unit_zero (S := S1x1024x1408) hz3, View.readCov_unit_zero (S := S1024x1408) _ hz]
  simp only [View.readAt_eq_ld, h3.read_unread, h4.read_unread, h6.read_unread, View.ld_unit_zero (S := S1024x1408) hz,
    View.ld_unit_zero (S := S1024x1024) hz]

end Cases

theorem start_apply (x : FVec Ideal S1024x1024 .bf16) (y : FVec Ideal S1024x1408 .bf16) (p : Fin 1024) (q : Fin 1408) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x1408 .f32) (x : FVec Ideal S1024x1024 .bf16) (y : FVec Ideal S1024x1408 .bf16)
    (p : Fin 1024) (q : Fin 1408) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x1408 .f32) (p : Fin 1024) (q : Fin 1408) :
    (k0_pay3 (F := Ideal) acc (ix3 0 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = t.val / 4 ∧ win0_2.index t 1 = 0 ∧ win0_2.index t 2 = 0 := by
  revert t; decide +kernel

/-- A column of a point's block, in the whole array. -/
def col (n : ℕ) (h : n < 8) (q : Fin 1408) : Fin 2816 := ⟨n / 4 * 1408 + q.val, by omega⟩

theorem col_eq {n n' : ℕ} (h : n < 8) (h' : n' < 8) (e : n / 4 = n' / 4) (q : Fin 1408) : col n h q = col n' h' q :=
  Fin.ext (by unfold col; dsimp only; rw [e])

theorem a_blk (t : Fin cfg0.N) (h : t.val < 8) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 8) (l : Fin 1024) (q : Fin 1408) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 2816) : EReal := m ((c : Thread nD τ).loc main_arg1) (ix2 r q)

/-- What a point adds, at an entry of the result. -/
def term (k : ℕ) (hk : k < 4) (p : Fin 1024) (q : Fin 2816) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 1408) : EReal := iblk m c 1 t (ix2 l q)

theorem point_sum (t : Fin cfg0.N) (h : t.val < 8) (k : ℕ) (hk : t.val % 4 = k) (p : Fin 1024) (q : Fin 1408) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 1408) : EReal := (outsAt0 m c n h).2 (ix2 p q)
def wrote (n : ℕ) (h : n < cfg0.N) (p : Fin 1024) (q : Fin 1408) : EReal := (outsAt0 m c n h).1 (ix3 0 p q)

theorem held_0 (t : Fin cfg0.N) (h : t.val < 8) (h0 : t.val % 4 = 0) (p : Fin 1024) (q : Fin 1408) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 8) (k : ℕ) (hk : t.val % 4 = k + 1) (hk' : k < 2) (p : Fin 1024) (q : Fin 1408) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 8) (hk : t.val % 4 = 3) (p : Fin 1024) (q : Fin 1408) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 8) (hk : n % 4 = 1) (p : Fin 1024) (q : Fin 1408) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 8) (hk : n % 4 = 2) (p : Fin 1024) (q : Fin 1408) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 2816) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 8) (hk : t.val % 4 = 3) (p : Fin 1024) (q : Fin 1408) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

theorem final : (dats m 0 c).arrAt 2 cfg0.N = gradArr (m ((c : Thread nD τ).loc main_arg0)) (m ((c : Thread nD τ).loc main_arg1)) := by
  refine (dats m 0 c).arrAt_eq_of_covers 2 _ (by decide +kernel) fun t hf y => ?_
  have e := idx_2 t
  have hN : t.val < 8 := lt_of_lt_of_eq t.isLt N_0
  have hk : t.val % 4 = 3 := (flush0_2 t).mp hf
  blk_simp
  rw [after0_2]
  rw [eq_ix3 y, show y 0 = (0 : Fin 1) from Subsingleton.elim (α := Fin 1) _ _]
  refine (written m c t hN hk (y 1) (y 2)).trans ?_
  show gradArr (m ((c : Thread nD τ).loc main_arg0)) (m ((c : Thread nD τ).loc main_arg1)) (ix3 ⟨t.val / 4, by omega⟩ (y 1) (y 2)) = _
  exact congrArg (gradArr _ _) (by blk_ext [e, col])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Kernel

section Reference

open Cert.Reference5Ideal Cert.Reference5Ideal.Gen Cert.Reference5Ideal.Value

/-- The reference's array: the gradient by columns, in tiles. -/
abbrev refArr (a : FVec Ideal S4096x1024 .bf16) (d : FVec Ideal S4096x2816 .bf16) : FVec Ideal S2x1024x1408 .bf16 :=
  truncf .bf16 (transpose S2x1024x1408 [1, 0, 2] (shapeCast _ (transpose S1024x2816 [1, 0]
    (Host.dotGeneral dot_S4096x2816_S4096x1024_S2816x1024_0_0_1_1_n_n none (extf .f32 d bitsLt_bf16_f32) (extf .f32 a bitsLt_bf16_f32))
    transposes_S2816x1024_S1024x2816_1_0) shapeCasts_S1024x2816_S1024x2x1408) transposes_S1024x2x1408_S2x1024x1408_1_0_2) bitsLt_bf16_f32

theorem ref_apply (a : FVec Ideal S4096x1024 .bf16) (d : FVec Ideal S4096x2816 .bf16) (j : Fin 2) (p : Fin 1024) (q : Fin 1408) :
    (refArr a d (ix3 j p q) : EReal) = ∑ r : Fin 4096, (d (ix2 r (tileCol j q)) : EReal) * a (ix2 r p) := by
  pointwise [refArr, tileCol]

theorem ref_eq (a : FVec Ideal S4096x1024 .bf16) (d : FVec Ideal S4096x2816 .bf16) : refArr a d = gradArr a d := by
  funext i
  rw [eq_ix3 i]
  exact (ref_apply a d (i 0) (i 1) (i 2)).trans (Finset.sum_congr rfl fun r _ => EReal.mul_comm _ _)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v8)
          = gradArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run m ρ)

end Reference

end Cert.DwGate

end
-- ==== Proof.DwUp.lean ====
/- The gradient of the other half of that weight: the same product, written beside the first half, which is kept. -/
module

public import proofs.«01_k».proof.Proof.DwGate
public import proofs.«01_k».proof.Proof.Gen.Kernel6Ideal.Value
public import proofs.«01_k».proof.Proof.Gen.Reference6Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwUp

open Idealize.ShloMosaic Idealize.ShloMosaic.TcCoe Idealize.SL.Sem Cert.FeedForward Cert.DwGate

/-- The whole array: the two tiles that were there, then the gradient's two. -/
def upAt (a : Vec Ideal Cert.Kernel6Ideal.S4096x1024 .bf16) (d : Vec Ideal Cert.Kernel6Ideal.S4096x2816 .bf16)
    (w : Vec Ideal Cert.Kernel6Ideal.S4x1024x1408 .bf16) (j : Fin 4) (p : Fin 1024) (q : Fin 1408) : EReal :=
  if h : j.val < 2 then w (ix3 j p q)
  else grad (fun r p => a (ix2 r p)) (fun r q => d (ix2 r q)) p (tileCol ⟨j.val - 2, by omega⟩ q)

def upArr (a : Vec Ideal Cert.Kernel6Ideal.S4096x1024 .bf16) (d : Vec Ideal Cert.Kernel6Ideal.S4096x2816 .bf16)
    (w : Vec Ideal Cert.Kernel6Ideal.S4x1024x1408 .bf16) : Vec Ideal Cert.Kernel6Ideal.S4x1024x1408 .bf16 :=
  fun i => upAt a d w (i 0) (i 1) (i 2)

section Kernel

open Cert.Kernel6Ideal Cert.Kernel6Ideal.Gen Cert.Kernel6Ideal.Value

section Cases

variable {F : FTy → Type} [FloatOps F] (c : Dev nD) (i : grid0.Coords)
  (a3 : Memref sig .tc .vmem S1024x1024 .bf16) (h3 : a3.IsWhole) (a4 : Memref sig .tc .vmem S1024x1408 .bf16) (h4 : a4.IsWhole)
  (a5 : Memref sig .tc .vmem S1x1024x1408 .bf16) (h5 : a5.IsWhole) (a6 : Memref sig .tc .vmem S1024x1408 .f32) (h6 : a6.IsWhole)
  (x : Vec F S1024x1024 .bf16) (y : Vec F S1024x1408 .bf16) (acc : Vec F S1024x1408 .f32)

/-- The first point of a block starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  rw [View.canon_cons_unit_zero (S := S1024x1408) hz, View.readCov_unit_zero (S := S1024x1408) _ hz]
  simp only [View.readAt_eq_ld, h3.read_unread, h4.read_unread, View.ld_unit_zero (S := S1024x1408) hz,
    View.ld_unit_zero (S := S1024x1024) hz]

/-- The next ones add to what the scratch holds. -/
theorem next (hc0 : ¬cond0_0 i) (hc1 : ¬cond0_1 i) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  rw [View.canon_unit_zero (S := S1024x1408) hz]
  simp only [View.readAt_eq_ld, h3.read_unread, h4.read_unread, h6.read_unread, View.ld_unit_zero (S := S1024x1408) hz,
    View.ld_unit_zero (S := S1024x1024) hz]

/-- The last one writes the sum out. -/
theorem last (hc0 : ¬cond0_0 i) (hc1 : cond0_1 i) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  rw [View.canon_unit_zero (S := S1x1024x1408) hz3, View.readCov_unit_zero (S := S1024x1408) _ hz]
  simp only [View.readAt_eq_ld, h3.read_unread, h4.read_unread, h6.read_unread, View.ld_unit_zero (S := S1024x1408) hz,
    View.ld_unit_zero (S := S1024x1024) hz]

end Cases

theorem start_apply (x : FVec Ideal S1024x1024 .bf16) (y : FVec Ideal S1024x1408 .bf16) (p : Fin 1024) (q : Fin 1408) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x1408 .f32) (x : FVec Ideal S1024x1024 .bf16) (y : FVec Ideal S1024x1408 .bf16)
    (p : Fin 1024) (q : Fin 1408) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x1408 .f32) (p : Fin 1024) (q : Fin 1408) :
    (k0_pay3 (F := Ideal) acc (ix3 0 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = t.val / 4 + 2 ∧ win0_2.index t 1 = 0 ∧ win0_2.index t 2 = 0 := by
  revert t; decide +kernel

/-- A column of a point's block, in the whole array. -/
def col (n : ℕ) (h : n < 8) (q : Fin 1408) : Fin 2816 := ⟨n / 4 * 1408 + q.val, by omega⟩

theorem col_eq {n n' : ℕ} (h : n < 8) (h' : n' < 8) (e : n / 4 = n' / 4) (q : Fin 1408) : col n h q = col n' h' q :=
  Fin.ext (by unfold col; dsimp only; rw [e])

theorem a_blk (t : Fin cfg0.N) (h : t.val < 8) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 8) (l : Fin 1024) (q : Fin 1408) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 2816) : EReal := m ((c : Thread nD τ).loc main_arg1) (ix2 r q)

/-- What a point adds, at an entry of the result. -/
def term (k : ℕ) (hk : k < 4) (p : Fin 1024) (q : Fin 2816) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 1408) : EReal := iblk m c 1 t (ix2 l q)

theorem point_sum (t : Fin cfg0.N) (h : t.val < 8) (k : ℕ) (hk : t.val % 4 = k) (p : Fin 1024) (q : Fin 1408) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 1408) : EReal := (outsAt0 m c n h).2 (ix2 p q)
def wrote (n : ℕ) (h : n < cfg0.N) (p : Fin 1024) (q : Fin 1408) : EReal := (outsAt0 m c n h).1 (ix3 0 p q)

theorem held_0 (t : Fin cfg0.N) (h : t.val < 8) (h0 : t.val % 4 = 0) (p : Fin 1024) (q : Fin 1408) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 8) (k : ℕ) (hk : t.val % 4 = k + 1) (hk' : k < 2) (p : Fin 1024) (q : Fin 1408) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 8) (hk : t.val % 4 = 3) (p : Fin 1024) (q : Fin 1408) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 8) (hk : n % 4 = 1) (p : Fin 1024) (q : Fin 1408) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 8) (hk : n % 4 = 2) (p : Fin 1024) (q : Fin 1408) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 2816) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 8) (hk : t.val % 4 = 3) (p : Fin 1024) (q : Fin 1408) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = upArr (m ((c : Thread nD τ).loc main_arg0)) (m ((c : Thread nD τ).loc main_arg1)) (m ((c : Thread nD τ).loc main_arg2)) := by
  refine (dats m 0 c).arrAt_eq_of_coversWhere_of_agree 2 _ (fun a => 2 ≤ a 0) (by decide +kernel) (fun t hf y => ?_) fun j hj => ?_
  · have e := idx_2 t
    have hN : t.val < 8 := lt_of_lt_of_eq t.isLt N_0
    have hk : t.val % 4 = 3 := (flush0_2 t).mp hf
    blk_simp
    rw [after0_2]
    rw [eq_ix3 y, show y 0 = (0 : Fin 1) from Subsingleton.elim (α := Fin 1) _ _]
    refine (written m c t hN hk (y 1) (y 2)).trans ?_
    refine Eq.trans (b := upAt (m ((c : Thread nD τ).loc main_arg0)) (m ((c : Thread nD τ).loc main_arg1)) (m ((c : Thread nD τ).loc main_arg2))
      ⟨t.val / 4 + 2, by omega⟩ (y 1) (y 2)) ?_ ?_
    · unfold upAt
      rw [dif_neg (show ¬ t.val / 4 + 2 < 2 by omega)]
      rfl
    · show upArr (m ((c : Thread nD τ).loc main_arg0)) (m ((c : Thread nD τ).loc main_arg1)) (m ((c : Thread nD τ).loc main_arg2))
        (ix3 ⟨t.val / 4 + 2, by omega⟩ (y 1) (y 2)) = _
      exact congrArg (upArr _ _ _) (by blk_ext [e])
  · have h : (j 0).val < 2 := by
      have e : (cfg0.win 2).cell j 0 = (j 0).val / 1 := rfl
      rw [Nat.div_one] at e
      omega
    blk_simp
    rw [A_eq, eq_ix3 j]
    refine (congrFun (entry m c) _).trans ?_
    show _ = upAt _ _ _ (j 0) (j 1) (j 2)
    unfold upAt
    rw [dif_pos h]

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = upArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference6Ideal Cert.Reference6Ideal.Gen Cert.Reference6Ideal.Value

/-- The reference's array: the tiles kept, then the gradient by columns, in tiles. -/
abbrev refArr (a : FVec Ideal S4096x1024 .bf16) (d : FVec Ideal S4096x2816 .bf16) (w : FVec Ideal S4x1024x1408 .bf16) :
    FVec Ideal S4x1024x1408 .bf16 :=
  concatenate S4x1024x1408 0 [⟨S2x1024x1408, extractStridedSlice S2x1024x1408 ![0, 0, 0] w slices_S4x1024x1408_S2x1024x1408_0_0_0⟩,
    ⟨S2x1024x1408, truncf .bf16 (transpose S2x1024x1408 [1, 0, 2] (shapeCast _ (transpose S1024x2816 [1, 0]
      (Host.dotGeneral dot_S4096x2816_S4096x1024_S2816x1024_0_0_1_1_n_n none (extf .f32 d bitsLt_bf16_f32) (extf .f32 a bitsLt_bf16_f32))
      transposes_S2816x1024_S1024x2816_1_0) shapeCasts_S1024x2816_S1024x2x1408) transposes_S1024x2x1408_S2x1024x1408_1_0_2) bitsLt_bf16_f32⟩]
    concatenates_S2x1024x1408_S2x1024x1408_S4x1024x1408_d0

theorem ref_eq (a : FVec Ideal S4096x1024 .bf16) (d : FVec Ideal S4096x2816 .bf16) (w : FVec Ideal S4x1024x1408 .bf16) :
    refArr a d w = upArr a d w := by
  funext i
  rw [eq_ix3 i]
  refine Eq.trans ?_ (show upAt a d w (i 0) (i 1) (i 2) = _ from rfl)
  generalize i 0 = j, i 1 = p, i 2 = q
  unfold upAt grad
  pointwise [refArr, tileCol]
  simp only [EReal.mul_comm]

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v10)
          = upArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwUp

end
-- ==== Proof.Products.lean ====
/- The three products' claims: the kernel and the reference leave the same array. -/
module

public import proofs.«01_k».proof.Defs
public import proofs.«01_k».proof.Proof.DwDown
public import proofs.«01_k».proof.Proof.DwUp

@[expose] public section

noncomputable section

namespace Cert.Proof

open Idealize.ShloMosaic Idealize.SL.Sem

theorem down : Cert.algebraic_Kernel3Ideal_Reference3Ideal := fun m g m' g' _ hm =>
  ⟨fun c => DwDown.gradArr (m ((c.tc : Thread _ _).loc Kernel3Ideal.main_arg0)) (m ((c.tc : Thread _ _).loc Kernel3Ideal.main_arg1)),
    DwDown.kernel_run m g,
    (θ_run _ _ _).mono (fun _ h c => ⟨(h c).1.trans (congrArg₂ DwDown.gradArr (hm c).1 (hm c).2), (h c).2⟩) (DwDown.reference_run m' g')⟩

theorem gate : Cert.algebraic_Kernel5Ideal_Reference5Ideal := fun m g m' g' _ hm =>
  ⟨fun c => DwGate.gradArr (m ((c.tc : Thread _ _).loc Kernel5Ideal.main_arg0)) (m ((c.tc : Thread _ _).loc Kernel5Ideal.main_arg1)),
    DwGate.kernel_run m g,
    (θ_run _ _ _).mono (fun _ h c => ⟨(h c).1.trans (congrArg₂ DwGate.gradArr (hm c).1 (hm c).2), (h c).2⟩) (DwGate.reference_run m' g')⟩

theorem up : Cert.algebraic_Kernel6Ideal_Reference6Ideal := fun m g m' g' _ hm =>
  ⟨fun c => DwUp.upArr (m ((c.tc : Thread _ _).loc Kernel6Ideal.main_arg0)) (m ((c.tc : Thread _ _).loc Kernel6Ideal.main_arg1))
      (m ((c.tc : Thread _ _).loc Kernel6Ideal.main_arg2)),
    DwUp.kernel_run m g,
    (θ_run _ _ _).mono (fun _ h c => ⟨(h c).1.trans (congr (congrArg₂ DwUp.upArr (hm c).1 (hm c).2.1) (hm c).2.2), (h c).2⟩)
      (DwUp.reference_run m' g')⟩

end Cert.Proof

end
-- ==== Proof.Norm.lean ====
/- The gradient of the root-mean-square norm, one row: the kernel's form and the reference's, equal on real numbers. -/
module

public import Idealize.ShloMosaic.Lib.Pointwise

@[expose] public section

noncomputable section

namespace Cert.FeedForward

open Idealize.ShloMosaic

/-- An extended real less itself is zero only where it is real. -/
theorem real_of_sub_self {x : EReal} (h : x - x = 0) : ∃ r : ℝ, x = (r : EReal) := by
  induction x with
  | bot => simp at h
  | top => simp at h
  | coe r => exact ⟨r, rfl⟩

/-- An array whose differences with itself compare equal to zero is real. -/
theorem real_of_ones {s : Shape} {x z : s.Idx → EReal} (hz : ∀ i, z i = 0)
    (h : (cmpf (F := Ideal) (φ := .f32) .oeq (fun i => x i - x i) z) = fun _ => 1#1) (i : s.Idx) : ∃ r : ℝ, x i = (r : EReal) := by
  refine real_of_sub_self ?_
  by_contra c
  have e' : BitVec.ofBool (decide (x i - x i = z i)) = 1#1 := congrFun h i
  rw [hz i, decide_eq_false c] at e'
  exact absurd e' (by decide)

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The row's width, the norm's epsilon and minus a half, as the programs write them. -/
abbrev width : EReal := Ideal.ofBits FTy.f32 0x44800000#32
abbrev eps : EReal := Ideal.ofBits FTy.f32 0x358637BD#32
abbrev minusHalf : EReal := Ideal.ofBits FTy.f32 0xBF000000#32

theorem width_eq : width = ((1024 : ℝ) : EReal) := by
  simp [Ideal.ofBits, Ideal.ieee, -EReal.coe_mul]; norm_num

theorem minusHalf_eq : minusHalf = ((-(1 / 2) : ℝ) : EReal) := by
  simp [Ideal.ofBits, Ideal.ieee, -EReal.coe_mul, -EReal.coe_neg]; norm_num

theorem eps_pos : ∃ e : ℝ, eps = (e : EReal) ∧ 0 < e := by
  refine ⟨_, by simp [eps, Ideal.ofBits, Ideal.ieee]; rfl, ?_⟩
  positivity

variable (x d g : Fin 1024 → EReal)

/-- A row's mean square and the reciprocal of its root. -/
def meanSq : EReal := Ideal.div (∑ j, x j * x j) width + eps
def scale : EReal := Ideal.rsqrt (meanSq x)

/-- The gradient of the row, as the kernel has it. -/
def rowGrad (k : Fin 1024) : EReal :=
  scale x * (d k * g k - x k * scale x * Ideal.div (∑ j, d j * g j * (x j * scale x)) width)

/-- The part through the mean square, as the reference has it. -/
def pull : EReal :=
  ∑ _ : Fin 1, Ideal.div ((∑ j, x j * (d j * g j)) * (minusHalf * Ideal.div (scale x) (meanSq x))) width

theorem div_coe (a b : ℝ) (h : b ≠ 0) : Ideal.div (a : EReal) (b : EReal) = ((a / b : ℝ) : EReal) := by
  have h' : (b : EReal) ≠ 0 := by exact_mod_cast h
  simp [Ideal.div, h', div_eq_mul_inv, EReal.coe_mul, EReal.coe_inv]

/-- On real rows the two are the same, whatever they are added to. -/
theorem ref_row (X D G : Fin 1024 → ℝ) (hx : ∀ j, x j = (X j : EReal)) (hd : ∀ j, d j = (D j : EReal)) (hg : ∀ j, g j = (G j : EReal))
    (a : EReal) (k : Fin 1024) :
    ((a + d k * g k * scale x) + x k * pull x d g) + pull x d g * x k = a + rowGrad x d g k := by
  obtain ⟨e, he, hp⟩ := eps_pos
  have hv : meanSq x = (((∑ j, X j * X j) / 1024 + e : ℝ) : EReal) := by
    unfold meanSq
    simp only [hx, ← EReal.coe_mul, coe_sum]
    rw [width_eq, div_coe _ _ (by norm_num), he, ← EReal.coe_add]
  have hpos : 0 < (∑ j, X j * X j) / 1024 + e :=
    add_pos_of_nonneg_of_pos (div_nonneg (Finset.sum_nonneg fun j _ => mul_self_nonneg _) (by norm_num)) hp
  generalize (∑ j, X j * X j) / 1024 + e = v at hv hpos
  have hs : scale x = (((Real.sqrt v)⁻¹ : ℝ) : EReal) := by
    unfold scale
    rw [hv, Ideal.rsqrt_coe, if_neg (not_lt.mpr hpos.le), if_neg hpos.ne']
  have hr : 0 < Real.sqrt v := Real.sqrt_pos.mpr hpos
  have hvv : v = Real.sqrt v * Real.sqrt v := (Real.mul_self_sqrt hpos.le).symm
  generalize Real.sqrt v = r at hs hr hvv
  subst hvv
  have hpull : pull x d g = ((((∑ j, X j * (D j * G j)) * (-(1 / 2) * (r⁻¹ / (r * r)))) / 1024 : ℝ) : EReal) := by
    unfold pull
    rw [Fin.sum_univ_one, hv, hs, minusHalf_eq, width_eq, div_coe _ _ (by positivity)]
    simp only [hx, hd, hg, ← EReal.coe_mul, coe_sum]
    rw [div_coe _ _ (by norm_num)]
  have hrow : rowGrad x d g k = ((r⁻¹ * (D k * G k - X k * r⁻¹ * ((∑ j, D j * G j * (X j * r⁻¹)) / 1024)) : ℝ) : EReal) := by
    unfold rowGrad
    rw [hs, width_eq]
    simp only [hx, hd, hg, ← EReal.coe_mul, coe_sum]
    rw [div_coe _ _ (by norm_num), ← EReal.coe_mul, ← EReal.coe_sub, ← EReal.coe_mul]
  have hsum : ∑ j, D j * G j * (X j * r⁻¹) = (∑ j, X j * (D j * G j)) * r⁻¹ := by
    rw [Finset.sum_mul]
    exact Finset.sum_congr rfl fun j _ => by ring
  rw [hpull, hrow, hs, hx, hd, hg, hsum, add_assoc, add_assoc]
  simp only [← EReal.coe_mul, ← EReal.coe_add]
  congr 2
  field_simp
  ring

end Cert.FeedForward

end
-- ==== Proof.FfnIn.lean ====
/- The gradient through the feed-forward's input: two products, the norm's gradient by rows, the gain's by columns. -/
module

public import proofs.«01_k».proof.Proof.Blocks
public import proofs.«01_k».proof.Proof.Norm
public import proofs.«01_k».proof.Proof.Gen.Kernel2.Frame
public import proofs.«01_k».proof.Proof.Gen.Kernel2Ideal.Value
public import Idealize.ShloMosaic.Lib.Tactic
public import Idealize.ShloMosaic.Lib.Pipeline.ValueKit
public import Idealize.ShloMosaic.Lib.Pipeline.CanonAppend

@[expose] public section

set_option maxRecDepth 16384

noncomputable section

namespace Cert.FfnIn

open Idealize.ShloMosaic Idealize.ShloMosaic.TcCoe Idealize.SL.Sem Cert.FeedForward Cert.Kernel2Ideal Cert.Kernel2Ideal.Gen
  Cert.Kernel2Ideal.Value

section Arrays

variable (dg du : Vec Ideal S4096x2816 .bf16) (w : Vec Ideal S1024x5632 .bf16) (x dx : Vec Ideal S4096x1024 .f32)
  (g : Vec Ideal S1x1024 .f32)

/-- The product's gradient: a row of the gate's gradient with the first half of the weight, one of the linear part's with the
    second. -/
def dh (r : Fin 4096) (k : Fin 1024) : EReal :=
  ∑ j : Fin 2816, dg (ix2 r j) * w (ix2 k ⟨j.val, by omega⟩) + ∑ j : Fin 2816, du (ix2 r j) * w (ix2 k ⟨2816 + j.val, by omega⟩)

def row (r : Fin 4096) (j : Fin 1024) : EReal := x (ix2 r j)
def gain (j : Fin 1024) : EReal := g (ix2 0 j)

/-- The two results. -/
def dxArr : Vec Ideal S4096x1024 .f32 :=
  fun i => dx i + rowGrad (row x (i 0)) (dh dg du w (i 0)) (gain g) (i 1)

def gainTerm (k : Fin 1024) (r : ℕ) : EReal :=
  dh dg du w (Fin.ofNat 4096 r) k * (row x (Fin.ofNat 4096 r) k * scale (row x (Fin.ofNat 4096 r)))

def gainArr : Vec Ideal S8x1024 .f32 := fun i => ∑ r ∈ Finset.range 4096, gainTerm dg du w x (i 1) r

end Arrays

theorem hz : (![0, 0] : Fin 2 → Nat) = fun _ => 0 := funext fun a => by fin_cases a <;> rfl

section Cases

variable {F : FTy → Type} [FloatOps F] (c : Dev nD) (i : grid0.Coords)
  (a1 : Memref sig .tc .vmem S256x2816 .bf16) (h1 : a1.IsWhole) (a2 : Memref sig .tc .vmem S256x2816 .bf16) (h2 : a2.IsWhole)
  (a3 : Memref sig .tc .vmem S1024x2816 .bf16) (h3 : a3.IsWhole) (a4 : Memref sig .tc .vmem S1024x2816 .bf16) (h4 : a4.IsWhole)
  (a5 : Memref sig .tc .vmem S256x1024 .f32) (h5 : a5.IsWhole) (a6 : Memref sig .tc .vmem S256x1024 .f32) (h6 : a6.IsWhole)
  (a7 : Memref sig .tc .vmem S1x1024 .f32) (h7 : a7.IsWhole) (a8 : Memref sig .tc .vmem S256x1024 .f32) (h8 : a8.IsWhole)
  (a9 : Memref sig .tc .vmem S8x1024 .f32) (h9 : a9.IsWhole)
  (x0 x1 : Vec F S256x2816 .bf16) (x2 x3 : Vec F S1024x2816 .bf16) (x4 x5 : Vec F S256x1024 .f32) (x6 : Vec F S1x1024 .f32)
  (acc : Vec F S8x1024 .f32)

/-- The block of rows, at the first point and at the next ones. -/
theorem rows_A (hc : cond0_0 i) : out0_A_7 c i a1 h1 a2 h2 a3 h3 a4 h4 a5 h5 a6 h6 a7 h7 a8 h8 a9 h9 hc x0 x1 x2 x3 x4 x5 x6
    = k0_pay1 (k0_pay7 x0 x2 x1 x3 x4 x6) x5 := by
  unfold out0_A_7
  rw [View.read_writes_junk_eq_canon]
  unfold kernelRun0_A
  dsimp only
  sl_unfold_words
  rw [View.canon_unit_zero (S := S256x1024) hz]
  simp only [View.readAt_eq_ld, h1.read_unread, h2.read_unread, h3.read_unread, h4.read_unread, h5.read_unread, h6.read_unread,
    h7.read_unread, View.ld_unit_zero (S := S256x2816) hz, View.ld_unit_zero (S := S1024x2816) hz,
    View.ld_unit_zero (S := S256x1024) hz, View.ld_unit_zero (S := S1x1024) hz]

theorem rows_B (hc : ¬cond0_0 i) : out0_B_7 c i a1 h1 a2 h2 a3 h3 a4 h4 a5 h5 a6 h6 a7 h7 a8 h8 a9 h9 hc x0 x1 x2 x3 x4 x5 x6 acc
    = k0_pay1 (k0_pay7 x0 x2 x1 x3 x4 x6) x5 := by
  unfold out0_B_7
  rw [View.read_writes_junk_eq_canon]
  unfold kernelRun0_B
  dsimp only
  sl_unfold_words
  rw [View.canon_unit_zero (S := S256x1024) hz]
  simp only [View.readAt_eq_ld, h1.read_unread, h2.read_unread, h3.read_unread, h4.read_unread, h5.read_unread, h6.read_unread,
    h7.read_unread, View.ld_unit_zero (S := S256x2816) hz, View.ld_unit_zero (S := S1024x2816) hz,
    View.ld_unit_zero (S := S256x1024) hz, View.ld_unit_zero (S := S1x1024) hz]

/-- The gain's gradient: from zero at the first point, then added to what is there. -/
theorem gain_A (hc : cond0_0 i) : out0_A_8 c i a1 h1 a2 h2 a3 h3 a4 h4 a5 h5 a6 h6 a7 h7 a8 h8 a9 h9 hc x0 x1 x2 x3 x4 x5 x6
    = k0_pay2 (k0_pay8 x0 x2 x1 x3 x4) k0_pay3 := by
  unfold out0_A_8
  rw [View.read_writes_junk_eq_canon]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h5.read_unread, h6.read_unread,
    h7.read_unread, View.ld_unit_zero (S := S256x2816) hz, View.ld_unit_zero (S := S1024x2816) hz,
    View.ld_unit_zero (S := S256x1024) hz, View.ld_unit_zero (S := S1x1024) hz]

theorem gain_B (hc : ¬cond0_0 i) : out0_B_8 c i a1 h1 a2 h2 a3 h3 a4 h4 a5 h5 a6 h6 a7 h7 a8 h8 a9 h9 hc x0 x1 x2 x3 x4 x5 x6 acc
    = k0_pay2 (k0_pay8 x0 x2 x1 x3 x4) acc := by
  unfold out0_B_8
  rw [View.read_writes_junk_eq_canon]
  unfold kernelRun0_B
  dsimp only
  sl_unfold_words
  rw [View.canon_unit_zero (S := S8x1024) hz]
  simp only [View.readAt_eq_ld, h1.read_unread, h2.read_unread, h3.read_unread, h4.read_unread, h5.read_unread, h6.read_unread,
    h7.read_unread, h9.read_unread, View.ld_unit_zero (S := S256x2816) hz, View.ld_unit_zero (S := S1024x2816) hz,
    View.ld_unit_zero (S := S256x1024) hz, View.ld_unit_zero (S := S1x1024) hz, View.ld_unit_zero (S := S8x1024) hz]

end Cases

section Payloads

variable (x0 x1 : FVec Ideal S256x2816 .bf16) (x2 x3 : FVec Ideal S1024x2816 .bf16) (x4 x5 : FVec Ideal S256x1024 .f32)
  (x6 : FVec Ideal S1x1024 .f32) (acc : FVec Ideal S8x1024 .f32)

/-- The product's gradient in a block. -/
def dhBlk (l : Fin 256) (k : Fin 1024) : EReal :=
  ∑ j : Fin 2816, (x0 (ix2 l j) : EReal) * x2 (ix2 k j) + ∑ j : Fin 2816, (x1 (ix2 l j) : EReal) * x3 (ix2 k j)

theorem rows_apply (l : Fin 256) (k : Fin 1024) : (k0_pay1 (F := Ideal) (k0_pay7 x0 x2 x1 x3 x4 x6) x5 (ix2 l k) : EReal)
    = x5 (ix2 l k) + rowGrad (fun j => x4 (ix2 l j)) (dhBlk x0 x1 x2 x3 l) (fun j => x6 (ix2 0 j)) k := by
  unfold rowGrad scale meanSq dhBlk
  pointwise [k0_pay1, k0_pay7, k0_pay6, k0_pay5, k0_pay4]

theorem gain_apply (l : Fin 8) (k : Fin 1024) : (k0_pay2 (F := Ideal) (k0_pay8 x0 x2 x1 x3 x4) acc (ix2 l k) : EReal)
    = acc (ix2 l k) + ∑ s : Fin 256, dhBlk x0 x1 x2 x3 s k * ((x4 (ix2 s k) : EReal) * scale fun j => x4 (ix2 s j)) := by
  unfold scale meanSq dhBlk
  pointwise [k0_pay2, k0_pay8, k0_pay6, k0_pay5, k0_pay4]

theorem zero_apply (l : Fin 8) (k : Fin 1024) : (k0_pay3 (F := Ideal) (ix2 l k) : EReal) = 0 := by
  pointwise [k0_pay3]

end Payloads

variable (m : (ℓ : Loc nD τ sig) → Buf (Elt Ideal) ℓ) (c : Dev nD)

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = 0 ∧ win0_2.index t 1 = 0 := by revert t; decide +kernel
theorem idx_3 (t : Fin grid0.N) : win0_3.index t 0 = 0 ∧ win0_3.index t 1 = 1 := by revert t; decide +kernel
theorem idx_4 (t : Fin grid0.N) : win0_4.index t 0 = t.val ∧ win0_4.index t 1 = 0 := by revert t; decide +kernel
theorem idx_5 (t : Fin grid0.N) : win0_5.index t 0 = t.val ∧ win0_5.index t 1 = 0 := by revert t; decide +kernel
theorem idx_6 (t : Fin grid0.N) : win0_6.index t 0 = 0 ∧ win0_6.index t 1 = 0 := by revert t; decide +kernel
theorem idx_7 (t : Fin grid0.N) : win0_7.index t 0 = t.val ∧ win0_7.index t 1 = 0 := by revert t; decide +kernel
theorem idx_8 (t : Fin grid0.N) : win0_8.index t 0 = 0 ∧ win0_8.index t 1 = 0 := by revert t; decide +kernel

/-- A row of a point's blocks, in the whole arrays. -/
def at' (n : ℕ) (h : n < 16) (l : Fin 256) : Fin 4096 := ⟨n * 256 + l.val, by omega⟩

theorem blk_0 (t : Fin cfg0.N) (h : t.val < 16) (l : Fin 256) (j : Fin 2816) :
    iblk m c 0 t (ix2 l j) = m ((c : Thread nD τ).loc main_arg0) (ix2 (at' t.val h l) j) := by
  have e := idx_0 t
  blk_ext! [iblk, V, e, at']

theorem blk_1 (t : Fin cfg0.N) (h : t.val < 16) (l : Fin 256) (j : Fin 2816) :
    iblk m c 1 t (ix2 l j) = m ((c : Thread nD τ).loc main_arg1) (ix2 (at' t.val h l) j) := by
  have e := idx_1 t
  blk_ext! [iblk, V, e, at']

theorem blk_2 (t : Fin cfg0.N) (k : Fin 1024) (j : Fin 2816) :
    iblk m c 2 t (ix2 k j) = m ((c : Thread nD τ).loc main_arg2) (ix2 k ⟨j.val, by omega⟩) := by
  have e := idx_2 t
  blk_ext! [iblk, V, e]

theorem blk_3 (t : Fin cfg0.N) (k : Fin 1024) (j : Fin 2816) :
    iblk m c 3 t (ix2 k j) = m ((c : Thread nD τ).loc main_arg2) (ix2 k ⟨2816 + j.val, by omega⟩) := by
  have e := idx_3 t
  blk_ext! [iblk, V, e]

theorem blk_4 (t : Fin cfg0.N) (h : t.val < 16) (l : Fin 256) (k : Fin 1024) :
    iblk m c 4 t (ix2 l k) = m ((c : Thread nD τ).loc main_arg3) (ix2 (at' t.val h l) k) := by
  have e := idx_4 t
  blk_ext! [iblk, V, e, at']

theorem blk_5 (t : Fin cfg0.N) (h : t.val < 16) (l : Fin 256) (k : Fin 1024) :
    iblk m c 5 t (ix2 l k) = m ((c : Thread nD τ).loc main_arg4) (ix2 (at' t.val h l) k) := by
  have e := idx_5 t
  blk_ext! [iblk, V, e, at']

theorem blk_6 (t : Fin cfg0.N) (k : Fin 1024) :
    iblk m c 6 t (ix2 0 k) = m ((c : Thread nD τ).loc main_arg5) (ix2 0 k) := by
  have e := idx_6 t
  blk_ext! [iblk, V, e]

/-- The call's arguments. -/
abbrev A0 : Vec Ideal S4096x2816 .bf16 := m ((c : Thread nD τ).loc main_arg0)
abbrev A1 : Vec Ideal S4096x2816 .bf16 := m ((c : Thread nD τ).loc main_arg1)
abbrev A2 : Vec Ideal S1024x5632 .bf16 := m ((c : Thread nD τ).loc main_arg2)
abbrev A3 : Vec Ideal S4096x1024 .f32 := m ((c : Thread nD τ).loc main_arg3)
abbrev A4 : Vec Ideal S4096x1024 .f32 := m ((c : Thread nD τ).loc main_arg4)
abbrev A5 : Vec Ideal S1x1024 .f32 := m ((c : Thread nD τ).loc main_arg5)

theorem dh_blk (t : Fin cfg0.N) (h : t.val < 16) (l : Fin 256) :
    dhBlk (iblk m c 0 t) (iblk m c 1 t) (iblk m c 2 t) (iblk m c 3 t) l = dh (A0 m c) (A1 m c) (A2 m c) (at' t.val h l) := by
  funext k
  unfold dhBlk dh
  refine congrArg₂ (· + ·) (Finset.sum_congr rfl fun j _ => ?_) (Finset.sum_congr rfl fun j _ => ?_)
  · exact congrArg₂ (· * ·) (blk_0 m c t h l j) (blk_2 m c t k j)
  · exact congrArg₂ (· * ·) (blk_1 m c t h l j) (blk_3 m c t k j)

/-- The point's rows of the norm's input. -/
def xAt (t : Fin cfg0.N) (l : Fin 256) (k : Fin 1024) : EReal := iblk m c 4 t (ix2 l k)

theorem x_blk (t : Fin cfg0.N) (h : t.val < 16) (l : Fin 256) : xAt m c t l = row (A3 m c) (at' t.val h l) :=
  funext fun j => blk_4 m c t h l j

theorem g_blk (t : Fin cfg0.N) : (fun j : Fin 1024 => (iblk m c 6 t (ix2 0 j) : EReal)) = gain (A5 m c) := funext fun j => blk_6 m c t j

/-- What a point writes of the rows. -/
theorem wrote (t : Fin cfg0.N) (h : t.val < 16) (l : Fin 256) (k : Fin 1024) :
    ((outsAt0 m c t.val t.isLt).1 (ix2 l k) : EReal)
      = dxArr (A0 m c) (A1 m c) (A2 m c) (A3 m c) (A4 m c) (A5 m c) (ix2 (at' t.val h l) k) := by
  have e : (outsAt0 m c t.val t.isLt).1 = k0_pay1 (k0_pay7 (iblk m c 0 t) (iblk m c 2 t) (iblk m c 1 t) (iblk m c 3 t) (iblk m c 4 t)
      (iblk m c 6 t)) (iblk m c 5 t) := by
    by_cases h0 : t.val % 16 = 0
    · rw [outsAt0_A m c t h0]; dsimp only; rw [rows_A]
    · rw [outsAt0_B m c t h0]; dsimp only; rw [rows_B]
  rw [e]
  refine (rows_apply _ _ _ _ _ _ _ l k).trans ?_
  rw [dh_blk m c t h l, show (fun j : Fin 1024 => (iblk m c 4 t (ix2 l j) : EReal)) = _ from x_blk m c t h l, g_blk m c t]
  exact congrArg (· + _) (blk_5 m c t h l k)

/-- What a point adds to the gain's gradient. -/
theorem point_gain (t : Fin cfg0.N) (h : t.val < 16) (k : Fin 1024) :
    ∑ s : Fin 256, dhBlk (iblk m c 0 t) (iblk m c 1 t) (iblk m c 2 t) (iblk m c 3 t) s k
        * (xAt m c t s k * scale (xAt m c t s))
      = ∑ s ∈ Finset.range 256, gainTerm (A0 m c) (A1 m c) (A2 m c) (A3 m c) k (t.val * 256 + s) := by
  rw [Finset.sum_range]
  refine Finset.sum_congr rfl fun s _ => ?_
  have e : Fin.ofNat 4096 (t.val * 256 + s.val) = at' t.val h s := Fin.ext (Nat.mod_eq_of_lt (at' t.val h s).isLt)
  unfold gainTerm
  rw [e, dh_blk m c t h s, x_blk m c t h s]

/-- The gain's gradient after a point: the sum over the rows so far. -/
theorem gain_sum (l : Fin 8) (k : Fin 1024) : ∀ (n : ℕ) (hn : n < cfg0.N) (_ : n < 16),
    ((outsAt0 m c n hn).2 (ix2 l k) : EReal)
      = ∑ r ∈ Finset.range ((n + 1) * 256), gainTerm (A0 m c) (A1 m c) (A2 m c) (A3 m c) k r
  | 0, hn, h => by
    have e := outsAt0_A m c ⟨0, hn⟩ rfl
    rw [show outsAt0 m c 0 hn = _ from e]
    dsimp only
    rw [gain_A]
    refine (gain_apply _ _ _ _ _ _ l k).trans ?_
    rw [zero_apply, zero_add]
    refine (point_gain m c ⟨0, hn⟩ h k).trans ?_
    simp only [Nat.zero_mul, Nat.zero_add, Nat.one_mul]
  | n + 1, hn, h => by
    have e := outsAt0_B m c ⟨n + 1, hn⟩ (by dsimp only; omega)
    rw [show outsAt0 m c (n + 1) hn = _ from e]
    dsimp only
    rw [gain_B]
    refine (gain_apply _ _ _ _ _ _ l k).trans ?_
    rw [show (n + 1 + 1) * 256 = (n + 1) * 256 + 256 by omega, Finset.sum_range_add]
    exact congrArg₂ (· + ·) (gain_sum l k n (by omega) (by omega)) (point_gain m c ⟨n + 1, hn⟩ h k)

theorem final_rows : (dats m 0 c).arrAt 7 cfg0.N = dxArr (A0 m c) (A1 m c) (A2 m c) (A3 m c) (A4 m c) (A5 m c) := by
  refine (dats m 0 c).arrAt_eq_of_covers 7 _ (by decide +kernel) fun t hf y => ?_
  have e := idx_7 t
  have hN : t.val < 16 := lt_of_lt_of_eq t.isLt N_0
  blk_simp
  rw [after0_7]
  rw [eq_ix2 y]
  refine (wrote m c t hN (y 0) (y 1)).trans ?_
  exact congrArg (dxArr _ _ _ _ _ _) (by blk_ext [e, at'])

theorem final_gain : (dats m 0 c).arrAt 8 cfg0.N = gainArr (A0 m c) (A1 m c) (A2 m c) (A3 m c) := by
  refine (dats m 0 c).arrAt_eq_of_covers 8 _ (by decide +kernel) fun t hf y => ?_
  have e := idx_8 t
  have hN : t.val < 16 := lt_of_lt_of_eq t.isLt N_0
  have hk : t.val = 15 := by
    have := (flush0_8 t).mp hf
    omega
  blk_simp
  rw [after0_8]
  rw [eq_ix2 y]
  refine (gain_sum m c (y 0) (y 1) t.val t.isLt hN).trans ?_
  rw [hk]
  show gainArr (A0 m c) (A1 m c) (A2 m c) (A3 m c) (ix2 (y 0) (y 1)) = _
  exact congrArg (gainArr _ _ _ _) (by blk_ext [e])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0_0) = dxArr (A0 m c) (A1 m c) (A2 m c) (A3 m c) (A4 m c) (A5 m c)
      ∧ r.2.mem ((c.tc : Thread nD τ).loc main_v0_1) = gainArr (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (final_rows m c), (h c).2.1.trans (final_gain m c), (h c).2.2⟩) (run_blocks m ρ)

end Cert.FfnIn

end
-- ==== Proof.FfnInRef.lean ====
/- The reference's gradient through the feed-forward's input: on real inputs, the kernel's two arrays. -/
module

public import proofs.«01_k».proof.Proof.FfnIn
public import proofs.«01_k».proof.Proof.Gen.Reference2Ideal.Run
public import Idealize.ShloMosaic.Lib.Quiescent

@[expose] public section

set_option maxRecDepth 16384

noncomputable section

namespace Cert.FfnIn

open Idealize.ShloMosaic Idealize.ShloMosaic.TcCoe Idealize.SL.Sem Cert.FeedForward Cert.Reference2Ideal Cert.Reference2Ideal.Gen
  Cert.Reference2Ideal.Value

section Terms

variable (a0 a1 : FVec Ideal S4096x2816 .bf16) (a2 : FVec Ideal S1024x5632 .bf16) (a3 a4 d : FVec Ideal S4096x1024 .f32)
  (a5 : FVec Ideal S1x1024 .f32)

/-- The reference's product: the two gradients side by side, each with zeros for the other's columns. -/
abbrev refDh : FVec Ideal S4096x1024 .f32 :=
    Host.dotGeneral dot_S4096x5632_S1024x5632_S4096x1024_1_1_0_0_n_n none (addf (pad S4096x5632 ![0, 2816] ![0, 0] ![0, 0] (extf
    .f32 a1 bitsLt_bf16_f32) (constant S_ .f32 0x00000000#32) pads_S4096x2816_S4096x5632_000_281600 h_S_) (pad S4096x5632 ![0,
    0] ![0, 2816] ![0, 0] (extf .f32 a0 bitsLt_bf16_f32) (constant S_ .f32 0x00000000#32) pads_S4096x2816_S4096x5632_000_028160
    h_S_)) (extf .f32 a2 bitsLt_bf16_f32)

abbrev squares : FVec Ideal S4096x1 .f32 :=
  addf (Host.divf (broadcastInDim S4096x1 ![0] bcast_S4096_S4096x1_0 (Host.reduceAdd (mulf a3 a3) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))

/-- The reference's two results, of the product. -/
abbrev refRows : FVec Ideal S4096x1024 .f32 :=
    addf (addf (addf a4 (mulf (mulf d (broadcastInDim S4096x1024 ![0, 1] bcast_S1x1024_S4096x1024_0_1 a5)) (broadcastInDim
    S4096x1024 ![0, 1] bcast_S4096x1_S4096x1024_0_1 (Host.rsqrt (squares a3))))) (mulf a3 (broadcastInDim S4096x1024 ![0]
    bcast_S4096_S4096x1024_0 (Host.reduceAdd (Host.divf (mulf (shapeCast _ (Host.reduceAdd (mulf a3 (mulf d (broadcastInDim
    S4096x1024 ![0, 1] bcast_S1x1024_S4096x1024_0_1 a5))) (constant S_ .f32 0x00000000#32) reducesTo_S4096x1024_S4096_d1 h_S_)
    shapeCasts_S4096_S4096x1) (mulf (broadcastInDim S4096x1 ![] bcast_S_S4096x1 (constant S_ .f32 0xBF000000#32)) (Host.divf
    (Host.rsqrt (squares a3)) (squares a3)))) (broadcastInDim S4096x1 ![] bcast_S_S4096x1 (constant S_ .f32 0x44800000#32)))
    (constant S_ .f32 0x00000000#32) reducesTo_S4096x1_S4096_d1 h_S_)))) (mulf (broadcastInDim S4096x1024 ![0]
    bcast_S4096_S4096x1024_0 (Host.reduceAdd (Host.divf (mulf (shapeCast _ (Host.reduceAdd (mulf a3 (mulf d (broadcastInDim
    S4096x1024 ![0, 1] bcast_S1x1024_S4096x1024_0_1 a5))) (constant S_ .f32 0x00000000#32) reducesTo_S4096x1024_S4096_d1 h_S_)
    shapeCasts_S4096_S4096x1) (mulf (broadcastInDim S4096x1 ![] bcast_S_S4096x1 (constant S_ .f32 0xBF000000#32)) (Host.divf
    (Host.rsqrt (squares a3)) (squares a3)))) (broadcastInDim S4096x1 ![] bcast_S_S4096x1 (constant S_ .f32 0x44800000#32)))
    (constant S_ .f32 0x00000000#32) reducesTo_S4096x1_S4096_d1 h_S_)) a3)

abbrev refGain : FVec Ideal S8x1024 .f32 :=
    broadcastInDim S8x1024 ![0, 1] bcast_S1x1024_S8x1024_0_1 (shapeCast _ (Host.reduceAdd (mulf (mulf a3 (broadcastInDim
    S4096x1024 ![0, 1] bcast_S4096x1_S4096x1024_0_1 (Host.rsqrt (squares a3)))) d) (constant S_ .f32 0x00000000#32)
    reducesTo_S4096x1024_S1024_d0 h_S_) shapeCasts_S1024_S1x1024)

theorem sum_halves (f : Fin 5632 → EReal) :
    (∑ j : Fin 2816, f ⟨j.val, by omega⟩) + ∑ j : Fin 2816, f ⟨2816 + j.val, by omega⟩ = ∑ j, f j :=
  (Fin.sum_univ_add (a := 2816) (b := 2816) f).symm

theorem refDh_apply (r : Fin 4096) (k : Fin 1024) : (refDh a0 a1 a2 (ix2 r k) : EReal) = dh a0 a1 a2 r k := by
  have e : ∀ j : Fin 2816, ¬ 2816 ≤ j.val := fun j => by omega
  unfold dh
  pointwise [refDh]
  rw [← sum_halves]
  simp [e]

theorem refRows_apply (r : Fin 4096) (k : Fin 1024) : (refRows a3 a4 d a5 (ix2 r k) : EReal)
    = ((a4 (ix2 r k) + (d (ix2 r k) : EReal) * gain a5 k * scale (row a3 r)) + row a3 r k * pull (row a3 r) (fun j => d (ix2 r j)) (gain a5))
      + pull (row a3 r) (fun j => d (ix2 r j)) (gain a5) * row a3 r k := by
  unfold pull scale meanSq row gain
  pointwise [refRows, squares]

theorem refGain_apply (l : Fin 8) (k : Fin 1024) : (refGain a3 d (ix2 l k) : EReal)
    = ∑ r : Fin 4096, (row a3 r k * scale (row a3 r)) * d (ix2 r k) := by
  unfold scale meanSq row
  pointwise [refGain, squares]

/-- The inputs the rows' gradient divides and cancels are real. -/
structure Real : Prop where
  gate (i : S4096x2816.Idx) : ∃ r : ℝ, (a0 i : EReal) = (r : EReal)
  up (i : S4096x2816.Idx) : ∃ r : ℝ, (a1 i : EReal) = (r : EReal)
  weight (i : S1024x5632.Idx) : ∃ r : ℝ, (a2 i : EReal) = (r : EReal)
  x (i : S4096x1024.Idx) : ∃ r : ℝ, (a3 i : EReal) = (r : EReal)
  gain (i : S1x1024.Idx) : ∃ r : ℝ, (a5 i : EReal) = (r : EReal)

variable {a0 a1 a2 a3 a5}

theorem dh_real (h : Real a0 a1 a2 a3 a5) (r : Fin 4096) (k : Fin 1024) : ∃ v : ℝ, dh a0 a1 a2 r k = (v : EReal) := by
  choose A hA using h.gate
  choose B hB using h.up
  choose W hW using h.weight
  unfold dh
  simp only [hA, hB, hW, ← EReal.coe_mul, coe_sum, ← EReal.coe_add]
  exact ⟨_, rfl⟩

theorem refRows_eq (h : Real a0 a1 a2 a3 a5) : refRows a3 a4 (refDh a0 a1 a2) a5 = dxArr a0 a1 a2 a3 a4 a5 := by
  funext i
  rw [eq_ix2 i]
  generalize i 0 = r, i 1 = k
  choose X hX using h.x
  choose D hD using dh_real h r
  choose G hG using h.gain
  refine (refRows_apply a3 a4 (refDh a0 a1 a2) a5 r k).trans ?_
  rw [funext fun j => refDh_apply a0 a1 a2 r j, refDh_apply a0 a1 a2 r k]
  exact ref_row _ _ _ _ D _ (fun j => hX _) hD (fun j => hG _) _ k

theorem refGain_eq : refGain a3 (refDh a0 a1 a2) = gainArr a0 a1 a2 a3 := by
  funext i
  rw [eq_ix2 i]
  generalize i 0 = l, i 1 = k
  refine (refGain_apply a3 (refDh a0 a1 a2) l k).trans ?_
  show _ = ∑ r ∈ Finset.range 4096, gainTerm a0 a1 a2 a3 k r
  rw [Finset.sum_range]
  refine Finset.sum_congr rfl fun r _ => ?_
  unfold gainTerm
  rw [show Fin.ofNat 4096 r.val = r from Fin.ext (Nat.mod_eq_of_lt r.isLt)]
  exact (congrArg (_ * ·) (refDh_apply a0 a1 a2 r k)).trans (mul_comm _ _)

end Terms

variable (m : (ℓ : Loc nD τ sig) → Buf (Elt Ideal) ℓ) (ρ : Dev nD → PrngReg)

/-- The reference's run, from real arguments. -/
theorem reference_run (x0 x1 : Dev nD → FVec Ideal S4096x2816 .bf16) (x2 : Dev nD → FVec Ideal S1024x5632 .bf16)
    (x3 x4 : Dev nD → FVec Ideal S4096x1024 .f32) (x5 : Dev nD → FVec Ideal S1x1024 .f32)
    (e0 : ∀ c : Dev nD, m ((c.tc : Thread nD τ).loc main_arg0) = x0 c) (e1 : ∀ c : Dev nD, m ((c.tc : Thread nD τ).loc main_arg1) = x1 c)
    (e2 : ∀ c : Dev nD, m ((c.tc : Thread nD τ).loc main_arg2) = x2 c) (e3 : ∀ c : Dev nD, m ((c.tc : Thread nD τ).loc main_arg3) = x3 c)
    (e4 : ∀ c : Dev nD, m ((c.tc : Thread nD τ).loc main_arg4) = x4 c) (e5 : ∀ c : Dev nD, m ((c.tc : Thread nD τ).loc main_arg5) = x5 c)
    (h : ∀ c, Real (x0 c) (x1 c) (x2 c) (x3 c) (x5 c)) :
    θ_run (defs (F := Ideal)) (onTc (τ := τ) (main (F := Ideal))) ⟨m, fun _ => 0, ρ⟩ fun r =>
      ∀ c : Dev nD, r.2.mem ((c.tc : Thread nD τ).loc main_v44) = dxArr (x0 c) (x1 c) (x2 c) (x3 c) (x4 c) (x5 c)
      ∧ r.2.mem ((c.tc : Thread nD τ).loc main_v45) = gainArr (x0 c) (x1 c) (x2 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r k c => ⟨(k c).1.trans ?_, (k c).2.1.trans ?_, (k c).2.2⟩) (Value.run m ρ)
  · unfold res_main_v44
    rw [e0 c, e1 c, e2 c, e3 c, e4 c, e5 c]
    exact refRows_eq (x4 c) (h c)
  · rw [e0 c, e1 c, e2 c, e3 c]
    exact refGain_eq

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2, sem_eq_zero_of_no_sems (by decide) r.2⟩) (Value.run m ρ)

end Cert.FfnIn

end
-- ==== Proof.Silu.lean ====
/- The gradient of the gated unit at an entry: the kernel's form, with tanh, and the reference's, with exp. -/
module

public import proofs.«01_k».proof.Proof.Norm
public import Mathlib.Analysis.SpecialFunctions.Trigonometric.DerivHyp

@[expose] public section

noncomputable section

namespace Cert.FeedForward

open Idealize.ShloMosaic

abbrev half : EReal := Ideal.ofBits FTy.f32 0x3F000000#32
abbrev one : EReal := Ideal.ofBits FTy.f32 0x3F800000#32

theorem half_eq : half = ((1 / 2 : ℝ) : EReal) := by
  simp [Ideal.ofBits, Ideal.ieee, -EReal.coe_mul]; norm_num

theorem one_eq : one = ((1 : ℝ) : EReal) := by
  simp [Ideal.ofBits, Ideal.ieee, -EReal.coe_mul]

/-- The sigmoid, as the kernel and as the reference have it. -/
def sigmoid (z : EReal) : EReal := half * Ideal.tanh (half * z) + half
def expit (z : EReal) : EReal := Ideal.div one (one + Ideal.exp (-z))

theorem tanh_half (x : ℝ) : 1 / 2 * Real.tanh (1 / 2 * x) + 1 / 2 = 1 / (1 + Real.exp (-x)) := by
  have h := Real.exp_pos (1 / 2 * x)
  have e : Real.exp (-x) = Real.exp (-(1 / 2 * x)) * Real.exp (-(1 / 2 * x)) := by rw [← Real.exp_add]; congr 1; ring
  rw [Real.tanh_eq_sinh_div_cosh, Real.sinh_eq, Real.cosh_eq, e, Real.exp_neg]
  generalize Real.exp (1 / 2 * x) = y at h
  field_simp
  ring

/-- The two are one function, with a real value everywhere. -/
theorem sigmoid_real (z : EReal) : ∃ s : ℝ, sigmoid z = (s : EReal) ∧ expit z = (s : EReal) := by
  unfold sigmoid expit
  rw [half_eq, one_eq]
  induction z with
  | bot =>
    refine ⟨0, ?_, ?_⟩
    · rw [EReal.coe_mul_bot_of_pos (by norm_num), Ideal.tanh_bot, mul_neg_one, ← EReal.coe_neg, ← EReal.coe_add]
      norm_num
    · rw [EReal.neg_bot, Ideal.exp_top, EReal.coe_add_top]
      simp [Ideal.div]
  | top =>
    refine ⟨1, ?_, ?_⟩
    · rw [EReal.coe_mul_top_of_pos (by norm_num), Ideal.tanh_top]
      norm_cast
      norm_num
    · simp [Ideal.div]
  | coe x =>
    refine ⟨1 / (1 + Real.exp (-x)), ?_, ?_⟩
    · rw [← EReal.coe_mul, Ideal.tanh_coe, ← EReal.coe_mul, ← EReal.coe_add, tanh_half]
    · rw [← EReal.coe_neg, Ideal.exp_coe, ← EReal.coe_add, div_coe _ _ (by positivity)]

/-- The gate's gradient, as the kernel has it: `t` the product's gradient, `g` the gate, `u` the linear part. -/
def gateGrad (t g u : EReal) : EReal := t * sigmoid g * u * (one + g * (one - sigmoid g))

theorem coe_mul_one_add (c : ℝ) (y : EReal) : (c : EReal) * (((1 : ℝ) : EReal) + y) = (c : EReal) + c * y := by
  induction y with
  | coe y => norm_cast; ring
  | bot =>
    rw [EReal.add_bot]
    rcases lt_trichotomy c 0 with h | rfl | h
    · rw [EReal.coe_mul_bot_of_neg h, EReal.coe_add_top]
    · simp
    · rw [EReal.coe_mul_bot_of_pos h, EReal.add_bot]
  | top =>
    rw [EReal.coe_add_top]
    rcases lt_trichotomy c 0 with h | rfl | h
    · rw [EReal.coe_mul_top_of_neg h, EReal.add_bot]
    · simp
    · rw [EReal.coe_mul_top_of_pos h, EReal.coe_add_top]

/-- With the product's gradient and the linear part real, the reference's form is the same, whatever the gate. -/
theorem ref_gate (T U : ℝ) (g : EReal) :
    (T : EReal) * U * expit g + g * ((T : EReal) * U) * (expit g * (one - expit g)) = gateGrad T g U := by
  obtain ⟨s, hs, hl⟩ := sigmoid_real g
  unfold gateGrad
  rw [hs, hl, one_eq, ← EReal.coe_sub]
  have e : (T : EReal) * s * U = ((T * s * U : ℝ) : EReal) := by norm_cast
  rw [e, coe_mul_one_add]
  refine congrArg₂ (· + ·) ?_ ?_
  · norm_cast; ring
  · have e' : ((T * s * U : ℝ) : EReal) * (g * ((1 - s : ℝ) : EReal)) = g * (((T * s * U : ℝ) : EReal) * ((1 - s : ℝ) : EReal)) := by
      rw [mul_left_comm]
    rw [e', mul_assoc]
    congr 1
    norm_cast
    ring

theorem ref_up (t g : EReal) : g * expit g * t = t * sigmoid g * g := by
  obtain ⟨s, hs, hl⟩ := sigmoid_real g
  rw [hs, hl, mul_comm, mul_comm g, mul_assoc]

end Cert.FeedForward

end
-- ==== Proof.FfnAct.lean ====
/- The gradient through the gated unit: the second product's gradient, then the gate's and the linear part's by entries. -/
module

public import proofs.«01_k».proof.Proof.Silu
public import proofs.«01_k».proof.Proof.Gen.Kernel4Ideal.Value
public import proofs.«01_k».proof.Proof.Gen.Reference4Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.FfnAct

open Idealize.ShloMosaic Idealize.ShloMosaic.TcCoe Idealize.SL.Sem Cert.FeedForward

section Kernel

open Cert.Kernel4Ideal Cert.Kernel4Ideal.Gen Cert.Kernel4Ideal.Value

section Arrays

variable (d : Vec Ideal S4096x1024 .f32) (g u : Vec Ideal S4096x2816 .bf16) (w : Vec Ideal S2816x1024 .bf16)

/-- The product's gradient. -/
def dact (r : Fin 4096) (j : Fin 2816) : EReal := ∑ k : Fin 1024, d (ix2 r k) * w (ix2 j k)

/-- The two results. -/
def gateArr : Vec Ideal S4096x2816 .bf16 := fun i => gateGrad (dact d w (i 0) (i 1)) (g i) (u i)
def upArr : Vec Ideal S4096x2816 .bf16 := fun i => dact d w (i 0) (i 1) * sigmoid (g i) * g i

end Arrays

theorem hz : (![0, 0] : Fin 2 → Nat) = fun _ => 0 := funext fun a => by fin_cases a <;> rfl

section Cases

variable {F : FTy → Type} [FloatOps F] (c : Dev nD) (i : grid0.Coords)
  (a2 : Memref sig .tc .vmem S512x1024 .f32) (h2 : a2.IsWhole) (a3 : Memref sig .tc .vmem S512x1408 .bf16) (h3 : a3.IsWhole)
  (a4 : Memref sig .tc .vmem S512x1408 .bf16) (h4 : a4.IsWhole) (a5 : Memref sig .tc .vmem S1408x1024 .bf16) (h5 : a5.IsWhole)
  (a6 : Memref sig .tc .vmem S512x1408 .bf16) (h6 : a6.IsWhole) (a7 : Memref sig .tc .vmem S512x1408 .bf16) (h7 : a7.IsWhole)
  (a8 : Memref sig .tc .vmem S512x1024 .bf16) (h8 : a8.IsWhole)
  (x0 : Vec F S512x1024 .f32) (x1 x2 : Vec F S512x1408 .bf16) (x3 : Vec F S1408x1024 .bf16) (held : Vec F S512x1024 .bf16)

/-- The first point of a row of blocks keeps the rows in the scratch, the second reads them there. -/
theorem held_A (hc : cond0_0 i) : sout0_A_0 c i a2 h2 a3 h3 a4 h4 a5 h5 a6 h6 a7 h7 a8 h8 hc x0 x1 x2 x3 = k0_pay1 x0 := by
  unfold sout0_A_0
  rw [View.read_writes_junk_eq_canon]
  unfold kernelRun0_A
  dsimp only
  sl_unfold_words
  rw [View.canon_unit_zero (S := S512x1024) hz]
  simp only [View.readAt_eq_ld, h2.read_unread, h3.read_unread, h4.read_unread, h5.read_unread, h8.read_unread, View.ld_unit_zero (S := S512x1024) hz,
    View.ld_unit_zero (S := S512x1408) hz, View.ld_unit_zero (S := S1408x1024) hz]

theorem gate_A (hc : cond0_0 i) : out0_A_4 c i a2 h2 a3 h3 a4 h4 a5 h5 a6 h6 a7 h7 a8 h8 hc x0 x1 x2 x3 = k0_pay5 (k0_pay1 x0) x3 x1 x2 := by
  unfold out0_A_4
  rw [View.read_writes_junk_eq_canon]
  unfold kernelRun0_A
  dsimp only
  sl_unfold_words
  rw [View.canon_unit_zero (S := S512x1408) hz, View.readCov_unit_zero (S := S512x1024) _ hz]
  simp only [View.readAt_eq_ld, h2.read_unread, h3.read_unread, h4.read_unread, h5.read_unread, h8.read_unread, View.ld_unit_zero (S := S512x1024) hz,
    View.ld_unit_zero (S := S512x1408) hz, View.ld_unit_zero (S := S1408x1024) hz]

theorem up_A (hc : cond0_0 i) : out0_A_5 c i a2 h2 a3 h3 a4 h4 a5 h5 a6 h6 a7 h7 a8 h8 hc x0 x1 x2 x3 = k0_pay6 (k0_pay1 x0) x3 x1 := by
  unfold out0_A_5
  rw [View.read_writes_junk_eq_canon]
  unfold kernelRun0_A
  dsimp only
  sl_unfold_words
  rw [View.canon_unit_zero (S := S512x1408) hz, View.readCov_unit_zero (S := S512x1024) _ hz]
  simp only [View.readAt_eq_ld, h2.read_unread, h3.read_unread, h4.read_unread, h5.read_unread, h8.read_unread, View.ld_unit_zero (S := S512x1024) hz,
    View.ld_unit_zero (S := S512x1408) hz, View.ld_unit_zero (S := S1408x1024) hz]

theorem gate_B (hc : ¬cond0_0 i) : out0_B_4 c i a2 h2 a3 h3 a4 h4 a5 h5 a6 h6 a7 h7 a8 h8 hc x0 x1 x2 x3 held = k0_pay5 held x3 x1 x2 := by
  unfold out0_B_4
  rw [View.read_writes_junk_eq_canon]
  unfold kernelRun0_B
  dsimp only
  sl_unfold_words
  rw [View.canon_unit_zero (S := S512x1408) hz]
  simp only [View.readAt_eq_ld, h2.read_unread, h3.read_unread, h4.read_unread, h5.read_unread, h8.read_unread, View.ld_unit_zero (S := S512x1024) hz,
    View.ld_unit_zero (S := S512x1408) hz, View.ld_unit_zero (S := S1408x1024) hz]

theorem up_B (hc : ¬cond0_0 i) : out0_B_5 c i a2 h2 a3 h3 a4 h4 a5 h5 a6 h6 a7 h7 a8 h8 hc x0 x1 x2 x3 held = k0_pay6 held x3 x1 := by
  unfold out0_B_5
  rw [View.read_writes_junk_eq_canon]
  unfold kernelRun0_B
  dsimp only
  sl_unfold_words
  rw [View.canon_unit_zero (S := S512x1408) hz]
  simp only [View.readAt_eq_ld, h2.read_unread, h3.read_unread, h4.read_unread, h5.read_unread, h8.read_unread, View.ld_unit_zero (S := S512x1024) hz,
    View.ld_unit_zero (S := S512x1408) hz, View.ld_unit_zero (S := S1408x1024) hz]

end Cases

section Payloads

variable (s : FVec Ideal S512x1024 .f32) (x1 x2 : FVec Ideal S512x1408 .bf16) (x3 : FVec Ideal S1408x1024 .bf16)

def dactBlk (l : Fin 512) (p : Fin 1408) : EReal := ∑ k : Fin 1024, (s (ix2 l k) : EReal) * x3 (ix2 p k)

theorem gate_apply (l : Fin 512) (p : Fin 1408) : (k0_pay5 (F := Ideal) (k0_pay1 (F := Ideal) s) x3 x1 x2 (ix2 l p) : EReal)
    = gateGrad (dactBlk s x3 l p) (x1 (ix2 l p)) (x2 (ix2 l p)) := by
  unfold gateGrad sigmoid dactBlk
  pointwise [k0_pay5, k0_pay4, k0_pay3, k0_pay2, k0_pay1]

theorem up_apply (l : Fin 512) (p : Fin 1408) : (k0_pay6 (F := Ideal) (k0_pay1 (F := Ideal) s) x3 x1 (ix2 l p) : EReal)
    = dactBlk s x3 l p * sigmoid (x1 (ix2 l p)) * x1 (ix2 l p) := by
  unfold sigmoid dactBlk
  pointwise [k0_pay6, k0_pay4, k0_pay3, k0_pay2, k0_pay1]

end Payloads

variable (m : (ℓ : Loc nD τ sig) → Buf (Elt Ideal) ℓ) (c : Dev nD)

theorem idx_0 (t : Fin grid0.N) : win0_0.index t 0 = t.val / 2 ∧ win0_0.index t 1 = 0 := by revert t; decide +kernel
theorem idx_1 (t : Fin grid0.N) : win0_1.index t 0 = t.val / 2 ∧ win0_1.index t 1 = t.val % 2 := by revert t; decide +kernel
theorem idx_2 (t : Fin grid0.N) : win0_2.index t 0 = t.val / 2 ∧ win0_2.index t 1 = t.val % 2 := by revert t; decide +kernel
theorem idx_3 (t : Fin grid0.N) : win0_3.index t 0 = t.val % 2 ∧ win0_3.index t 1 = 0 := by revert t; decide +kernel
theorem idx_4 (t : Fin grid0.N) : win0_4.index t 0 = t.val / 2 ∧ win0_4.index t 1 = t.val % 2 := by revert t; decide +kernel
theorem idx_5 (t : Fin grid0.N) : win0_5.index t 0 = t.val / 2 ∧ win0_5.index t 1 = t.val % 2 := by revert t; decide +kernel

/-- A row and a column of a point's blocks, in the whole arrays. -/
def rowAt (n : ℕ) (h : n < 16) (l : Fin 512) : Fin 4096 := ⟨n / 2 * 512 + l.val, by omega⟩
def colAt (n : ℕ) (p : Fin 1408) : Fin 2816 := ⟨n % 2 * 1408 + p.val, by omega⟩

abbrev A0 : Vec Ideal S4096x1024 .f32 := m ((c : Thread nD τ).loc main_arg0)
abbrev A1 : Vec Ideal S4096x2816 .bf16 := m ((c : Thread nD τ).loc main_arg1)
abbrev A2 : Vec Ideal S4096x2816 .bf16 := m ((c : Thread nD τ).loc main_arg2)
abbrev A3 : Vec Ideal S2816x1024 .bf16 := m ((c : Thread nD τ).loc main_arg3)

/-- The entries of a point's blocks. -/
def dAt (t : Fin cfg0.N) (l : Fin 512) (k : Fin 1024) : EReal := iblk m c 0 t (ix2 l k)
def gAt (t : Fin cfg0.N) (l : Fin 512) (p : Fin 1408) : EReal := iblk m c 1 t (ix2 l p)
def uAt (t : Fin cfg0.N) (l : Fin 512) (p : Fin 1408) : EReal := iblk m c 2 t (ix2 l p)
def wAt (t : Fin cfg0.N) (p : Fin 1408) (k : Fin 1024) : EReal := iblk m c 3 t (ix2 p k)

theorem d_blk (t : Fin cfg0.N) (h : t.val < 16) (l : Fin 512) (k : Fin 1024) : dAt m c t l k = A0 m c (ix2 (rowAt t.val h l) k) := by
  have e := idx_0 t
  unfold dAt
  blk_ext! [iblk, V, e, rowAt]

theorem g_blk (t : Fin cfg0.N) (h : t.val < 16) (l : Fin 512) (p : Fin 1408) :
    gAt m c t l p = A1 m c (ix2 (rowAt t.val h l) (colAt t.val p)) := by
  have e := idx_1 t
  unfold gAt
  blk_ext! [iblk, V, e, rowAt, colAt]

theorem u_blk (t : Fin cfg0.N) (h : t.val < 16) (l : Fin 512) (p : Fin 1408) :
    uAt m c t l p = A2 m c (ix2 (rowAt t.val h l) (colAt t.val p)) := by
  have e := idx_2 t
  unfold uAt
  blk_ext! [iblk, V, e, rowAt, colAt]

theorem w_blk (t : Fin cfg0.N) (p : Fin 1408) (k : Fin 1024) : wAt m c t p k = A3 m c (ix2 (colAt t.val p) k) := by
  have e := idx_3 t
  unfold wAt
  blk_ext! [iblk, V, e, colAt]

/-- The rows a point works on: kept from the row's first point, or its own. -/
theorem even_pos (t : Fin cfg0.N) (h0 : t.val % 2 = 0) : (outsAt0 m c t.val t.isLt).2.2 = k0_pay1 (iblk m c 0 t) := by
  rw [outsAt0_A m c t h0]; dsimp only; rw [held_A]

/-- The two points of a row have the same block of the incoming gradient. -/
theorem same_rows (t t' : Fin cfg0.N) (h : t.val < 16) (h' : t'.val < 16) (e : t.val / 2 = t'.val / 2) : iblk m c 0 t = iblk m c 0 t' := by
  funext y
  rw [eq_ix2 y]
  refine (d_blk m c t h (y 0) (y 1)).trans (Eq.trans ?_ (d_blk m c t' h' (y 0) (y 1)).symm)
  exact congrArg (fun z => A0 m c (ix2 z (y 1))) (Fin.ext (by unfold rowAt; dsimp only; rw [e]))

theorem wrote (t : Fin cfg0.N) (h : t.val < 16) :
    (outsAt0 m c t.val t.isLt).1 = k0_pay5 (k0_pay1 (iblk m c 0 t)) (iblk m c 3 t) (iblk m c 1 t) (iblk m c 2 t)
    ∧ (outsAt0 m c t.val t.isLt).2.1 = k0_pay6 (k0_pay1 (iblk m c 0 t)) (iblk m c 3 t) (iblk m c 1 t) := by
  by_cases h0 : t.val % 2 = 0
  · rw [outsAt0_A m c t h0]; dsimp only; rw [gate_A, up_A]; exact ⟨rfl, rfl⟩
  · have k := even_pos m c ⟨t.val - 1, by omega⟩ (by dsimp only; omega)
    rw [same_rows m c ⟨t.val - 1, by omega⟩ t (by dsimp only; omega) h (by dsimp only; omega)] at k
    rw [outsAt0_B m c t h0]; dsimp only; rw [gate_B, up_B]
    exact ⟨congrArg (fun z => k0_pay5 z (iblk m c 3 t) (iblk m c 1 t) (iblk m c 2 t)) k,
      congrArg (fun z => k0_pay6 z (iblk m c 3 t) (iblk m c 1 t)) k⟩

theorem dact_blk (t : Fin cfg0.N) (h : t.val < 16) (l : Fin 512) (p : Fin 1408) :
    dactBlk (iblk m c 0 t) (iblk m c 3 t) l p = dact (A0 m c) (A3 m c) (rowAt t.val h l) (colAt t.val p) :=
  Finset.sum_congr rfl fun k _ => congrArg₂ (· * ·) (d_blk m c t h l k) (w_blk m c t p k)

theorem gate_at (t : Fin cfg0.N) (h : t.val < 16) (l : Fin 512) (p : Fin 1408) : ((outsAt0 m c t.val t.isLt).1 (ix2 l p) : EReal)
    = gateArr (A0 m c) (A1 m c) (A2 m c) (A3 m c) (ix2 (rowAt t.val h l) (colAt t.val p)) := by
  rw [(wrote m c t h).1]
  refine (gate_apply _ _ _ _ l p).trans ?_
  rw [dact_blk m c t h l p]
  exact congrArg₂ (gateGrad _) (g_blk m c t h l p) (u_blk m c t h l p)

theorem up_at (t : Fin cfg0.N) (h : t.val < 16) (l : Fin 512) (p : Fin 1408) : ((outsAt0 m c t.val t.isLt).2.1 (ix2 l p) : EReal)
    = upArr (A0 m c) (A1 m c) (A3 m c) (ix2 (rowAt t.val h l) (colAt t.val p)) := by
  rw [(wrote m c t h).2]
  refine (up_apply _ _ _ l p).trans ?_
  rw [dact_blk m c t h l p]
  exact congrArg (fun z => _ * sigmoid z * z) (g_blk m c t h l p)

theorem final_gate : (dats m 0 c).arrAt 4 cfg0.N = gateArr (A0 m c) (A1 m c) (A2 m c) (A3 m c) := by
  refine (dats m 0 c).arrAt_eq_of_covers 4 _ (by decide +kernel) fun t hf y => ?_
  have e := idx_4 t
  have hN : t.val < 16 := lt_of_lt_of_eq t.isLt N_0
  blk_simp
  rw [after0_4]
  rw [eq_ix2 y]
  refine (gate_at m c t hN (y 0) (y 1)).trans ?_
  exact congrArg (gateArr _ _ _ _) (by blk_ext [e, rowAt, colAt])

theorem final_up : (dats m 0 c).arrAt 5 cfg0.N = upArr (A0 m c) (A1 m c) (A3 m c) := by
  refine (dats m 0 c).arrAt_eq_of_covers 5 _ (by decide +kernel) fun t hf y => ?_
  have e := idx_5 t
  have hN : t.val < 16 := lt_of_lt_of_eq t.isLt N_0
  blk_simp
  rw [after0_5]
  rw [eq_ix2 y]
  refine (up_at m c t hN (y 0) (y 1)).trans ?_
  exact congrArg (upArr _ _ _) (by blk_ext [e, rowAt, colAt])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0_0) = gateArr (A0 m c) (A1 m c) (A2 m c) (A3 m c)
      ∧ r.2.mem ((c.tc : Thread nD τ).loc main_v0_1) = upArr (A0 m c) (A1 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final_gate m c), (h c).2.1.trans (final_up m c), (h c).2.2⟩) (run_blocks m ρ)

end Kernel

section Reference

open Cert.Reference4Ideal Cert.Reference4Ideal.Gen Cert.Reference4Ideal.Value

variable (a0 : FVec Ideal S4096x1024 .f32) (a1 a2 : FVec Ideal S4096x2816 .bf16) (a3 : FVec Ideal S2816x1024 .bf16)

/-- The reference's sigmoid, product and two results. -/
abbrev refSigmoid : FVec Ideal S4096x2816 .f32 :=
  Host.divf (broadcastInDim S4096x2816 ![] bcast_S_S4096x2816 (constant S_ .f32 0x3F800000#32)) (addf (broadcastInDim S4096x2816
    ![] bcast_S_S4096x2816 (constant S_ .f32 0x3F800000#32)) (Host.exp (Host.negf (extf .f32 a1 bitsLt_bf16_f32))))

abbrev refDact : FVec Ideal S4096x2816 .f32 :=
  Host.dotGeneral dot_S4096x1024_S2816x1024_S4096x2816_1_1_0_0_n_n none a0 (extf .f32 a3 bitsLt_bf16_f32)

abbrev refGate : FVec Ideal S4096x2816 .bf16 :=
  truncf .bf16 (addf (mulf (mulf (refDact a0 a3) (extf .f32 a2 bitsLt_bf16_f32)) (refSigmoid a1)) (mulf (mulf (extf .f32 a1
    bitsLt_bf16_f32) (mulf (refDact a0 a3) (extf .f32 a2 bitsLt_bf16_f32))) (mulf (refSigmoid a1) (subf (broadcastInDim S4096x2816
    ![] bcast_S_S4096x2816 (constant S_ .f32 0x3F800000#32)) (refSigmoid a1))))) bitsLt_bf16_f32

abbrev refUp : FVec Ideal S4096x2816 .bf16 :=
  truncf .bf16 (mulf (mulf (extf .f32 a1 bitsLt_bf16_f32) (refSigmoid a1)) (refDact a0 a3)) bitsLt_bf16_f32

theorem refGate_apply (r : Fin 4096) (j : Fin 2816) : (refGate a0 a1 a2 a3 (ix2 r j) : EReal)
    = dact a0 a3 r j * a2 (ix2 r j) * expit (a1 (ix2 r j))
      + a1 (ix2 r j) * (dact a0 a3 r j * a2 (ix2 r j)) * (expit (a1 (ix2 r j)) * (one - expit (a1 (ix2 r j)))) := by
  unfold expit dact
  pointwise [refGate, refDact, refSigmoid]

theorem refUp_apply (r : Fin 4096) (j : Fin 2816) : (refUp a0 a1 a3 (ix2 r j) : EReal)
    = a1 (ix2 r j) * expit (a1 (ix2 r j)) * dact a0 a3 r j := by
  unfold expit dact
  pointwise [refUp, refDact, refSigmoid]

/-- The inputs the reference adds up before it multiplies are real; the gate may be anything. -/
structure Real : Prop where
  cot (i : S4096x1024.Idx) : ∃ r : ℝ, (a0 i : EReal) = (r : EReal)
  up (i : S4096x2816.Idx) : ∃ r : ℝ, (a2 i : EReal) = (r : EReal)
  weight (i : S2816x1024.Idx) : ∃ r : ℝ, (a3 i : EReal) = (r : EReal)

variable {a0 a2 a3}

theorem refGate_eq (h : Real a0 a2 a3) : refGate a0 a1 a2 a3 = gateArr a0 a1 a2 a3 := by
  funext i
  rw [eq_ix2 i]
  generalize i 0 = r, i 1 = j
  refine (refGate_apply a0 a1 a2 a3 r j).trans ?_
  choose D hD using h.cot
  choose W hW using h.weight
  obtain ⟨U, hU⟩ := h.up (ix2 r j)
  have ht : dact a0 a3 r j = ((∑ k : Fin 1024, D (ix2 r k) * W (ix2 j k) : ℝ) : EReal) := by
    unfold dact
    simp only [hD, hW, ← EReal.coe_mul, coe_sum]
  show _ = gateGrad (dact a0 a3 r j) (a1 (ix2 r j)) (a2 (ix2 r j))
  rw [ht, hU]
  exact ref_gate _ U _

theorem refUp_eq : refUp a0 a1 a3 = upArr a0 a1 a3 := by
  funext i
  rw [eq_ix2 i]
  exact (refUp_apply a0 a1 a3 (i 0) (i 1)).trans (ref_up _ _)

variable (m : (ℓ : Loc nD τ sig) → Buf (Elt Ideal) ℓ) (ρ : Dev nD → PrngReg)

/-- The reference's run, from real arguments. -/
theorem reference_run (x0 : Dev nD → FVec Ideal S4096x1024 .f32) (x1 x2 : Dev nD → FVec Ideal S4096x2816 .bf16)
    (x3 : Dev nD → FVec Ideal S2816x1024 .bf16)
    (e0 : ∀ c : Dev nD, m ((c.tc : Thread nD τ).loc main_arg0) = x0 c) (e1 : ∀ c : Dev nD, m ((c.tc : Thread nD τ).loc main_arg1) = x1 c)
    (e2 : ∀ c : Dev nD, m ((c.tc : Thread nD τ).loc main_arg2) = x2 c) (e3 : ∀ c : Dev nD, m ((c.tc : Thread nD τ).loc main_arg3) = x3 c)
    (h : ∀ c, Real (x0 c) (x2 c) (x3 c)) :
    θ_run (defs (F := Ideal)) (onTc (τ := τ) (main (F := Ideal))) ⟨m, fun _ => 0, ρ⟩ fun r =>
      ∀ c : Dev nD, r.2.mem ((c.tc : Thread nD τ).loc main_v10) = gateArr (x0 c) (x1 c) (x2 c) (x3 c)
      ∧ r.2.mem ((c.tc : Thread nD τ).loc main_v11) = upArr (x0 c) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r k c => ⟨(k c).1.trans ?_, (k c).2.1.trans ?_, (k c).2.2⟩) (Value.run m ρ)
  · rw [e0 c, e1 c, e2 c, e3 c]
    exact refGate_eq (x1 c) (h c)
  · rw [e0 c, e1 c, e3 c]
    exact refUp_eq (x1 c)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => (h c).2.2, sem_eq_zero_of_no_sems (by decide) r.2⟩) (Value.run m ρ)

end Reference

end Cert.FfnAct

end
-- ==== Proof.Gradients.lean ====
/- The claims on the feed-forward's two gradients: finite inputs are real, and there kernel and reference agree. -/
module

public import proofs.«01_k».proof.Defs
public import proofs.«01_k».proof.Proof.FfnInRef
public import proofs.«01_k».proof.Proof.FfnAct

@[expose] public section

set_option maxRecDepth 16384

noncomputable section

namespace Cert.Proof

open Idealize.ShloMosaic Idealize.ShloMosaic.TcCoe Idealize.SL.Sem Cert.FeedForward

theorem zero_word : Ideal.ofBits .f32 0x00000000#32 = (0 : EReal) := by pointwise

/-- The preconditions' broadcasts and conversions are well formed. -/
theorem pre_facts2 : Cert.Pre_finite2.Facts where
  bitsLt_bf16_f32 := by decide
  bcast_S_S4096x2816 := by decide
  bcast_S_S1024x5632 := by decide
  bcast_S_S4096x1024 := by decide
  bcast_S_S1x1024 := by decide

theorem pre_facts4 : Cert.Pre_finite4.Facts where
  bcast_S_S4096x1024 := by decide
  bitsLt_bf16_f32 := by decide
  bcast_S_S4096x2816 := by decide
  bcast_S_S2816x1024 := by decide

theorem ffn_in : Cert.algebraic_Kernel2Ideal_Reference2Ideal_pre_finite2 (hPre_finite2 := pre_facts2) := fun m g m' g' hp hm => by
  have R : ∀ c, FfnIn.Real (FfnIn.A0 m c) (FfnIn.A1 m c) (FfnIn.A2 m c) (FfnIn.A3 m c) (FfnIn.A5 m c) := fun c => by
    obtain ⟨h0, h1, h2, h3, h4⟩ := hp c
    exact ⟨real_of_ones (fun _ => zero_word) h0, real_of_ones (fun _ => zero_word) h1, real_of_ones (fun _ => zero_word) h2,
      real_of_ones (fun _ => zero_word) h3, real_of_ones (fun _ => zero_word) h4⟩
  exact ⟨_, _, FfnIn.kernel_run m g, FfnIn.reference_run m' g' (FfnIn.A0 m) (FfnIn.A1 m) (FfnIn.A2 m) (FfnIn.A3 m) (FfnIn.A4 m)
    (FfnIn.A5 m) (fun c => (hm c).1) (fun c => (hm c).2.1) (fun c => (hm c).2.2.1) (fun c => (hm c).2.2.2.1)
    (fun c => (hm c).2.2.2.2.1) (fun c => (hm c).2.2.2.2.2) R⟩

theorem ffn_act : Cert.algebraic_Kernel4Ideal_Reference4Ideal_pre_finite4 (hPre_finite4 := pre_facts4) := fun m g m' g' hp hm => by
  have R : ∀ c, FfnAct.Real (FfnAct.A0 m c) (FfnAct.A2 m c) (FfnAct.A3 m c) := fun c => by
    obtain ⟨h0, h1, h2⟩ := hp c
    exact ⟨real_of_ones (fun _ => zero_word) h0, real_of_ones (fun _ => zero_word) h1, real_of_ones (fun _ => zero_word) h2⟩
  exact ⟨_, _, FfnAct.kernel_run m g, FfnAct.reference_run m' g' (FfnAct.A0 m) (FfnAct.A1 m) (FfnAct.A2 m) (FfnAct.A3 m)
    (fun c => (hm c).1) (fun c => (hm c).2.1) (fun c => (hm c).2.2.1) (fun c => (hm c).2.2.2) R⟩

end Cert.Proof

end
-- ==== Proof.InProj.lean ====
/- The gradient through the combined projection's input: nine products by columns, the norm's gradient by rows, the gain's. -/
module

public import proofs.«01_k».proof.Proof.Norm
public import proofs.«01_k».proof.Proof.Gen.Kernel7Ideal.Value
public import Idealize.ShloMosaic.Lib.Tactic
public import Idealize.ShloMosaic.Lib.Pipeline.ValueKit
public import Idealize.ShloMosaic.Lib.Pipeline.CanonAppend

@[expose] public section

set_option maxRecDepth 16384

noncomputable section

namespace Cert.InProj

open Idealize.ShloMosaic Idealize.ShloMosaic.TcCoe Idealize.SL.Sem Cert.FeedForward Cert.Kernel7Ideal Cert.Kernel7Ideal.Gen
  Cert.Kernel7Ideal.Value

/-- The projection's gradient, by the pieces of its columns. -/
structure Pieces where
  gates : Vec Ideal S4096x2048 .bf16
  qa : Vec Ideal S4096x512 .bf16
  ka : Vec Ideal S4096x512 .bf16
  va : Vec Ideal S4096x512 .bf16
  conv : Vec Ideal S4096x1536 .bf16
  z : Vec Ideal S4096x512 .bf16
  bd : Vec Ideal S4096x128 .f32

section Arrays

variable (p : Pieces) (w : Vec Ideal S1024x5760 .bf16) (x dx : Vec Ideal S4096x1024 .f32) (g : Vec Ideal S1x1024 .f32)

/-- The product's gradient: each piece's row with its columns of the weight, the convolution's in three parts. -/
def dh (r : Fin 4096) (k : Fin 1024) : EReal :=
  ∑ j : Fin 2048, p.gates (ix2 r j) * w (ix2 k ⟨j.val, by omega⟩)
  + ∑ j : Fin 512, p.qa (ix2 r j) * w (ix2 k ⟨2048 + j.val, by omega⟩)
  + ∑ j : Fin 512, p.ka (ix2 r j) * w (ix2 k ⟨2560 + j.val, by omega⟩)
  + ∑ j : Fin 512, p.va (ix2 r j) * w (ix2 k ⟨3072 + j.val, by omega⟩)
  + ∑ j : Fin 512, p.conv (ix2 r ⟨j.val, by omega⟩) * w (ix2 k ⟨3584 + j.val, by omega⟩)
  + ∑ j : Fin 512, p.conv (ix2 r ⟨512 + j.val, by omega⟩) * w (ix2 k ⟨4096 + j.val, by omega⟩)
  + ∑ j : Fin 512, p.conv (ix2 r ⟨1024 + j.val, by omega⟩) * w (ix2 k ⟨4608 + j.val, by omega⟩)
  + ∑ j : Fin 512, p.z (ix2 r j) * w (ix2 k ⟨5120 + j.val, by omega⟩)
  + ∑ j : Fin 128, p.bd (ix2 r j) * w (ix2 k ⟨5632 + j.val, by omega⟩)

def row (r : Fin 4096) (j : Fin 1024) : EReal := x (ix2 r j)
def gain (j : Fin 1024) : EReal := g (ix2 0 j)

/-- The two results. -/
def dxArr : Vec Ideal S4096x1024 .f32 :=
  fun i => dx i + rowGrad (row x (i 0)) (dh p w (i 0)) (gain g) (i 1)

def gainTerm (k : Fin 1024) (r : ℕ) : EReal :=
  dh p w (Fin.ofNat 4096 r) k * (row x (Fin.ofNat 4096 r) k * scale (row x (Fin.ofNat 4096 r)))

def gainArr : Vec Ideal S8x1024 .f32 := fun i => ∑ r ∈ Finset.range 4096, gainTerm p w x (i 1) r

end Arrays

theorem hz : (![0, 0] : Fin 2 → Nat) = fun _ => 0 := funext fun a => by fin_cases a <;> rfl

section Cases

variable {F : FTy → Type} [FloatOps F] (c : Dev nD) (i : grid0.Coords)
  (a1 : Memref sig .tc .vmem S256x2048 .bf16) (h1 : a1.IsWhole) (a2 : Memref sig .tc .vmem S256x512 .bf16) (h2 : a2.IsWhole)
  (a3 : Memref sig .tc .vmem S256x512 .bf16) (h3 : a3.IsWhole) (a4 : Memref sig .tc .vmem S256x512 .bf16) (h4 : a4.IsWhole)
  (a5 : Memref sig .tc .vmem S256x512 .bf16) (h5 : a5.IsWhole) (a6 : Memref sig .tc .vmem S256x512 .bf16) (h6 : a6.IsWhole)
  (a7 : Memref sig .tc .vmem S256x512 .bf16) (h7 : a7.IsWhole) (a8 : Memref sig .tc .vmem S256x512 .bf16) (h8 : a8.IsWhole)
  (a9 : Memref sig .tc .vmem S256x128 .f32) (h9 : a9.IsWhole) (a10 : Memref sig .tc .vmem S1024x2048 .bf16) (h10 : a10.IsWhole)
  (a11 : Memref sig .tc .vmem S1024x512 .bf16) (h11 : a11.IsWhole) (a12 : Memref sig .tc .vmem S1024x512 .bf16) (h12 : a12.IsWhole)
  (a13 : Memref sig .tc .vmem S1024x512 .bf16) (h13 : a13.IsWhole) (a14 : Memref sig .tc .vmem S1024x512 .bf16) (h14 : a14.IsWhole)
  (a15 : Memref sig .tc .vmem S1024x512 .bf16) (h15 : a15.IsWhole) (a16 : Memref sig .tc .vmem S1024x512 .bf16) (h16 : a16.IsWhole)
  (a17 : Memref sig .tc .vmem S1024x512 .bf16) (h17 : a17.IsWhole) (a18 : Memref sig .tc .vmem S1024x128 .bf16) (h18 : a18.IsWhole)
  (a19 : Memref sig .tc .vmem S256x1024 .f32) (h19 : a19.IsWhole) (a20 : Memref sig .tc .vmem S256x1024 .f32) (h20 : a20.IsWhole)
  (a21 : Memref sig .tc .vmem S1x1024 .f32) (h21 : a21.IsWhole) (a22 : Memref sig .tc .vmem S256x1024 .f32) (h22 : a22.IsWhole)
  (a23 : Memref sig .tc .vmem S8x1024 .f32) (h23 : a23.IsWhole)
  (x0 : Vec F S256x2048 .bf16) (x1 x2 x3 x4 x5 x6 x7 : Vec F S256x512 .bf16) (x8 : Vec F S256x128 .f32)
  (x9 : Vec F S1024x2048 .bf16) (x10 x11 x12 x13 x14 x15 x16 : Vec F S1024x512 .bf16) (x17 : Vec F S1024x128 .bf16)
  (x18 x19 : Vec F S256x1024 .f32) (x20 : Vec F S1x1024 .f32) (acc : Vec F S8x1024 .f32)

/-- The block of rows, the block's product and the gain's gradient, of the values read. -/
abbrev six : FVec F S256x1024 .f32 := k0_pay4 x0 x9 x1 x10 x2 x11 x3 x12 x4 x13 x5 x14
abbrev rowsOf : FVec F S256x1024 .f32 :=
  k0_pay1 (k0_pay8 (six x0 x1 x2 x3 x4 x5 x9 x10 x11 x12 x13 x14) x6 x15 x7 x16 x8 x17 x18 x20) (k0_pay9 x18) x19
abbrev gainOf : FVec F S8x1024 .f32 :=
  k0_pay2 (k0_pay5 (six x0 x1 x2 x3 x4 x5 x9 x10 x11 x12 x13 x14) x6 x15 x7 x16 x8 x17) (k0_pay7 x18) acc

/-- The block of rows, at the first point and at the next ones. -/
theorem rows_A (hc : cond0_0 i) :
    out0_A_21 c i a1 h1 a2 h2 a3 h3 a4 h4 a5 h5 a6 h6 a7 h7 a8 h8 a9 h9 a10 h10 a11 h11 a12 h12 a13 h13 a14 h14 a15 h15 a16 h16 a17
      h17 a18 h18 a19 h19 a20 h20 a21 h21 a22 h22 a23 h23 hc x0 x1 x2 x3 x4 x5 x6 x7 x8 x9 x10 x11 x12 x13 x14 x15 x16 x17 x18 x19
      x20
      = rowsOf x0 x1 x2 x3 x4 x5 x6 x7 x8 x9 x10 x11 x12 x13 x14 x15 x16 x17 x18 x19 x20 := by
  unfold out0_A_21
  rw [View.read_writes_junk_eq_canon]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread,
    h9.read_unread, h10.read_unread, h11.read_unread, h12.read_unread, h13.read_unread, h14.read_unread, h15.read_unread,
    h16.read_unread, h17.read_unread, h18.read_unread, h19.read_unread, h20.read_unread, h21.read_unread,
    View.ld_unit_zero (S := S256x2048) hz, View.ld_unit_zero (S := S256x512) hz, View.ld_unit_zero (S := S256x128) hz,
    View.ld_unit_zero (S := S1024x2048) hz, View.ld_unit_zero (S := S1024x512) hz, View.ld_unit_zero (S := S1024x128) hz,
    View.ld_unit_zero (S := S256x1024) hz, View.ld_unit_zero (S := S1x1024) hz]

theorem rows_B (hc : ¬cond0_0 i) :
    out0_B_21 c i a1 h1 a2 h2 a3 h3 a4 h4 a5 h5 a6 h6 a7 h7 a8 h8 a9 h9 a10 h10 a11 h11 a12 h12 a13 h13 a14 h14 a15 h15 a16 h16 a17
      h17 a18 h18 a19 h19 a20 h20 a21 h21 a22 h22 a23 h23 hc x0 x1 x2 x3 x4 x5 x6 x7 x8 x9 x10 x11 x12 x13 x14 x15 x16 x17 x18 x19
      x20 acc
      = rowsOf x0 x1 x2 x3 x4 x5 x6 x7 x8 x9 x10 x11 x12 x13 x14 x15 x16 x17 x18 x19 x20 := by
  unfold out0_B_21
  rw [View.read_writes_junk_eq_canon]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread,
    h9.read_unread, h10.read_unread, h11.read_unread, h12.read_unread, h13.read_unread, h14.read_unread, h15.read_unread,
    h16.read_unread, h17.read_unread, h18.read_unread, h19.read_unread, h20.read_unread, h21.read_unread,
    View.ld_unit_zero (S := S256x2048) hz, View.ld_unit_zero (S := S256x512) hz, View.ld_unit_zero (S := S256x128) hz,
    View.ld_unit_zero (S := S1024x2048) hz, View.ld_unit_zero (S := S1024x512) hz, View.ld_unit_zero (S := S1024x128) hz,
    View.ld_unit_zero (S := S256x1024) hz, View.ld_unit_zero (S := S1x1024) hz]

/-- The gain's gradient: from zero at the first point, then added to what is there. -/
theorem gain_A (hc : cond0_0 i) :
    out0_A_22 c i a1 h1 a2 h2 a3 h3 a4 h4 a5 h5 a6 h6 a7 h7 a8 h8 a9 h9 a10 h10 a11 h11 a12 h12 a13 h13 a14 h14 a15 h15 a16 h16 a17
      h17 a18 h18 a19 h19 a20 h20 a21 h21 a22 h22 a23 h23 hc x0 x1 x2 x3 x4 x5 x6 x7 x8 x9 x10 x11 x12 x13 x14 x15 x16 x17 x18 x19
      x20
      = gainOf x0 x1 x2 x3 x4 x5 x6 x7 x8 x9 x10 x11 x12 x13 x14 x15 x16 x17 x18 k0_pay3 := by
  unfold out0_A_22
  rw [View.read_writes_junk_eq_canon]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, h5.read_unread, h6.read_unread, h7.read_unread, h8.read_unread,
    h9.read_unread, h10.read_unread, h11.read_unread, h12.read_unread, h13.read_unread, h14.read_unread, h15.read_unread,
    h16.read_unread, h17.read_unread, h18.read_unread, h19.read_unread, h20.read_unread, h21.read_unread,
    View.ld_unit_zero (S := S256x2048) hz, View.ld_unit_zero (S := S256x512) hz, View.ld_unit_zero (S := S256x128) hz,
    View.ld_unit_zero (S := S1024x2048) hz, View.ld_unit_zero (S := S1024x512) hz, View.ld_unit_zero (S := S1024x128) hz,
    View.ld_unit_zero (S := S256x1024) hz, View.ld_unit_zero (S := S1x1024) hz]

theorem gain_B (hc : ¬cond0_0 i) :
    out0_B_22 c i a1 h1 a2 h2 a3 h3 a4 h4 a5 h5 a6 h6 a7 h7 a8 h8 a9 h9 a10 h10 a11 h11 a12 h12 a13 h13 a14 h14 a15 h15 a16 h16 a17
      h17 a18 h18 a19 h19 a20 h20 a21 h21 a22 h22 a23 h23 hc x0 x1 x2 x3 x4 x5 x6 x7 x8 x9 x10 x11 x12 x13 x14 x15 x16 x17 x18 x19
      x20 acc
      = gainOf x0 x1 x2 x3 x4 x5 x6 x7 x8 x9 x10 x11 x12 x13 x14 x15 x16 x17 x18 acc := by
  unfold out0_B_22
  rw [View.read_writes_junk_eq_canon]
  unfold kernelRun0_B
  dsimp only
  sl_unfold_words
  rw [View.canon_unit_zero (S := S8x1024) hz]
  simp only [View.readAt_eq_ld, h1.read_unread, h2.read_unread, h3.read_unread, h4.read_unread, h5.read_unread, h6.read_unread, h7.read_unread, h8.read_unread,
    h9.read_unread, h10.read_unread, h11.read_unread, h12.read_unread, h13.read_unread, h14.read_unread, h15.read_unread,
    h16.read_unread, h17.read_unread, h18.read_unread, h19.read_unread, h20.read_unread, h21.read_unread, h23.read_unread,
    View.ld_unit_zero (S := S256x2048) hz, View.ld_unit_zero (S := S256x512) hz, View.ld_unit_zero (S := S256x128) hz,
    View.ld_unit_zero (S := S1024x2048) hz, View.ld_unit_zero (S := S1024x512) hz, View.ld_unit_zero (S := S1024x128) hz,
    View.ld_unit_zero (S := S256x1024) hz, View.ld_unit_zero (S := S1x1024) hz, View.ld_unit_zero (S := S8x1024) hz]

end Cases

section Payloads

variable (x0 : FVec Ideal S256x2048 .bf16) (x1 x2 x3 x4 x5 x6 x7 : FVec Ideal S256x512 .bf16) (x8 : FVec Ideal S256x128 .f32)
  (x9 : FVec Ideal S1024x2048 .bf16) (x10 x11 x12 x13 x14 x15 x16 : FVec Ideal S1024x512 .bf16) (x17 : FVec Ideal S1024x128 .bf16)
  (x18 x19 : FVec Ideal S256x1024 .f32) (x20 : FVec Ideal S1x1024 .f32) (acc : FVec Ideal S8x1024 .f32)

/-- The product's gradient in a block. -/
def dhBlk (l : Fin 256) (k : Fin 1024) : EReal :=
  ∑ j : Fin 2048, (x0 (ix2 l j) : EReal) * x9 (ix2 k j)
  + ∑ j : Fin 512, (x1 (ix2 l j) : EReal) * x10 (ix2 k j)
  + ∑ j : Fin 512, (x2 (ix2 l j) : EReal) * x11 (ix2 k j)
  + ∑ j : Fin 512, (x3 (ix2 l j) : EReal) * x12 (ix2 k j)
  + ∑ j : Fin 512, (x4 (ix2 l j) : EReal) * x13 (ix2 k j)
  + ∑ j : Fin 512, (x5 (ix2 l j) : EReal) * x14 (ix2 k j)
  + ∑ j : Fin 512, (x6 (ix2 l j) : EReal) * x15 (ix2 k j)
  + ∑ j : Fin 512, (x7 (ix2 l j) : EReal) * x16 (ix2 k j)
  + ∑ j : Fin 128, (x8 (ix2 l j) : EReal) * x17 (ix2 k j)

theorem rows_apply (l : Fin 256) (k : Fin 1024) :
    (rowsOf (F := Ideal) x0 x1 x2 x3 x4 x5 x6 x7 x8 x9 x10 x11 x12 x13 x14 x15 x16 x17 x18 x19 x20 (ix2 l k) : EReal)
    = x19 (ix2 l k) + rowGrad (fun j => x18 (ix2 l j)) (dhBlk x0 x1 x2 x3 x4 x5 x6 x7 x8 x9 x10 x11 x12 x13 x14 x15 x16 x17 l)
      (fun j => x20 (ix2 0 j)) k := by
  unfold rowGrad scale meanSq dhBlk
  pointwise [rowsOf, six, k0_pay1, k0_pay9, k0_pay8, k0_pay7, k0_pay6, k0_pay5, k0_pay4]

theorem gain_apply (l : Fin 8) (k : Fin 1024) :
    (gainOf (F := Ideal) x0 x1 x2 x3 x4 x5 x6 x7 x8 x9 x10 x11 x12 x13 x14 x15 x16 x17 x18 acc (ix2 l k) : EReal)
    = acc (ix2 l k) + ∑ s : Fin 256, dhBlk x0 x1 x2 x3 x4 x5 x6 x7 x8 x9 x10 x11 x12 x13 x14 x15 x16 x17 s k
      * ((x18 (ix2 s k) : EReal) * scale fun j => x18 (ix2 s j)) := by
  unfold scale meanSq dhBlk
  pointwise [gainOf, six, k0_pay2, k0_pay7, k0_pay6, k0_pay5, k0_pay4]

theorem zero_apply (l : Fin 8) (k : Fin 1024) : (k0_pay3 (F := Ideal) (ix2 l k) : EReal) = 0 := by
  pointwise [k0_pay3]

end Payloads

variable (m : (ℓ : Loc nD τ sig) → Buf (Elt Ideal) ℓ) (c : Dev nD)

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = t.val ∧ win0_2.index t 1 = 0 := by revert t; decide +kernel
theorem idx_3 (t : Fin grid0.N) : win0_3.index t 0 = t.val ∧ win0_3.index t 1 = 0 := by revert t; decide +kernel
theorem idx_4 (t : Fin grid0.N) : win0_4.index t 0 = t.val ∧ win0_4.index t 1 = 0 := by revert t; decide +kernel
theorem idx_5 (t : Fin grid0.N) : win0_5.index t 0 = t.val ∧ win0_5.index t 1 = 1 := by revert t; decide +kernel
theorem idx_6 (t : Fin grid0.N) : win0_6.index t 0 = t.val ∧ win0_6.index t 1 = 2 := by revert t; decide +kernel
theorem idx_7 (t : Fin grid0.N) : win0_7.index t 0 = t.val ∧ win0_7.index t 1 = 0 := by revert t; decide +kernel
theorem idx_8 (t : Fin grid0.N) : win0_8.index t 0 = t.val ∧ win0_8.index t 1 = 0 := by revert t; decide +kernel
theorem idx_9 (t : Fin grid0.N) : win0_9.index t 0 = 0 ∧ win0_9.index t 1 = 0 := by revert t; decide +kernel
theorem idx_10 (t : Fin grid0.N) : win0_10.index t 0 = 0 ∧ win0_10.index t 1 = 4 := by revert t; decide +kernel
theorem idx_11 (t : Fin grid0.N) : win0_11.index t 0 = 0 ∧ win0_11.index t 1 = 5 := by revert t; decide +kernel
theorem idx_12 (t : Fin grid0.N) : win0_12.index t 0 = 0 ∧ win0_12.index t 1 = 6 := by revert t; decide +kernel
theorem idx_13 (t : Fin grid0.N) : win0_13.index t 0 = 0 ∧ win0_13.index t 1 = 7 := by revert t; decide +kernel
theorem idx_14 (t : Fin grid0.N) : win0_14.index t 0 = 0 ∧ win0_14.index t 1 = 8 := by revert t; decide +kernel
theorem idx_15 (t : Fin grid0.N) : win0_15.index t 0 = 0 ∧ win0_15.index t 1 = 9 := by revert t; decide +kernel
theorem idx_16 (t : Fin grid0.N) : win0_16.index t 0 = 0 ∧ win0_16.index t 1 = 10 := by revert t; decide +kernel
theorem idx_17 (t : Fin grid0.N) : win0_17.index t 0 = 0 ∧ win0_17.index t 1 = 44 := by revert t; decide +kernel
theorem idx_18 (t : Fin grid0.N) : win0_18.index t 0 = t.val ∧ win0_18.index t 1 = 0 := by revert t; decide +kernel
theorem idx_19 (t : Fin grid0.N) : win0_19.index t 0 = t.val ∧ win0_19.index t 1 = 0 := by revert t; decide +kernel
theorem idx_20 (t : Fin grid0.N) : win0_20.index t 0 = 0 ∧ win0_20.index t 1 = 0 := by revert t; decide +kernel
theorem idx_21 (t : Fin grid0.N) : win0_21.index t 0 = t.val ∧ win0_21.index t 1 = 0 := by revert t; decide +kernel
theorem idx_22 (t : Fin grid0.N) : win0_22.index t 0 = 0 ∧ win0_22.index t 1 = 0 := by revert t; decide +kernel

/-- A row of a point's blocks, in the whole arrays. -/
def at' (n : ℕ) (h : n < 16) (l : Fin 256) : Fin 4096 := ⟨n * 256 + l.val, by omega⟩

/-- The call's arguments. -/
abbrev pieces : Pieces where
  gates := m ((c : Thread nD τ).loc main_arg0)
  qa := m ((c : Thread nD τ).loc main_arg1)
  ka := m ((c : Thread nD τ).loc main_arg2)
  va := m ((c : Thread nD τ).loc main_arg3)
  conv := m ((c : Thread nD τ).loc main_arg4)
  z := m ((c : Thread nD τ).loc main_arg5)
  bd := m ((c : Thread nD τ).loc main_arg6)
abbrev A7 : Vec Ideal S1024x5760 .bf16 := m ((c : Thread nD τ).loc main_arg7)
abbrev A8 : Vec Ideal S4096x1024 .f32 := m ((c : Thread nD τ).loc main_arg8)
abbrev A9 : Vec Ideal S4096x1024 .f32 := m ((c : Thread nD τ).loc main_arg9)
abbrev A10 : Vec Ideal S1x1024 .f32 := m ((c : Thread nD τ).loc main_arg10)

theorem blk_0 (t : Fin cfg0.N) (h : t.val < 16) (l : Fin 256) (j : Fin 2048) :
    iblk m c 0 t (ix2 l j) = m ((c : Thread nD τ).loc main_arg0) (ix2 (at' t.val h l) j) := by
  have e := idx_0 t
  blk_ext! [iblk, V, e, at']

theorem blk_1 (t : Fin cfg0.N) (h : t.val < 16) (l : Fin 256) (j : Fin 512) :
    iblk m c 1 t (ix2 l j) = m ((c : Thread nD τ).loc main_arg1) (ix2 (at' t.val h l) j) := by
  have e := idx_1 t
  blk_ext! [iblk, V, e, at']

theorem blk_2 (t : Fin cfg0.N) (h : t.val < 16) (l : Fin 256) (j : Fin 512) :
    iblk m c 2 t (ix2 l j) = m ((c : Thread nD τ).loc main_arg2) (ix2 (at' t.val h l) j) := by
  have e := idx_2 t
  blk_ext! [iblk, V, e, at']

theorem blk_3 (t : Fin cfg0.N) (h : t.val < 16) (l : Fin 256) (j : Fin 512) :
    iblk m c 3 t (ix2 l j) = m ((c : Thread nD τ).loc main_arg3) (ix2 (at' t.val h l) j) := by
  have e := idx_3 t
  blk_ext! [iblk, V, e, at']

theorem blk_4 (t : Fin cfg0.N) (h : t.val < 16) (l : Fin 256) (j : Fin 512) :
    iblk m c 4 t (ix2 l j) = m ((c : Thread nD τ).loc main_arg4) (ix2 (at' t.val h l) ⟨j.val, by omega⟩) := by
  have e := idx_4 t
  blk_ext! [iblk, V, e, at']

theorem blk_5 (t : Fin cfg0.N) (h : t.val < 16) (l : Fin 256) (j : Fin 512) :
    iblk m c 5 t (ix2 l j) = m ((c : Thread nD τ).loc main_arg4) (ix2 (at' t.val h l) ⟨512 + j.val, by omega⟩) := by
  have e := idx_5 t
  blk_ext! [iblk, V, e, at']

theorem blk_6 (t : Fin cfg0.N) (h : t.val < 16) (l : Fin 256) (j : Fin 512) :
    iblk m c 6 t (ix2 l j) = m ((c : Thread nD τ).loc main_arg4) (ix2 (at' t.val h l) ⟨1024 + j.val, by omega⟩) := by
  have e := idx_6 t
  blk_ext! [iblk, V, e, at']

theorem blk_7 (t : Fin cfg0.N) (h : t.val < 16) (l : Fin 256) (j : Fin 512) :
    iblk m c 7 t (ix2 l j) = m ((c : Thread nD τ).loc main_arg5) (ix2 (at' t.val h l) j) := by
  have e := idx_7 t
  blk_ext! [iblk, V, e, at']

theorem blk_8 (t : Fin cfg0.N) (h : t.val < 16) (l : Fin 256) (j : Fin 128) :
    iblk m c 8 t (ix2 l j) = m ((c : Thread nD τ).loc main_arg6) (ix2 (at' t.val h l) j) := by
  have e := idx_8 t
  blk_ext! [iblk, V, e, at']

theorem blk_18 (t : Fin cfg0.N) (h : t.val < 16) (l : Fin 256) (j : Fin 1024) :
    iblk m c 18 t (ix2 l j) = m ((c : Thread nD τ).loc main_arg8) (ix2 (at' t.val h l) j) := by
  have e := idx_18 t
  blk_ext! [iblk, V, e, at']

theorem blk_19 (t : Fin cfg0.N) (h : t.val < 16) (l : Fin 256) (j : Fin 1024) :
    iblk m c 19 t (ix2 l j) = m ((c : Thread nD τ).loc main_arg9) (ix2 (at' t.val h l) j) := by
  have e := idx_19 t
  blk_ext! [iblk, V, e, at']

theorem blk_9 (t : Fin cfg0.N) (k : Fin 1024) (j : Fin 2048) : X0_9 m c t (ix2 k j) = A7 m c (ix2 k ⟨j.val, by omega⟩) := by
  have e := idx_9 t
  unfold X0_9 Pipeline.Window.fill
  rw [dif_pos (moved0_9 t _)]
  blk_ext! [iblk, V, e]

theorem blk_10 (t : Fin cfg0.N) (k : Fin 1024) (j : Fin 512) : X0_10 m c t (ix2 k j) = A7 m c (ix2 k ⟨2048 + j.val, by omega⟩) := by
  have e := idx_10 t
  unfold X0_10 Pipeline.Window.fill
  rw [dif_pos (moved0_10 t _)]
  blk_ext! [iblk, V, e]

theorem blk_11 (t : Fin cfg0.N) (k : Fin 1024) (j : Fin 512) : X0_11 m c t (ix2 k j) = A7 m c (ix2 k ⟨2560 + j.val, by omega⟩) := by
  have e := idx_11 t
  unfold X0_11 Pipeline.Window.fill
  rw [dif_pos (moved0_11 t _)]
  blk_ext! [iblk, V, e]

theorem blk_12 (t : Fin cfg0.N) (k : Fin 1024) (j : Fin 512) : X0_12 m c t (ix2 k j) = A7 m c (ix2 k ⟨3072 + j.val, by omega⟩) := by
  have e := idx_12 t
  unfold X0_12 Pipeline.Window.fill
  rw [dif_pos (moved0_12 t _)]
  blk_ext! [iblk, V, e]

theorem blk_13 (t : Fin cfg0.N) (k : Fin 1024) (j : Fin 512) : X0_13 m c t (ix2 k j) = A7 m c (ix2 k ⟨3584 + j.val, by omega⟩) := by
  have e := idx_13 t
  unfold X0_13 Pipeline.Window.fill
  rw [dif_pos (moved0_13 t _)]
  blk_ext! [iblk, V, e]

theorem blk_14 (t : Fin cfg0.N) (k : Fin 1024) (j : Fin 512) : X0_14 m c t (ix2 k j) = A7 m c (ix2 k ⟨4096 + j.val, by omega⟩) := by
  have e := idx_14 t
  unfold X0_14 Pipeline.Window.fill
  rw [dif_pos (moved0_14 t _)]
  blk_ext! [iblk, V, e]

theorem blk_15 (t : Fin cfg0.N) (k : Fin 1024) (j : Fin 512) : X0_15 m c t (ix2 k j) = A7 m c (ix2 k ⟨4608 + j.val, by omega⟩) := by
  have e := idx_15 t
  unfold X0_15 Pipeline.Window.fill
  rw [dif_pos (moved0_15 t _)]
  blk_ext! [iblk, V, e]

theorem blk_16 (t : Fin cfg0.N) (k : Fin 1024) (j : Fin 512) : X0_16 m c t (ix2 k j) = A7 m c (ix2 k ⟨5120 + j.val, by omega⟩) := by
  have e := idx_16 t
  unfold X0_16 Pipeline.Window.fill
  rw [dif_pos (moved0_16 t _)]
  blk_ext! [iblk, V, e]

theorem blk_17 (t : Fin cfg0.N) (k : Fin 1024) (j : Fin 128) : iblk m c 17 t (ix2 k j) = A7 m c (ix2 k ⟨5632 + j.val, by omega⟩) := by
  have e := idx_17 t
  blk_ext! [iblk, V, e]

theorem blk_20 (t : Fin cfg0.N) (k : Fin 1024) : iblk m c 20 t (ix2 0 k) = A10 m c (ix2 0 k) := by
  have e := idx_20 t
  blk_ext! [iblk, V, e]

/-- The product's gradient in a point's blocks. -/
abbrev dhAt (t : Fin cfg0.N) : Fin 256 → Fin 1024 → EReal :=
  dhBlk (iblk m c 0 t) (iblk m c 1 t) (iblk m c 2 t) (iblk m c 3 t) (iblk m c 4 t) (iblk m c 5 t) (iblk m c 6 t) (iblk m c 7 t)
    (iblk m c 8 t) (X0_9 m c t) (X0_10 m c t) (X0_11 m c t) (X0_12 m c t) (X0_13 m c t) (X0_14 m c t) (X0_15 m c t) (X0_16 m c t)
    (iblk m c 17 t)

theorem dh_blk (t : Fin cfg0.N) (h : t.val < 16) (l : Fin 256) : dhAt m c t l = dh (pieces m c) (A7 m c) (at' t.val h l) := by
  funext k
  unfold dhAt dhBlk dh
  refine congrArg₂ (· + ·) (congrArg₂ (· + ·) (congrArg₂ (· + ·) (congrArg₂ (· + ·) (congrArg₂ (· + ·) (congrArg₂ (· + ·) (congrArg₂ (· + ·) (congrArg₂ (· + ·) (
    Finset.sum_congr rfl fun j _ => congrArg₂ (· * ·) (blk_0 m c t h l j) (blk_9 m c t k j))
    (Finset.sum_congr rfl fun j _ => congrArg₂ (· * ·) (blk_1 m c t h l j) (blk_10 m c t k j)))
    (Finset.sum_congr rfl fun j _ => congrArg₂ (· * ·) (blk_2 m c t h l j) (blk_11 m c t k j)))
    (Finset.sum_congr rfl fun j _ => congrArg₂ (· * ·) (blk_3 m c t h l j) (blk_12 m c t k j)))
    (Finset.sum_congr rfl fun j _ => congrArg₂ (· * ·) (blk_4 m c t h l j) (blk_13 m c t k j)))
    (Finset.sum_congr rfl fun j _ => congrArg₂ (· * ·) (blk_5 m c t h l j) (blk_14 m c t k j)))
    (Finset.sum_congr rfl fun j _ => congrArg₂ (· * ·) (blk_6 m c t h l j) (blk_15 m c t k j)))
    (Finset.sum_congr rfl fun j _ => congrArg₂ (· * ·) (blk_7 m c t h l j) (blk_16 m c t k j)))
    (Finset.sum_congr rfl fun j _ => congrArg₂ (· * ·) (blk_8 m c t h l j) (blk_17 m c t k j))

/-- The point's rows of the norm's input. -/
def xAt (t : Fin cfg0.N) (l : Fin 256) (k : Fin 1024) : EReal := iblk m c 18 t (ix2 l k)

theorem x_blk (t : Fin cfg0.N) (h : t.val < 16) (l : Fin 256) : xAt m c t l = row (A8 m c) (at' t.val h l) :=
  funext fun j => blk_18 m c t h l j

theorem g_blk (t : Fin cfg0.N) : (fun j : Fin 1024 => (iblk m c 20 t (ix2 0 j) : EReal)) = gain (A10 m c) := funext fun j => blk_20 m c t j

/-- What a point writes of the rows. -/
theorem wrote (t : Fin cfg0.N) (h : t.val < 16) (l : Fin 256) (k : Fin 1024) :
    ((outsAt0 m c t.val t.isLt).1 (ix2 l k) : EReal)
      = dxArr (pieces m c) (A7 m c) (A8 m c) (A9 m c) (A10 m c) (ix2 (at' t.val h l) k) := by
  have e : (outsAt0 m c t.val t.isLt).1 = rowsOf (iblk m c 0 t) (iblk m c 1 t) (iblk m c 2 t) (iblk m c 3 t) (iblk m c 4 t) (iblk m c 5 t) (iblk m c 6 t) (iblk m c 7 t)
    (iblk m c 8 t) (X0_9 m c t) (X0_10 m c t) (X0_11 m c t) (X0_12 m c t) (X0_13 m c t) (X0_14 m c t) (X0_15 m c t) (X0_16 m c t)
    (iblk m c 17 t)
      (iblk m c 18 t) (iblk m c 19 t) (iblk m c 20 t) := by
    by_cases h0 : t.val % 16 = 0
    · rw [outsAt0_A m c t h0]; dsimp only; rw [rows_A]
    · rw [outsAt0_B m c t h0]; dsimp only; rw [rows_B]
  rw [e]
  refine (rows_apply _ _ _ _ _ _ _ _ _ _ _ _ _ _ _ _ _ _ _ _ _ l k).trans ?_
  rw [show dhBlk _ _ _ _ _ _ _ _ _ _ _ _ _ _ _ _ _ _ l = _ from dh_blk m c t h l,
    show (fun j : Fin 1024 => (iblk m c 18 t (ix2 l j) : EReal)) = _ from x_blk m c t h l, g_blk m c t]
  exact congrArg (· + _) (blk_19 m c t h l k)

/-- What a point adds to the gain's gradient. -/
theorem point_gain (t : Fin cfg0.N) (h : t.val < 16) (k : Fin 1024) :
    ∑ s : Fin 256, dhAt m c t s k * (xAt m c t s k * scale (xAt m c t s))
      = ∑ s ∈ Finset.range 256, gainTerm (pieces m c) (A7 m c) (A8 m c) k (t.val * 256 + s) := by
  rw [Finset.sum_range]
  refine Finset.sum_congr rfl fun s _ => ?_
  have e : Fin.ofNat 4096 (t.val * 256 + s.val) = at' t.val h s := Fin.ext (Nat.mod_eq_of_lt (at' t.val h s).isLt)
  unfold gainTerm
  rw [e, dh_blk m c t h s, x_blk m c t h s]

/-- The gain's gradient after a point: the sum over the rows so far. -/
theorem gain_sum (l : Fin 8) (k : Fin 1024) : ∀ (n : ℕ) (hn : n < cfg0.N) (_ : n < 16),
    ((outsAt0 m c n hn).2 (ix2 l k) : EReal)
      = ∑ r ∈ Finset.range ((n + 1) * 256), gainTerm (pieces m c) (A7 m c) (A8 m c) k r
  | 0, hn, h => by
    have e := outsAt0_A m c ⟨0, hn⟩ rfl
    rw [show outsAt0 m c 0 hn = _ from e]
    dsimp only
    rw [gain_A]
    refine (gain_apply _ _ _ _ _ _ _ _ _ _ _ _ _ _ _ _ _ _ _ _ l k).trans ?_
    rw [zero_apply, zero_add]
    refine (point_gain m c ⟨0, hn⟩ h k).trans ?_
    simp only [Nat.zero_mul, Nat.zero_add, Nat.one_mul]
  | n + 1, hn, h => by
    have e := outsAt0_B m c ⟨n + 1, hn⟩ (by dsimp only; omega)
    rw [show outsAt0 m c (n + 1) hn = _ from e]
    dsimp only
    rw [gain_B]
    refine (gain_apply _ _ _ _ _ _ _ _ _ _ _ _ _ _ _ _ _ _ _ _ l k).trans ?_
    rw [show (n + 1 + 1) * 256 = (n + 1) * 256 + 256 by omega, Finset.sum_range_add]
    exact congrArg₂ (· + ·) (gain_sum l k n (by omega) (by omega)) (point_gain m c ⟨n + 1, hn⟩ h k)

theorem final_rows : (dats m 0 c).arrAt 21 cfg0.N = dxArr (pieces m c) (A7 m c) (A8 m c) (A9 m c) (A10 m c) := by
  refine (dats m 0 c).arrAt_eq_of_covers 21 _ (by decide +kernel) fun t hf y => ?_
  have e := idx_21 t
  have hN : t.val < 16 := lt_of_lt_of_eq t.isLt N_0
  blk_simp
  rw [after0_21]
  rw [eq_ix2 y]
  refine (wrote m c t hN (y 0) (y 1)).trans ?_
  exact congrArg (dxArr _ _ _ _ _) (by blk_ext [e, at'])

theorem final_gain : (dats m 0 c).arrAt 22 cfg0.N = gainArr (pieces m c) (A7 m c) (A8 m c) := by
  refine (dats m 0 c).arrAt_eq_of_covers 22 _ (by decide +kernel) fun t hf y => ?_
  have e := idx_22 t
  have hN : t.val < 16 := lt_of_lt_of_eq t.isLt N_0
  have hk : t.val = 15 := by
    have := (flush0_22 t).mp hf
    omega
  blk_simp
  rw [after0_22]
  rw [eq_ix2 y]
  refine (gain_sum m c (y 0) (y 1) t.val t.isLt hN).trans ?_
  rw [hk]
  show gainArr (pieces m c) (A7 m c) (A8 m c) (ix2 (y 0) (y 1)) = _
  exact congrArg (gainArr _ _ _) (by blk_ext [e])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0_0) = dxArr (pieces m c) (A7 m c) (A8 m c) (A9 m c) (A10 m c)
      ∧ r.2.mem ((c.tc : Thread nD τ).loc main_v0_1) = gainArr (pieces m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (final_rows m c), (h c).2.1.trans (final_gain m c), (h c).2.2⟩) (run_blocks m ρ)

end Cert.InProj

end
-- ==== Proof.InProjRef.lean ====
/- The reference's gradient through the combined projection's input: on real inputs, the kernel's two arrays. -/
module

public import proofs.«01_k».proof.Proof.InProj
public import proofs.«01_k».proof.Proof.FfnInRef
public import proofs.«01_k».proof.Proof.Gen.Reference7Ideal.Run
public import Idealize.ShloMosaic.Lib.Quiescent

@[expose] public section

set_option maxRecDepth 16384

noncomputable section

namespace Cert.InProj

open Idealize.ShloMosaic Idealize.ShloMosaic.TcCoe Idealize.SL.Sem Cert.FeedForward Cert.Reference7Ideal Cert.Reference7Ideal.Gen
  Cert.Reference7Ideal.Value

section Terms

variable (p : Pieces) (w : FVec Ideal S1024x5760 .bf16) (x dx : FVec Ideal S4096x1024 .f32) (g : FVec Ideal S1x1024 .f32)

/-- The pieces side by side, and the reference's product: they, with the whole weight. -/
abbrev refPieces : FVec Ideal S4096x5760 .f32 :=
  concatenate S4096x5760 1 [⟨S4096x2048, ((extf .f32 (p.gates : FVec Ideal S4096x2048 .bf16) bitsLt_bf16_f32 : FVec Ideal S4096x2048 .f32) : (⟨S4096x2048, .f32⟩ : BufTy).Contents (Elt Ideal))⟩,
      ⟨S4096x512, ((extf .f32 (p.qa : FVec Ideal S4096x512 .bf16) bitsLt_bf16_f32 : FVec Ideal S4096x512 .f32) : (⟨S4096x512, .f32⟩ : BufTy).Contents (Elt Ideal))⟩,
      ⟨S4096x512, ((extf .f32 (p.ka : FVec Ideal S4096x512 .bf16) bitsLt_bf16_f32 : FVec Ideal S4096x512 .f32) : (⟨S4096x512, .f32⟩ : BufTy).Contents (Elt Ideal))⟩,
      ⟨S4096x512, ((extf .f32 (p.va : FVec Ideal S4096x512 .bf16) bitsLt_bf16_f32 : FVec Ideal S4096x512 .f32) : (⟨S4096x512, .f32⟩ : BufTy).Contents (Elt Ideal))⟩,
      ⟨S4096x1536, ((extf .f32 (p.conv : FVec Ideal S4096x1536 .bf16) bitsLt_bf16_f32 : FVec Ideal S4096x1536 .f32) : (⟨S4096x1536, .f32⟩ : BufTy).Contents (Elt Ideal))⟩,
      ⟨S4096x512, ((extf .f32 (p.z : FVec Ideal S4096x512 .bf16) bitsLt_bf16_f32 : FVec Ideal S4096x512 .f32) : (⟨S4096x512, .f32⟩ : BufTy).Contents (Elt Ideal))⟩,
      ⟨S4096x128, (p.bd : (⟨S4096x128, .f32⟩ : BufTy).Contents (Elt Ideal))⟩]
      concatenates_S4096x2048_S4096x512_S4096x512_S4096x512_S4096x1536_S4096x512_S4096x128_S4096x5760_d1

abbrev refDh : FVec Ideal S4096x1024 .f32 :=
  Host.dotGeneral dot_S4096x5760_S1024x5760_S4096x1024_1_1_0_0_n_n none (refPieces p) (extf .f32 w bitsLt_bf16_f32 : FVec Ideal S1024x5760 .f32)

theorem sum_split (a b c : ℕ) (h : a + b = c) (f : Fin c → EReal) :
    ∑ j, f j = (∑ j : Fin a, f ⟨j.val, by omega⟩) + ∑ j : Fin b, f ⟨a + j.val, by omega⟩ := by
  subst h
  exact Fin.sum_univ_add f

/-- A sum over the projection's columns, by the kernel's windows. -/
theorem sum_windows (f : Fin 5760 → EReal) :
    ∑ j, f j = (∑ j : Fin 2048, f ⟨j.val, by omega⟩) + (∑ j : Fin 512, f ⟨2048 + j.val, by omega⟩)
      + (∑ j : Fin 512, f ⟨2560 + j.val, by omega⟩) + (∑ j : Fin 512, f ⟨3072 + j.val, by omega⟩)
      + (∑ j : Fin 512, f ⟨3584 + j.val, by omega⟩) + (∑ j : Fin 512, f ⟨4096 + j.val, by omega⟩)
      + (∑ j : Fin 512, f ⟨4608 + j.val, by omega⟩) + (∑ j : Fin 512, f ⟨5120 + j.val, by omega⟩)
      + ∑ j : Fin 128, f ⟨5632 + j.val, by omega⟩ := by
  rw [sum_split 5632 128 5760 rfl, sum_split 5120 512 5632 rfl, sum_split 4608 512 5120 rfl, sum_split 4096 512 4608 rfl,
    sum_split 3584 512 4096 rfl, sum_split 3072 512 3584 rfl, sum_split 2560 512 3072 rfl, sum_split 2048 512 2560 rfl]

theorem refDh_apply (r : Fin 4096) (k : Fin 1024) : (refDh p w (ix2 r k) : EReal) = dh p w r k := by
  unfold dh
  pointwise [refDh]
  rw [sum_windows]
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_ <;>
  · refine Finset.sum_congr rfl fun j _ => ?_
    have hj := j.isLt
    dsimp only
    repeat first | rw [dif_pos (by omega)] | rw [dif_neg (by omega)]
    try exact congrArg (· * _) (congrArg _ (congrArg (ix2 r) (Fin.ext (by dsimp only; omega))))

/-- The inputs the rows' gradient divides and cancels are real. -/
structure Real : Prop where
  gates (i : S4096x2048.Idx) : ∃ r : ℝ, (p.gates i : EReal) = (r : EReal)
  qa (i : S4096x512.Idx) : ∃ r : ℝ, (p.qa i : EReal) = (r : EReal)
  ka (i : S4096x512.Idx) : ∃ r : ℝ, (p.ka i : EReal) = (r : EReal)
  va (i : S4096x512.Idx) : ∃ r : ℝ, (p.va i : EReal) = (r : EReal)
  conv (i : S4096x1536.Idx) : ∃ r : ℝ, (p.conv i : EReal) = (r : EReal)
  z (i : S4096x512.Idx) : ∃ r : ℝ, (p.z i : EReal) = (r : EReal)
  bd (i : S4096x128.Idx) : ∃ r : ℝ, (p.bd i : EReal) = (r : EReal)
  weight (i : S1024x5760.Idx) : ∃ r : ℝ, (w i : EReal) = (r : EReal)
  x (i : S4096x1024.Idx) : ∃ r : ℝ, (x i : EReal) = (r : EReal)
  gain (i : S1x1024.Idx) : ∃ r : ℝ, (g i : EReal) = (r : EReal)

variable {p w x g}

theorem dh_real (h : Real p w x g) (r : Fin 4096) (k : Fin 1024) : ∃ v : ℝ, dh p w r k = (v : EReal) := by
  choose A0 h0 using h.gates
  choose A1 h1 using h.qa
  choose A2 h2 using h.ka
  choose A3 h3 using h.va
  choose A4 h4 using h.conv
  choose A5 h5 using h.z
  choose A6 h6 using h.bd
  choose W hW using h.weight
  unfold dh
  simp only [h0, h1, h2, h3, h4, h5, h6, hW, ← EReal.coe_mul, coe_sum, ← EReal.coe_add]
  exact ⟨_, rfl⟩

theorem refRows_eq (h : Real p w x g) : FfnIn.refRows x dx (refDh p w) g = dxArr p w x dx g := by
  funext i
  rw [eq_ix2 i]
  generalize i 0 = r, i 1 = k
  choose X hX using h.x
  choose D hD using dh_real h r
  choose G hG using h.gain
  refine (FfnIn.refRows_apply x dx (refDh p w) g r k).trans ?_
  rw [funext fun j => refDh_apply p w r j, refDh_apply p w r k]
  exact ref_row _ _ _ _ D _ (fun j => hX _) hD (fun j => hG _) _ k

theorem refGain_eq : FfnIn.refGain x (refDh p w) = gainArr p w x := by
  funext i
  rw [eq_ix2 i]
  generalize i 0 = l, i 1 = k
  refine (FfnIn.refGain_apply x (refDh p w) l k).trans ?_
  show _ = ∑ r ∈ Finset.range 4096, gainTerm p w x k r
  rw [Finset.sum_range]
  refine Finset.sum_congr rfl fun r _ => ?_
  unfold gainTerm
  rw [show Fin.ofNat 4096 r.val = r from Fin.ext (Nat.mod_eq_of_lt r.isLt)]
  exact (congrArg (_ * ·) (refDh_apply p w r k)).trans (mul_comm _ _)

end Terms

variable (m : (ℓ : Loc nD τ sig) → Buf (Elt Ideal) ℓ) (ρ : Dev nD → PrngReg)

set_option maxHeartbeats 2000000 in
/-- The reference's run, from real arguments. -/
theorem reference_run (p : Dev nD → Pieces) (w : Dev nD → FVec Ideal S1024x5760 .bf16) (x dx : Dev nD → FVec Ideal S4096x1024 .f32)
    (g : Dev nD → FVec Ideal S1x1024 .f32)
    (e0 : ∀ c : Dev nD, m ((c.tc : Thread nD τ).loc main_arg0) = (p c).gates)
    (e1 : ∀ c : Dev nD, m ((c.tc : Thread nD τ).loc main_arg1) = (p c).qa)
    (e2 : ∀ c : Dev nD, m ((c.tc : Thread nD τ).loc main_arg2) = (p c).ka)
    (e3 : ∀ c : Dev nD, m ((c.tc : Thread nD τ).loc main_arg3) = (p c).va)
    (e4 : ∀ c : Dev nD, m ((c.tc : Thread nD τ).loc main_arg4) = (p c).conv)
    (e5 : ∀ c : Dev nD, m ((c.tc : Thread nD τ).loc main_arg5) = (p c).z)
    (e6 : ∀ c : Dev nD, m ((c.tc : Thread nD τ).loc main_arg6) = (p c).bd)
    (e7 : ∀ c : Dev nD, m ((c.tc : Thread nD τ).loc main_arg7) = w c) (e8 : ∀ c : Dev nD, m ((c.tc : Thread nD τ).loc main_arg8) = x c)
    (e9 : ∀ c : Dev nD, m ((c.tc : Thread nD τ).loc main_arg9) = dx c) (e10 : ∀ c : Dev nD, m ((c.tc : Thread nD τ).loc main_arg10) = g c)
    (h : ∀ c, Real (p c) (w c) (x c) (g c)) :
    θ_run (defs (F := Ideal)) (onTc (τ := τ) (main (F := Ideal))) ⟨m, fun _ => 0, ρ⟩ fun r =>
      ∀ c : Dev nD, r.2.mem ((c.tc : Thread nD τ).loc main_v44) = dxArr (p c) (w c) (x c) (dx c) (g c)
      ∧ r.2.mem ((c.tc : Thread nD τ).loc main_v45) = gainArr (p c) (w c) (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r k c => ⟨(k c).1.trans ?_, (k c).2.1.trans ?_, (k c).2.2⟩) (Value.run m ρ)
  · unfold res_main_v44
    rw [e0 c, e1 c, e2 c, e3 c, e4 c, e5 c, e6 c, e7 c, e8 c, e9 c, e10 c]
    exact refRows_eq (dx c) (h c)
  · rw [e0 c, e1 c, e2 c, e3 c, e4 c, e5 c, e6 c, e7 c, e8 c]
    exact refGain_eq

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run defs _ _).mono (fun r h => ⟨fun c => (h c).2.2, sem_eq_zero_of_no_sems (by decide) r.2⟩) (Value.run m ρ)

end Cert.InProj

end
-- ==== Proof.Projection.lean ====
/- The claim on the projection's gradient: finite inputs are real, and there kernel and reference agree. -/
module

public import proofs.«01_k».proof.Defs
public import proofs.«01_k».proof.Proof.Gradients
public import proofs.«01_k».proof.Proof.InProjRef

@[expose] public section

set_option maxRecDepth 16384

noncomputable section

namespace Cert.Proof

open Idealize.ShloMosaic Idealize.ShloMosaic.TcCoe Idealize.SL.Sem Cert.FeedForward

theorem pre_facts7 : Cert.Pre_finite7.Facts where
  bitsLt_bf16_f32 := by decide
  bcast_S_S4096x2048 := by decide
  bcast_S_S4096x512 := by decide
  bcast_S_S4096x1536 := by decide
  bcast_S_S4096x128 := by decide
  bcast_S_S1024x5760 := by decide
  bcast_S_S4096x1024 := by decide
  bcast_S_S1x1024 := by decide

theorem in_proj : Cert.algebraic_Kernel7Ideal_Reference7Ideal_pre_finite7 (hPre_finite7 := pre_facts7) := fun m g m' g' hp hm => by
  have R : ∀ c, InProj.Real (InProj.pieces m c) (InProj.A7 m c) (InProj.A8 m c) (InProj.A10 m c) := fun c => by
    obtain ⟨h0, h1, h2, h3, h4, h5, h6, h7, h8, h9⟩ := hp c
    exact ⟨real_of_ones (fun _ => zero_word) h0, real_of_ones (fun _ => zero_word) h1, real_of_ones (fun _ => zero_word) h2,
      real_of_ones (fun _ => zero_word) h3, real_of_ones (fun _ => zero_word) h4, real_of_ones (fun _ => zero_word) h5,
      real_of_ones (fun _ => zero_word) h6, real_of_ones (fun _ => zero_word) h7, real_of_ones (fun _ => zero_word) h8,
      real_of_ones (fun _ => zero_word) h9⟩
  exact ⟨_, _, InProj.kernel_run m g, InProj.reference_run m' g' (InProj.pieces m) (InProj.A7 m) (InProj.A8 m) (InProj.A9 m)
    (InProj.A10 m) (fun c => (hm c).1) (fun c => (hm c).2.1) (fun c => (hm c).2.2.1) (fun c => (hm c).2.2.2.1)
    (fun c => (hm c).2.2.2.2.1) (fun c => (hm c).2.2.2.2.2.1) (fun c => (hm c).2.2.2.2.2.2.1) (fun c => (hm c).2.2.2.2.2.2.2.1)
    (fun c => (hm c).2.2.2.2.2.2.2.2.1) (fun c => (hm c).2.2.2.2.2.2.2.2.2.1) (fun c => (hm c).2.2.2.2.2.2.2.2.2.2) R⟩

end Cert.Proof

end
-- ==== Proof.FfnDown.lean ====
/- The feed-forward's second product, added to the residual in two halves. -/
module

public import proofs.«01_k».proof.Proof.Blocks
public import proofs.«01_k».proof.Proof.Gen.Kernel10Ideal.Value
public import proofs.«01_k».proof.Proof.Gen.Reference10Ideal.Run
public import Idealize.ShloMosaic.Lib.Tactic
public import Idealize.ShloMosaic.Lib.Quiescent
public import Idealize.ShloMosaic.Lib.Pipeline.ValueKit

@[expose] public section

set_option maxRecDepth 16384

noncomputable section

namespace Cert.FfnDown

open Idealize.ShloMosaic Idealize.ShloMosaic.TcCoe Idealize.SL.Sem

/-- The residual and the product, whole. -/
def downArr (a : Vec Ideal Cert.Kernel10Ideal.S4096x2816 .bf16) (w : Vec Ideal Cert.Kernel10Ideal.S2816x1024 .bf16)
    (x : Vec Ideal Cert.Kernel10Ideal.S4096x1024 .f32) : Vec Ideal Cert.Kernel10Ideal.S4096x1024 .f32 :=
  fun i => x i + ∑ j : Fin 2816, (a (ix2 (i 0) j) : EReal) * w (ix2 j (i 1))

section Kernel

open Cert.Kernel10Ideal Cert.Kernel10Ideal.Gen Cert.Kernel10Ideal.Value

theorem add_apply (acc : FVec Ideal S512x1024 .f32) (x : FVec Ideal S512x1408 .bf16) (y : FVec Ideal S1408x1024 .bf16)
    (p : Fin 512) (q : Fin 1024) :
    (k0_pay1 (F := Ideal) acc x y (ix2 p q) : EReal) = acc (ix2 p q) + ∑ j : Fin 1408, (x (ix2 p j) : EReal) * y (ix2 j q) := by
  pointwise [k0_pay1]

variable (m : (ℓ : Loc nD τ sig) → Buf (Elt Ideal) ℓ) (c : Dev nD)

theorem idx_0 (t : Fin grid0.N) : win0_0.index t 0 = t.val / 2 ∧ win0_0.index t 1 = t.val % 2 := by revert t; decide +kernel
theorem idx_1 (t : Fin grid0.N) : win0_1.index t 0 = t.val % 2 ∧ win0_1.index t 1 = 0 := by revert t; decide +kernel
theorem idx_2 (t : Fin grid0.N) : win0_2.index t 0 = t.val / 2 ∧ win0_2.index t 1 = 0 := by revert t; decide +kernel
theorem idx_3 (t : Fin grid0.N) : win0_3.index t 0 = t.val / 2 ∧ win0_3.index t 1 = 0 := by revert t; decide +kernel

/-- A row of a point's blocks, in the whole arrays. -/
def at' (n : ℕ) (h : n < 16) (l : Fin 512) : Fin 4096 := ⟨n / 2 * 512 + l.val, by omega⟩

abbrev A0 : Vec Ideal S4096x2816 .bf16 := m ((c : Thread nD τ).loc main_arg0)
abbrev A1 : Vec Ideal S2816x1024 .bf16 := m ((c : Thread nD τ).loc main_arg1)
abbrev A2 : Vec Ideal S4096x1024 .f32 := m ((c : Thread nD τ).loc main_arg2)

theorem blk_0 (t : Fin cfg0.N) (h : t.val < 16) (l : Fin 512) (j : Fin 1408) :
    iblk m c 0 t (ix2 l j) = A0 m c (ix2 (at' t.val h l) ⟨t.val % 2 * 1408 + j.val, by omega⟩) := by
  have e := idx_0 t
  blk_ext! [iblk, V, e, at']

theorem blk_1 (t : Fin cfg0.N) (j : Fin 1408) (k : Fin 1024) :
    iblk m c 1 t (ix2 j k) = A1 m c (ix2 ⟨t.val % 2 * 1408 + j.val, by omega⟩ k) := by
  have e := idx_1 t
  blk_ext! [iblk, V, e]

theorem blk_2 (t : Fin cfg0.N) (h : t.val < 16) (l : Fin 512) (k : Fin 1024) :
    iblk m c 2 t (ix2 l k) = A2 m c (ix2 (at' t.val h l) k) := by
  have e := idx_2 t
  blk_ext! [iblk, V, e, at']

/-- A point's part of the product. -/
def part (r : Fin 4096) (k : Fin 1024) (n : ℕ) (h : n < 2) : EReal :=
  ∑ j : Fin 1408, A0 m c (ix2 r ⟨n * 1408 + j.val, by omega⟩) * A1 m c (ix2 ⟨n * 1408 + j.val, by omega⟩ k)

/-- The point's blocks of the two factors. -/
def aAt (t : Fin cfg0.N) (l : Fin 512) (j : Fin 1408) : EReal := iblk m c 0 t (ix2 l j)
def wAt (t : Fin cfg0.N) (j : Fin 1408) (k : Fin 1024) : EReal := iblk m c 1 t (ix2 j k)

theorem part_blk (t : Fin cfg0.N) (h : t.val < 16) (l : Fin 512) (k : Fin 1024) :
    ∑ j : Fin 1408, aAt m c t l j * wAt m c t j k
      = part m c (at' t.val h l) k (t.val % 2) (by omega) :=
  Finset.sum_congr rfl fun j _ => congrArg₂ (· * ·) (blk_0 m c t h l j) (blk_1 m c t j k)

theorem parts (r : Fin 4096) (k : Fin 1024) :
    part m c r k 0 (by omega) + part m c r k 1 (by omega) = ∑ j : Fin 2816, (A0 m c (ix2 r j) : EReal) * A1 m c (ix2 j k) := by
  refine ((Fin.sum_univ_add (a := 1408) (b := 1408) fun j : Fin 2816 => (A0 m c (ix2 r j) : EReal) * A1 m c (ix2 j k)).trans ?_).symm
  unfold part
  refine congrArg₂ (· + ·) (Finset.sum_congr rfl fun j _ => ?_) (Finset.sum_congr rfl fun j _ => ?_)
  · exact congrArg (fun i => (A0 m c (ix2 r i) : EReal) * A1 m c (ix2 i k)) (Fin.ext (by dsimp [Fin.castAdd]; omega))
  · exact congrArg (fun i => (A0 m c (ix2 r i) : EReal) * A1 m c (ix2 i k)) (Fin.ext (by dsimp [Fin.natAdd]))

/-- The first point of a block of rows: the residual and the first half. -/
theorem first (t : Fin cfg0.N) (h : t.val < 16) (h0 : t.val % 2 = 0) (l : Fin 512) (k : Fin 1024) :
    (outsAt0 m c t.val t.isLt (ix2 l k) : EReal) = A2 m c (ix2 (at' t.val h l) k) + part m c (at' t.val h l) k 0 (by omega) := by
  rw [outsAt0_A m c t h0, out_A_3_eq]
  refine (add_apply _ _ _ l k).trans ?_
  refine congrArg₂ (· + ·) (blk_2 m c t h l k) ((part_blk m c t h l k).trans ?_)
  simp only [h0]

/-- The second: the whole product. -/
theorem second (t : Fin cfg0.N) (h : t.val < 16) (h0 : ¬ t.val % 2 = 0) (l : Fin 512) (k : Fin 1024) :
    (outsAt0 m c t.val t.isLt (ix2 l k) : EReal) = downArr (A0 m c) (A1 m c) (A2 m c) (ix2 (at' t.val h l) k) := by
  have h1 : t.val % 2 = 1 := by omega
  have e : at' (t.val - 1) (by omega) l = at' t.val h l := Fin.ext (by unfold at'; dsimp only; omega)
  rw [outsAt0_B m c t h0, out_B_3_eq]
  refine (add_apply _ _ _ l k).trans ?_
  have p := first m c ⟨t.val - 1, by omega⟩ (by dsimp only; omega) (by dsimp only; omega) l k
  refine (congrArg₂ (· + ·) p (part_blk m c t h l k)).trans ?_
  simp only [h1, e]
  rw [add_assoc, parts]
  rfl

theorem final : (dats m 0 c).arrAt 3 cfg0.N = downArr (A0 m c) (A1 m c) (A2 m c) := by
  refine (dats m 0 c).arrAt_eq_of_covers 3 _ (by decide +kernel) fun t hf y => ?_
  have e := idx_3 t
  have hN : t.val < 16 := lt_of_lt_of_eq t.isLt N_0
  have hk : ¬ t.val % 2 = 0 := by
    have := (flush0_3 t).mp hf
    omega
  blk_simp
  rw [after0_3]
  rw [eq_ix2 y]
  refine (second m c t hN hk (y 0) (y 1)).trans ?_
  exact congrArg (downArr _ _ _) (by blk_ext [e, at'])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0) = downArr (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference10Ideal Cert.Reference10Ideal.Gen

theorem ref_eq (a : FVec Ideal S4096x2816 .bf16) (w : FVec Ideal S2816x1024 .bf16) (x : FVec Ideal S4096x1024 .f32) :
    addf x (Host.dotGeneral dot_S4096x2816_S2816x1024_S4096x1024_1_0_0_1_n_n none (extf .f32 a bitsLt_bf16_f32 : FVec Ideal S4096x2816 .f32)
      (extf .f32 w bitsLt_bf16_f32 : FVec Ideal S2816x1024 .f32)) = downArr a w x := by
  funext i
  rw [eq_ix2 i]
  generalize i 0 = r, i 1 = k
  show _ = (x (ix2 r k) : EReal) + ∑ j : Fin 2816, (a (ix2 r j) : EReal) * w (ix2 j k)
  pointwise []

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v3)
        = downArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.FfnDown

end
-- ==== Proof.DownProduct.lean ====
/- The claim on the feed-forward's second product: the kernel and the reference leave the same array. -/
module

public import proofs.«01_k».proof.Defs
public import proofs.«01_k».proof.Proof.FfnDown

@[expose] public section

noncomputable section

namespace Cert.Proof

open Idealize.ShloMosaic Idealize.SL.Sem

theorem ffn_down : Cert.algebraic_Kernel10Ideal_Reference10Ideal := fun m g m' g' _ hm =>
  ⟨fun c => FfnDown.downArr (m ((c.tc : Thread _ _).loc Kernel10Ideal.main_arg0)) (m ((c.tc : Thread _ _).loc Kernel10Ideal.main_arg1))
      (m ((c.tc : Thread _ _).loc Kernel10Ideal.main_arg2)),
    FfnDown.kernel_run m g,
    (θ_run _ _ _).mono (fun _ h c => ⟨(h c).1.trans (congr (congrArg₂ FfnDown.downArr (hm c).1 (hm c).2.1) (hm c).2.2), (h c).2⟩)
      (FfnDown.reference_run m' g')⟩

end Cert.Proof

end
-- ==== Proof.Columns.lean ====
/- An array whose columns are written a piece at a time: one piece is a product over the tokens, the others are kept. -/
module

public import proofs.«01_k».proof.Proof.Blocks

@[expose] public section

noncomputable section

namespace Cert.Columns

open Idealize.ShloMosaic

theorem hz : (![0, 0] : Fin 2 → Nat) = fun _ => 0 := funext fun a => by fin_cases a <;> rfl

/-- The product of the transposed activations with a gradient. -/
def grad {n : ℕ} (a : Fin 4096 → Fin 1024 → EReal) (d : Fin 4096 → Fin n → EReal) (p : Fin 1024) (q : Fin n) : EReal :=
  ∑ r : Fin 4096, a r p * d r q

/-- The array after a piece is written: `g` in the columns from `b` to `b + n`, `w` in the others. -/
def pieceAt {n : ℕ} (b : ℕ) (g : Fin 1024 → Fin n → EReal) (w : Fin 1024 → Fin 5760 → EReal) (p : Fin 1024) (j : Fin 5760) : EReal :=
  if h : b ≤ j.val ∧ j.val < b + n then g p ⟨j.val - b, by omega⟩ else w p j

theorem pieceAt_in {n : ℕ} (b : ℕ) (g : Fin 1024 → Fin n → EReal) (w : Fin 1024 → Fin 5760 → EReal) (p : Fin 1024) (j : Fin 5760)
    (q : Fin n) (h : j.val = b + q.val) : pieceAt b g w p j = g p q := by
  unfold pieceAt
  rw [dif_pos (by omega)]
  exact congrArg (g p) (Fin.ext (by dsimp only; omega))

theorem pieceAt_out {n : ℕ} (b : ℕ) (g : Fin 1024 → Fin n → EReal) (w : Fin 1024 → Fin 5760 → EReal) (p : Fin 1024) (j : Fin 5760)
    (h : j.val < b ∨ b + n ≤ j.val) : pieceAt b g w p j = w p j := by
  unfold pieceAt
  exact dif_neg (by omega)

end Cert.Columns

end
-- ==== Proof.DwIn0.lean ====
/- The gradient of the projection's weight, its first 2048 columns: one product over the tokens, in blocks. -/
module

public import proofs.«01_k».proof.Proof.Columns
public import proofs.«01_k».proof.Proof.Gen.Kernel20Ideal.Value
public import proofs.«01_k».proof.Proof.Gen.Reference20Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn0

open Idealize.ShloMosaic Idealize.ShloMosaic.TcCoe Idealize.SL.Sem Cert.FeedForward Cert.Columns

/-- The whole piece. -/
def arr (a : Vec Ideal Cert.Kernel20Ideal.S4096x1024 .bf16) (d : Vec Ideal Cert.Kernel20Ideal.S4096x2048 .bf16) : Vec Ideal Cert.Kernel20Ideal.S1024x2048 .bf16 :=
  fun i => grad (fun r p => a (ix2 r p)) (fun r q => d (ix2 r q)) (i 0) (i 1)

section Kernel

open Cert.Kernel20Ideal Cert.Kernel20Ideal.Gen Cert.Kernel20Ideal.Value

section Cases

variable {F : FTy → Type} [FloatOps F] (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (acc : Vec F S1024x1024 .f32)

/-- The first point of a block starts from zero. -/
theorem first (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The next ones add to what the scratch holds. -/
theorem next (hc0 : ¬cond0_0 i) (hc1 : ¬cond0_1 i) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  rw [View.canon_unit_zero (S := S1024x1024) hz]
  simp only [View.readAt_eq_ld, h3.read_unread, h4.read_unread, h6.read_unread, View.ld_unit_zero (S := S1024x1024) hz]

/-- The last one writes the sum out. -/
theorem last (hc0 : ¬cond0_0 i) (hc1 : cond0_1 i) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz]

end Cases

theorem start_apply (x : FVec Ideal S1024x1024 .bf16) (y : FVec Ideal S1024x1024 .bf16) (p : Fin 1024) (q : Fin 1024) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x1024 .f32) (x : FVec Ideal S1024x1024 .bf16) (y : FVec Ideal S1024x1024 .bf16)
    (p : Fin 1024) (q : Fin 1024) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x1024 .f32) (p : Fin 1024) (q : Fin 1024) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 := by
  revert t; decide +kernel

/-- A column of a point's block, in the whole array. -/
def col (n : ℕ) (h : n < 8) (q : Fin 1024) : Fin 2048 := ⟨n / 4 * 1024 + q.val, by omega⟩

theorem col_eq {n n' : ℕ} (h : n < 8) (h' : n' < 8) (e : n / 4 = n' / 4) (q : Fin 1024) : col n h q = col n' h' q :=
  Fin.ext (by unfold col; dsimp only; rw [e])

theorem a_blk (t : Fin cfg0.N) (h : t.val < 8) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 8) (l : Fin 1024) (q : Fin 1024) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 2048) : EReal := m ((c : Thread nD τ).loc main_arg1) (ix2 r q)

/-- What a point adds, at an entry of the result. -/
def term (k : ℕ) (hk : k < 4) (p : Fin 1024) (q : Fin 2048) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 1024) : EReal := iblk m c 1 t (ix2 l q)

theorem point_sum (t : Fin cfg0.N) (h : t.val < 8) (k : ℕ) (hk : t.val % 4 = k) (p : Fin 1024) (q : Fin 1024) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 1024) : EReal := (outsAt0 m c n h).2 (ix2 p q)
def wrote (n : ℕ) (h : n < cfg0.N) (p : Fin 1024) (q : Fin 1024) : EReal := (outsAt0 m c n h).1 (ix2 p q)

theorem held_0 (t : Fin cfg0.N) (h : t.val < 8) (h0 : t.val % 4 = 0) (p : Fin 1024) (q : Fin 1024) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 8) (k : ℕ) (hk : t.val % 4 = k + 1) (hk' : k < 2) (p : Fin 1024) (q : Fin 1024) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 8) (hk : t.val % 4 = 3) (p : Fin 1024) (q : Fin 1024) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 8) (hk : n % 4 = 1) (p : Fin 1024) (q : Fin 1024) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 8) (hk : n % 4 = 2) (p : Fin 1024) (q : Fin 1024) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 2048) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 8) (hk : t.val % 4 = 3) (p : Fin 1024) (q : Fin 1024) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

theorem final : (dats m 0 c).arrAt 2 cfg0.N = arr (m ((c : Thread nD τ).loc main_arg0)) (m ((c : Thread nD τ).loc main_arg1)) := by
  refine (dats m 0 c).arrAt_eq_of_covers 2 _ (by decide +kernel) fun t hf y => ?_
  have e := idx_2 t
  have hN : t.val < 8 := lt_of_lt_of_eq t.isLt N_0
  have hk : t.val % 4 = 3 := (flush0_2 t).mp hf
  blk_simp
  rw [after0_2]
  rw [eq_ix2 y]
  refine (written m c t hN hk (y 0) (y 1)).trans ?_
  show arr (m ((c : Thread nD τ).loc main_arg0)) (m ((c : Thread nD τ).loc main_arg1)) (ix2 (y 0) (col t.val hN (y 1))) = _
  exact congrArg (arr _ _) (by blk_ext [e, col])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Kernel

section Reference

open Cert.Reference20Ideal Cert.Reference20Ideal.Gen Cert.Reference20Ideal.Value

/-- The reference's piece. -/
abbrev refPiece (a : FVec Ideal S4096x1024 .bf16) (d : FVec Ideal S4096x2048 .bf16) : FVec Ideal S1024x2048 .bf16 :=
  truncf .bf16 (transpose S1024x2048 [1, 0] (Host.dotGeneral dot_S4096x2048_S4096x1024_S2048x1024_0_0_1_1_n_n none (extf .f32 d bitsLt_bf16_f32)
    (extf .f32 a bitsLt_bf16_f32)) transposes_S2048x1024_S1024x2048_1_0) bitsLt_bf16_f32

theorem refPiece_apply (a : FVec Ideal S4096x1024 .bf16) (d : FVec Ideal S4096x2048 .bf16) (p : Fin 1024) (q : Fin 2048) :
    (refPiece a d (ix2 p q) : EReal) = grad (fun r p => a (ix2 r p)) (fun r q => d (ix2 r q)) p q := by
  unfold grad
  pointwise [refPiece]
  simp only [EReal.mul_comm]

theorem ref_eq (a : FVec Ideal S4096x1024 .bf16) (d : FVec Ideal S4096x2048 .bf16) : refPiece a d = arr a d := by
  funext i
  rw [eq_ix2 i]
  exact refPiece_apply a d (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v6)
          = arr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (ref_eq _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (Value.run m ρ)

end Reference

end Cert.DwIn0

end
-- ==== Proof.DwIn1.lean ====
/- The gradient of the projection's weight, columns 2048 to 2559: one product over the tokens, in blocks, the other columns kept. -/
module

public import proofs.«01_k».proof.Proof.Columns
public import proofs.«01_k».proof.Proof.Gen.Kernel21Ideal.Value
public import proofs.«01_k».proof.Proof.Gen.Reference21Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn1

open Idealize.ShloMosaic Idealize.ShloMosaic.TcCoe Idealize.SL.Sem Cert.FeedForward Cert.Columns

/-- The whole array: the piece, beside the columns that were there. -/
def arr (a : Vec Ideal Cert.Kernel21Ideal.S4096x1024 .bf16) (d : Vec Ideal Cert.Kernel21Ideal.S4096x512 .bf16) (w : Vec Ideal Cert.Kernel21Ideal.S1024x5760 .bf16) :
    Vec Ideal Cert.Kernel21Ideal.S1024x5760 .bf16 :=
  fun i => pieceAt 2048 (grad (fun r p => a (ix2 r p)) fun r q => d (ix2 r q)) (fun p q => w (ix2 p q)) (i 0) (i 1)

section Kernel

open Cert.Kernel21Ideal Cert.Kernel21Ideal.Gen Cert.Kernel21Ideal.Value

section Cases

variable {F : FTy → Type} [FloatOps F] (c : Dev nD) (i : grid0.Coords)
  (a3 : Memref sig .tc .vmem S1024x1024 .bf16) (h3 : a3.IsWhole) (a4 : Memref sig .tc .vmem S1024x512 .bf16) (h4 : a4.IsWhole)
  (a6 : Memref sig .tc .vmem S1024x512 .bf16) (h6 : a6.IsWhole) (a7 : Memref sig .tc .vmem S1024x512 .f32) (h7 : a7.IsWhole)
  (x : Vec F S1024x1024 .bf16) (y : Vec F S1024x512 .bf16) (acc : Vec F S1024x512 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x512) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x512) hz]
  simp only [View.readAt_eq_ld, h3.read_unread, h4.read_unread, h7.read_unread, View.ld_unit_zero (S := S1024x512) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x512) hz, View.readCov_unit_zero (S := S1024x512) _ hz]
  simp only [View.readAt_eq_ld, h3.read_unread, h4.read_unread, h7.read_unread, View.ld_unit_zero (S := S1024x512) hz,
    View.ld_unit_zero (S := S1024x1024) hz]

end Cases

theorem start_apply (x : FVec Ideal S1024x1024 .bf16) (y : FVec Ideal S1024x512 .bf16) (p : Fin 1024) (q : Fin 512) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x512 .f32) (x : FVec Ideal S1024x1024 .bf16) (y : FVec Ideal S1024x512 .bf16)
    (p : Fin 1024) (q : Fin 512) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x512 .f32) (p : Fin 1024) (q : Fin 512) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 4 := by
  revert t; decide +kernel

/-- A column of a point's block, in the whole array. -/
def col (n : ℕ) (h : n < 4) (q : Fin 512) : Fin 512 := ⟨n / 4 * 512 + q.val, by omega⟩

theorem col_eq {n n' : ℕ} (h : n < 4) (h' : n' < 4) (e : n / 4 = n' / 4) (q : Fin 512) : col n h q = col n' h' q :=
  Fin.ext (by unfold col; dsimp only; rw [e])

theorem a_blk (t : Fin cfg0.N) (h : t.val < 4) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 4) (l : Fin 1024) (q : Fin 512) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 512) : EReal := m ((c : Thread nD τ).loc main_arg1) (ix2 r q)

/-- What a point adds, at an entry of the result. -/
def term (k : ℕ) (hk : k < 4) (p : Fin 1024) (q : Fin 512) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 512) : EReal := iblk m c 1 t (ix2 l q)

theorem point_sum (t : Fin cfg0.N) (h : t.val < 4) (k : ℕ) (hk : t.val % 4 = k) (p : Fin 1024) (q : Fin 512) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 512) : EReal := (outsAt0 m c n h).2 (ix2 p q)
def wrote (n : ℕ) (h : n < cfg0.N) (p : Fin 1024) (q : Fin 512) : EReal := (outsAt0 m c n h).1 (ix2 p q)

theorem held_0 (t : Fin cfg0.N) (h : t.val < 4) (h0 : t.val % 4 = 0) (p : Fin 1024) (q : Fin 512) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 4) (k : ℕ) (hk : t.val % 4 = k + 1) (hk' : k < 2) (p : Fin 1024) (q : Fin 512) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 4) (hk : t.val % 4 = 3) (p : Fin 1024) (q : Fin 512) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 4) (hk : n % 4 = 1) (p : Fin 1024) (q : Fin 512) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 4) (hk : n % 4 = 2) (p : Fin 1024) (q : Fin 512) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 512) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 4) (hk : t.val % 4 = 3) (p : Fin 1024) (q : Fin 512) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => a 1 = 4) (by decide +kernel) (fun t hf y => ?_) fun j hj => ?_
  · have e := idx_2 t
    have hN : t.val < 4 := lt_of_lt_of_eq t.isLt N_0
    have hk : t.val % 4 = 3 := (flush0_2 t).mp hf
    blk_simp
    rw [after0_2]
    rw [eq_ix2 ((cfg0.win 2).xinj (cfg0.grid.coords t) y)]
    generalize hp : (cfg0.win 2).xinj (cfg0.grid.coords t) y 0 = p
    generalize hq : (cfg0.win 2).xinj (cfg0.grid.coords t) y 1 = q
    have hp : p.val = (y 0).val := hp ▸ rfl
    have hq : q.val = (y 1).val := hq ▸ rfl
    refine (written m c t hN hk p q).trans ?_
    have ht := (col t.val hN q).isLt
    refine (pieceAt_in 2048 _ (fun p q => m ((c : Thread nD τ).loc main_arg2) (ix2 p q)) p ⟨2048 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨2048 + (col t.val hN q).val, by omega⟩) = _
    exact congrArg (arr _ _ _) (by blk_ext [e, col, hp, hq])
  · have h : (j 1).val < 2048 ∨ 2560 ≤ (j 1).val := by
      have e : (cfg0.win 2).cell j 1 = (j 1).val / 512 := rfl
      omega
    blk_simp
    rw [A_eq, eq_ix2 j]
    refine (congrFun (entry m c) _).trans ?_
    exact (pieceAt_out 2048 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference21Ideal Cert.Reference21Ideal.Gen Cert.Reference21Ideal.Value

/-- The reference's piece. -/
abbrev refPiece (a : FVec Ideal S4096x1024 .bf16) (d : FVec Ideal S4096x512 .bf16) : FVec Ideal S1024x512 .bf16 :=
  truncf .bf16 (transpose S1024x512 [1, 0] (Host.dotGeneral dot_S4096x512_S4096x1024_S512x1024_0_0_1_1_n_n none (extf .f32 d bitsLt_bf16_f32)
    (extf .f32 a bitsLt_bf16_f32)) transposes_S512x1024_S1024x512_1_0) bitsLt_bf16_f32

theorem refPiece_apply (a : FVec Ideal S4096x1024 .bf16) (d : FVec Ideal S4096x512 .bf16) (p : Fin 1024) (q : Fin 512) :
    (refPiece a d (ix2 p q) : EReal) = grad (fun r p => a (ix2 r p)) (fun r q => d (ix2 r q)) p q := by
  unfold grad
  pointwise [refPiece]
  simp only [EReal.mul_comm]

/-- The reference's array: the columns before the piece, the piece, the columns after it. -/
abbrev refArr (a : FVec Ideal S4096x1024 .bf16) (d : FVec Ideal S4096x512 .bf16) (w : FVec Ideal S1024x5760 .bf16) : FVec Ideal S1024x5760 .bf16 :=
  concatenate S1024x5760 1 [⟨S1024x2048, extractStridedSlice S1024x2048 ![0, 0] w slices_S1024x5760_S1024x2048_0_0⟩, ⟨S1024x512, refPiece a d⟩,
    ⟨S1024x3200, extractStridedSlice S1024x3200 ![0, 2560] w slices_S1024x5760_S1024x3200_0_2560⟩]
    concatenates_S1024x2048_S1024x512_S1024x3200_S1024x5760_d1

theorem refArr_apply (a : FVec Ideal S4096x1024 .bf16) (d : FVec Ideal S4096x512 .bf16) (w : FVec Ideal S1024x5760 .bf16) (p : Fin 1024) (q : Fin 5760) :
    (refArr a d w (ix2 p q) : EReal)
      = pieceAt 2048 (grad (fun r p => a (ix2 r p)) fun r q => d (ix2 r q)) (fun p q => w (ix2 p q)) p q := by
  unfold pieceAt grad
  pointwise [refArr]
  by_cases h : q.val < 2048
  · rw [dif_pos h, dif_neg (by omega)]
  · rw [dif_neg h]
    by_cases h' : q.val - 2048 < 512
    · rw [dif_pos h', dif_pos (by omega)]
      exact Finset.sum_congr rfl fun r _ => EReal.mul_comm _ _
    · rw [dif_neg h', dif_neg (by omega)]
      exact congrArg w (congrArg (ix2 p) (Fin.ext (by dsimp only; omega)))

theorem ref_eq (a : FVec Ideal S4096x1024 .bf16) (d : FVec Ideal S4096x512 .bf16) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v9)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn1

end
-- ==== Proof.DwIn2.lean ====
/- The gradient of the projection's weight, columns 2560 to 3071: one product over the tokens, in blocks, the other columns kept. -/
module

public import proofs.«01_k».proof.Proof.Columns
public import proofs.«01_k».proof.Proof.Gen.Kernel22Ideal.Value
public import proofs.«01_k».proof.Proof.Gen.Reference22Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn2

open Idealize.ShloMosaic Idealize.ShloMosaic.TcCoe Idealize.SL.Sem Cert.FeedForward Cert.Columns

/-- The whole array: the piece, beside the columns that were there. -/
def arr (a : Vec Ideal Cert.Kernel22Ideal.S4096x1024 .bf16) (d : Vec Ideal Cert.Kernel22Ideal.S4096x512 .bf16) (w : Vec Ideal Cert.Kernel22Ideal.S1024x5760 .bf16) :
    Vec Ideal Cert.Kernel22Ideal.S1024x5760 .bf16 :=
  fun i => pieceAt 2560 (grad (fun r p => a (ix2 r p)) fun r q => d (ix2 r q)) (fun p q => w (ix2 p q)) (i 0) (i 1)

section Kernel

open Cert.Kernel22Ideal Cert.Kernel22Ideal.Gen Cert.Kernel22Ideal.Value

section Cases

variable {F : FTy → Type} [FloatOps F] (c : Dev nD) (i : grid0.Coords)
  (a3 : Memref sig .tc .vmem S1024x1024 .bf16) (h3 : a3.IsWhole) (a4 : Memref sig .tc .vmem S1024x512 .bf16) (h4 : a4.IsWhole)
  (a6 : Memref sig .tc .vmem S1024x512 .bf16) (h6 : a6.IsWhole) (a7 : Memref sig .tc .vmem S1024x512 .f32) (h7 : a7.IsWhole)
  (x : Vec F S1024x1024 .bf16) (y : Vec F S1024x512 .bf16) (acc : Vec F S1024x512 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x512) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x512) hz]
  simp only [View.readAt_eq_ld, h3.read_unread, h4.read_unread, h7.read_unread, View.ld_unit_zero (S := S1024x512) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x512) hz, View.readCov_unit_zero (S := S1024x512) _ hz]
  simp only [View.readAt_eq_ld, h3.read_unread, h4.read_unread, h7.read_unread, View.ld_unit_zero (S := S1024x512) hz,
    View.ld_unit_zero (S := S1024x1024) hz]

end Cases

theorem start_apply (x : FVec Ideal S1024x1024 .bf16) (y : FVec Ideal S1024x512 .bf16) (p : Fin 1024) (q : Fin 512) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x512 .f32) (x : FVec Ideal S1024x1024 .bf16) (y : FVec Ideal S1024x512 .bf16)
    (p : Fin 1024) (q : Fin 512) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x512 .f32) (p : Fin 1024) (q : Fin 512) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 5 := by
  revert t; decide +kernel

/-- A column of a point's block, in the whole array. -/
def col (n : ℕ) (h : n < 4) (q : Fin 512) : Fin 512 := ⟨n / 4 * 512 + q.val, by omega⟩

theorem col_eq {n n' : ℕ} (h : n < 4) (h' : n' < 4) (e : n / 4 = n' / 4) (q : Fin 512) : col n h q = col n' h' q :=
  Fin.ext (by unfold col; dsimp only; rw [e])

theorem a_blk (t : Fin cfg0.N) (h : t.val < 4) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 4) (l : Fin 1024) (q : Fin 512) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 512) : EReal := m ((c : Thread nD τ).loc main_arg1) (ix2 r q)

/-- What a point adds, at an entry of the result. -/
def term (k : ℕ) (hk : k < 4) (p : Fin 1024) (q : Fin 512) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 512) : EReal := iblk m c 1 t (ix2 l q)

theorem point_sum (t : Fin cfg0.N) (h : t.val < 4) (k : ℕ) (hk : t.val % 4 = k) (p : Fin 1024) (q : Fin 512) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 512) : EReal := (outsAt0 m c n h).2 (ix2 p q)
def wrote (n : ℕ) (h : n < cfg0.N) (p : Fin 1024) (q : Fin 512) : EReal := (outsAt0 m c n h).1 (ix2 p q)

theorem held_0 (t : Fin cfg0.N) (h : t.val < 4) (h0 : t.val % 4 = 0) (p : Fin 1024) (q : Fin 512) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 4) (k : ℕ) (hk : t.val % 4 = k + 1) (hk' : k < 2) (p : Fin 1024) (q : Fin 512) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 4) (hk : t.val % 4 = 3) (p : Fin 1024) (q : Fin 512) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 4) (hk : n % 4 = 1) (p : Fin 1024) (q : Fin 512) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 4) (hk : n % 4 = 2) (p : Fin 1024) (q : Fin 512) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 512) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 4) (hk : t.val % 4 = 3) (p : Fin 1024) (q : Fin 512) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => a 1 = 5) (by decide +kernel) (fun t hf y => ?_) fun j hj => ?_
  · have e := idx_2 t
    have hN : t.val < 4 := lt_of_lt_of_eq t.isLt N_0
    have hk : t.val % 4 = 3 := (flush0_2 t).mp hf
    blk_simp
    rw [after0_2]
    rw [eq_ix2 ((cfg0.win 2).xinj (cfg0.grid.coords t) y)]
    generalize hp : (cfg0.win 2).xinj (cfg0.grid.coords t) y 0 = p
    generalize hq : (cfg0.win 2).xinj (cfg0.grid.coords t) y 1 = q
    have hp : p.val = (y 0).val := hp ▸ rfl
    have hq : q.val = (y 1).val := hq ▸ rfl
    refine (written m c t hN hk p q).trans ?_
    have ht := (col t.val hN q).isLt
    refine (pieceAt_in 2560 _ (fun p q => m ((c : Thread nD τ).loc main_arg2) (ix2 p q)) p ⟨2560 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨2560 + (col t.val hN q).val, by omega⟩) = _
    exact congrArg (arr _ _ _) (by blk_ext [e, col, hp, hq])
  · have h : (j 1).val < 2560 ∨ 3072 ≤ (j 1).val := by
      have e : (cfg0.win 2).cell j 1 = (j 1).val / 512 := rfl
      omega
    blk_simp
    rw [A_eq, eq_ix2 j]
    refine (congrFun (entry m c) _).trans ?_
    exact (pieceAt_out 2560 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference22Ideal Cert.Reference22Ideal.Gen Cert.Reference22Ideal.Value

/-- The reference's piece. -/
abbrev refPiece (a : FVec Ideal S4096x1024 .bf16) (d : FVec Ideal S4096x512 .bf16) : FVec Ideal S1024x512 .bf16 :=
  truncf .bf16 (transpose S1024x512 [1, 0] (Host.dotGeneral dot_S4096x512_S4096x1024_S512x1024_0_0_1_1_n_n none (extf .f32 d bitsLt_bf16_f32)
    (extf .f32 a bitsLt_bf16_f32)) transposes_S512x1024_S1024x512_1_0) bitsLt_bf16_f32

theorem refPiece_apply (a : FVec Ideal S4096x1024 .bf16) (d : FVec Ideal S4096x512 .bf16) (p : Fin 1024) (q : Fin 512) :
    (refPiece a d (ix2 p q) : EReal) = grad (fun r p => a (ix2 r p)) (fun r q => d (ix2 r q)) p q := by
  unfold grad
  pointwise [refPiece]
  simp only [EReal.mul_comm]

/-- The reference's array: the columns before the piece, the piece, the columns after it. -/
abbrev refArr (a : FVec Ideal S4096x1024 .bf16) (d : FVec Ideal S4096x512 .bf16) (w : FVec Ideal S1024x5760 .bf16) : FVec Ideal S1024x5760 .bf16 :=
  concatenate S1024x5760 1 [⟨S1024x2560, extractStridedSlice S1024x2560 ![0, 0] w slices_S1024x5760_S1024x2560_0_0⟩, ⟨S1024x512, refPiece a d⟩,
    ⟨S1024x2688, extractStridedSlice S1024x2688 ![0, 3072] w slices_S1024x5760_S1024x2688_0_3072⟩]
    concatenates_S1024x2560_S1024x512_S1024x2688_S1024x5760_d1

theorem refArr_apply (a : FVec Ideal S4096x1024 .bf16) (d : FVec Ideal S4096x512 .bf16) (w : FVec Ideal S1024x5760 .bf16) (p : Fin 1024) (q : Fin 5760) :
    (refArr a d w (ix2 p q) : EReal)
      = pieceAt 2560 (grad (fun r p => a (ix2 r p)) fun r q => d (ix2 r q)) (fun p q => w (ix2 p q)) p q := by
  unfold pieceAt grad
  pointwise [refArr]
  by_cases h : q.val < 2560
  · rw [dif_pos h, dif_neg (by omega)]
  · rw [dif_neg h]
    by_cases h' : q.val - 2560 < 512
    · rw [dif_pos h', dif_pos (by omega)]
      exact Finset.sum_congr rfl fun r _ => EReal.mul_comm _ _
    · rw [dif_neg h', dif_neg (by omega)]
      exact congrArg w (congrArg (ix2 p) (Fin.ext (by dsimp only; omega)))

theorem ref_eq (a : FVec Ideal S4096x1024 .bf16) (d : FVec Ideal S4096x512 .bf16) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v9)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn2

end
-- ==== Proof.DwIn3.lean ====
/- The gradient of the projection's weight, columns 3072 to 3583: one product over the tokens, in blocks, the other columns kept. -/
module

public import proofs.«01_k».proof.Proof.Columns
public import proofs.«01_k».proof.Proof.Gen.Kernel23Ideal.Value
public import proofs.«01_k».proof.Proof.Gen.Reference23Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn3

open Idealize.ShloMosaic Idealize.ShloMosaic.TcCoe Idealize.SL.Sem Cert.FeedForward Cert.Columns

/-- The whole array: the piece, beside the columns that were there. -/
def arr (a : Vec Ideal Cert.Kernel23Ideal.S4096x1024 .bf16) (d : Vec Ideal Cert.Kernel23Ideal.S4096x512 .bf16) (w : Vec Ideal Cert.Kernel23Ideal.S1024x5760 .bf16) :
    Vec Ideal Cert.Kernel23Ideal.S1024x5760 .bf16 :=
  fun i => pieceAt 3072 (grad (fun r p => a (ix2 r p)) fun r q => d (ix2 r q)) (fun p q => w (ix2 p q)) (i 0) (i 1)

section Kernel

open Cert.Kernel23Ideal Cert.Kernel23Ideal.Gen Cert.Kernel23Ideal.Value

section Cases

variable {F : FTy → Type} [FloatOps F] (c : Dev nD) (i : grid0.Coords)
  (a3 : Memref sig .tc .vmem S1024x1024 .bf16) (h3 : a3.IsWhole) (a4 : Memref sig .tc .vmem S1024x512 .bf16) (h4 : a4.IsWhole)
  (a6 : Memref sig .tc .vmem S1024x512 .bf16) (h6 : a6.IsWhole) (a7 : Memref sig .tc .vmem S1024x512 .f32) (h7 : a7.IsWhole)
  (x : Vec F S1024x1024 .bf16) (y : Vec F S1024x512 .bf16) (acc : Vec F S1024x512 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x512) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x512) hz]
  simp only [View.readAt_eq_ld, h3.read_unread, h4.read_unread, h7.read_unread, View.ld_unit_zero (S := S1024x512) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x512) hz, View.readCov_unit_zero (S := S1024x512) _ hz]
  simp only [View.readAt_eq_ld, h3.read_unread, h4.read_unread, h7.read_unread, View.ld_unit_zero (S := S1024x512) hz,
    View.ld_unit_zero (S := S1024x1024) hz]

end Cases

theorem start_apply (x : FVec Ideal S1024x1024 .bf16) (y : FVec Ideal S1024x512 .bf16) (p : Fin 1024) (q : Fin 512) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x512 .f32) (x : FVec Ideal S1024x1024 .bf16) (y : FVec Ideal S1024x512 .bf16)
    (p : Fin 1024) (q : Fin 512) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x512 .f32) (p : Fin 1024) (q : Fin 512) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 6 := by
  revert t; decide +kernel

/-- A column of a point's block, in the whole array. -/
def col (n : ℕ) (h : n < 4) (q : Fin 512) : Fin 512 := ⟨n / 4 * 512 + q.val, by omega⟩

theorem col_eq {n n' : ℕ} (h : n < 4) (h' : n' < 4) (e : n / 4 = n' / 4) (q : Fin 512) : col n h q = col n' h' q :=
  Fin.ext (by unfold col; dsimp only; rw [e])

theorem a_blk (t : Fin cfg0.N) (h : t.val < 4) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 4) (l : Fin 1024) (q : Fin 512) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 512) : EReal := m ((c : Thread nD τ).loc main_arg1) (ix2 r q)

/-- What a point adds, at an entry of the result. -/
def term (k : ℕ) (hk : k < 4) (p : Fin 1024) (q : Fin 512) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 512) : EReal := iblk m c 1 t (ix2 l q)

theorem point_sum (t : Fin cfg0.N) (h : t.val < 4) (k : ℕ) (hk : t.val % 4 = k) (p : Fin 1024) (q : Fin 512) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 512) : EReal := (outsAt0 m c n h).2 (ix2 p q)
def wrote (n : ℕ) (h : n < cfg0.N) (p : Fin 1024) (q : Fin 512) : EReal := (outsAt0 m c n h).1 (ix2 p q)

theorem held_0 (t : Fin cfg0.N) (h : t.val < 4) (h0 : t.val % 4 = 0) (p : Fin 1024) (q : Fin 512) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 4) (k : ℕ) (hk : t.val % 4 = k + 1) (hk' : k < 2) (p : Fin 1024) (q : Fin 512) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 4) (hk : t.val % 4 = 3) (p : Fin 1024) (q : Fin 512) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 4) (hk : n % 4 = 1) (p : Fin 1024) (q : Fin 512) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 4) (hk : n % 4 = 2) (p : Fin 1024) (q : Fin 512) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 512) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 4) (hk : t.val % 4 = 3) (p : Fin 1024) (q : Fin 512) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => a 1 = 6) (by decide +kernel) (fun t hf y => ?_) fun j hj => ?_
  · have e := idx_2 t
    have hN : t.val < 4 := lt_of_lt_of_eq t.isLt N_0
    have hk : t.val % 4 = 3 := (flush0_2 t).mp hf
    blk_simp
    rw [after0_2]
    rw [eq_ix2 ((cfg0.win 2).xinj (cfg0.grid.coords t) y)]
    generalize hp : (cfg0.win 2).xinj (cfg0.grid.coords t) y 0 = p
    generalize hq : (cfg0.win 2).xinj (cfg0.grid.coords t) y 1 = q
    have hp : p.val = (y 0).val := hp ▸ rfl
    have hq : q.val = (y 1).val := hq ▸ rfl
    refine (written m c t hN hk p q).trans ?_
    have ht := (col t.val hN q).isLt
    refine (pieceAt_in 3072 _ (fun p q => m ((c : Thread nD τ).loc main_arg2) (ix2 p q)) p ⟨3072 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨3072 + (col t.val hN q).val, by omega⟩) = _
    exact congrArg (arr _ _ _) (by blk_ext [e, col, hp, hq])
  · have h : (j 1).val < 3072 ∨ 3584 ≤ (j 1).val := by
      have e : (cfg0.win 2).cell j 1 = (j 1).val / 512 := rfl
      omega
    blk_simp
    rw [A_eq, eq_ix2 j]
    refine (congrFun (entry m c) _).trans ?_
    exact (pieceAt_out 3072 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference23Ideal Cert.Reference23Ideal.Gen Cert.Reference23Ideal.Value

/-- The reference's piece. -/
abbrev refPiece (a : FVec Ideal S4096x1024 .bf16) (d : FVec Ideal S4096x512 .bf16) : FVec Ideal S1024x512 .bf16 :=
  truncf .bf16 (transpose S1024x512 [1, 0] (Host.dotGeneral dot_S4096x512_S4096x1024_S512x1024_0_0_1_1_n_n none (extf .f32 d bitsLt_bf16_f32)
    (extf .f32 a bitsLt_bf16_f32)) transposes_S512x1024_S1024x512_1_0) bitsLt_bf16_f32

theorem refPiece_apply (a : FVec Ideal S4096x1024 .bf16) (d : FVec Ideal S4096x512 .bf16) (p : Fin 1024) (q : Fin 512) :
    (refPiece a d (ix2 p q) : EReal) = grad (fun r p => a (ix2 r p)) (fun r q => d (ix2 r q)) p q := by
  unfold grad
  pointwise [refPiece]
  simp only [EReal.mul_comm]

/-- The reference's array: the columns before the piece, the piece, the columns after it. -/
abbrev refArr (a : FVec Ideal S4096x1024 .bf16) (d : FVec Ideal S4096x512 .bf16) (w : FVec Ideal S1024x5760 .bf16) : FVec Ideal S1024x5760 .bf16 :=
  concatenate S1024x5760 1 [⟨S1024x3072, extractStridedSlice S1024x3072 ![0, 0] w slices_S1024x5760_S1024x3072_0_0⟩, ⟨S1024x512, refPiece a d⟩,
    ⟨S1024x2176, extractStridedSlice S1024x2176 ![0, 3584] w slices_S1024x5760_S1024x2176_0_3584⟩]
    concatenates_S1024x3072_S1024x512_S1024x2176_S1024x5760_d1

theorem refArr_apply (a : FVec Ideal S4096x1024 .bf16) (d : FVec Ideal S4096x512 .bf16) (w : FVec Ideal S1024x5760 .bf16) (p : Fin 1024) (q : Fin 5760) :
    (refArr a d w (ix2 p q) : EReal)
      = pieceAt 3072 (grad (fun r p => a (ix2 r p)) fun r q => d (ix2 r q)) (fun p q => w (ix2 p q)) p q := by
  unfold pieceAt grad
  pointwise [refArr]
  by_cases h : q.val < 3072
  · rw [dif_pos h, dif_neg (by omega)]
  · rw [dif_neg h]
    by_cases h' : q.val - 3072 < 512
    · rw [dif_pos h', dif_pos (by omega)]
      exact Finset.sum_congr rfl fun r _ => EReal.mul_comm _ _
    · rw [dif_neg h', dif_neg (by omega)]
      exact congrArg w (congrArg (ix2 p) (Fin.ext (by dsimp only; omega)))

theorem ref_eq (a : FVec Ideal S4096x1024 .bf16) (d : FVec Ideal S4096x512 .bf16) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v9)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn3

end
-- ==== Proof.DwIn4.lean ====
/- The gradient of the projection's weight, columns 3584 to 5119: one product over the tokens, in blocks, the other columns kept. -/
module

public import proofs.«01_k».proof.Proof.Columns
public import proofs.«01_k».proof.Proof.Gen.Kernel24Ideal.Value
public import proofs.«01_k».proof.Proof.Gen.Reference24Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn4

open Idealize.ShloMosaic Idealize.ShloMosaic.TcCoe Idealize.SL.Sem Cert.FeedForward Cert.Columns

/-- The whole array: the piece, beside the columns that were there. -/
def arr (a : Vec Ideal Cert.Kernel24Ideal.S4096x1024 .bf16) (d : Vec Ideal Cert.Kernel24Ideal.S4096x1536 .bf16) (w : Vec Ideal Cert.Kernel24Ideal.S1024x5760 .bf16) :
    Vec Ideal Cert.Kernel24Ideal.S1024x5760 .bf16 :=
  fun i => pieceAt 3584 (grad (fun r p => a (ix2 r p)) fun r q => d (ix2 r q)) (fun p q => w (ix2 p q)) (i 0) (i 1)

section Kernel

open Cert.Kernel24Ideal Cert.Kernel24Ideal.Gen Cert.Kernel24Ideal.Value

section Cases

variable {F : FTy → Type} [FloatOps F] (c : Dev nD) (i : grid0.Coords)
  (a3 : Memref sig .tc .vmem S1024x1024 .bf16) (h3 : a3.IsWhole) (a4 : Memref sig .tc .vmem S1024x512 .bf16) (h4 : a4.IsWhole)
  (a6 : Memref sig .tc .vmem S1024x512 .bf16) (h6 : a6.IsWhole) (a7 : Memref sig .tc .vmem S1024x512 .f32) (h7 : a7.IsWhole)
  (x : Vec F S1024x1024 .bf16) (y : Vec F S1024x512 .bf16) (acc : Vec F S1024x512 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x512) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x512) hz]
  simp only [View.readAt_eq_ld, h3.read_unread, h4.read_unread, h7.read_unread, View.ld_unit_zero (S := S1024x512) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x512) hz, View.readCov_unit_zero (S := S1024x512) _ hz]
  simp only [View.readAt_eq_ld, h3.read_unread, h4.read_unread, h7.read_unread, View.ld_unit_zero (S := S1024x512) hz,
    View.ld_unit_zero (S := S1024x1024) hz]

end Cases

theorem start_apply (x : FVec Ideal S1024x1024 .bf16) (y : FVec Ideal S1024x512 .bf16) (p : Fin 1024) (q : Fin 512) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x512 .f32) (x : FVec Ideal S1024x1024 .bf16) (y : FVec Ideal S1024x512 .bf16)
    (p : Fin 1024) (q : Fin 512) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x512 .f32) (p : Fin 1024) (q : Fin 512) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 7 := by
  revert t; decide +kernel

/-- A column of a point's block, in the whole array. -/
def col (n : ℕ) (h : n < 12) (q : Fin 512) : Fin 1536 := ⟨n / 4 * 512 + q.val, by omega⟩

theorem col_eq {n n' : ℕ} (h : n < 12) (h' : n' < 12) (e : n / 4 = n' / 4) (q : Fin 512) : col n h q = col n' h' q :=
  Fin.ext (by unfold col; dsimp only; rw [e])

theorem a_blk (t : Fin cfg0.N) (h : t.val < 12) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 12) (l : Fin 1024) (q : Fin 512) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 1536) : EReal := m ((c : Thread nD τ).loc main_arg1) (ix2 r q)

/-- What a point adds, at an entry of the result. -/
def term (k : ℕ) (hk : k < 4) (p : Fin 1024) (q : Fin 1536) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 512) : EReal := iblk m c 1 t (ix2 l q)

theorem point_sum (t : Fin cfg0.N) (h : t.val < 12) (k : ℕ) (hk : t.val % 4 = k) (p : Fin 1024) (q : Fin 512) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 512) : EReal := (outsAt0 m c n h).2 (ix2 p q)
def wrote (n : ℕ) (h : n < cfg0.N) (p : Fin 1024) (q : Fin 512) : EReal := (outsAt0 m c n h).1 (ix2 p q)

theorem held_0 (t : Fin cfg0.N) (h : t.val < 12) (h0 : t.val % 4 = 0) (p : Fin 1024) (q : Fin 512) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 12) (k : ℕ) (hk : t.val % 4 = k + 1) (hk' : k < 2) (p : Fin 1024) (q : Fin 512) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 12) (hk : t.val % 4 = 3) (p : Fin 1024) (q : Fin 512) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 12) (hk : n % 4 = 1) (p : Fin 1024) (q : Fin 512) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 12) (hk : n % 4 = 2) (p : Fin 1024) (q : Fin 512) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 1536) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 12) (hk : t.val % 4 = 3) (p : Fin 1024) (q : Fin 512) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => 7 ≤ a 1 ∧ a 1 < 10) (by decide +kernel) (fun t hf y => ?_) fun j hj => ?_
  · have e := idx_2 t
    have hN : t.val < 12 := lt_of_lt_of_eq t.isLt N_0
    have hk : t.val % 4 = 3 := (flush0_2 t).mp hf
    blk_simp
    rw [after0_2]
    rw [eq_ix2 ((cfg0.win 2).xinj (cfg0.grid.coords t) y)]
    generalize hp : (cfg0.win 2).xinj (cfg0.grid.coords t) y 0 = p
    generalize hq : (cfg0.win 2).xinj (cfg0.grid.coords t) y 1 = q
    have hp : p.val = (y 0).val := hp ▸ rfl
    have hq : q.val = (y 1).val := hq ▸ rfl
    refine (written m c t hN hk p q).trans ?_
    have ht := (col t.val hN q).isLt
    refine (pieceAt_in 3584 _ (fun p q => m ((c : Thread nD τ).loc main_arg2) (ix2 p q)) p ⟨3584 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨3584 + (col t.val hN q).val, by omega⟩) = _
    exact congrArg (arr _ _ _) (by blk_ext [e, col, hp, hq])
  · have h : (j 1).val < 3584 ∨ 5120 ≤ (j 1).val := by
      have e : (cfg0.win 2).cell j 1 = (j 1).val / 512 := rfl
      omega
    blk_simp
    rw [A_eq, eq_ix2 j]
    refine (congrFun (entry m c) _).trans ?_
    exact (pieceAt_out 3584 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference24Ideal Cert.Reference24Ideal.Gen Cert.Reference24Ideal.Value

/-- The reference's piece. -/
abbrev refPiece (a : FVec Ideal S4096x1024 .bf16) (d : FVec Ideal S4096x1536 .bf16) : FVec Ideal S1024x1536 .bf16 :=
  truncf .bf16 (transpose S1024x1536 [1, 0] (Host.dotGeneral dot_S4096x1536_S4096x1024_S1536x1024_0_0_1_1_n_n none (extf .f32 d bitsLt_bf16_f32)
    (extf .f32 a bitsLt_bf16_f32)) transposes_S1536x1024_S1024x1536_1_0) bitsLt_bf16_f32

theorem refPiece_apply (a : FVec Ideal S4096x1024 .bf16) (d : FVec Ideal S4096x1536 .bf16) (p : Fin 1024) (q : Fin 1536) :
    (refPiece a d (ix2 p q) : EReal) = grad (fun r p => a (ix2 r p)) (fun r q => d (ix2 r q)) p q := by
  unfold grad
  pointwise [refPiece]
  simp only [EReal.mul_comm]

/-- The reference's array: the columns before the piece, the piece, the columns after it. -/
abbrev refArr (a : FVec Ideal S4096x1024 .bf16) (d : FVec Ideal S4096x1536 .bf16) (w : FVec Ideal S1024x5760 .bf16) : FVec Ideal S1024x5760 .bf16 :=
  concatenate S1024x5760 1 [⟨S1024x3584, extractStridedSlice S1024x3584 ![0, 0] w slices_S1024x5760_S1024x3584_0_0⟩, ⟨S1024x1536, refPiece a d⟩,
    ⟨S1024x640, extractStridedSlice S1024x640 ![0, 5120] w slices_S1024x5760_S1024x640_0_5120⟩]
    concatenates_S1024x3584_S1024x1536_S1024x640_S1024x5760_d1

theorem refArr_apply (a : FVec Ideal S4096x1024 .bf16) (d : FVec Ideal S4096x1536 .bf16) (w : FVec Ideal S1024x5760 .bf16) (p : Fin 1024) (q : Fin 5760) :
    (refArr a d w (ix2 p q) : EReal)
      = pieceAt 3584 (grad (fun r p => a (ix2 r p)) fun r q => d (ix2 r q)) (fun p q => w (ix2 p q)) p q := by
  unfold pieceAt grad
  pointwise [refArr]
  by_cases h : q.val < 3584
  · rw [dif_pos h, dif_neg (by omega)]
  · rw [dif_neg h]
    by_cases h' : q.val - 3584 < 1536
    · rw [dif_pos h', dif_pos (by omega)]
      exact Finset.sum_congr rfl fun r _ => EReal.mul_comm _ _
    · rw [dif_neg h', dif_neg (by omega)]
      exact congrArg w (congrArg (ix2 p) (Fin.ext (by dsimp only; omega)))

theorem ref_eq (a : FVec Ideal S4096x1024 .bf16) (d : FVec Ideal S4096x1536 .bf16) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v9)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn4

end
-- ==== Proof.DwIn5.lean ====
/- The gradient of the projection's weight, columns 5120 to 5631: one product over the tokens, in blocks, the other columns kept. -/
module

public import proofs.«01_k».proof.Proof.Columns
public import proofs.«01_k».proof.Proof.Gen.Kernel25Ideal.Value
public import proofs.«01_k».proof.Proof.Gen.Reference25Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn5

open Idealize.ShloMosaic Idealize.ShloMosaic.TcCoe Idealize.SL.Sem Cert.FeedForward Cert.Columns

/-- The whole array: the piece, beside the columns that were there. -/
def arr (a : Vec Ideal Cert.Kernel25Ideal.S4096x1024 .bf16) (d : Vec Ideal Cert.Kernel25Ideal.S4096x512 .bf16) (w : Vec Ideal Cert.Kernel25Ideal.S1024x5760 .bf16) :
    Vec Ideal Cert.Kernel25Ideal.S1024x5760 .bf16 :=
  fun i => pieceAt 5120 (grad (fun r p => a (ix2 r p)) fun r q => d (ix2 r q)) (fun p q => w (ix2 p q)) (i 0) (i 1)

section Kernel

open Cert.Kernel25Ideal Cert.Kernel25Ideal.Gen Cert.Kernel25Ideal.Value

section Cases

variable {F : FTy → Type} [FloatOps F] (c : Dev nD) (i : grid0.Coords)
  (a3 : Memref sig .tc .vmem S1024x1024 .bf16) (h3 : a3.IsWhole) (a4 : Memref sig .tc .vmem S1024x512 .bf16) (h4 : a4.IsWhole)
  (a6 : Memref sig .tc .vmem S1024x512 .bf16) (h6 : a6.IsWhole) (a7 : Memref sig .tc .vmem S1024x512 .f32) (h7 : a7.IsWhole)
  (x : Vec F S1024x1024 .bf16) (y : Vec F S1024x512 .bf16) (acc : Vec F S1024x512 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x512) hz, View.readCov_unit_zero (S := S1024x512) _ hz]
  simp only [View.readAt_eq_ld, h3.read_unread, h4.read_unread, View.ld_unit_zero (S := S1024x512) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x512) hz]
  simp only [View.readAt_eq_ld, h3.read_unread, h4.read_unread, h7.read_unread, View.ld_unit_zero (S := S1024x512) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x512) hz, View.readCov_unit_zero (S := S1024x512) _ hz]
  simp only [View.readAt_eq_ld, h3.read_unread, h4.read_unread, h7.read_unread, View.ld_unit_zero (S := S1024x512) hz,
    View.ld_unit_zero (S := S1024x1024) hz]

end Cases

theorem start_apply (x : FVec Ideal S1024x1024 .bf16) (y : FVec Ideal S1024x512 .bf16) (p : Fin 1024) (q : Fin 512) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x512 .f32) (x : FVec Ideal S1024x1024 .bf16) (y : FVec Ideal S1024x512 .bf16)
    (p : Fin 1024) (q : Fin 512) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x512 .f32) (p : Fin 1024) (q : Fin 512) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 10 := by
  revert t; decide +kernel

/-- A column of a point's block, in the whole array. -/
def col (n : ℕ) (h : n < 4) (q : Fin 512) : Fin 512 := ⟨n / 4 * 512 + q.val, by omega⟩

theorem col_eq {n n' : ℕ} (h : n < 4) (h' : n' < 4) (e : n / 4 = n' / 4) (q : Fin 512) : col n h q = col n' h' q :=
  Fin.ext (by unfold col; dsimp only; rw [e])

theorem a_blk (t : Fin cfg0.N) (h : t.val < 4) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 4) (l : Fin 1024) (q : Fin 512) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 512) : EReal := m ((c : Thread nD τ).loc main_arg1) (ix2 r q)

/-- What a point adds, at an entry of the result. -/
def term (k : ℕ) (hk : k < 4) (p : Fin 1024) (q : Fin 512) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 512) : EReal := iblk m c 1 t (ix2 l q)

theorem point_sum (t : Fin cfg0.N) (h : t.val < 4) (k : ℕ) (hk : t.val % 4 = k) (p : Fin 1024) (q : Fin 512) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 512) : EReal := (outsAt0 m c n h).2 (ix2 p q)
def wrote (n : ℕ) (h : n < cfg0.N) (p : Fin 1024) (q : Fin 512) : EReal := (outsAt0 m c n h).1 (ix2 p q)

theorem held_0 (t : Fin cfg0.N) (h : t.val < 4) (h0 : t.val % 4 = 0) (p : Fin 1024) (q : Fin 512) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 4) (k : ℕ) (hk : t.val % 4 = k + 1) (hk' : k < 2) (p : Fin 1024) (q : Fin 512) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 4) (hk : t.val % 4 = 3) (p : Fin 1024) (q : Fin 512) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 4) (hk : n % 4 = 1) (p : Fin 1024) (q : Fin 512) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 4) (hk : n % 4 = 2) (p : Fin 1024) (q : Fin 512) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 512) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 4) (hk : t.val % 4 = 3) (p : Fin 1024) (q : Fin 512) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => a 1 = 10) (by decide +kernel) (fun t hf y => ?_) fun j hj => ?_
  · have e := idx_2 t
    have hN : t.val < 4 := lt_of_lt_of_eq t.isLt N_0
    have hk : t.val % 4 = 3 := (flush0_2 t).mp hf
    blk_simp
    rw [after0_2]
    rw [eq_ix2 ((cfg0.win 2).xinj (cfg0.grid.coords t) y)]
    generalize hp : (cfg0.win 2).xinj (cfg0.grid.coords t) y 0 = p
    generalize hq : (cfg0.win 2).xinj (cfg0.grid.coords t) y 1 = q
    have hp : p.val = (y 0).val := hp ▸ rfl
    have hq : q.val = (y 1).val := hq ▸ rfl
    refine (written m c t hN hk p q).trans ?_
    have ht := (col t.val hN q).isLt
    refine (pieceAt_in 5120 _ (fun p q => m ((c : Thread nD τ).loc main_arg2) (ix2 p q)) p ⟨5120 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨5120 + (col t.val hN q).val, by omega⟩) = _
    exact congrArg (arr _ _ _) (by blk_ext [e, col, hp, hq])
  · have h : (j 1).val < 5120 ∨ 5632 ≤ (j 1).val := by
      have e : (cfg0.win 2).cell j 1 = (j 1).val / 512 := rfl
      omega
    blk_simp
    rw [A_eq, eq_ix2 j]
    refine (congrFun (entry m c) _).trans ?_
    exact (pieceAt_out 5120 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference25Ideal Cert.Reference25Ideal.Gen Cert.Reference25Ideal.Value

/-- The reference's piece. -/
abbrev refPiece (a : FVec Ideal S4096x1024 .bf16) (d : FVec Ideal S4096x512 .bf16) : FVec Ideal S1024x512 .bf16 :=
  truncf .bf16 (transpose S1024x512 [1, 0] (Host.dotGeneral dot_S4096x512_S4096x1024_S512x1024_0_0_1_1_n_n none (extf .f32 d bitsLt_bf16_f32)
    (extf .f32 a bitsLt_bf16_f32)) transposes_S512x1024_S1024x512_1_0) bitsLt_bf16_f32

theorem refPiece_apply (a : FVec Ideal S4096x1024 .bf16) (d : FVec Ideal S4096x512 .bf16) (p : Fin 1024) (q : Fin 512) :
    (refPiece a d (ix2 p q) : EReal) = grad (fun r p => a (ix2 r p)) (fun r q => d (ix2 r q)) p q := by
  unfold grad
  pointwise [refPiece]
  simp only [EReal.mul_comm]

/-- The reference's array: the columns before the piece, the piece, the columns after it. -/
abbrev refArr (a : FVec Ideal S4096x1024 .bf16) (d : FVec Ideal S4096x512 .bf16) (w : FVec Ideal S1024x5760 .bf16) : FVec Ideal S1024x5760 .bf16 :=
  concatenate S1024x5760 1 [⟨S1024x5120, extractStridedSlice S1024x5120 ![0, 0] w slices_S1024x5760_S1024x5120_0_0⟩, ⟨S1024x512, refPiece a d⟩,
    ⟨S1024x128, extractStridedSlice S1024x128 ![0, 5632] w slices_S1024x5760_S1024x128_0_5632⟩]
    concatenates_S1024x5120_S1024x512_S1024x128_S1024x5760_d1

theorem refArr_apply (a : FVec Ideal S4096x1024 .bf16) (d : FVec Ideal S4096x512 .bf16) (w : FVec Ideal S1024x5760 .bf16) (p : Fin 1024) (q : Fin 5760) :
    (refArr a d w (ix2 p q) : EReal)
      = pieceAt 5120 (grad (fun r p => a (ix2 r p)) fun r q => d (ix2 r q)) (fun p q => w (ix2 p q)) p q := by
  unfold pieceAt grad
  pointwise [refArr]
  by_cases h : q.val < 5120
  · rw [dif_pos h, dif_neg (by omega)]
  · rw [dif_neg h]
    by_cases h' : q.val - 5120 < 512
    · rw [dif_pos h', dif_pos (by omega)]
      exact Finset.sum_congr rfl fun r _ => EReal.mul_comm _ _
    · rw [dif_neg h', dif_neg (by omega)]
      exact congrArg w (congrArg (ix2 p) (Fin.ext (by dsimp only; omega)))

theorem ref_eq (a : FVec Ideal S4096x1024 .bf16) (d : FVec Ideal S4096x512 .bf16) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v9)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn5

end
-- ==== Proof.DwIn6.lean ====
/- The gradient of the projection's weight, columns 5632 to 5759: one product over the tokens, in blocks, the other columns kept. -/
module

public import proofs.«01_k».proof.Proof.Columns
public import proofs.«01_k».proof.Proof.Gen.Kernel26Ideal.Value
public import proofs.«01_k».proof.Proof.Gen.Reference26Ideal.Run
public import Idealize.ShloMosaic.Lib.Tactic
public import Idealize.ShloMosaic.Lib.Quiescent
public import Idealize.ShloMosaic.Lib.Pipeline.ValueKit
public import Idealize.ShloMosaic.Lib.Pipeline.CanonAppend

@[expose] public section

set_option maxRecDepth 16384

noncomputable section

namespace Cert.DwIn6

open Idealize.ShloMosaic Idealize.ShloMosaic.TcCoe Idealize.SL.Sem Cert.FeedForward Cert.Columns

/-- The whole array: the piece, beside the columns that were there. -/
def arr (a : Vec Ideal Cert.Kernel26Ideal.S4096x1024 .bf16) (d : Vec Ideal Cert.Kernel26Ideal.S4096x128 .f32) (w : Vec Ideal Cert.Kernel26Ideal.S1024x5760 .bf16) :
    Vec Ideal Cert.Kernel26Ideal.S1024x5760 .bf16 :=
  fun i => pieceAt 5632 (grad (fun r p => a (ix2 r p)) fun r q => d (ix2 r q)) (fun p q => w (ix2 p q)) (i 0) (i 1)

section Kernel

open Cert.Kernel26Ideal Cert.Kernel26Ideal.Gen Cert.Kernel26Ideal.Value

section Cases

variable {F : FTy → Type} [FloatOps F] (c : Dev nD) (i : grid0.Coords)
  (a3 : Memref sig .tc .vmem S1024x1024 .bf16) (h3 : a3.IsWhole) (a4 : Memref sig .tc .vmem S1024x128 .f32) (h4 : a4.IsWhole)
  (a6 : Memref sig .tc .vmem S1024x128 .bf16) (h6 : a6.IsWhole) (a7 : Memref sig .tc .vmem S1024x128 .f32) (h7 : a7.IsWhole)
  (x : Vec F S1024x1024 .bf16) (y : Vec F S1024x128 .f32) (acc : Vec F S1024x128 .f32)

/-- The first point of a block starts from zero. -/
theorem first (hc0 : cond0_0 i) (hc1 : ¬cond0_1 i) :
    sout0_A_0 c i a3 h3 a4 h4 a6 h6 a7 h7 hc0 hc1 x y = k0_pay2 k0_pay1 x y := by
  unfold sout0_A_0
  rw [View.read_writes_junk_eq_canon]
  unfold kernelRun0_A
  dsimp only
  sl_unfold_words
  rw [View.canon_cons_unit_zero (S := S1024x128) hz, View.readCov_unit_zero (S := S1024x128) _ hz]
  simp only [View.readAt_eq_ld, h3.read_unread, h4.read_unread, View.ld_unit_zero (S := S1024x128) hz,
    View.ld_unit_zero (S := S1024x1024) hz]

/-- The next ones add to what the scratch holds. -/
theorem next (hc0 : ¬cond0_0 i) (hc1 : ¬cond0_1 i) :
    sout0_B_0 c i a3 h3 a4 h4 a6 h6 a7 h7 hc0 hc1 x y acc = k0_pay2 acc x y := by
  unfold sout0_B_0
  rw [View.read_writes_junk_eq_canon]
  unfold kernelRun0_B
  dsimp only
  sl_unfold_words
  rw [View.canon_unit_zero (S := S1024x128) hz]
  simp only [View.readAt_eq_ld, h3.read_unread, h4.read_unread, h7.read_unread, View.ld_unit_zero (S := S1024x128) hz,
    View.ld_unit_zero (S := S1024x1024) hz]

/-- The last one writes the sum out. -/
theorem last (hc0 : ¬cond0_0 i) (hc1 : cond0_1 i) :
    out0_C_2 c i a3 h3 a4 h4 a6 h6 a7 h7 hc0 hc1 x y acc = k0_pay3 (k0_pay2 acc x y) := by
  unfold out0_C_2
  rw [View.read_writes_junk_eq_canon]
  unfold kernelRun0_C
  dsimp only
  sl_unfold_words
  rw [View.canon_unit_zero (S := S1024x128) hz, View.readCov_unit_zero (S := S1024x128) _ hz]
  simp only [View.readAt_eq_ld, h3.read_unread, h4.read_unread, h7.read_unread, View.ld_unit_zero (S := S1024x128) hz,
    View.ld_unit_zero (S := S1024x1024) hz]

end Cases

theorem start_apply (x : FVec Ideal S1024x1024 .bf16) (y : FVec Ideal S1024x128 .f32) (p : Fin 1024) (q : Fin 128) :
    (k0_pay2 (F := Ideal) (k0_pay1 (F := Ideal)) x y (ix2 p q) : EReal) = ∑ l : Fin 1024, (x (ix2 l p) : EReal) * y (ix2 l q) := by
  pointwise [k0_pay2, k0_pay1]

theorem add_apply (acc : FVec Ideal S1024x128 .f32) (x : FVec Ideal S1024x1024 .bf16) (y : FVec Ideal S1024x128 .f32)
    (p : Fin 1024) (q : Fin 128) :
    (k0_pay2 (F := Ideal) acc x y (ix2 p q) : EReal) = acc (ix2 p q) + ∑ l : Fin 1024, (x (ix2 l p) : EReal) * y (ix2 l q) := by
  pointwise [k0_pay2]

theorem write_apply (acc : FVec Ideal S1024x128 .f32) (p : Fin 1024) (q : Fin 128) :
    (k0_pay3 (F := Ideal) acc (ix2 p q) : EReal) = acc (ix2 p q) := by
  pointwise [k0_pay3]

variable (m : (ℓ : Loc nD τ sig) → Buf (Elt Ideal) ℓ) (c : Dev nD)

theorem idx_0 (t : Fin grid0.N) : win0_0.index t 0 = t.val % 4 ∧ win0_0.index t 1 = 0 := by
  revert t; decide +kernel

theorem idx_1 (t : Fin grid0.N) : win0_1.index t 0 = t.val % 4 ∧ win0_1.index t 1 = t.val / 4 := by
  revert t; decide +kernel

theorem idx_2 (t : Fin grid0.N) : win0_2.index t 0 = 0 ∧ win0_2.index t 1 = t.val / 4 + 44 := by
  revert t; decide +kernel

/-- A column of a point's block, in the whole array. -/
def col (n : ℕ) (h : n < 4) (q : Fin 128) : Fin 128 := ⟨n / 4 * 128 + q.val, by omega⟩

theorem col_eq {n n' : ℕ} (h : n < 4) (h' : n' < 4) (e : n / 4 = n' / 4) (q : Fin 128) : col n h q = col n' h' q :=
  Fin.ext (by unfold col; dsimp only; rw [e])

theorem a_blk (t : Fin cfg0.N) (h : t.val < 4) (l : Fin 1024) (p : Fin 1024) :
    iblk m c 0 t (ix2 l p) = m ((c : Thread nD τ).loc main_arg0) (ix2 ⟨t.val % 4 * 1024 + l.val, by omega⟩ p) := by
  have e := idx_0 t
  blk_ext! [iblk, V, e]

theorem d_blk (t : Fin cfg0.N) (h : t.val < 4) (l : Fin 1024) (q : Fin 128) :
    iblk m c 1 t (ix2 l q) = m ((c : Thread nD τ).loc main_arg1) (ix2 ⟨t.val % 4 * 1024 + l.val, by omega⟩ (col t.val h q)) := by
  have e := idx_1 t
  blk_ext! [iblk, V, e, col]

/-- The argument arrays, by index. -/
abbrev acts (r : Fin 4096) (p : Fin 1024) : EReal := m ((c : Thread nD τ).loc main_arg0) (ix2 r p)
abbrev cots (r : Fin 4096) (q : Fin 128) : EReal := m ((c : Thread nD τ).loc main_arg1) (ix2 r q)

/-- What a point adds, at an entry of the result. -/
def term (k : ℕ) (hk : k < 4) (p : Fin 1024) (q : Fin 128) : EReal :=
  ∑ l : Fin 1024, acts m c ⟨k * 1024 + l.val, by omega⟩ p * cots m c ⟨k * 1024 + l.val, by omega⟩ q

/-- The entries of a point's blocks. -/
def aAt (t : Fin cfg0.N) (l : Fin 1024) (p : Fin 1024) : EReal := iblk m c 0 t (ix2 l p)
def dAt (t : Fin cfg0.N) (l : Fin 1024) (q : Fin 128) : EReal := iblk m c 1 t (ix2 l q)

theorem point_sum (t : Fin cfg0.N) (h : t.val < 4) (k : ℕ) (hk : t.val % 4 = k) (p : Fin 1024) (q : Fin 128) :
    ∑ l : Fin 1024, aAt m c t l p * dAt m c t l q = term m c k (by omega) p (col t.val h q) := by
  subst hk
  exact Finset.sum_congr rfl fun l _ => congrArg₂ (· * ·) (a_blk m c t h l p) (d_blk m c t h l q)

/-- What the scratch holds after a point, and the block it writes. -/
def held (n : ℕ) (h : n < cfg0.N) (p : Fin 1024) (q : Fin 128) : EReal := (outsAt0 m c n h).2 (ix2 p q)
def wrote (n : ℕ) (h : n < cfg0.N) (p : Fin 1024) (q : Fin 128) : EReal := (outsAt0 m c n h).1 (ix2 p q)

theorem held_0 (t : Fin cfg0.N) (h : t.val < 4) (h0 : t.val % 4 = 0) (p : Fin 1024) (q : Fin 128) :
    held m c t.val t.isLt p q = term m c 0 (by omega) p (col t.val h q) := by
  unfold held
  rw [outsAt0_A m c t h0 (by omega)]
  dsimp only
  rw [first]
  exact (start_apply _ _ p q).trans (point_sum m c t h 0 h0 p q)

theorem held_next (t : Fin cfg0.N) (h : t.val < 4) (k : ℕ) (hk : t.val % 4 = k + 1) (hk' : k < 2) (p : Fin 1024) (q : Fin 128) :
    held m c t.val t.isLt p q = held m c (t.val - 1) (Nat.lt_of_le_of_lt (Nat.sub_le _ _) t.isLt) p q
      + term m c (k + 1) (by omega) p (col t.val h q) := by
  unfold held
  rw [outsAt0_B m c t (by omega) (by omega)]
  dsimp only
  rw [next]
  exact (add_apply _ _ _ p q).trans (congrArg _ (point_sum m c t h (k + 1) hk p q))

theorem wrote_last (t : Fin cfg0.N) (h : t.val < 4) (hk : t.val % 4 = 3) (p : Fin 1024) (q : Fin 128) :
    wrote m c t.val t.isLt p q = held m c (t.val - 1) (Nat.lt_of_le_of_lt (Nat.sub_le _ _) t.isLt) p q
      + term m c 3 (by omega) p (col t.val h q) := by
  unfold held wrote
  rw [outsAt0_C m c t (by omega) (by omega)]
  dsimp only
  rw [last]
  exact (write_apply _ p q).trans ((add_apply _ _ _ p q).trans (congrArg _ (point_sum m c t h 3 hk p q)))

theorem held_1 (n : ℕ) (hn : n < cfg0.N) (h : n < 4) (hk : n % 4 = 1) (p : Fin 1024) (q : Fin 128) :
    held m c n hn p q = term m c 0 (by omega) p (col n h q) + term m c 1 (by omega) p (col n h q) := by
  refine (held_next m c ⟨n, hn⟩ h 0 hk (by omega) p q).trans (congrArg (· + _) ?_)
  refine (held_0 m c ⟨n - 1, by omega⟩ (by dsimp only; omega) (by dsimp only; omega) p q).trans ?_
  exact congrArg (term m c 0 (by omega) p) (col_eq _ _ (by dsimp only; omega) q)

theorem held_2 (n : ℕ) (hn : n < cfg0.N) (h : n < 4) (hk : n % 4 = 2) (p : Fin 1024) (q : Fin 128) :
    held m c n hn p q = (term m c 0 (by omega) p (col n h q) + term m c 1 (by omega) p (col n h q))
      + term m c 2 (by omega) p (col n h q) := by
  refine (held_next m c ⟨n, hn⟩ h 1 hk (by omega) p q).trans (congrArg (· + _) ?_)
  refine (held_1 m c (n - 1) (by omega) (by omega) (by omega) p q).trans ?_
  rw [col_eq (n := n - 1) _ h (by omega) q]

/-- The four points' terms are the whole product. -/
theorem term_sum (p : Fin 1024) (q : Fin 128) :
    ((term m c 0 (by omega) p q + term m c 1 (by omega) p q) + term m c 2 (by omega) p q) + term m c 3 (by omega) p q
      = grad (acts m c) (cots m c) p q := by
  rw [grad, ← sum_rows]
  unfold term
  simp only [Nat.zero_mul, Nat.zero_add, Nat.one_mul, Nat.reduceMul]

/-- The block that the four points of a block leave. -/
theorem written (t : Fin cfg0.N) (h : t.val < 4) (hk : t.val % 4 = 3) (p : Fin 1024) (q : Fin 128) :
    wrote m c t.val t.isLt p q = grad (acts m c) (cots m c) p (col t.val h q) := by
  rw [← term_sum]
  refine (wrote_last m c t h hk p q).trans (congrArg (· + _) ?_)
  refine (held_2 m c (t.val - 1) (by omega) (by omega) (by omega) p q).trans ?_
  rw [col_eq (n := t.val - 1) _ h (by omega) q]

/-- The array written starts as a copy of the one given. -/
theorem entry : V m c main_v0 = m ((c : Thread nD τ).loc main_arg2) := by
  show StableHlo.after hostOps0 _ _ = _
  unfold hostOps0
  after_results <;> rfl

theorem final : (dats m 0 c).arrAt 2 cfg0.N = arr (m ((c : Thread nD τ).loc main_arg0)) (m ((c : Thread nD τ).loc main_arg1)) (m ((c : Thread nD τ).loc main_arg2)) := by
  refine (dats m 0 c).arrAt_eq_of_coversWhere_of_agree 2 _ (fun a => a 1 = 44) (by decide +kernel) (fun t hf y => ?_) fun j hj => ?_
  · have e := idx_2 t
    have hN : t.val < 4 := lt_of_lt_of_eq t.isLt N_0
    have hk : t.val % 4 = 3 := (flush0_2 t).mp hf
    blk_simp
    rw [after0_2]
    rw [eq_ix2 (show S1024x128.Idx from y)]
    generalize hp : (show S1024x128.Idx from y) 0 = p
    generalize hq : (show S1024x128.Idx from y) 1 = q
    refine (written m c t hN hk p q).trans ?_
    have ht := (col t.val hN q).isLt
    refine (pieceAt_in 5632 _ (fun p q => m ((c : Thread nD τ).loc main_arg2) (ix2 p q)) p ⟨5632 + (col t.val hN q).val, by omega⟩
      (col t.val hN q) rfl).symm.trans ?_
    show arr (m ((c : Thread nD τ).loc main_arg0)) (m ((c : Thread nD τ).loc main_arg1)) (m ((c : Thread nD τ).loc main_arg2)) (ix2 p ⟨5632 + (col t.val hN q).val, by omega⟩) = _
    exact congrArg (arr _ _ _) (by blk_ext [e, col, ← hp, ← hq])
  · have h : (j 1).val < 5632 ∨ 5760 ≤ (j 1).val := by
      have e : (cfg0.win 2).cell j 1 = (j 1).val / 128 := rfl
      omega
    blk_simp
    rw [A_eq, eq_ix2 j]
    refine (congrFun (entry m c) _).trans ?_
    exact (pieceAt_out 5632 _ (fun p q => m ((c : Thread nD τ).loc main_arg2) (ix2 p q)) (j 0) (j 1) h).symm

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final m c), (h c).2⟩) (run_blocks m ρ)

end Kernel

section Reference

open Cert.Reference26Ideal Cert.Reference26Ideal.Gen Cert.Reference26Ideal.Value

/-- The reference's piece. -/
abbrev refPiece (a : FVec Ideal S4096x1024 .bf16) (d : FVec Ideal S4096x128 .f32) : FVec Ideal S1024x128 .bf16 :=
  truncf .bf16 (transpose S1024x128 [1, 0] (Host.dotGeneral dot_S4096x128_S4096x1024_S128x1024_0_0_1_1_n_n none d
    (extf .f32 a bitsLt_bf16_f32)) transposes_S128x1024_S1024x128_1_0) bitsLt_bf16_f32

theorem refPiece_apply (a : FVec Ideal S4096x1024 .bf16) (d : FVec Ideal S4096x128 .f32) (p : Fin 1024) (q : Fin 128) :
    (refPiece a d (ix2 p q) : EReal) = grad (fun r p => a (ix2 r p)) (fun r q => d (ix2 r q)) p q := by
  unfold grad
  pointwise [refPiece]
  simp only [EReal.mul_comm]

/-- The reference's array: the columns before the piece, the piece. -/
abbrev refArr (a : FVec Ideal S4096x1024 .bf16) (d : FVec Ideal S4096x128 .f32) (w : FVec Ideal S1024x5760 .bf16) : FVec Ideal S1024x5760 .bf16 :=
  concatenate S1024x5760 1 [⟨S1024x5632, extractStridedSlice S1024x5632 ![0, 0] w slices_S1024x5760_S1024x5632_0_0⟩, ⟨S1024x128, refPiece a d⟩]
    concatenates_S1024x5632_S1024x128_S1024x5760_d1

theorem refArr_apply (a : FVec Ideal S4096x1024 .bf16) (d : FVec Ideal S4096x128 .f32) (w : FVec Ideal S1024x5760 .bf16) (p : Fin 1024) (q : Fin 5760) :
    (refArr a d w (ix2 p q) : EReal)
      = pieceAt 5632 (grad (fun r p => a (ix2 r p)) fun r q => d (ix2 r q)) (fun p q => w (ix2 p q)) p q := by
  unfold pieceAt grad
  pointwise [refArr]
  by_cases h : q.val < 5632
  · rw [dif_pos h, dif_neg (by omega)]
  · rw [dif_neg h]
    rw [dif_pos (by omega)]
    exact Finset.sum_congr rfl fun r _ => EReal.mul_comm _ _

theorem ref_eq (a : FVec Ideal S4096x1024 .bf16) (d : FVec Ideal S4096x128 .f32) (w : FVec Ideal S1024x5760 .bf16) : refArr a d w = arr a d w := by
  funext i
  rw [eq_ix2 i]
  exact refArr_apply a d w (i 0) (i 1)

variable (m : (ℓ : Loc nD τ sig) → Buf (Elt Ideal) ℓ) (ρ : Dev nD → PrngReg)

theorem reference_run : θ_run (defs (F := Ideal)) (onTc (τ := τ) (main (F := Ideal))) ⟨m, fun _ => 0, ρ⟩ fun r =>
      ∀ c : Dev nD, r.2.mem ((c.tc : Thread nD τ).loc main_v7)
          = arr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (ref_eq _ _ _), (h c).2⟩) (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨fun c => (h c).2, sem_eq_zero_of_no_sems (by decide) r.2⟩) (Value.run m ρ)

end Reference

end Cert.DwIn6

end
-- ==== Proof.WeightPieces.lean ====
/- The claims of the pieces of the projection's weight: the kernel and the reference leave the same array. -/
module

public import proofs.«01_k».proof.Defs
public import proofs.«01_k».proof.Proof.DwIn0
public import proofs.«01_k».proof.Proof.DwIn1
public import proofs.«01_k».proof.Proof.DwIn2
public import proofs.«01_k».proof.Proof.DwIn3
public import proofs.«01_k».proof.Proof.DwIn4
public import proofs.«01_k».proof.Proof.DwIn5
public import proofs.«01_k».proof.Proof.DwIn6

@[expose] public section

noncomputable section

namespace Cert.Proof

open Idealize.ShloMosaic Idealize.SL.Sem

theorem dw_in_0 : Cert.algebraic_Kernel20Ideal_Reference20Ideal := fun m g m' g' _ hm =>
  ⟨fun c => DwIn0.arr (m ((c.tc : Thread _ _).loc Kernel20Ideal.main_arg0)) (m ((c.tc : Thread _ _).loc Kernel20Ideal.main_arg1)),
    DwIn0.kernel_run m g,
    (θ_run _ _ _).mono (fun _ h c => ⟨(h c).1.trans (congrArg₂ DwIn0.arr (hm c).1 (hm c).2), (h c).2⟩) (DwIn0.reference_run m' g')⟩

theorem dw_in_1 : Cert.algebraic_Kernel21Ideal_Reference21Ideal := fun m g m' g' _ hm =>
  ⟨fun c => DwIn1.arr (m ((c.tc : Thread _ _).loc Kernel21Ideal.main_arg0)) (m ((c.tc : Thread _ _).loc Kernel21Ideal.main_arg1))
      (m ((c.tc : Thread _ _).loc Kernel21Ideal.main_arg2)),
    DwIn1.kernel_run m g,
    (θ_run _ _ _).mono (fun _ h c => ⟨(h c).1.trans (congr (congrArg₂ DwIn1.arr (hm c).1 (hm c).2.1) (hm c).2.2), (h c).2⟩)
      (DwIn1.reference_run m' g')⟩

theorem dw_in_2 : Cert.algebraic_Kernel22Ideal_Reference22Ideal := fun m g m' g' _ hm =>
  ⟨fun c => DwIn2.arr (m ((c.tc : Thread _ _).loc Kernel22Ideal.main_arg0)) (m ((c.tc : Thread _ _).loc Kernel22Ideal.main_arg1))
      (m ((c.tc : Thread _ _).loc Kernel22Ideal.main_arg2)),
    DwIn2.kernel_run m g,
    (θ_run _ _ _).mono (fun _ h c => ⟨(h c).1.trans (congr (congrArg₂ DwIn2.arr (hm c).1 (hm c).2.1) (hm c).2.2), (h c).2⟩)
      (DwIn2.reference_run m' g')⟩

theorem dw_in_3 : Cert.algebraic_Kernel23Ideal_Reference23Ideal := fun m g m' g' _ hm =>
  ⟨fun c => DwIn3.arr (m ((c.tc : Thread _ _).loc Kernel23Ideal.main_arg0)) (m ((c.tc : Thread _ _).loc Kernel23Ideal.main_arg1))
      (m ((c.tc : Thread _ _).loc Kernel23Ideal.main_arg2)),
    DwIn3.kernel_run m g,
    (θ_run _ _ _).mono (fun _ h c => ⟨(h c).1.trans (congr (congrArg₂ DwIn3.arr (hm c).1 (hm c).2.1) (hm c).2.2), (h c).2⟩)
      (DwIn3.reference_run m' g')⟩

theorem dw_in_4 : Cert.algebraic_Kernel24Ideal_Reference24Ideal := fun m g m' g' _ hm =>
  ⟨fun c => DwIn4.arr (m ((c.tc : Thread _ _).loc Kernel24Ideal.main_arg0)) (m ((c.tc : Thread _ _).loc Kernel24Ideal.main_arg1))
      (m ((c.tc : Thread _ _).loc Kernel24Ideal.main_arg2)),
    DwIn4.kernel_run m g,
    (θ_run _ _ _).mono (fun _ h c => ⟨(h c).1.trans (congr (congrArg₂ DwIn4.arr (hm c).1 (hm c).2.1) (hm c).2.2), (h c).2⟩)
      (DwIn4.reference_run m' g')⟩

theorem dw_in_5 : Cert.algebraic_Kernel25Ideal_Reference25Ideal := fun m g m' g' _ hm =>
  ⟨fun c => DwIn5.arr (m ((c.tc : Thread _ _).loc Kernel25Ideal.main_arg0)) (m ((c.tc : Thread _ _).loc Kernel25Ideal.main_arg1))
      (m ((c.tc : Thread _ _).loc Kernel25Ideal.main_arg2)),
    DwIn5.kernel_run m g,
    (θ_run _ _ _).mono (fun _ h c => ⟨(h c).1.trans (congr (congrArg₂ DwIn5.arr (hm c).1 (hm c).2.1) (hm c).2.2), (h c).2⟩)
      (DwIn5.reference_run m' g')⟩

theorem dw_in_6 : Cert.algebraic_Kernel26Ideal_Reference26Ideal := fun m g m' g' _ hm =>
  ⟨fun c => DwIn6.arr (m ((c.tc : Thread _ _).loc Kernel26Ideal.main_arg0)) (m ((c.tc : Thread _ _).loc Kernel26Ideal.main_arg1))
      (m ((c.tc : Thread _ _).loc Kernel26Ideal.main_arg2)),
    DwIn6.kernel_run m g,
    (θ_run _ _ _).mono (fun _ h c => ⟨(h c).1.trans (congr (congrArg₂ DwIn6.arr (hm c).1 (hm c).2.1) (hm c).2.2), (h c).2⟩)
      (DwIn6.reference_run m' g')⟩

end Cert.Proof

end
-- ==== Proof.MidHeads.lean ====
/- The second branch's norm by heads, and the middle of the layer's gradients, one row: every entry as a function of the row's inputs. -/
module

public import proofs.«01_k».proof.Proof.Silu

@[expose] public section

noncomputable section

namespace Cert.Mid

open Idealize.ShloMosaic Cert.FeedForward

/-- A head's width, as the programs write it. -/
abbrev headWidth : EReal := Ideal.ofBits FTy.f32 0x43000000#32

theorem headWidth_eq : headWidth = ((128 : ℝ) : EReal) := by
  simp [Ideal.ofBits, Ideal.ieee, -EReal.coe_mul]; norm_num

theorem expit_eq (z : EReal) : expit z = sigmoid z := by
  obtain ⟨s, hs, he⟩ := sigmoid_real z
  rw [hs, he]

section Heads

variable (o z : Fin 512 → EReal) (w : Fin 128 → EReal)

/-- The head an entry of a row lies in, and the head's scale. -/
def head (j : Fin 512) (l : Fin 128) : EReal := o ⟨j.val / 128 * 128 + l.val, by omega⟩
def headScale (v : Fin 128 → EReal) : EReal := Ideal.rsqrt (Ideal.div (∑ l, v l * v l) headWidth + eps)

/-- The second branch at an entry. -/
def gated (j : Fin 512) : EReal := o j * headScale (head o j) * w ⟨j.val % 128, by omega⟩ * (z j * sigmoid (z j))

end Heads

section HeadGradient

variable (x d g : Fin 128 → EReal)

/-- The gradient of a head through its norm, as the kernel has it. -/
def headGrad (k : Fin 128) : EReal :=
  headScale x * (d k * g k - x k * headScale x * Ideal.div (∑ j, d j * g j * (x j * headScale x)) headWidth)

/-- The part through the mean square, as the reference has it. -/
def headPull : EReal :=
  ∑ _ : Fin 1, Ideal.div ((∑ j, x j * (d j * g j)) * (minusHalf * Ideal.div (headScale x) (Ideal.div (∑ j, x j * x j) headWidth + eps)))
    headWidth

/-- A real head's mean square is positive, and its scale is a real number. -/
theorem headScale_real (X : Fin 128 → ℝ) (hx : ∀ j, x j = (X j : EReal)) :
    ∃ r : ℝ, 0 < r ∧ headScale x = ((r⁻¹ : ℝ) : EReal) ∧ Ideal.div (∑ j, x j * x j) headWidth + eps = ((r * r : ℝ) : EReal) := by
  obtain ⟨e, he, hp⟩ := eps_pos
  have hv : Ideal.div (∑ j, x j * x j) headWidth + eps = (((∑ j, X j * X j) / 128 + e : ℝ) : EReal) := by
    simp only [hx, ← EReal.coe_mul, coe_sum]
    rw [headWidth_eq, div_coe _ _ (by norm_num), he, ← EReal.coe_add]
  have hpos : 0 < (∑ j, X j * X j) / 128 + e :=
    add_pos_of_nonneg_of_pos (div_nonneg (Finset.sum_nonneg fun j _ => mul_self_nonneg _) (by norm_num)) hp
  generalize (∑ j, X j * X j) / 128 + e = v at hv hpos
  refine ⟨Real.sqrt v, Real.sqrt_pos.mpr hpos, ?_, ?_⟩
  · unfold headScale
    rw [hv, Ideal.rsqrt_coe, if_neg (not_lt.mpr hpos.le), if_neg hpos.ne']
  · rw [hv, Real.mul_self_sqrt hpos.le]

/-- On real heads the two are the same. -/
theorem ref_head (X D G : Fin 128 → ℝ) (hx : ∀ j, x j = (X j : EReal)) (hd : ∀ j, d j = (D j : EReal)) (hg : ∀ j, g j = (G j : EReal))
    (k : Fin 128) :
    (d k * g k * headScale x + x k * headPull x d g) + headPull x d g * x k = headGrad x d g k := by
  obtain ⟨r, hr, hs, hv⟩ := headScale_real x X hx
  have hpull : headPull x d g = ((((∑ j, X j * (D j * G j)) * (-(1 / 2) * (r⁻¹ / (r * r)))) / 128 : ℝ) : EReal) := by
    unfold headPull
    rw [Fin.sum_univ_one, hv, hs, minusHalf_eq, headWidth_eq, div_coe _ _ (by positivity)]
    simp only [hx, hd, hg, ← EReal.coe_mul, coe_sum]
    rw [div_coe _ _ (by norm_num)]
  have hrow : headGrad x d g k = ((r⁻¹ * (D k * G k - X k * r⁻¹ * ((∑ j, D j * G j * (X j * r⁻¹)) / 128)) : ℝ) : EReal) := by
    unfold headGrad
    rw [hs, headWidth_eq]
    simp only [hx, hd, hg, ← EReal.coe_mul, coe_sum]
    rw [div_coe _ _ (by norm_num), ← EReal.coe_mul, ← EReal.coe_sub, ← EReal.coe_mul]
  have hsum : ∑ j, D j * G j * (X j * r⁻¹) = (∑ j, X j * (D j * G j)) * r⁻¹ := by
    rw [Finset.sum_mul]
    exact Finset.sum_congr rfl fun j _ => by ring
  rw [hpull, hrow, hs, hx, hd, hg, hsum]
  simp only [← EReal.coe_mul, ← EReal.coe_add]
  congr 1
  field_simp
  ring

end HeadGradient

/-- A row's inputs: the gradient, the two gates, the two branches and the second's gate. -/
structure Row where
  dx : Fin 1024 → EReal
  ga : Fin 1024 → EReal
  gb : Fin 1024 → EReal
  ya : Fin 512 → EReal
  o : Fin 512 → EReal
  z : Fin 512 → EReal

structure Weights where
  w : Fin 128 → EReal
  wa : Fin 512 → Fin 1024 → EReal
  wb : Fin 512 → Fin 1024 → EReal
  wo : Fin 1024 → Fin 1024 → EReal

/-- The h-th head of a row. -/
def part (v : Fin 512 → EReal) (h : Fin 4) (l : Fin 128) : EReal := v ⟨h.val * 128 + l.val, by omega⟩

section Gradients

variable (p : Row) (q : Weights)

/-- The gradient of the branches' sum, and of each branch's product. -/
def dm (k : Fin 1024) : EReal := ∑ j, p.dx j * q.wo k j
def dua (k : Fin 1024) : EReal := dm p q k * sigmoid (p.ga k)
def dub (k : Fin 1024) : EReal := dm p q k * sigmoid (p.gb k)

/-- Each branch's product. -/
def ua (k : Fin 1024) : EReal := ∑ j, p.ya j * q.wa j k
def ub (k : Fin 1024) : EReal := ∑ j, gated p.o p.z q.w j * q.wb j k

/-- The gradients of the gates and, with the gates' side by side, of the branches. -/
def dga (k : Fin 1024) : EReal := dm p q k * ua p q k * sigmoid (p.ga k) * (one - sigmoid (p.ga k))
def dgb (k : Fin 1024) : EReal := dm p q k * ub p q k * sigmoid (p.gb k) * (one - sigmoid (p.gb k))
def dgates (k : Fin 2048) : EReal := if h : k.val < 1024 then dga p q ⟨k.val, h⟩ else dgb p q ⟨k.val - 1024, by omega⟩
def dya (j : Fin 512) : EReal := ∑ k, dua p q k * q.wa j k
def dyb (j : Fin 512) : EReal := ∑ k, dub p q k * q.wb j k

/-- The normed second branch, the gradient of its gain's product, of its gate, and of the branch itself. -/
def nrm (j : Fin 512) : EReal := p.o j * headScale (head p.o j)
def dn (j : Fin 512) : EReal := dyb p q j * (p.z j * sigmoid (p.z j))
def dz (j : Fin 512) : EReal :=
  dyb p q j * (nrm p j * q.w ⟨j.val % 128, by omega⟩) * (sigmoid (p.z j) * (one + p.z j * (one - sigmoid (p.z j))))
def dobPart (h : Fin 4) (l : Fin 128) : EReal := headGrad (part p.o h) (part (dn p q) h) q.w l
def dob (j : Fin 512) : EReal := dobPart p q ⟨j.val / 128, by omega⟩ ⟨j.val % 128, by omega⟩

/-- What the row adds to the gain's gradient. -/
def gainTerm (l : Fin 128) : EReal := ∑ h : Fin 4, part (dn p q) h l * part (nrm p) h l

end Gradients

end Cert.Mid

end
-- ==== Proof.Mid.lean ====
/- The middle of the layer, forwards: two branches, the second normed by heads and gated, each by its weight and its gate, then the projection. -/
module

public import proofs.«01_k».proof.Proof.MidHeads
public import proofs.«01_k».proof.Proof.Gen.Kernel11Ideal.Value
public import Idealize.ShloMosaic.Lib.Tactic
public import Idealize.ShloMosaic.Lib.Pipeline.ValueKit
public import Idealize.ShloMosaic.Lib.Pipeline.CanonAppend

@[expose] public section

set_option maxRecDepth 16384

noncomputable section

namespace Cert.Mid

open Idealize.ShloMosaic Idealize.ShloMosaic.TcCoe Idealize.SL.Sem Cert.FeedForward Cert.Kernel11Ideal Cert.Kernel11Ideal.Gen
  Cert.Kernel11Ideal.Value

section Rows

variable (o z ya : Fin 512 → EReal) (w : Fin 128 → EReal) (ga gb : EReal) (wa wb : Fin 512 → EReal)

/-- The two branches' sum at an entry. -/
def mix : EReal := sigmoid ga * ∑ j, ya j * wa j + sigmoid gb * ∑ j, gated o z w j * wb j

end Rows

section Arrays

variable (x : Vec Ideal S4096x1024 .f32) (ya o : Vec Ideal S4096x512 .f32) (proj : Vec Ideal S4096x5760 .bf16)
  (w : Vec Ideal S1x128 .f32) (wa wb : Vec Ideal S512x1024 .bf16) (wo : Vec Ideal S1024x1024 .bf16)

def mixAt (r : Fin 4096) (k : Fin 1024) : EReal :=
  mix (fun j => o (ix2 r j)) (fun j => proj (ix2 r ⟨5120 + j.val, by omega⟩)) (fun j => ya (ix2 r j)) (fun l => w (ix2 0 l))
    (proj (ix2 r ⟨k.val, by omega⟩)) (proj (ix2 r ⟨1024 + k.val, by omega⟩)) (fun j => wa (ix2 j k)) (fun j => wb (ix2 j k))

/-- The two results. -/
def mixArr : Vec Ideal S4096x1024 .bf16 := fun i => mixAt ya o proj w wa wb (i 0) (i 1)
def outArr : Vec Ideal S4096x1024 .f32 := fun i => x i + ∑ k : Fin 1024, mixAt ya o proj w wa wb (i 0) k * wo (ix2 k (i 1))

end Arrays

theorem hz : (![0, 0] : Fin 2 → Nat) = fun _ => 0 := funext fun a => by fin_cases a <;> rfl

section Cases

variable {F : FTy → Type} [FloatOps F] (c : Dev nD) (i : grid0.Coords)
  (a1 : Memref sig .tc .vmem S512x1024 .f32) (h1 : a1.IsWhole) (a2 : Memref sig .tc .vmem S512x512 .f32) (h2 : a2.IsWhole)
  (a3 : Memref sig .tc .vmem S512x512 .f32) (h3 : a3.IsWhole) (a4 : Memref sig .tc .vmem S512x512 .bf16) (h4 : a4.IsWhole)
  (a5 : Memref sig .tc .vmem S512x1024 .bf16) (h5 : a5.IsWhole) (a6 : Memref sig .tc .vmem S512x1024 .bf16) (h6 : a6.IsWhole)
  (a7 : Memref sig .tc .vmem S1x128 .f32) (h7 : a7.IsWhole) (a8 : Memref sig .tc .vmem S512x1024 .bf16) (h8 : a8.IsWhole)
  (a9 : Memref sig .tc .vmem S512x1024 .bf16) (h9 : a9.IsWhole) (a10 : Memref sig .tc .vmem S1024x1024 .bf16) (h10 : a10.IsWhole)
  (a11 : Memref sig .tc .vmem S512x1024 .f32) (h11 : a11.IsWhole) (a12 : Memref sig .tc .vmem S512x1024 .bf16) (h12 : a12.IsWhole)
  (x0 : Vec F S512x1024 .f32) (x1 x2 : Vec F S512x512 .f32) (x3 : Vec F S512x512 .bf16) (x4 x5 : Vec F S512x1024 .bf16)
  (x6 : Vec F S1x128 .f32) (x7 x8 : Vec F S512x1024 .bf16) (x9 : Vec F S1024x1024 .bf16)

/-- The second branch's product, of the values read. -/
abbrev branch : FVec F S512x1024 .f32 :=
  k0_pay10 (k0_pay3 x3) x6 (k0_pay4 x2) (k0_pay5 x2) (k0_pay6 x2) (k0_pay7 x2) (k0_pay8 x2) k0_pay9 x8

theorem out_block : out0_A_10 c i a1 h1 a2 h2 a3 h3 a4 h4 a5 h5 a6 h6 a7 h7 a8 h8 a9 h9 a10 h10 a11 h11 a12 h12 x0 x1 x2 x3 x4 x5 x6 x7 x8 x9
    = k0_pay2 (branch x2 x3 x6 x8) (k0_pay11 x1 x7 x4) (k0_pay12 x5) x0 x9 := by
  unfold out0_A_10
  rw [View.read_writes_junk_eq_canon]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread,
    h8.read_unread, h9.read_unread, h10.read_unread,
    View.ld_unit_zero (S := S512x1024) hz, View.ld_unit_zero (S := S512x512) hz, View.ld_unit_zero (S := S1x128) hz,
    View.ld_unit_zero (S := S1024x1024) hz]

theorem mix_block : out0_A_11 c i a1 h1 a2 h2 a3 h3 a4 h4 a5 h5 a6 h6 a7 h7 a8 h8 a9 h9 a10 h10 a11 h11 a12 h12 x0 x1 x2 x3 x4 x5 x6 x7 x8 x9
    = k0_pay1 (branch x2 x3 x6 x8) (k0_pay11 x1 x7 x4) (k0_pay12 x5) := by
  unfold out0_A_11
  rw [View.read_writes_junk_eq_canon]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread,
    h8.read_unread, h9.read_unread, h10.read_unread,
    View.ld_unit_zero (S := S512x1024) hz, View.ld_unit_zero (S := S512x512) hz, View.ld_unit_zero (S := S1x128) hz,
    View.ld_unit_zero (S := S1024x1024) hz]

end Cases

section Payloads

variable (x0 : FVec Ideal S512x1024 .f32) (x1 x2 : FVec Ideal S512x512 .f32) (x3 : FVec Ideal S512x512 .bf16)
  (x4 x5 : FVec Ideal S512x1024 .bf16) (x6 : FVec Ideal S1x128 .f32) (x7 x8 : FVec Ideal S512x1024 .bf16)
  (x9 : FVec Ideal S1024x1024 .bf16)

theorem second_apply (l : Fin 512) (k : Fin 1024) : (branch (F := Ideal) x2 x3 x6 x8 (ix2 l k) : EReal)
    = ∑ j, gated (fun j => x2 (ix2 l j)) (fun j => x3 (ix2 l j)) (fun i => x6 (ix2 0 i)) j * x8 (ix2 j k) := by
  unfold gated headScale head sigmoid
  pointwise [branch, k0_pay10, k0_pay3, k0_pay4, k0_pay5, k0_pay6, k0_pay7, k0_pay8, k0_pay9]
  refine Finset.sum_congr rfl fun j _ => ?_
  have hj := j.isLt
  have key (a : Fin 512) (s : Fin 128 → Fin 512) (b : Fin 128) (ha : a = j) (hs : ∀ i, s i = ⟨j.val / 128 * 128 + i.val, by omega⟩)
      (hb : b = ⟨j.val % 128, by omega⟩) (u v : EReal) :
      x2 (ix2 l a) * Ideal.rsqrt (Ideal.div (∑ i, x2 (ix2 l (s i)) * x2 (ix2 l (s i))) headWidth + eps) * x6 (ix2 0 b) * u * v
      = x2 (ix2 l j) * Ideal.rsqrt (Ideal.div (∑ i : Fin 128, x2 (ix2 l ⟨j.val / 128 * 128 + i.val, by omega⟩)
        * x2 (ix2 l ⟨j.val / 128 * 128 + i.val, by omega⟩)) headWidth + eps) * x6 (ix2 0 ⟨j.val % 128, by omega⟩) * u * v := by
    subst ha hb
    obtain rfl : s = _ := funext hs
    rfl
  by_cases h0 : j.val < 128
  · rw [dif_pos h0, dif_pos h0]
    exact key _ (fun i => ⟨i.val, by omega⟩) _ rfl (fun i => Fin.ext (by dsimp only; omega)) (Fin.ext (by dsimp only; omega)) _ _
  rw [dif_neg h0, dif_neg h0]
  by_cases h1 : j.val - 128 < 128
  · rw [dif_pos h1, dif_pos h1]
    exact key _ (fun i => ⟨128 + i.val, by omega⟩) _ (Fin.ext (by dsimp only; omega)) (fun i => Fin.ext (by dsimp only; omega))
      (Fin.ext (by dsimp only; omega)) _ _
  rw [dif_neg h1, dif_neg h1]
  by_cases h2 : j.val - 128 - 128 < 128
  · rw [dif_pos h2, dif_pos h2]
    exact key _ (fun i => ⟨256 + i.val, by omega⟩) _ (Fin.ext (by dsimp only; omega)) (fun i => Fin.ext (by dsimp only; omega))
      (Fin.ext (by dsimp only; omega)) _ _
  rw [dif_neg h2, dif_neg h2]
  exact key _ (fun i => ⟨384 + i.val, by omega⟩) _ (Fin.ext (by dsimp only; omega)) (fun i => Fin.ext (by dsimp only; omega))
    (Fin.ext (by dsimp only; omega)) _ _

theorem mix_apply (l : Fin 512) (k : Fin 1024) :
    (k0_pay1 (F := Ideal) (branch (F := Ideal) x2 x3 x6 x8) (k0_pay11 x1 x7 x4) (k0_pay12 x5) (ix2 l k) : EReal)
    = mix (fun j => x2 (ix2 l j)) (fun j => x3 (ix2 l j)) (fun j => x1 (ix2 l j)) (fun i => x6 (ix2 0 i))
      (x4 (ix2 l k)) (x5 (ix2 l k)) (fun j => x7 (ix2 j k)) (fun j => x8 (ix2 j k)) := by
  unfold mix
  rw [← second_apply x2 x3 x6 x8 l k]
  generalize branch (F := Ideal) x2 x3 x6 x8 = s
  unfold sigmoid
  pointwise [k0_pay1, k0_pay11, k0_pay12]

theorem out_apply (l : Fin 512) (q : Fin 1024) :
    (k0_pay2 (F := Ideal) (branch (F := Ideal) x2 x3 x6 x8) (k0_pay11 x1 x7 x4) (k0_pay12 x5) x0 x9 (ix2 l q) : EReal)
    = x0 (ix2 l q) + ∑ k : Fin 1024, mix (fun j => x2 (ix2 l j)) (fun j => x3 (ix2 l j)) (fun j => x1 (ix2 l j)) (fun i => x6 (ix2 0 i))
      (x4 (ix2 l k)) (x5 (ix2 l k)) (fun j => x7 (ix2 j k)) (fun j => x8 (ix2 j k)) * x9 (ix2 k q) := by
  unfold k0_pay2
  rw [Finset.sum_congr rfl fun k _ => congrArg (· * _) (mix_apply x1 x2 x3 x4 x5 x6 x7 x8 l k).symm]
  generalize k0_pay1 (F := Ideal) (branch (F := Ideal) x2 x3 x6 x8) (k0_pay11 x1 x7 x4) (k0_pay12 x5) = s
  pointwise []

end Payloads

variable (m : (ℓ : Loc nD τ sig) → Buf (Elt Ideal) ℓ) (c : Dev nD)

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = t.val ∧ win0_2.index t 1 = 0 := by revert t; decide +kernel
theorem idx_3 (t : Fin grid0.N) : win0_3.index t 0 = t.val ∧ win0_3.index t 1 = 10 := by revert t; decide +kernel
theorem idx_4 (t : Fin grid0.N) : win0_4.index t 0 = t.val ∧ win0_4.index t 1 = 0 := by revert t; decide +kernel
theorem idx_5 (t : Fin grid0.N) : win0_5.index t 0 = t.val ∧ win0_5.index t 1 = 1 := by revert t; decide +kernel
theorem idx_6 (t : Fin grid0.N) : win0_6.index t 0 = 0 ∧ win0_6.index t 1 = 0 := by revert t; decide +kernel
theorem idx_7 (t : Fin grid0.N) : win0_7.index t 0 = 0 ∧ win0_7.index t 1 = 0 := by revert t; decide +kernel
theorem idx_8 (t : Fin grid0.N) : win0_8.index t 0 = 0 ∧ win0_8.index t 1 = 0 := by revert t; decide +kernel
theorem idx_9 (t : Fin grid0.N) : win0_9.index t 0 = 0 ∧ win0_9.index t 1 = 0 := by revert t; decide +kernel
theorem idx_10 (t : Fin grid0.N) : win0_10.index t 0 = t.val ∧ win0_10.index t 1 = 0 := by revert t; decide +kernel
theorem idx_11 (t : Fin grid0.N) : win0_11.index t 0 = t.val ∧ win0_11.index t 1 = 0 := by revert t; decide +kernel

/-- A row of a point's blocks, in the whole arrays. -/
def at' (n : ℕ) (h : n < 8) (l : Fin 512) : Fin 4096 := ⟨n * 512 + l.val, by omega⟩

abbrev A0 : Vec Ideal S4096x1024 .f32 := m ((c : Thread nD τ).loc main_arg0)
abbrev A1 : Vec Ideal S4096x512 .f32 := m ((c : Thread nD τ).loc main_arg1)
abbrev A2 : Vec Ideal S4096x512 .f32 := m ((c : Thread nD τ).loc main_arg2)
abbrev A3 : Vec Ideal S4096x5760 .bf16 := m ((c : Thread nD τ).loc main_arg3)
abbrev A4 : Vec Ideal S1x128 .f32 := m ((c : Thread nD τ).loc main_arg4)
abbrev A5 : Vec Ideal S512x1024 .bf16 := m ((c : Thread nD τ).loc main_arg5)
abbrev A6 : Vec Ideal S512x1024 .bf16 := m ((c : Thread nD τ).loc main_arg6)
abbrev A7 : Vec Ideal S1024x1024 .bf16 := m ((c : Thread nD τ).loc main_arg7)

theorem blk_0 (t : Fin cfg0.N) (h : t.val < 8) (l : Fin 512) (j : Fin 1024) : iblk m c 0 t (ix2 l j) = A0 m c (ix2 (at' t.val h l) j) := by
  have e := idx_0 t
  blk_ext! [iblk, V, e, at']

theorem blk_1 (t : Fin cfg0.N) (h : t.val < 8) (l : Fin 512) (j : Fin 512) : iblk m c 1 t (ix2 l j) = A1 m c (ix2 (at' t.val h l) j) := by
  have e := idx_1 t
  blk_ext! [iblk, V, e, at']

theorem blk_2 (t : Fin cfg0.N) (h : t.val < 8) (l : Fin 512) (j : Fin 512) : iblk m c 2 t (ix2 l j) = A2 m c (ix2 (at' t.val h l) j) := by
  have e := idx_2 t
  blk_ext! [iblk, V, e, at']

theorem blk_3 (t : Fin cfg0.N) (h : t.val < 8) (l : Fin 512) (j : Fin 512) :
    X0_3 m c t (ix2 l j) = A3 m c (ix2 (at' t.val h l) ⟨5120 + j.val, by omega⟩) := by
  have e := idx_3 t
  unfold X0_3 Pipeline.Window.fill
  rw [dif_pos (moved0_3 t _)]
  blk_ext! [iblk, V, e, at']

theorem blk_4 (t : Fin cfg0.N) (h : t.val < 8) (l : Fin 512) (j : Fin 1024) :
    X0_4 m c t (ix2 l j) = A3 m c (ix2 (at' t.val h l) ⟨j.val, by omega⟩) := by
  have e := idx_4 t
  unfold X0_4 Pipeline.Window.fill
  rw [dif_pos (moved0_4 t _)]
  blk_ext! [iblk, V, e, at']

theorem blk_5 (t : Fin cfg0.N) (h : t.val < 8) (l : Fin 512) (j : Fin 1024) :
    X0_5 m c t (ix2 l j) = A3 m c (ix2 (at' t.val h l) ⟨1024 + j.val, by omega⟩) := by
  have e := idx_5 t
  unfold X0_5 Pipeline.Window.fill
  rw [dif_pos (moved0_5 t _)]
  blk_ext! [iblk, V, e, at']

theorem blk_6 (t : Fin cfg0.N) (j : Fin 128) : iblk m c 6 t (ix2 0 j) = A4 m c (ix2 0 j) := by
  have e := idx_6 t
  blk_ext! [iblk, V, e]

theorem blk_7 (t : Fin cfg0.N) (j : Fin 512) (k : Fin 1024) : iblk m c 7 t (ix2 j k) = A5 m c (ix2 j k) := by
  have e := idx_7 t
  blk_ext! [iblk, V, e]

theorem blk_8 (t : Fin cfg0.N) (j : Fin 512) (k : Fin 1024) : iblk m c 8 t (ix2 j k) = A6 m c (ix2 j k) := by
  have e := idx_8 t
  blk_ext! [iblk, V, e]

theorem blk_9 (t : Fin cfg0.N) (j k : Fin 1024) : iblk m c 9 t (ix2 j k) = A7 m c (ix2 j k) := by
  have e := idx_9 t
  blk_ext! [iblk, V, e]

/-- The two branches' sum at an entry of a point's block. -/
def mixBlk (t : Fin cfg0.N) (l : Fin 512) (k : Fin 1024) : EReal :=
  mix (fun j => iblk m c 2 t (ix2 l j)) (fun j => X0_3 m c t (ix2 l j)) (fun j => iblk m c 1 t (ix2 l j)) (fun i => iblk m c 6 t (ix2 0 i))
    (X0_4 m c t (ix2 l k)) (X0_5 m c t (ix2 l k)) (fun j => iblk m c 7 t (ix2 j k)) (fun j => iblk m c 8 t (ix2 j k))

abbrev mixOf (r : Fin 4096) (k : Fin 1024) : EReal := mixAt (A1 m c) (A2 m c) (A3 m c) (A4 m c) (A5 m c) (A6 m c) r k

theorem mix_blk (t : Fin cfg0.N) (h : t.val < 8) (l : Fin 512) (k : Fin 1024) : mixBlk m c t l k = mixOf m c (at' t.val h l) k := by
  unfold mixBlk mixOf mixAt
  have e1 := funext (blk_1 m c t h l)
  have e2 := funext (blk_2 m c t h l)
  have e3 := funext (blk_3 m c t h l)
  have e6 := funext (blk_6 m c t)
  have e7 := funext fun j => blk_7 m c t j k
  have e8 := funext fun j => blk_8 m c t j k
  have e4 := blk_4 m c t h l k
  have e5 := blk_5 m c t h l k
  exact congr (congr (congr (congr (congr (congr (congrArg₂ mix e2 e3) e1) e6) e4) e5) e7) e8

theorem mix_at (t : Fin cfg0.N) (h : t.val < 8) (l : Fin 512) (k : Fin 1024) :
    ((outsAt0 m c t).2 (ix2 l k) : EReal) = mixArr (A1 m c) (A2 m c) (A3 m c) (A4 m c) (A5 m c) (A6 m c) (ix2 (at' t.val h l) k) := by
  unfold outsAt0
  dsimp only
  rw [mix_block]
  exact (mix_apply _ _ _ _ _ _ _ _ l k).trans (mix_blk m c t h l k)

/-- The point's rows of the residual and its block of the last weight. -/
def xAt (t : Fin cfg0.N) (l : Fin 512) (k : Fin 1024) : EReal := iblk m c 0 t (ix2 l k)
def wAt (t : Fin cfg0.N) (j : Fin 1024) (k : Fin 1024) : EReal := iblk m c 9 t (ix2 j k)

theorem out_at (t : Fin cfg0.N) (h : t.val < 8) (l : Fin 512) (q : Fin 1024) : ((outsAt0 m c t).1 (ix2 l q) : EReal)
    = outArr (A0 m c) (A1 m c) (A2 m c) (A3 m c) (A4 m c) (A5 m c) (A6 m c) (A7 m c) (ix2 (at' t.val h l) q) := by
  have e : xAt m c t l q + ∑ k, mixBlk m c t l k * wAt m c t k q
      = A0 m c (ix2 (at' t.val h l) q) + ∑ k, mixOf m c (at' t.val h l) k * A7 m c (ix2 k q) :=
    congrArg₂ (· + ·) (blk_0 m c t h l q)
      (Finset.sum_congr rfl fun k _ => congrArg₂ (· * ·) (mix_blk m c t h l k) (blk_9 m c t k q))
  unfold outsAt0
  dsimp only
  rw [out_block]
  exact (out_apply _ _ _ _ _ _ _ _ _ _ l q).trans e

theorem final_out : (dats m 0 c).arrAt 10 cfg0.N = outArr (A0 m c) (A1 m c) (A2 m c) (A3 m c) (A4 m c) (A5 m c) (A6 m c) (A7 m c) := by
  refine (dats m 0 c).arrAt_eq_of_covers 10 _ (by decide +kernel) fun t hf y => ?_
  have e := idx_10 t
  have hN : t.val < 8 := lt_of_lt_of_eq t.isLt N_0
  blk_simp
  rw [after0_10]
  rw [eq_ix2 y]
  refine (out_at m c t hN (y 0) (y 1)).trans ?_
  exact congrArg (outArr _ _ _ _ _ _ _ _) (by blk_ext [e, at'])

theorem final_mix : (dats m 0 c).arrAt 11 cfg0.N = mixArr (A1 m c) (A2 m c) (A3 m c) (A4 m c) (A5 m c) (A6 m c) := by
  refine (dats m 0 c).arrAt_eq_of_covers 11 _ (by decide +kernel) fun t hf y => ?_
  have e := idx_11 t
  have hN : t.val < 8 := lt_of_lt_of_eq t.isLt N_0
  blk_simp
  rw [after0_11]
  rw [eq_ix2 y]
  refine (mix_at m c t hN (y 0) (y 1)).trans ?_
  exact congrArg (mixArr _ _ _ _ _ _) (by blk_ext [e, at'])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0_0)
        = outArr (A0 m c) (A1 m c) (A2 m c) (A3 m c) (A4 m c) (A5 m c) (A6 m c) (A7 m c)
      ∧ r.2.mem ((c.tc : Thread nD τ).loc main_v0_1) = mixArr (A1 m c) (A2 m c) (A3 m c) (A4 m c) (A5 m c) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final_out m c), (h c).2.1.trans (final_mix m c), (h c).2.2⟩) (run_blocks m ρ)

end Cert.Mid

end
-- ==== Proof.MidRef.lean ====
/- The reference's middle of the layer: the kernel's two arrays, from any arguments. -/
module

public import proofs.«01_k».proof.Proof.Mid
public import proofs.«01_k».proof.Proof.Gen.Reference11Ideal.Run
public import Idealize.ShloMosaic.Lib.Quiescent

@[expose] public section

set_option maxRecDepth 16384

noncomputable section

namespace Cert.Mid

open Idealize.ShloMosaic Idealize.ShloMosaic.TcCoe Idealize.SL.Sem Cert.FeedForward Cert.Reference11Ideal Cert.Reference11Ideal.Gen
  Cert.Reference11Ideal.Value

section Terms

variable (a0 : FVec Ideal S4096x1024 .f32) (a1 a2 : FVec Ideal S4096x512 .f32) (a3 : FVec Ideal S4096x5760 .bf16)
  (a4 : FVec Ideal S1x128 .f32) (a5 a6 : FVec Ideal S512x1024 .bf16) (a7 : FVec Ideal S1024x1024 .bf16)

/-- The second branch and its gate by heads, the branch normed and gated, and the branches' gates. -/
abbrev refO : FVec Ideal S4096x4x128 .f32 := shapeCast _ a2 shapeCasts_S4096x512_S4096x4x128

abbrev refZ : FVec Ideal S4096x4x128 .f32 :=
  shapeCast _ (extractStridedSlice S4096x512 ![0, 5120] (extf .f32 a3 bitsLt_bf16_f32 : FVec Ideal S4096x5760 .f32)
    slices_S4096x5760_S4096x512_0_5120) shapeCasts_S4096x512_S4096x4x128

abbrev refHeads : FVec Ideal S4096x4x128 .f32 :=
  mulf (mulf (mulf (refO a2) (broadcastInDim S4096x4x128 ![0, 1, 2] bcast_S4096x4x1_S4096x4x128_0_1_2 (Host.rsqrt (addf
    (Host.divf (broadcastInDim S4096x4x1 ![0, 1] bcast_S4096x4_S4096x4x1_0_1 (Host.reduceAdd (mulf (refO a2) (refO a2)) (constant
    S_ .f32 0x00000000#32) reducesTo_S4096x4x128_S4096x4_d2 h_S_)) (broadcastInDim S4096x4x1 ![] bcast_S_S4096x4x1 (constant S_
    .f32 0x43000000#32))) (broadcastInDim S4096x4x1 ![] bcast_S_S4096x4x1 (constant S_ .f32 0x358637BD#32)))))) (broadcastInDim
    S4096x4x128 ![0, 1, 2] bcast_S1x1x128_S4096x4x128_0_1_2 (broadcastInDim S1x1x128 ![2] bcast_S128_S1x1x128_2 (shapeCast _ a4
    shapeCasts_S1x128_S128)))) (mulf (refZ a3) (Host.divf (broadcastInDim S4096x4x128 ![] bcast_S_S4096x4x128 (constant S_ .f32
    0x3F800000#32)) (addf (broadcastInDim S4096x4x128 ![] bcast_S_S4096x4x128 (constant S_ .f32 0x3F800000#32)) (Host.exp
    (Host.negf (refZ a3))))))

abbrev refGated : FVec Ideal S4096x512 .f32 := shapeCast _ (refHeads a2 a3 a4) shapeCasts_S4096x4x128_S4096x512

abbrev refGateA : FVec Ideal S4096x1024 .f32 :=
  Host.divf (broadcastInDim S4096x1024 ![] bcast_S_S4096x1024 (constant S_ .f32 0x3F800000#32)) (addf (broadcastInDim S4096x1024
    ![] bcast_S_S4096x1024 (constant S_ .f32 0x3F800000#32)) (Host.exp (Host.negf (extractStridedSlice S4096x1024 ![0, 0]
    (extractStridedSlice S4096x2048 ![0, 0] (extf .f32 a3 bitsLt_bf16_f32 : FVec Ideal S4096x5760 .f32)
    slices_S4096x5760_S4096x2048_0_0) slices_S4096x2048_S4096x1024_0_0))))

abbrev refGateB : FVec Ideal S4096x1024 .f32 :=
  Host.divf (broadcastInDim S4096x1024 ![] bcast_S_S4096x1024 (constant S_ .f32 0x3F800000#32)) (addf (broadcastInDim S4096x1024
    ![] bcast_S_S4096x1024 (constant S_ .f32 0x3F800000#32)) (Host.exp (Host.negf (extractStridedSlice S4096x1024 ![0, 1024]
    (extractStridedSlice S4096x2048 ![0, 0] (extf .f32 a3 bitsLt_bf16_f32 : FVec Ideal S4096x5760 .f32)
    slices_S4096x5760_S4096x2048_0_0) slices_S4096x2048_S4096x1024_0_1024))))

/-- The branches' sum, and the two results. -/
abbrev refSum : FVec Ideal S4096x1024 .f32 :=
  addf (mulf (refGateA a3) (Host.dotGeneral dot_S4096x512_S512x1024_S4096x1024_1_0_0_1_n_n none a1 (extf .f32 a5 bitsLt_bf16_f32
    : FVec Ideal S512x1024 .f32))) (mulf (refGateB a3) (Host.dotGeneral dot_S4096x512_S512x1024_S4096x1024_1_0_0_1_n_n none
    (refGated a2 a3 a4) (extf .f32 a6 bitsLt_bf16_f32 : FVec Ideal S512x1024 .f32)))

abbrev refMix : FVec Ideal S4096x1024 .bf16 := truncf .bf16 (refSum a1 a2 a3 a4 a5 a6) bitsLt_bf16_f32

abbrev refOut : FVec Ideal S4096x1024 .f32 :=
  addf a0 (Host.dotGeneral dot_S4096x1024_S1024x1024_S4096x1024_1_0_0_1_n_n none (refSum a1 a2 a3 a4 a5 a6)
    (extf .f32 a7 bitsLt_bf16_f32 : FVec Ideal S1024x1024 .f32))

theorem refGateA_apply (r : Fin 4096) (k : Fin 1024) : (refGateA a3 (ix2 r k) : EReal) = sigmoid (a3 (ix2 r ⟨k.val, by omega⟩)) := by
  rw [← expit_eq]
  unfold expit
  pointwise [refGateA]

theorem refGateB_apply (r : Fin 4096) (k : Fin 1024) :
    (refGateB a3 (ix2 r k) : EReal) = sigmoid (a3 (ix2 r ⟨1024 + k.val, by omega⟩)) := by
  rw [← expit_eq]
  unfold expit
  pointwise [refGateB]

theorem refGated_apply (r : Fin 4096) (j : Fin 512) : (refGated a2 a3 a4 (ix2 r j) : EReal)
    = gated (fun j => a2 (ix2 r j)) (fun j => a3 (ix2 r ⟨5120 + j.val, by omega⟩)) (fun l => a4 (ix2 0 l)) j := by
  unfold gated headScale head
  rw [← expit_eq]
  unfold expit
  pointwise [refGated, refHeads, refZ, refO]

theorem refSum_apply (r : Fin 4096) (k : Fin 1024) : (refSum a1 a2 a3 a4 a5 a6 (ix2 r k) : EReal) = mixAt a1 a2 a3 a4 a5 a6 r k := by
  unfold mixAt mix
  rw [← refGateA_apply, ← refGateB_apply]
  rw [Finset.sum_congr rfl fun j _ => congrArg (· * _) (refGated_apply a2 a3 a4 r j).symm]
  unfold refSum
  generalize refGated a2 a3 a4 = g, refGateA a3 = s, refGateB a3 = t
  pointwise []

theorem refMix_eq : refMix a1 a2 a3 a4 a5 a6 = mixArr a1 a2 a3 a4 a5 a6 := by
  funext i
  rw [eq_ix2 i]
  exact refSum_apply a1 a2 a3 a4 a5 a6 (i 0) (i 1)

theorem refOut_eq : refOut a0 a1 a2 a3 a4 a5 a6 a7 = outArr a0 a1 a2 a3 a4 a5 a6 a7 := by
  funext i
  rw [eq_ix2 i]
  generalize i 0 = r, i 1 = q
  show _ = (a0 (ix2 r q) : EReal) + ∑ k : Fin 1024, mixAt a1 a2 a3 a4 a5 a6 r k * a7 (ix2 k q)
  rw [Finset.sum_congr rfl fun k _ => congrArg (· * _) (refSum_apply a1 a2 a3 a4 a5 a6 r k).symm]
  unfold refOut
  generalize refSum a1 a2 a3 a4 a5 a6 = s
  pointwise []

end Terms

variable (m : (ℓ : Loc nD τ sig) → Buf (Elt Ideal) ℓ) (ρ : Dev nD → PrngReg)

/-- The reference's run. -/
theorem reference_run : θ_run (defs (F := Ideal)) (onTc (τ := τ) (main (F := Ideal))) ⟨m, fun _ => 0, ρ⟩ fun r =>
      ∀ c : Dev nD, r.2.mem ((c.tc : Thread nD τ).loc main_v45)
        = outArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_v46)
        = mixArr (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (refOut_eq _ _ _ _ _ _ _ _), (h c).2.1.trans (refMix_eq _ _ _ _ _ _), (h c).2.2⟩)
    (Value.run m ρ)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0 :=
  (θ_run defs _ _).mono (fun r h => ⟨fun c => (h c).2.2, sem_eq_zero_of_no_sems (by decide) r.2⟩) (Value.run m ρ)

end Cert.Mid

end
-- ==== Proof.MidMerge.lean ====
/- The claim on the middle of the layer: the kernel and the reference leave the same two arrays. -/
module

public import proofs.«01_k».proof.Defs
public import proofs.«01_k».proof.Proof.MidRef

@[expose] public section

noncomputable section

namespace Cert.Proof

open Idealize.ShloMosaic Idealize.SL.Sem

theorem mid : Cert.algebraic_Kernel11Ideal_Reference11Ideal := fun m g m' g' _ hm =>
  ⟨_, _, Mid.kernel_run m g,
    (θ_run _ _ _).mono (fun _ h c => by
      obtain ⟨e0, e1, e2, e3, e4, e5, e6, e7⟩ := hm c
      refine ⟨(h c).1.trans ?_, (h c).2.1.trans ?_, (h c).2.2⟩
      · rw [e0, e1, e2, e3, e4, e5, e6, e7]
      · rw [e1, e2, e3, e4, e5, e6]) (Mid.reference_run m' g')⟩

end Cert.Proof

end
-- ==== Proof.MidEntries.lean ====
/- The middle's gradients, entry by entry of the kernel's values. -/
module

public import proofs.«01_k».proof.Proof.MidHeads
public import proofs.«01_k».proof.Proof.Gen.Kernel12Ideal.Skeleton
public import Idealize.ShloMosaic.Lib.Tactic
public import Idealize.ShloMosaic.Lib.Pipeline.ValueKit

@[expose] public section

set_option maxRecDepth 16384

noncomputable section

namespace Cert.MidBwd

open Idealize.ShloMosaic Idealize.ShloMosaic.TcCoe Idealize.SL.Sem Cert.FeedForward Cert.Mid Cert.Kernel12Ideal Cert.Kernel12Ideal.Gen

section Values

variable {F : FTy → Type} [FloatOps F]
  (x0 : Vec F S256x1024 .f32) (x2 x3 : Vec F S256x512 .f32) (x4 : Vec F S256x512 .bf16) (x5 x6 : Vec F S256x1024 .bf16) (x7 : Vec F S1x128 .f32)
  (x8 x9 : Vec F S512x1024 .bf16) (x10 : Vec F S1024x1024 .bf16)

/-- The kernel's values, of the values read: the branches' gradients, the normed branch and the branch, its gradient by parts. -/
abbrev vdm : FVec F S256x1024 .f32 := k0_pay6 x0 x10
abbrev vdua : FVec F S256x1024 .bf16 := k0_pay27 (vdm x0 x10) x5
abbrev vdub : FVec F S256x1024 .bf16 := k0_pay28 (vdm x0 x10) x6
abbrev vnrm : FVec F S256x512 .f32 := k0_pay19 x3 (k0_pay11 x3) (k0_pay12 x3) (k0_pay13 x3) (Scalar.ofBits .f32 0x43000000#32)
abbrev vgated : FVec F S256x512 .bf16 :=
  k0_pay24 x3 (k0_pay8 x4) x7 (k0_pay11 x3) (k0_pay12 x3) (k0_pay13 x3) (Scalar.ofBits .f32 0x43000000#32)
abbrev vdga : FVec F S256x1024 .bf16 := k0_pay29 (vdm x0 x10) (k0_pay23 x2) x8 x5
abbrev vdgb : FVec F S256x1024 .bf16 := k0_pay30 (vdm x0 x10) (vgated x3 x4 x7) x9 x6
abbrev vdya : FVec F S256x512 .f32 := k0_pay33 (vdua x0 x5 x10) x8
abbrev vdn : FVec F S256x512 .f32 := k0_pay36 (k0_pay22 (k0_pay8 x4)) (vdub x0 x6 x10) x9
abbrev vdz : FVec F S256x512 .bf16 := k0_pay35 (k0_pay8 x4) (vnrm x3) (k0_pay20 x7) (k0_pay21 (k0_pay8 x4)) (vdub x0 x6 x10) x9
abbrev vdob0 : FVec F S256x128 .f32 :=
  k0_pay40 (k0_pay10 x3) (vnrm x3) (k0_pay38 (k0_pay22 (k0_pay8 x4)) (vdub x0 x6 x10) x9) x7
abbrev vdob1 : FVec F S256x128 .f32 :=
  k0_pay43 (k0_pay14 (k0_pay13 x3) (Scalar.ofBits .f32 0x43000000#32)) (vnrm x3) (vdn x0 x4 x6 x9 x10) x7
abbrev vdob2 : FVec F S256x128 .f32 := k0_pay48 (k0_pay16 x3) (k0_pay46 (vnrm x3)) (k0_pay47 (vdn x0 x4 x6 x9 x10) x7)
abbrev vdob3 : FVec F S256x128 .f32 := k0_pay51 (k0_pay18 x3) (vnrm x3) (vdn x0 x4 x6 x9 x10) x7
abbrev vgain (acc : Vec F S8x128 .f32) : FVec F S8x128 .f32 :=
  k0_pay52 (vnrm x3) (vdn x0 x4 x6 x9 x10)
    (k0_pay44 (vnrm x3) (vdn x0 x4 x6 x9 x10) k0_pay37 (k0_pay38 (k0_pay22 (k0_pay8 x4)) (vdub x0 x6 x10) x9))
    (k0_pay45 (vdn x0 x4 x6 x9 x10)) (k0_pay46 (vnrm x3)) acc

end Values

variable (x0 : FVec Ideal S256x1024 .f32) (x2 x3 : FVec Ideal S256x512 .f32) (x4 : FVec Ideal S256x512 .bf16)
  (x5 x6 : FVec Ideal S256x1024 .bf16) (x7 : FVec Ideal S1x128 .f32) (x8 x9 : FVec Ideal S512x1024 .bf16) (x10 : FVec Ideal S1024x1024 .bf16)

/-- A block's row and the weights. -/
def rowBlk (l : Fin 256) : Row where
  dx j := x0 (ix2 l j)
  ga j := x5 (ix2 l j)
  gb j := x6 (ix2 l j)
  ya j := x2 (ix2 l j)
  o j := x3 (ix2 l j)
  z j := x4 (ix2 l j)

def wts : Weights where
  w j := x7 (ix2 0 j)
  wa j k := x8 (ix2 j k)
  wb j k := x9 (ix2 j k)
  wo j k := x10 (ix2 j k)

theorem dm_apply (l : Fin 256) (k : Fin 1024) :
    (vdm (F := Ideal) x0 x10 (ix2 l k) : EReal) = dm (rowBlk x0 x2 x3 x4 x5 x6 l) (wts x7 x8 x9 x10) k := by
  unfold dm rowBlk wts
  pointwise [vdm, k0_pay6, k0_pay5]

theorem dua_apply (l : Fin 256) (k : Fin 1024) :
    (vdua (F := Ideal) x0 x5 x10 (ix2 l k) : EReal) = dua (rowBlk x0 x2 x3 x4 x5 x6 l) (wts x7 x8 x9 x10) k := by
  unfold dua
  rw [← dm_apply]
  unfold vdua
  generalize vdm (F := Ideal) x0 x10 = d
  unfold sigmoid rowBlk
  pointwise [k0_pay27, k0_pay25]

theorem dub_apply (l : Fin 256) (k : Fin 1024) :
    (vdub (F := Ideal) x0 x6 x10 (ix2 l k) : EReal) = dub (rowBlk x0 x2 x3 x4 x5 x6 l) (wts x7 x8 x9 x10) k := by
  unfold dub
  rw [← dm_apply]
  unfold vdub
  generalize vdm (F := Ideal) x0 x10 = d
  unfold sigmoid rowBlk
  pointwise [k0_pay28, k0_pay26]

theorem dya_apply (l : Fin 256) (j : Fin 512) :
    (vdya (F := Ideal) x0 x5 x8 x10 (ix2 l j) : EReal) = dya (rowBlk x0 x2 x3 x4 x5 x6 l) (wts x7 x8 x9 x10) j := by
  unfold dya
  simp only [← dua_apply]
  unfold vdya
  generalize vdua (F := Ideal) x0 x5 x10 = d
  unfold wts
  pointwise [k0_pay33]

theorem dyb_apply (l : Fin 256) (j : Fin 512) :
    (k0_pay34 (F := Ideal) (vdub x0 x6 x10) x9 (ix2 l j) : EReal) = dyb (rowBlk x0 x2 x3 x4 x5 x6 l) (wts x7 x8 x9 x10) j := by
  unfold dyb
  simp only [← dub_apply]
  generalize vdub (F := Ideal) x0 x6 x10 = d
  unfold wts
  pointwise [k0_pay34]

theorem dga_apply (l : Fin 256) (k : Fin 1024) :
    (vdga (F := Ideal) x0 x2 x5 x8 x10 (ix2 l k) : EReal) = dga (rowBlk x0 x2 x3 x4 x5 x6 l) (wts x7 x8 x9 x10) k := by
  unfold dga ua
  rw [← dm_apply]
  unfold vdga
  generalize vdm (F := Ideal) x0 x10 = d
  unfold sigmoid rowBlk wts
  pointwise [k0_pay29, k0_pay25, k0_pay23]

/-- An entry of the normed branch. -/
theorem nrm_apply (l : Fin 256) (j : Fin 512) : (vnrm (F := Ideal) x3 (ix2 l j) : EReal) = nrm (rowBlk x0 x2 x3 x4 x5 x6 l) j := by
  unfold nrm headScale head rowBlk
  pointwise [vnrm, k0_pay19, k0_pay18, k0_pay17, k0_pay16, k0_pay15, k0_pay14, k0_pay13, k0_pay12, k0_pay11, k0_pay10, k0_pay9]
  have hj := j.isLt
  have key (a : Fin 512) (s : Fin 128 → Fin 512) (ha : a = j) (hs : ∀ i, s i = ⟨j.val / 128 * 128 + i.val, by omega⟩) :
      x3 (ix2 l a) * Ideal.rsqrt (Ideal.div (∑ i, x3 (ix2 l (s i)) * x3 (ix2 l (s i))) headWidth + eps)
      = x3 (ix2 l j) * Ideal.rsqrt (Ideal.div (∑ i : Fin 128, x3 (ix2 l ⟨j.val / 128 * 128 + i.val, by omega⟩)
        * x3 (ix2 l ⟨j.val / 128 * 128 + i.val, by omega⟩)) headWidth + eps) := by
    subst ha
    obtain rfl : s = _ := funext hs
    rfl
  by_cases h0 : j.val < 128
  · rw [dif_pos h0]
    exact key _ (fun i => ⟨i.val, by omega⟩) rfl (fun i => Fin.ext (by dsimp only; omega))
  rw [dif_neg h0]
  by_cases h1 : j.val - 128 < 128
  · rw [dif_pos h1]
    exact key _ (fun i => ⟨128 + i.val, by omega⟩) (Fin.ext (by dsimp only; omega)) (fun i => Fin.ext (by dsimp only; omega))
  rw [dif_neg h1]
  by_cases h2 : j.val - 128 - 128 < 128
  · rw [dif_pos h2]
    exact key _ (fun i => ⟨256 + i.val, by omega⟩) (Fin.ext (by dsimp only; omega)) (fun i => Fin.ext (by dsimp only; omega))
  rw [dif_neg h2]
  exact key _ (fun i => ⟨384 + i.val, by omega⟩) (Fin.ext (by dsimp only; omega)) (fun i => Fin.ext (by dsimp only; omega))

/-- An entry of the gain repeated over the heads. -/
theorem gains_apply (j : Fin 512) : (k0_pay20 (F := Ideal) x7 (ix2 0 j) : EReal) = (wts x7 x8 x9 x10).w ⟨j.val % 128, by omega⟩ := by
  unfold wts
  pointwise [k0_pay20]
  have hj := j.isLt
  have key (b : Fin 128) (hb : b = ⟨j.val % 128, by omega⟩) : x7 (ix2 0 b) = x7 (ix2 0 ⟨j.val % 128, by omega⟩) := by rw [hb]
  by_cases h0 : j.val < 128
  · rw [dif_pos h0]
    exact key _ (Fin.ext (by dsimp only; omega))
  rw [dif_neg h0]
  by_cases h1 : j.val - 128 < 128
  · rw [dif_pos h1]
    exact key _ (Fin.ext (by dsimp only; omega))
  rw [dif_neg h1]
  by_cases h2 : j.val - 128 - 128 < 128
  · rw [dif_pos h2]
    exact key _ (Fin.ext (by dsimp only; omega))
  rw [dif_neg h2]
  exact key _ (Fin.ext (by dsimp only; omega))

theorem gated_apply (l : Fin 256) (j : Fin 512) :
    (vgated (F := Ideal) x3 x4 x7 (ix2 l j) : EReal)
    = gated (rowBlk x0 x2 x3 x4 x5 x6 l).o (rowBlk x0 x2 x3 x4 x5 x6 l).z (wts x7 x8 x9 x10).w j := by
  unfold gated
  rw [← gains_apply x7 x8 x9 x10 j, show (rowBlk x0 x2 x3 x4 x5 x6 l).o j * headScale (head (rowBlk x0 x2 x3 x4 x5 x6 l).o j) = _ from
    (nrm_apply x0 x2 x3 x4 x5 x6 l j).symm]
  unfold vgated vnrm k0_pay24
  generalize k0_pay19 (F := Ideal) x3 (k0_pay11 x3) (k0_pay12 x3) (k0_pay13 x3) (Scalar.ofBits .f32 0x43000000#32) = n
  generalize k0_pay20 (F := Ideal) x7 = g
  unfold sigmoid rowBlk
  pointwise [k0_pay22, k0_pay21, k0_pay8]

theorem dgb_apply (l : Fin 256) (k : Fin 1024) :
    (vdgb (F := Ideal) x0 x3 x4 x6 x7 x9 x10 (ix2 l k) : EReal) = dgb (rowBlk x0 x2 x3 x4 x5 x6 l) (wts x7 x8 x9 x10) k := by
  unfold dgb ub
  simp only [← dm_apply, ← gated_apply]
  unfold vdgb
  generalize vdm (F := Ideal) x0 x10 = d
  generalize vgated (F := Ideal) x3 x4 x7 = y
  unfold sigmoid rowBlk wts
  pointwise [k0_pay30, k0_pay26]

theorem dn_apply (l : Fin 256) (j : Fin 512) :
    (vdn (F := Ideal) x0 x4 x6 x9 x10 (ix2 l j) : EReal) = dn (rowBlk x0 x2 x3 x4 x5 x6 l) (wts x7 x8 x9 x10) j := by
  unfold dn
  rw [← dyb_apply]
  unfold vdn k0_pay36
  generalize k0_pay34 (F := Ideal) (vdub x0 x6 x10) x9 = d
  unfold sigmoid rowBlk
  pointwise [k0_pay22, k0_pay21, k0_pay8]

theorem dz_apply (l : Fin 256) (j : Fin 512) :
    (vdz (F := Ideal) x0 x3 x4 x6 x7 x9 x10 (ix2 l j) : EReal) = dz (rowBlk x0 x2 x3 x4 x5 x6 l) (wts x7 x8 x9 x10) j := by
  unfold dz
  rw [← dyb_apply, ← nrm_apply, ← gains_apply x7 x8 x9 x10 j]
  unfold vdz k0_pay35
  generalize k0_pay34 (F := Ideal) (vdub x0 x6 x10) x9 = d
  generalize vnrm (F := Ideal) x3 = n
  generalize k0_pay20 (F := Ideal) x7 = g
  unfold sigmoid rowBlk
  pointwise [k0_pay21, k0_pay8]

/-- A head of the normed branch, and its gradient with the normed branch in it. -/
theorem part_nrm (p : Row) (h : Fin 4) (j : Fin 128) : part (nrm p) h j = part p.o h j * headScale (part p.o h) := by
  unfold part nrm head
  have hj := j.isLt
  simp only [show (h.val * 128 + j.val) / 128 = h.val by omega]

/-- A head's scale and its gradient, the head's columns named by s. -/
theorem scale_of (l : Fin 256) (h : Fin 4) (s : Fin 128 → Fin 512) (hs : ∀ i, s i = ⟨h.val * 128 + i.val, by omega⟩) :
    Ideal.rsqrt (Ideal.div (∑ i, x3 (ix2 l (s i)) * x3 (ix2 l (s i))) headWidth + eps) = headScale (part (rowBlk x0 x2 x3 x4 x5 x6 l).o h) := by
  obtain rfl : s = _ := funext hs
  rfl

theorem dob_of (l : Fin 256) (h : Fin 4) (r : EReal) (hr : r = headScale (part (rowBlk x0 x2 x3 x4 x5 x6 l).o h)) (s : Fin 128 → Fin 512)
    (hs : ∀ i, s i = ⟨h.val * 128 + i.val, by omega⟩) (k : Fin 128) :
    r * (vdn (F := Ideal) x0 x4 x6 x9 x10 (ix2 l (s k)) * x7 (ix2 0 k) - vnrm (F := Ideal) x3 (ix2 l (s k))
      * Ideal.div (∑ j, vdn (F := Ideal) x0 x4 x6 x9 x10 (ix2 l (s j)) * x7 (ix2 0 j) * vnrm (F := Ideal) x3 (ix2 l (s j))) headWidth)
    = dobPart (rowBlk x0 x2 x3 x4 x5 x6 l) (wts x7 x8 x9 x10) h k := by
  subst hr
  unfold dobPart headGrad
  simp only [← part_nrm]
  unfold part
  simp only [← nrm_apply, ← dn_apply, ← hs]
  rfl

theorem dob0_apply (l : Fin 256) (k : Fin 128) :
    (vdob0 (F := Ideal) x0 x3 x4 x6 x7 x9 x10 (ix2 l k) : EReal) = dobPart (rowBlk x0 x2 x3 x4 x5 x6 l) (wts x7 x8 x9 x10) 0 k := by
  have hr : k0_pay10 (F := Ideal) x3 (ix2 l 0) = headScale (part (rowBlk x0 x2 x3 x4 x5 x6 l).o 0) := by
    refine Eq.trans ?_ (scale_of x0 x2 x3 x4 x5 x6 l 0 (fun i => ⟨i.val, by omega⟩) fun i => Fin.ext (by simp))
    pointwise [k0_pay10, k0_pay9]
  refine Eq.trans ?_ (dob_of x0 x2 x3 x4 x5 x6 x7 x8 x9 x10 l 0 _ hr (fun i => ⟨i.val, by omega⟩) (fun i => Fin.ext (by simp)) k)
  unfold vdob0 vdn k0_pay38
  generalize k0_pay36 (F := Ideal) (k0_pay22 (k0_pay8 x4)) (vdub x0 x6 x10) x9 = d
  generalize vnrm (F := Ideal) x3 = n
  generalize k0_pay10 (F := Ideal) x3 = r
  pointwise [k0_pay40, k0_pay39]

theorem dob1_apply (l : Fin 256) (k : Fin 128) :
    (vdob1 (F := Ideal) x0 x3 x4 x6 x7 x9 x10 (ix2 l k) : EReal) = dobPart (rowBlk x0 x2 x3 x4 x5 x6 l) (wts x7 x8 x9 x10) 1 k := by
  have hr : k0_pay14 (F := Ideal) (k0_pay13 x3) (Scalar.ofBits .f32 0x43000000#32) (ix2 l 0)
      = headScale (part (rowBlk x0 x2 x3 x4 x5 x6 l).o 1) := by
    refine Eq.trans ?_ (scale_of x0 x2 x3 x4 x5 x6 l 1 (fun i => ⟨128 + i.val, by omega⟩) fun i => Fin.ext (by simp))
    pointwise [k0_pay14, k0_pay13, k0_pay12]
  refine Eq.trans ?_ (dob_of x0 x2 x3 x4 x5 x6 x7 x8 x9 x10 l 1 _ hr (fun i => ⟨128 + i.val, by omega⟩) (fun i => Fin.ext (by simp)) k)
  unfold vdob1 vdn
  generalize k0_pay36 (F := Ideal) (k0_pay22 (k0_pay8 x4)) (vdub x0 x6 x10) x9 = d
  generalize vnrm (F := Ideal) x3 = n
  generalize k0_pay14 (F := Ideal) (k0_pay13 x3) (Scalar.ofBits .f32 0x43000000#32) = r
  pointwise [k0_pay43, k0_pay42, k0_pay41]

theorem dob2_apply (l : Fin 256) (k : Fin 128) :
    (vdob2 (F := Ideal) x0 x3 x4 x6 x7 x9 x10 (ix2 l k) : EReal) = dobPart (rowBlk x0 x2 x3 x4 x5 x6 l) (wts x7 x8 x9 x10) 2 k := by
  have hr : k0_pay16 (F := Ideal) x3 (ix2 l 0) = headScale (part (rowBlk x0 x2 x3 x4 x5 x6 l).o 2) := by
    refine Eq.trans ?_ (scale_of x0 x2 x3 x4 x5 x6 l 2 (fun i => ⟨256 + i.val, by omega⟩) fun i => Fin.ext (by simp))
    pointwise [k0_pay16, k0_pay15]
  refine Eq.trans ?_ (dob_of x0 x2 x3 x4 x5 x6 x7 x8 x9 x10 l 2 _ hr (fun i => ⟨256 + i.val, by omega⟩) (fun i => Fin.ext (by simp)) k)
  unfold vdob2 vdn
  generalize k0_pay36 (F := Ideal) (k0_pay22 (k0_pay8 x4)) (vdub x0 x6 x10) x9 = d
  generalize vnrm (F := Ideal) x3 = n
  generalize k0_pay16 (F := Ideal) x3 = r
  pointwise [k0_pay48, k0_pay47, k0_pay46, k0_pay45]

theorem dob3_apply (l : Fin 256) (k : Fin 128) :
    (vdob3 (F := Ideal) x0 x3 x4 x6 x7 x9 x10 (ix2 l k) : EReal) = dobPart (rowBlk x0 x2 x3 x4 x5 x6 l) (wts x7 x8 x9 x10) 3 k := by
  have hr : k0_pay18 (F := Ideal) x3 (ix2 l 0) = headScale (part (rowBlk x0 x2 x3 x4 x5 x6 l).o 3) := by
    refine Eq.trans ?_ (scale_of x0 x2 x3 x4 x5 x6 l 3 (fun i => ⟨384 + i.val, by omega⟩) fun i => Fin.ext (by simp))
    pointwise [k0_pay18, k0_pay17]
  refine Eq.trans ?_ (dob_of x0 x2 x3 x4 x5 x6 x7 x8 x9 x10 l 3 _ hr (fun i => ⟨384 + i.val, by omega⟩) (fun i => Fin.ext (by simp)) k)
  unfold vdob3 vdn
  generalize k0_pay36 (F := Ideal) (k0_pay22 (k0_pay8 x4)) (vdub x0 x6 x10) x9 = d
  generalize vnrm (F := Ideal) x3 = n
  generalize k0_pay18 (F := Ideal) x3 = r
  pointwise [k0_pay51, k0_pay50, k0_pay49]

/-- The sums over the rows. -/
theorem dwo_apply (acc : FVec Ideal S1024x1024 .f32) (x1 : FVec Ideal S256x1024 .bf16) (a b : Fin 1024) :
    (k0_pay7 (F := Ideal) x0 acc x1 (ix2 a b) : EReal)
    = acc (ix2 a b) + ∑ s : Fin 256, x1 (ix2 s a) * (rowBlk x0 x2 x3 x4 x5 x6 s).dx b := by
  unfold rowBlk
  pointwise [k0_pay7, k0_pay5]

theorem dwa_apply (acc : FVec Ideal S512x1024 .f32) (a : Fin 512) (b : Fin 1024) :
    (k0_pay31 (F := Ideal) (k0_pay23 x2) (vdua x0 x5 x10) acc (ix2 a b) : EReal)
    = acc (ix2 a b) + ∑ s : Fin 256, (rowBlk x0 x2 x3 x4 x5 x6 s).ya a * dua (rowBlk x0 x2 x3 x4 x5 x6 s) (wts x7 x8 x9 x10) b := by
  simp only [← dua_apply]
  generalize vdua (F := Ideal) x0 x5 x10 = d
  unfold rowBlk
  pointwise [k0_pay31, k0_pay23]

theorem dwb_apply (acc : FVec Ideal S512x1024 .f32) (a : Fin 512) (b : Fin 1024) :
    (k0_pay32 (F := Ideal) (vgated x3 x4 x7) (vdub x0 x6 x10) acc (ix2 a b) : EReal)
    = acc (ix2 a b) + ∑ s : Fin 256, gated (rowBlk x0 x2 x3 x4 x5 x6 s).o (rowBlk x0 x2 x3 x4 x5 x6 s).z (wts x7 x8 x9 x10).w a
      * dub (rowBlk x0 x2 x3 x4 x5 x6 s) (wts x7 x8 x9 x10) b := by
  simp only [← dub_apply, ← gated_apply]
  generalize vdub (F := Ideal) x0 x6 x10 = d
  generalize vgated (F := Ideal) x3 x4 x7 = y
  pointwise [k0_pay32]

theorem gain_apply (acc : FVec Ideal S8x128 .f32) (a : Fin 8) (k : Fin 128) :
    (vgain (F := Ideal) x0 x3 x4 x6 x9 x10 acc (ix2 a k) : EReal)
    = acc (ix2 a k) + ∑ s : Fin 256, gainTerm (rowBlk x0 x2 x3 x4 x5 x6 s) (wts x7 x8 x9 x10) k := by
  unfold gainTerm part
  simp only [Fin.sum_univ_four, Finset.sum_add_distrib, ← dn_apply, ← nrm_apply]
  unfold vgain vdn k0_pay38
  generalize k0_pay36 (F := Ideal) (k0_pay22 (k0_pay8 x4)) (vdub x0 x6 x10) x9 = d
  generalize vnrm (F := Ideal) x3 = n
  have e : ∀ s : Fin 256, (ix2 s ⟨(0 : Fin 4).val * 128 + k.val, by simp; omega⟩ : S256x512.Idx) = ix2 s ⟨k.val, by omega⟩ := fun s => by
    congr 1; exact Fin.ext (by simp)
  simp only [e]
  pointwise [k0_pay52, k0_pay50, k0_pay49, k0_pay46, k0_pay45, k0_pay44, k0_pay42, k0_pay41, k0_pay39, k0_pay37]

theorem zeros :
    (∀ a b, (k0_pay1 (F := Ideal) (ix2 a b) : EReal) = 0) ∧ (∀ a b, (k0_pay2 (F := Ideal) (ix2 a b) : EReal) = 0)
    ∧ (∀ a b, (k0_pay3 (F := Ideal) (ix2 a b) : EReal) = 0) ∧ (∀ a b, (k0_pay4 (F := Ideal) (ix2 a b) : EReal) = 0) := by
  refine ⟨fun a b => ?_, fun a b => ?_, fun a b => ?_, fun a b => ?_⟩ <;> pointwise [k0_pay1, k0_pay2, k0_pay3, k0_pay4]

end Cert.MidBwd

end
-- ==== Proof.MidBwd.lean ====
/- The middle of the layer's gradients: each point's blocks, by rows, and the sums over the points. -/
module

public import proofs.«01_k».proof.Proof.MidEntries
public import proofs.«01_k».proof.Proof.Gen.Kernel12Ideal.Value
public import Idealize.ShloMosaic.Lib.Pipeline.CanonAppend

@[expose] public section

set_option maxRecDepth 16384

noncomputable section

namespace Cert.MidBwd

open Idealize.ShloMosaic Idealize.ShloMosaic.TcCoe Idealize.SL.Sem Cert.FeedForward Cert.Mid Cert.Kernel12Ideal Cert.Kernel12Ideal.Gen
  Cert.Kernel12Ideal.Value

theorem hz : (![0, 0] : Fin 2 → Nat) = fun _ => 0 := funext fun a => by fin_cases a <;> rfl

section Cases

variable {F : FTy → Type} [FloatOps F] (c : Dev nD) (i : grid0.Coords)
  (a1 : Memref sig .tc .vmem S256x1024 .f32) (h1 : a1.IsWhole) (a2 : Memref sig .tc .vmem S256x1024 .bf16) (h2 : a2.IsWhole)
  (a3 : Memref sig .tc .vmem S256x512 .f32) (h3 : a3.IsWhole) (a4 : Memref sig .tc .vmem S256x512 .f32) (h4 : a4.IsWhole)
  (a5 : Memref sig .tc .vmem S256x512 .bf16) (h5 : a5.IsWhole) (a6 : Memref sig .tc .vmem S256x1024 .bf16) (h6 : a6.IsWhole)
  (a7 : Memref sig .tc .vmem S256x1024 .bf16) (h7 : a7.IsWhole) (a8 : Memref sig .tc .vmem S1x128 .f32) (h8 : a8.IsWhole)
  (a9 : Memref sig .tc .vmem S512x1024 .bf16) (h9 : a9.IsWhole) (a10 : Memref sig .tc .vmem S512x1024 .bf16) (h10 : a10.IsWhole)
  (a11 : Memref sig .tc .vmem S1024x1024 .bf16) (h11 : a11.IsWhole) (a12 : Memref sig .tc .vmem S256x512 .f32) (h12 : a12.IsWhole)
  (a13 : Memref sig .tc .vmem S256x512 .f32) (h13 : a13.IsWhole) (a14 : Memref sig .tc .vmem S256x512 .bf16) (h14 : a14.IsWhole)
  (a15 : Memref sig .tc .vmem S256x2048 .bf16) (h15 : a15.IsWhole) (a16 : Memref sig .tc .vmem S1024x1024 .f32) (h16 : a16.IsWhole)
  (a17 : Memref sig .tc .vmem S512x1024 .f32) (h17 : a17.IsWhole) (a18 : Memref sig .tc .vmem S512x1024 .f32) (h18 : a18.IsWhole)
  (a19 : Memref sig .tc .vmem S8x128 .f32) (h19 : a19.IsWhole)
  (x0 : Vec F S256x1024 .f32) (x1 : Vec F S256x1024 .bf16) (x2 x3 : Vec F S256x512 .f32) (x4 : Vec F S256x512 .bf16)
  (x5 x6 : Vec F S256x1024 .bf16) (x7 : Vec F S1x128 .f32) (x8 x9 : Vec F S512x1024 .bf16) (x10 : Vec F S1024x1024 .bf16)
  (acc15 : Vec F S1024x1024 .f32) (acc16 acc17 : Vec F S512x1024 .f32) (acc18 : Vec F S8x128 .f32)

/-- The blocks written whole, at the first point and at the next ones. -/
theorem dya_A (hc : cond0_0 i) :
    out0_A_11 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = vdya x0 x5 x8 x10 := by
  unfold out0_A_11
  rw [View.read_writes_junk_eq_canon]
  unfold kernelRun0_A
  dsimp only
  sl_unfold_words
  rw [View.canon_unit_zero (S := S256x512) hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dya_B (hc : ¬cond0_0 i) :
    out0_B_11 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = vdya x0 x5 x8 x10 := by
  unfold out0_B_11
  rw [View.read_writes_junk_eq_canon]
  unfold kernelRun0_B
  dsimp only
  sl_unfold_words
  rw [View.canon_unit_zero (S := S256x512) hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dz_A (hc : cond0_0 i) :
    out0_A_13 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = vdz x0 x3 x4 x6 x7 x9 x10 := by
  unfold out0_A_13
  rw [View.read_writes_junk_eq_canon]
  unfold kernelRun0_A
  dsimp only
  sl_unfold_words
  rw [View.canon_unit_zero (S := S256x512) hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dz_B (hc : ¬cond0_0 i) :
    out0_B_13 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = vdz x0 x3 x4 x6 x7 x9 x10 := by
  unfold out0_B_13
  rw [View.read_writes_junk_eq_canon]
  unfold kernelRun0_B
  dsimp only
  sl_unfold_words
  rw [View.canon_unit_zero (S := S256x512) hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

/-- The sums: from zero at the first point, then added to what is there. -/
theorem dwo_A (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = k0_pay7 x0 k0_pay1 x1 := by
  unfold out0_A_15
  rw [View.read_writes_junk_eq_canon]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dwo_B (hc : ¬cond0_0 i) :
    out0_B_15 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = k0_pay7 x0 acc15 x1 := by
  unfold out0_B_15
  rw [View.read_writes_junk_eq_canon]
  unfold kernelRun0_B
  dsimp only
  sl_unfold_words
  rw [View.canon_unit_zero (S := S1024x1024) hz]
  simp only [View.readAt_eq_ld, h1.read_unread, h2.read_unread, h3.read_unread, h4.read_unread, h5.read_unread, h6.read_unread,
    h7.read_unread, h8.read_unread, h9.read_unread, h10.read_unread, h11.read_unread, h16.read_unread, View.ld_unit_zero (S := S256x1024)
    hz, View.ld_unit_zero (S := S256x512) hz, View.ld_unit_zero (S := S1x128) hz, View.ld_unit_zero (S := S512x1024) hz, View.ld_unit_zero
    (S := S1024x1024) hz]

theorem dwa_A (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = k0_pay31 (k0_pay23 x2) (vdua x0 x5 x10) k0_pay2 := by
  unfold out0_A_16
  rw [View.read_writes_junk_eq_canon]
  unfold kernelRun0_A
  dsimp only
  sl_unfold_words
  rw [View.canon_cons_unit_zero (S := S512x1024) hz, View.readCov_unit_zero (S := S512x1024) _ hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dwa_B (hc : ¬cond0_0 i) :
    out0_B_16 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = k0_pay31 (k0_pay23 x2) (vdua x0 x5 x10) acc16 := by
  unfold out0_B_16
  rw [View.read_writes_junk_eq_canon]
  unfold kernelRun0_B
  dsimp only
  sl_unfold_words
  rw [View.canon_unit_zero (S := S512x1024) hz]
  simp only [View.readAt_eq_ld, h1.read_unread, h2.read_unread, h3.read_unread, h4.read_unread, h5.read_unread, h6.read_unread,
    h7.read_unread, h8.read_unread, h9.read_unread, h10.read_unread, h11.read_unread, h17.read_unread, View.ld_unit_zero (S := S256x1024)
    hz, View.ld_unit_zero (S := S256x512) hz, View.ld_unit_zero (S := S1x128) hz, View.ld_unit_zero (S := S512x1024) hz, View.ld_unit_zero
    (S := S1024x1024) hz]

theorem dwb_A (hc : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = k0_pay32 (vgated x3 x4 x7) (vdub x0 x6 x10) k0_pay3 := by
  unfold out0_A_17
  rw [View.read_writes_junk_eq_canon]
  unfold kernelRun0_A
  dsimp only
  sl_unfold_words
  rw [View.canon_cons_unit_zero (S := S512x1024) hz, View.readCov_unit_zero (S := S512x1024) _ hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem dwb_B (hc : ¬cond0_0 i) :
    out0_B_17 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = k0_pay32 (vgated x3 x4 x7) (vdub x0 x6 x10) acc17 := by
  unfold out0_B_17
  rw [View.read_writes_junk_eq_canon]
  unfold kernelRun0_B
  dsimp only
  sl_unfold_words
  rw [View.canon_unit_zero (S := S512x1024) hz]
  simp only [View.readAt_eq_ld, h1.read_unread, h2.read_unread, h3.read_unread, h4.read_unread, h5.read_unread, h6.read_unread,
    h7.read_unread, h8.read_unread, h9.read_unread, h10.read_unread, h11.read_unread, h18.read_unread, View.ld_unit_zero (S := S256x1024)
    hz, View.ld_unit_zero (S := S256x512) hz, View.ld_unit_zero (S := S1x128) hz, View.ld_unit_zero (S := S512x1024) hz, View.ld_unit_zero
    (S := S1024x1024) hz]

theorem gain_A (hc : cond0_0 i) :
    out0_A_18 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = vgain x0 x3 x4 x6 x9 x10 k0_pay4 := by
  unfold out0_A_18
  rw [View.read_writes_junk_eq_canon]
  unfold kernelRun0_A
  dsimp only
  sl_unfold_words
  rw [View.canon_cons_unit_zero (S := S8x128) hz, View.readCov_unit_zero (S := S8x128) _ hz]
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]

theorem gain_B (hc : ¬cond0_0 i) :
    out0_B_18 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = vgain x0 x3 x4 x6 x9 x10 acc18 := by
  unfold out0_B_18
  rw [View.read_writes_junk_eq_canon]
  unfold kernelRun0_B
  dsimp only
  sl_unfold_words
  rw [View.canon_unit_zero (S := S8x128) hz]
  simp only [View.readAt_eq_ld, h1.read_unread, h2.read_unread, h3.read_unread, h4.read_unread, h5.read_unread, h6.read_unread,
    h7.read_unread, h8.read_unread, h9.read_unread, h10.read_unread, h11.read_unread, h19.read_unread, View.ld_unit_zero (S := S256x1024)
    hz, View.ld_unit_zero (S := S256x512) hz, View.ld_unit_zero (S := S1x128) hz, View.ld_unit_zero (S := S512x1024) hz, View.ld_unit_zero
    (S := S1024x1024) hz, View.ld_unit_zero (S := S8x128) hz]

end Cases

section Columns

variable (c : Dev nD) (i : grid0.Coords)
  (a1 : Memref sig .tc .vmem S256x1024 .f32) (h1 : a1.IsWhole) (a2 : Memref sig .tc .vmem S256x1024 .bf16) (h2 : a2.IsWhole)
  (a3 : Memref sig .tc .vmem S256x512 .f32) (h3 : a3.IsWhole) (a4 : Memref sig .tc .vmem S256x512 .f32) (h4 : a4.IsWhole)
  (a5 : Memref sig .tc .vmem S256x512 .bf16) (h5 : a5.IsWhole) (a6 : Memref sig .tc .vmem S256x1024 .bf16) (h6 : a6.IsWhole)
  (a7 : Memref sig .tc .vmem S256x1024 .bf16) (h7 : a7.IsWhole) (a8 : Memref sig .tc .vmem S1x128 .f32) (h8 : a8.IsWhole)
  (a9 : Memref sig .tc .vmem S512x1024 .bf16) (h9 : a9.IsWhole) (a10 : Memref sig .tc .vmem S512x1024 .bf16) (h10 : a10.IsWhole)
  (a11 : Memref sig .tc .vmem S1024x1024 .bf16) (h11 : a11.IsWhole) (a12 : Memref sig .tc .vmem S256x512 .f32) (h12 : a12.IsWhole)
  (a13 : Memref sig .tc .vmem S256x512 .f32) (h13 : a13.IsWhole) (a14 : Memref sig .tc .vmem S256x512 .bf16) (h14 : a14.IsWhole)
  (a15 : Memref sig .tc .vmem S256x2048 .bf16) (h15 : a15.IsWhole) (a16 : Memref sig .tc .vmem S1024x1024 .f32) (h16 : a16.IsWhole)
  (a17 : Memref sig .tc .vmem S512x1024 .f32) (h17 : a17.IsWhole) (a18 : Memref sig .tc .vmem S512x1024 .f32) (h18 : a18.IsWhole)
  (a19 : Memref sig .tc .vmem S8x128 .f32) (h19 : a19.IsWhole)
  (x0 : Vec Ideal S256x1024 .f32) (x1 : Vec Ideal S256x1024 .bf16) (x2 x3 : Vec Ideal S256x512 .f32) (x4 : Vec Ideal S256x512 .bf16)
  (x5 x6 : Vec Ideal S256x1024 .bf16) (x7 : Vec Ideal S1x128 .f32) (x8 x9 : Vec Ideal S512x1024 .bf16) (x10 : Vec Ideal S1024x1024 .bf16)
  (acc15 : Vec Ideal S1024x1024 .f32) (acc16 acc17 : Vec Ideal S512x1024 .f32) (acc18 : Vec Ideal S8x128 .f32)

/-- The blocks written by columns: the branch's gradient head by head, the gates' two halves. -/
def dobBlk : Vec Ideal S256x512 .f32 := fun y => dob (rowBlk x0 x2 x3 x4 x5 x6 (y 0)) (wts x7 x8 x9 x10) (y 1)
def dgBlk : Vec Ideal S256x2048 .bf16 := fun y => dgates (rowBlk x0 x2 x3 x4 x5 x6 (y 0)) (wts x7 x8 x9 x10) (y 1)

/-- A head of a row, where its columns lie. -/
theorem dob_at (l : Fin 256) (h : Fin 4) (k : Fin 128) :
    dobBlk x0 x2 x3 x4 x5 x6 x7 x8 x9 x10 (ix2 l ⟨h.val * 128 + k.val, by omega⟩)
      = dobPart (rowBlk x0 x2 x3 x4 x5 x6 l) (wts x7 x8 x9 x10) h k := by
  have e1 : (⟨(h.val * 128 + k.val) / 128, by omega⟩ : Fin 4) = h := Fin.ext (by dsimp only; omega)
  have e2 : (⟨(h.val * 128 + k.val) % 128, by omega⟩ : Fin 128) = k := Fin.ext (by dsimp only; omega)
  show dobPart _ _ ⟨(h.val * 128 + k.val) / 128, _⟩ ⟨(h.val * 128 + k.val) % 128, _⟩ = _
  rw [e1, e2]
  rfl

theorem dob_piece (p : Vec Ideal S256x128 .f32) (h : Fin 4) (hp : ∀ l k, p (ix2 l k) = dobPart (rowBlk x0 x2 x3 x4 x5 x6 l) (wts x7 x8 x9 x10) h k)
    (inb : ∀ a, (![0, h.val * 128] : Fin 2 → ℕ) a + S256x128.size a ≤ S256x512.size a) (x : S256x128.Idx) :
    p x = dobBlk x0 x2 x3 x4 x5 x6 x7 x8 x9 x10 ((Rect.unit (s := S256x512) ![0, h.val * 128] ![256, 128] inb).emb x) := by
  have e : (Rect.unit (s := S256x512) ![0, h.val * 128] ![256, 128] inb).emb x = ix2 (x 0) ⟨h.val * 128 + (x 1).val, by have : (x 1).val < 128 := (x 1).isLt; omega⟩ := by
    blk_ext []
  rw [e]
  refine (congrArg p (eq_ix2 x)).trans ((hp (x 0) (x 1)).trans ?_)
  exact (dob_at x0 x2 x3 x4 x5 x6 x7 x8 x9 x10 (x 0) h (x 1)).symm

theorem dob_pieces : View.canon (Val := Elt Ideal) (s := S256x512) (e := .f32)
      [⟨Rect.unit (s := S256x512) ![0, 384] ![256, 128] inb_S256x512_S256x128_0_384, vdob3 x0 x3 x4 x6 x7 x9 x10⟩,
        ⟨Rect.unit (s := S256x512) ![0, 256] ![256, 128] inb_S256x512_S256x128_0_256, vdob2 x0 x3 x4 x6 x7 x9 x10⟩,
        ⟨Rect.unit (s := S256x512) ![0, 128] ![256, 128] inb_S256x512_S256x128_0_128, vdob1 x0 x3 x4 x6 x7 x9 x10⟩,
        ⟨Rect.unit (s := S256x512) ![0, 0] ![256, 128] inb_S256x512_S256x128_0_0, vdob0 x0 x3 x4 x6 x7 x9 x10⟩]
    = dobBlk x0 x2 x3 x4 x5 x6 x7 x8 x9 x10 := by
  funext y
  refine View.canon_apply_of_pieces _ _ ?_ y ?_
  · intro p hp
    simp only [List.mem_cons, List.not_mem_nil, or_false] at hp
    rcases hp with rfl | rfl | rfl | rfl
    · exact dob_piece x0 x2 x3 x4 x5 x6 x7 x8 x9 x10 _ 3 (dob3_apply x0 x2 x3 x4 x5 x6 x7 x8 x9 x10) inb_S256x512_S256x128_0_384
    · exact dob_piece x0 x2 x3 x4 x5 x6 x7 x8 x9 x10 _ 2 (dob2_apply x0 x2 x3 x4 x5 x6 x7 x8 x9 x10) inb_S256x512_S256x128_0_256
    · exact dob_piece x0 x2 x3 x4 x5 x6 x7 x8 x9 x10 _ 1 (dob1_apply x0 x2 x3 x4 x5 x6 x7 x8 x9 x10) inb_S256x512_S256x128_0_128
    · exact dob_piece x0 x2 x3 x4 x5 x6 x7 x8 x9 x10 _ 0 (dob0_apply x0 x2 x3 x4 x5 x6 x7 x8 x9 x10) inb_S256x512_S256x128_0_0
  · have h0 : (y 0).val < 256 := (y 0).isLt
    have h1 : (y 1).val < 512 := (y 1).isLt
    have mem (o : ℕ) (inb : ∀ a, (![0, o] : Fin 2 → ℕ) a + S256x128.size a ≤ S256x512.size a) (h : o ≤ (y 1).val ∧ (y 1).val < o + 128) :
        y ∈ (Rect.unit (s := S256x512) ![0, o] ![256, 128] inb).set := by
      rw [Rect.mem_set_unit]
      intro a
      fin_cases a
      · exact ⟨Nat.zero_le _, by show (y 0).val < 0 + 256; omega⟩
      · exact h
    by_cases k3 : 384 ≤ (y 1).val
    · exact ⟨_, List.mem_cons_self, mem 384 inb_S256x512_S256x128_0_384 (by omega)⟩
    by_cases k2 : 256 ≤ (y 1).val
    · exact ⟨_, List.mem_cons_of_mem _ List.mem_cons_self, mem 256 inb_S256x512_S256x128_0_256 (by omega)⟩
    by_cases k1 : 128 ≤ (y 1).val
    · exact ⟨_, List.mem_cons_of_mem _ (List.mem_cons_of_mem _ List.mem_cons_self), mem 128 inb_S256x512_S256x128_0_128 (by omega)⟩
    · exact ⟨_, List.mem_cons_of_mem _ (List.mem_cons_of_mem _ (List.mem_cons_of_mem _ List.mem_cons_self)), mem 0 inb_S256x512_S256x128_0_0 (by omega)⟩

theorem dg_pieces : View.canon (Val := Elt Ideal) (s := S256x2048) (e := .bf16)
      [⟨Rect.unit (s := S256x2048) ![0, 1024] ![256, 1024] inb_S256x2048_S256x1024_0_1024, vdgb x0 x3 x4 x6 x7 x9 x10⟩,
        ⟨Rect.unit (s := S256x2048) ![0, 0] ![256, 1024] inb_S256x2048_S256x1024_0_0, vdga x0 x2 x5 x8 x10⟩]
    = dgBlk x0 x2 x3 x4 x5 x6 x7 x8 x9 x10 := by
  funext y
  refine View.canon_apply_of_pieces _ _ ?_ y ?_
  · intro p hp
    simp only [List.mem_cons, List.not_mem_nil, or_false] at hp
    rcases hp with rfl | rfl
    · intro (x : S256x1024.Idx)
      have hx : (x 1).val < 1024 := (x 1).isLt
      have e : (Rect.unit (s := S256x2048) ![0, 1024] ![256, 1024] inb_S256x2048_S256x1024_0_1024).emb x
          = ix2 (x 0) ⟨1024 + (x 1).val, by omega⟩ := by blk_ext []
      dsimp only
      rw [e]
      refine (congrArg (vdgb (F := Ideal) x0 x3 x4 x6 x7 x9 x10) (eq_ix2 x)).trans ((dgb_apply x0 x2 x3 x4 x5 x6 x7 x8 x9 x10 (x 0) (x 1)).trans ?_)
      unfold dgBlk dgates
      rw [dif_neg (by show ¬(1024 + (x 1).val < 1024); omega)]
      exact congrArg (dgb _ _) (Fin.ext (by show (x 1).val = 1024 + (x 1).val - 1024; omega))
    · intro (x : S256x1024.Idx)
      have hx : (x 1).val < 1024 := (x 1).isLt
      have e : (Rect.unit (s := S256x2048) ![0, 0] ![256, 1024] inb_S256x2048_S256x1024_0_0).emb x
          = ix2 (x 0) ⟨(x 1).val, by omega⟩ := by blk_ext []
      dsimp only
      rw [e]
      refine (congrArg (vdga (F := Ideal) x0 x2 x5 x8 x10) (eq_ix2 x)).trans ((dga_apply x0 x2 x3 x4 x5 x6 x7 x8 x9 x10 (x 0) (x 1)).trans ?_)
      unfold dgBlk dgates
      rw [dif_pos (by show (x 1).val < 1024; omega)]
      rfl
  · have h0 : (y 0).val < 256 := (y 0).isLt
    have h1 : (y 1).val < 2048 := (y 1).isLt
    have mem (o : ℕ) (inb : ∀ a, (![0, o] : Fin 2 → ℕ) a + S256x1024.size a ≤ S256x2048.size a) (h : o ≤ (y 1).val ∧ (y 1).val < o + 1024) :
        y ∈ (Rect.unit (s := S256x2048) ![0, o] ![256, 1024] inb).set := by
      rw [Rect.mem_set_unit]
      intro a
      fin_cases a
      · exact ⟨Nat.zero_le _, by show (y 0).val < 0 + 256; omega⟩
      · exact h
    by_cases k1 : 1024 ≤ (y 1).val
    · exact ⟨_, List.mem_cons_self, mem 1024 inb_S256x2048_S256x1024_0_1024 (by omega)⟩
    · exact ⟨_, List.mem_cons_of_mem _ List.mem_cons_self, mem 0 inb_S256x2048_S256x1024_0_0 (by omega)⟩

theorem dob_A (hc : cond0_0 i) :
    out0_A_12 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = dobBlk x0 x2 x3 x4 x5 x6 x7 x8 x9 x10 := by
  unfold out0_A_12
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]
  exact dob_pieces x0 x2 x3 x4 x5 x6 x7 x8 x9 x10

theorem dob_B (hc : ¬cond0_0 i) :
    out0_B_12 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = dobBlk x0 x2 x3 x4 x5 x6 x7 x8 x9 x10 := by
  unfold out0_B_12
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]
  exact dob_pieces x0 x2 x3 x4 x5 x6 x7 x8 x9 x10

theorem dg_A (hc : cond0_0 i) :
    out0_A_14 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10
      = dgBlk x0 x2 x3 x4 x5 x6 x7 x8 x9 x10 := by
  unfold out0_A_14
  rw [View.read_writes_junk_eq_canon]
  unfold kernelRun0_A
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]
  exact dg_pieces x0 x2 x3 x4 x5 x6 x7 x8 x9 x10

theorem dg_B (hc : ¬cond0_0 i) :
    out0_B_14 c i a1 h1 a2 h2 a3 h3 a4 h4 a5 h5 a6 h6 a7 h7 a8 h8 a9 h9 a10 h10 a11 h11 a12 h12 a13 h13 a14 h14 a15 h15 a16 h16 a17 h17 a18
      h18 a19 h19 hc x0 x1 x2 x3 x4 x5 x6 x7 x8 x9 x10 acc15 acc16 acc17 acc18
      = dgBlk x0 x2 x3 x4 x5 x6 x7 x8 x9 x10 := by
  unfold out0_B_14
  rw [View.read_writes_junk_eq_canon]
  unfold kernelRun0_B
  dsimp only
  sl_unfold_words
  simp only [View.readAt_eq_ld, h1.read_unread, h2.read_unread, h3.read_unread, h4.read_unread, h5.read_unread, h6.read_unread,
    h7.read_unread, h8.read_unread, h9.read_unread, h10.read_unread, h11.read_unread, View.ld_unit_zero (S := S256x1024) hz,
    View.ld_unit_zero (S := S256x512) hz, View.ld_unit_zero (S := S1x128) hz, View.ld_unit_zero (S := S512x1024) hz, View.ld_unit_zero (S :=
    S1024x1024) hz]
  exact dg_pieces x0 x2 x3 x4 x5 x6 x7 x8 x9 x10

end Columns

section Arrays

variable (dx : Vec Ideal S4096x1024 .f32) (mg : Vec Ideal S4096x1024 .bf16) (ya ob : Vec Ideal S4096x512 .f32)
  (proj : Vec Ideal S4096x5760 .bf16) (w : Vec Ideal S1x128 .f32) (wa wb : Vec Ideal S512x1024 .bf16) (wo : Vec Ideal S1024x1024 .bf16)

/-- A row of the arrays; the weights are a block's. -/
def rowArr (r : Fin 4096) : Row where
  dx j := dx (ix2 r j)
  ga j := proj (ix2 r ⟨j.val, by omega⟩)
  gb j := proj (ix2 r ⟨1024 + j.val, by omega⟩)
  ya j := ya (ix2 r j)
  o j := ob (ix2 r j)
  z j := proj (ix2 r ⟨5120 + j.val, by omega⟩)

/-- The results by rows. -/
def dyaArr : Vec Ideal S4096x512 .f32 := fun i => dya (rowArr dx ya ob proj (i 0)) (wts w wa wb wo) (i 1)
def dobArr : Vec Ideal S4096x512 .f32 := fun i => dob (rowArr dx ya ob proj (i 0)) (wts w wa wb wo) (i 1)
def dzArr : Vec Ideal S4096x512 .bf16 := fun i => dz (rowArr dx ya ob proj (i 0)) (wts w wa wb wo) (i 1)
def dgArr : Vec Ideal S4096x2048 .bf16 := fun i => dgates (rowArr dx ya ob proj (i 0)) (wts w wa wb wo) (i 1)

/-- A row's part of each weight's gradient, and the gradients, sums over the rows. -/
def dwoTerm (a b : Fin 1024) (r : Fin 4096) : EReal := mg (ix2 r a) * (rowArr dx ya ob proj r).dx b
def dwaTerm (a : Fin 512) (b : Fin 1024) (r : Fin 4096) : EReal :=
  (rowArr dx ya ob proj r).ya a * dua (rowArr dx ya ob proj r) (wts w wa wb wo) b
def dwbTerm (a : Fin 512) (b : Fin 1024) (r : Fin 4096) : EReal :=
  gated (rowArr dx ya ob proj r).o (rowArr dx ya ob proj r).z (wts w wa wb wo).w a * dub (rowArr dx ya ob proj r) (wts w wa wb wo) b
def dwonTerm (k : Fin 128) (r : Fin 4096) : EReal := gainTerm (rowArr dx ya ob proj r) (wts w wa wb wo) k

def dwoArr : Vec Ideal S1024x1024 .f32 := fun i => ∑ r ∈ Finset.range 4096, dwoTerm dx mg ya ob proj (i 0) (i 1) (Fin.ofNat 4096 r)
def dwaArr : Vec Ideal S512x1024 .f32 := fun i => ∑ r ∈ Finset.range 4096, dwaTerm dx ya ob proj w wa wb wo (i 0) (i 1) (Fin.ofNat 4096 r)
def dwbArr : Vec Ideal S512x1024 .f32 := fun i => ∑ r ∈ Finset.range 4096, dwbTerm dx ya ob proj w wa wb wo (i 0) (i 1) (Fin.ofNat 4096 r)
def dwonArr : Vec Ideal S8x128 .f32 := fun i => ∑ r ∈ Finset.range 4096, dwonTerm dx ya ob proj w wa wb wo (i 1) (Fin.ofNat 4096 r)

end Arrays

variable (m : (ℓ : Loc nD τ sig) → Buf (Elt Ideal) ℓ) (c : Dev nD)

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = t.val ∧ win0_2.index t 1 = 0 := by revert t; decide +kernel
theorem idx_3 (t : Fin grid0.N) : win0_3.index t 0 = t.val ∧ win0_3.index t 1 = 0 := by revert t; decide +kernel
theorem idx_4 (t : Fin grid0.N) : win0_4.index t 0 = t.val ∧ win0_4.index t 1 = 10 := by revert t; decide +kernel
theorem idx_5 (t : Fin grid0.N) : win0_5.index t 0 = t.val ∧ win0_5.index t 1 = 0 := by revert t; decide +kernel
theorem idx_6 (t : Fin grid0.N) : win0_6.index t 0 = t.val ∧ win0_6.index t 1 = 1 := by revert t; decide +kernel
theorem idx_7 (t : Fin grid0.N) : win0_7.index t 0 = 0 ∧ win0_7.index t 1 = 0 := by revert t; decide +kernel
theorem idx_8 (t : Fin grid0.N) : win0_8.index t 0 = 0 ∧ win0_8.index t 1 = 0 := by revert t; decide +kernel
theorem idx_9 (t : Fin grid0.N) : win0_9.index t 0 = 0 ∧ win0_9.index t 1 = 0 := by revert t; decide +kernel
theorem idx_10 (t : Fin grid0.N) : win0_10.index t 0 = 0 ∧ win0_10.index t 1 = 0 := by revert t; decide +kernel
theorem idx_11 (t : Fin grid0.N) : win0_11.index t 0 = t.val ∧ win0_11.index t 1 = 0 := by revert t; decide +kernel
theorem idx_12 (t : Fin grid0.N) : win0_12.index t 0 = t.val ∧ win0_12.index t 1 = 0 := by revert t; decide +kernel
theorem idx_13 (t : Fin grid0.N) : win0_13.index t 0 = t.val ∧ win0_13.index t 1 = 0 := by revert t; decide +kernel
theorem idx_14 (t : Fin grid0.N) : win0_14.index t 0 = t.val ∧ win0_14.index t 1 = 0 := by revert t; decide +kernel
theorem idx_15 (t : Fin grid0.N) : win0_15.index t 0 = 0 ∧ win0_15.index t 1 = 0 := by revert t; decide +kernel
theorem idx_16 (t : Fin grid0.N) : win0_16.index t 0 = 0 ∧ win0_16.index t 1 = 0 := by revert t; decide +kernel
theorem idx_17 (t : Fin grid0.N) : win0_17.index t 0 = 0 ∧ win0_17.index t 1 = 0 := by revert t; decide +kernel
theorem idx_18 (t : Fin grid0.N) : win0_18.index t 0 = 0 ∧ win0_18.index t 1 = 0 := by revert t; decide +kernel

/-- A row of a point's blocks, in the whole arrays. -/
def at' (n : ℕ) (h : n < 16) (l : Fin 256) : Fin 4096 := ⟨n * 256 + l.val, by omega⟩

abbrev A0 : Vec Ideal S4096x1024 .f32 := m ((c : Thread nD τ).loc main_arg0)
abbrev A1 : Vec Ideal S4096x1024 .bf16 := m ((c : Thread nD τ).loc main_arg1)
abbrev A2 : Vec Ideal S4096x512 .f32 := m ((c : Thread nD τ).loc main_arg2)
abbrev A3 : Vec Ideal S4096x512 .f32 := m ((c : Thread nD τ).loc main_arg3)
abbrev A4 : Vec Ideal S4096x5760 .bf16 := m ((c : Thread nD τ).loc main_arg4)
abbrev A5 : Vec Ideal S1x128 .f32 := m ((c : Thread nD τ).loc main_arg5)
abbrev A6 : Vec Ideal S512x1024 .bf16 := m ((c : Thread nD τ).loc main_arg6)
abbrev A7 : Vec Ideal S512x1024 .bf16 := m ((c : Thread nD τ).loc main_arg7)
abbrev A8 : Vec Ideal S1024x1024 .bf16 := m ((c : Thread nD τ).loc main_arg8)

theorem blk_0 (t : Fin cfg0.N) (h : t.val < 16) (l : Fin 256) (j : Fin 1024) : iblk m c 0 t (ix2 l j) = A0 m c (ix2 (at' t.val h l) j) := by
  have e := idx_0 t
  blk_ext! [iblk, V, e, at']

theorem blk_1 (t : Fin cfg0.N) (h : t.val < 16) (l : Fin 256) (j : Fin 1024) : iblk m c 1 t (ix2 l j) = A1 m c (ix2 (at' t.val h l) j) := by
  have e := idx_1 t
  blk_ext! [iblk, V, e, at']

theorem blk_2 (t : Fin cfg0.N) (h : t.val < 16) (l : Fin 256) (j : Fin 512) : iblk m c 2 t (ix2 l j) = A2 m c (ix2 (at' t.val h l) j) := by
  have e := idx_2 t
  blk_ext! [iblk, V, e, at']

theorem blk_3 (t : Fin cfg0.N) (h : t.val < 16) (l : Fin 256) (j : Fin 512) : iblk m c 3 t (ix2 l j) = A3 m c (ix2 (at' t.val h l) j) := by
  have e := idx_3 t
  blk_ext! [iblk, V, e, at']

theorem blk_4 (t : Fin cfg0.N) (h : t.val < 16) (l : Fin 256) (j : Fin 512) :
    X0_4 m c t (ix2 l j) = A4 m c (ix2 (at' t.val h l) ⟨5120 + j.val, by omega⟩) := by
  have e := idx_4 t
  unfold X0_4 Pipeline.Window.fill
  rw [dif_pos (moved0_4 t _)]
  blk_ext! [iblk, V, e, at']

theorem blk_5 (t : Fin cfg0.N) (h : t.val < 16) (l : Fin 256) (j : Fin 1024) :
    X0_5 m c t (ix2 l j) = A4 m c (ix2 (at' t.val h l) ⟨j.val, by omega⟩) := by
  have e := idx_5 t
  unfold X0_5 Pipeline.Window.fill
  rw [dif_pos (moved0_5 t _)]
  blk_ext! [iblk, V, e, at']

theorem blk_6 (t : Fin cfg0.N) (h : t.val < 16) (l : Fin 256) (j : Fin 1024) :
    X0_6 m c t (ix2 l j) = A4 m c (ix2 (at' t.val h l) ⟨1024 + j.val, by omega⟩) := by
  have e := idx_6 t
  unfold X0_6 Pipeline.Window.fill
  rw [dif_pos (moved0_6 t _)]
  blk_ext! [iblk, V, e, at']

theorem blk_7 (t : Fin cfg0.N) (l : Fin 1) (j : Fin 128) : iblk m c 7 t (ix2 l j) = A5 m c (ix2 l j) := by
  have e := idx_7 t
  blk_ext! [iblk, V, e]

theorem blk_8 (t : Fin cfg0.N) (l : Fin 512) (j : Fin 1024) : iblk m c 8 t (ix2 l j) = A6 m c (ix2 l j) := by
  have e := idx_8 t
  blk_ext! [iblk, V, e]

theorem blk_9 (t : Fin cfg0.N) (l : Fin 512) (j : Fin 1024) : iblk m c 9 t (ix2 l j) = A7 m c (ix2 l j) := by
  have e := idx_9 t
  blk_ext! [iblk, V, e]

theorem blk_10 (t : Fin cfg0.N) (l : Fin 1024) (j : Fin 1024) : iblk m c 10 t (ix2 l j) = A8 m c (ix2 l j) := by
  have e := idx_10 t
  blk_ext! [iblk, V, e]

/-- A point's rows and its weights. -/
abbrev rowAt (t : Fin cfg0.N) : Fin 256 → Row :=
  rowBlk (iblk m c 0 t) (iblk m c 2 t) (iblk m c 3 t) (X0_4 m c t) (X0_5 m c t) (X0_6 m c t)
abbrev wtsAt (t : Fin cfg0.N) : Weights := wts (iblk m c 7 t) (iblk m c 8 t) (iblk m c 9 t) (iblk m c 10 t)
abbrev rows : Fin 4096 → Row := rowArr (A0 m c) (A2 m c) (A3 m c) (A4 m c)
abbrev weights : Weights := wts (A5 m c) (A6 m c) (A7 m c) (A8 m c)
def mgAt (t : Fin cfg0.N) (l : Fin 256) (j : Fin 1024) : EReal := iblk m c 1 t (ix2 l j)

theorem row_blk (t : Fin cfg0.N) (h : t.val < 16) (l : Fin 256) : rowAt m c t l = rows m c (at' t.val h l) := by
  unfold rowAt rowBlk rows rowArr
  exact (Row.mk.injEq ..).mpr ⟨funext fun j => blk_0 m c t h l j, funext fun j => blk_5 m c t h l j, funext fun j => blk_6 m c t h l j,
    funext fun j => blk_2 m c t h l j, funext fun j => blk_3 m c t h l j, funext fun j => blk_4 m c t h l j⟩

theorem wts_blk (t : Fin cfg0.N) : wtsAt m c t = weights m c := by
  unfold wtsAt weights wts
  exact (Weights.mk.injEq ..).mpr ⟨funext fun j => blk_7 m c t 0 j, funext fun j => funext fun k => blk_8 m c t j k,
    funext fun j => funext fun k => blk_9 m c t j k, funext fun j => funext fun k => blk_10 m c t j k⟩

/-- What a point writes by rows. -/
theorem wrote_dya (t : Fin cfg0.N) (h : t.val < 16) (l : Fin 256) (j : Fin 512) :
    ((outsAt0 m c t.val t.isLt).1 (ix2 l j) : EReal) = dyaArr (A0 m c) (A2 m c) (A3 m c) (A4 m c) (A5 m c) (A6 m c) (A7 m c) (A8 m c) (ix2 (at' t.val h l) j) := by
  have e : (outsAt0 m c t.val t.isLt).1 = vdya (F := Ideal) (iblk m c 0 t) (X0_5 m c t) (iblk m c 8 t) (iblk m c 10 t) := by
    by_cases h0 : t.val % 16 = 0
    · rw [outsAt0_A m c t h0]; dsimp only; rw [dya_A]
    · rw [outsAt0_B m c t h0]; dsimp only; rw [dya_B]
  rw [e]
  refine (dya_apply (iblk m c 0 t) (iblk m c 2 t) (iblk m c 3 t) (X0_4 m c t) (X0_5 m c t) (X0_6 m c t) (iblk m c 7 t) (iblk m c 8 t)
    (iblk m c 9 t) (iblk m c 10 t) l j).trans ?_
  show dya (rowAt m c t l) (wtsAt m c t) j = _
  rw [row_blk m c t h l, wts_blk m c t]
  rfl

theorem wrote_dob (t : Fin cfg0.N) (h : t.val < 16) (l : Fin 256) (j : Fin 512) :
    ((outsAt0 m c t.val t.isLt).2.1 (ix2 l j) : EReal) = dobArr (A0 m c) (A2 m c) (A3 m c) (A4 m c) (A5 m c) (A6 m c) (A7 m c) (A8 m c) (ix2 (at' t.val h l) j) := by
  have e : (outsAt0 m c t.val t.isLt).2.1 = dobBlk (iblk m c 0 t) (iblk m c 2 t) (iblk m c 3 t) (X0_4 m c t) (X0_5 m c t) (X0_6 m c t) (iblk m c 7 t) (iblk m c 8 t)
      (iblk m c 9 t) (iblk m c 10 t) := by
    by_cases h0 : t.val % 16 = 0
    · rw [outsAt0_A m c t h0]; dsimp only; rw [dob_A]
    · rw [outsAt0_B m c t h0]; dsimp only; rw [dob_B]
  rw [e]
  show dob (rowAt m c t l) (wtsAt m c t) j = _
  rw [row_blk m c t h l, wts_blk m c t]
  rfl

theorem wrote_dz (t : Fin cfg0.N) (h : t.val < 16) (l : Fin 256) (j : Fin 512) :
    ((outsAt0 m c t.val t.isLt).2.2.1 (ix2 l j) : EReal) = dzArr (A0 m c) (A2 m c) (A3 m c) (A4 m c) (A5 m c) (A6 m c) (A7 m c) (A8 m c) (ix2 (at' t.val h l) j) := by
  have e : (outsAt0 m c t.val t.isLt).2.2.1 = vdz (F := Ideal) (iblk m c 0 t) (iblk m c 3 t) (X0_4 m c t) (X0_6 m c t) (iblk m c 7 t) (iblk m c 9 t) (iblk m c 10 t) := by
    by_cases h0 : t.val % 16 = 0
    · rw [outsAt0_A m c t h0]; dsimp only; rw [dz_A]
    · rw [outsAt0_B m c t h0]; dsimp only; rw [dz_B]
  rw [e]
  refine (dz_apply (iblk m c 0 t) (iblk m c 2 t) (iblk m c 3 t) (X0_4 m c t) (X0_5 m c t) (X0_6 m c t) (iblk m c 7 t) (iblk m c 8 t)
    (iblk m c 9 t) (iblk m c 10 t) l j).trans ?_
  show dz (rowAt m c t l) (wtsAt m c t) j = _
  rw [row_blk m c t h l, wts_blk m c t]
  rfl

theorem wrote_dg (t : Fin cfg0.N) (h : t.val < 16) (l : Fin 256) (j : Fin 2048) :
    ((outsAt0 m c t.val t.isLt).2.2.2.1 (ix2 l j) : EReal) = dgArr (A0 m c) (A2 m c) (A3 m c) (A4 m c) (A5 m c) (A6 m c) (A7 m c) (A8 m c) (ix2 (at' t.val h l) j) := by
  have e : (outsAt0 m c t.val t.isLt).2.2.2.1 = dgBlk (iblk m c 0 t) (iblk m c 2 t) (iblk m c 3 t) (X0_4 m c t) (X0_5 m c t) (X0_6 m c t) (iblk m c 7 t) (iblk m c 8 t)
      (iblk m c 9 t) (iblk m c 10 t) := by
    by_cases h0 : t.val % 16 = 0
    · rw [outsAt0_A m c t h0]; dsimp only; rw [dg_A]
    · rw [outsAt0_B m c t h0]; dsimp only; rw [dg_B]
  rw [e]
  show dgates (rowAt m c t l) (wtsAt m c t) j = _
  rw [row_blk m c t h l, wts_blk m c t]
  rfl

/-- A sum over the rows, point by point. -/
theorem sum_points (f : ℕ → EReal) (a : ∀ n, n < cfg0.N → EReal) (h0 : ∀ h, a 0 h = ∑ s ∈ Finset.range 256, f (0 * 256 + s))
    (hs : ∀ n (h : n + 1 < cfg0.N), a (n + 1) h = a n (by omega) + ∑ s ∈ Finset.range 256, f ((n + 1) * 256 + s)) :
    ∀ n (h : n < cfg0.N), a n h = ∑ r ∈ Finset.range ((n + 1) * 256), f r
  | 0, h => by
    rw [h0 h]
    simp only [Nat.zero_mul, Nat.zero_add, Nat.one_mul]
  | n + 1, h => by
    rw [hs n h, show (n + 1 + 1) * 256 = (n + 1) * 256 + 256 by omega, Finset.sum_range_add, sum_points f a h0 hs n (by omega)]

theorem point_sum (g : Fin 4096 → EReal) (n : ℕ) (h : n < 16) :
    ∑ s : Fin 256, g (at' n h s) = ∑ s ∈ Finset.range 256, g (Fin.ofNat 4096 (n * 256 + s)) := by
  rw [Finset.sum_range]
  exact Finset.sum_congr rfl fun s _ => congrArg g (Fin.ext (Nat.mod_eq_of_lt (at' n h s).isLt).symm)

theorem lt_points {n : ℕ} (h : n < cfg0.N) : n < 16 := lt_of_lt_of_eq h N_0

/-- What a point adds to each sum, and the sum so far. -/
theorem point_dwo (t : Fin cfg0.N) (h : t.val < 16) (a : Fin 1024) (b : Fin 1024) :
    (∑ s : Fin 256, mgAt m c t s a * (rowAt m c t s).dx b : EReal)
      = ∑ s ∈ Finset.range 256, dwoTerm (A0 m c) (A1 m c) (A2 m c) (A3 m c) (A4 m c) a b (Fin.ofNat 4096 (t.val * 256 + s)) := by
  rw [← point_sum (dwoTerm (A0 m c) (A1 m c) (A2 m c) (A3 m c) (A4 m c) a b) t.val h]
  exact Finset.sum_congr rfl fun s _ => congrArg₂ (· * ·) (blk_1 m c t h s a) (congrArg (fun p => p.dx b) (row_blk m c t h s))

theorem sum_dwo (a : Fin 1024) (b : Fin 1024) (n : ℕ) (hn : n < cfg0.N) :
    ((outsAt0 m c n hn).2.2.2.2.1 (ix2 a b) : EReal)
      = ∑ r ∈ Finset.range ((n + 1) * 256), dwoTerm (A0 m c) (A1 m c) (A2 m c) (A3 m c) (A4 m c) a b (Fin.ofNat 4096 r) := by
  refine sum_points (fun r => dwoTerm (A0 m c) (A1 m c) (A2 m c) (A3 m c) (A4 m c) a b (Fin.ofNat 4096 r)) (fun n hn => (outsAt0 m c n hn).2.2.2.2.1 (ix2 a b)) (fun h => ?_)
    (fun n h => ?_) n hn
  · have e := outsAt0_A m c ⟨0, h⟩ rfl
    rw [show outsAt0 m c 0 h = _ from e]
    dsimp only
    rw [dwo_A]
    refine (dwo_apply (iblk m c 0 ⟨0, h⟩) (iblk m c 2 ⟨0, h⟩) (iblk m c 3 ⟨0, h⟩) (X0_4 m c ⟨0, h⟩) (X0_5 m c ⟨0, h⟩) (X0_6 m c ⟨0, h⟩) _ (iblk m c 1 ⟨0, h⟩) a b).trans ?_
    rw [zeros.1 a b, zero_add]
    exact point_dwo m c ⟨0, h⟩ (Nat.zero_lt_succ 15) a b
  · have e := outsAt0_B m c ⟨n + 1, h⟩ (by have := lt_points h; dsimp only; omega)
    rw [show outsAt0 m c (n + 1) h = _ from e]
    dsimp only
    rw [dwo_B]
    refine (dwo_apply (iblk m c 0 ⟨n + 1, h⟩) (iblk m c 2 ⟨n + 1, h⟩) (iblk m c 3 ⟨n + 1, h⟩) (X0_4 m c ⟨n + 1, h⟩) (X0_5 m c ⟨n + 1, h⟩) (X0_6 m c ⟨n + 1, h⟩) _ (iblk m c 1 ⟨n + 1, h⟩) a b).trans ?_
    exact congrArg (_ + ·) (point_dwo m c ⟨n + 1, h⟩ (lt_points h) a b)

theorem point_dwa (t : Fin cfg0.N) (h : t.val < 16) (a : Fin 512) (b : Fin 1024) :
    (∑ s : Fin 256, (rowAt m c t s).ya a * dua (rowAt m c t s) (wtsAt m c t) b : EReal)
      = ∑ s ∈ Finset.range 256, dwaTerm (A0 m c) (A2 m c) (A3 m c) (A4 m c) (A5 m c) (A6 m c) (A7 m c) (A8 m c) a b (Fin.ofNat 4096 (t.val * 256 + s)) := by
  rw [← point_sum (dwaTerm (A0 m c) (A2 m c) (A3 m c) (A4 m c) (A5 m c) (A6 m c) (A7 m c) (A8 m c) a b) t.val h]
  exact Finset.sum_congr rfl fun s _ => by rw [row_blk m c t h s, wts_blk m c t]; rfl

theorem sum_dwa (a : Fin 512) (b : Fin 1024) (n : ℕ) (hn : n < cfg0.N) :
    ((outsAt0 m c n hn).2.2.2.2.2.1 (ix2 a b) : EReal)
      = ∑ r ∈ Finset.range ((n + 1) * 256), dwaTerm (A0 m c) (A2 m c) (A3 m c) (A4 m c) (A5 m c) (A6 m c) (A7 m c) (A8 m c) a b (Fin.ofNat 4096 r) := by
  refine sum_points (fun r => dwaTerm (A0 m c) (A2 m c) (A3 m c) (A4 m c) (A5 m c) (A6 m c) (A7 m c) (A8 m c) a b (Fin.ofNat 4096 r)) (fun n hn => (outsAt0 m c n hn).2.2.2.2.2.1 (ix2 a b)) (fun h => ?_)
    (fun n h => ?_) n hn
  · have e := outsAt0_A m c ⟨0, h⟩ rfl
    rw [show outsAt0 m c 0 h = _ from e]
    dsimp only
    rw [dwa_A]
    refine (dwa_apply (iblk m c 0 ⟨0, h⟩) (iblk m c 2 ⟨0, h⟩) (iblk m c 3 ⟨0, h⟩) (X0_4 m c ⟨0, h⟩) (X0_5 m c ⟨0, h⟩) (X0_6 m c ⟨0, h⟩)
        (iblk m c 7 ⟨0, h⟩) (iblk m c 8 ⟨0, h⟩) (iblk m c 9 ⟨0, h⟩) (iblk m c 10 ⟨0, h⟩) _ a b).trans ?_
    rw [zeros.2.1 a b, zero_add]
    exact point_dwa m c ⟨0, h⟩ (Nat.zero_lt_succ 15) a b
  · have e := outsAt0_B m c ⟨n + 1, h⟩ (by have := lt_points h; dsimp only; omega)
    rw [show outsAt0 m c (n + 1) h = _ from e]
    dsimp only
    rw [dwa_B]
    refine (dwa_apply (iblk m c 0 ⟨n + 1, h⟩) (iblk m c 2 ⟨n + 1, h⟩) (iblk m c 3 ⟨n + 1, h⟩) (X0_4 m c ⟨n + 1, h⟩) (X0_5 m c ⟨n + 1, h⟩) (X0_6 m c ⟨n + 1, h⟩)
        (iblk m c 7 ⟨n + 1, h⟩) (iblk m c 8 ⟨n + 1, h⟩) (iblk m c 9 ⟨n + 1, h⟩) (iblk m c 10 ⟨n + 1, h⟩) _ a b).trans ?_
    exact congrArg (_ + ·) (point_dwa m c ⟨n + 1, h⟩ (lt_points h) a b)

theorem point_dwb (t : Fin cfg0.N) (h : t.val < 16) (a : Fin 512) (b : Fin 1024) :
    (∑ s : Fin 256, gated (rowAt m c t s).o (rowAt m c t s).z (wtsAt m c t).w a * dub (rowAt m c t s) (wtsAt m c t) b : EReal)
      = ∑ s ∈ Finset.range 256, dwbTerm (A0 m c) (A2 m c) (A3 m c) (A4 m c) (A5 m c) (A6 m c) (A7 m c) (A8 m c) a b (Fin.ofNat 4096 (t.val * 256 + s)) := by
  rw [← point_sum (dwbTerm (A0 m c) (A2 m c) (A3 m c) (A4 m c) (A5 m c) (A6 m c) (A7 m c) (A8 m c) a b) t.val h]
  exact Finset.sum_congr rfl fun s _ => by rw [row_blk m c t h s, wts_blk m c t]; rfl

theorem sum_dwb (a : Fin 512) (b : Fin 1024) (n : ℕ) (hn : n < cfg0.N) :
    ((outsAt0 m c n hn).2.2.2.2.2.2.1 (ix2 a b) : EReal)
      = ∑ r ∈ Finset.range ((n + 1) * 256), dwbTerm (A0 m c) (A2 m c) (A3 m c) (A4 m c) (A5 m c) (A6 m c) (A7 m c) (A8 m c) a b (Fin.ofNat 4096 r) := by
  refine sum_points (fun r => dwbTerm (A0 m c) (A2 m c) (A3 m c) (A4 m c) (A5 m c) (A6 m c) (A7 m c) (A8 m c) a b (Fin.ofNat 4096 r)) (fun n hn => (outsAt0 m c n hn).2.2.2.2.2.2.1 (ix2 a b)) (fun h => ?_)
    (fun n h => ?_) n hn
  · have e := outsAt0_A m c ⟨0, h⟩ rfl
    rw [show outsAt0 m c 0 h = _ from e]
    dsimp only
    rw [dwb_A]
    refine (dwb_apply (iblk m c 0 ⟨0, h⟩) (iblk m c 2 ⟨0, h⟩) (iblk m c 3 ⟨0, h⟩) (X0_4 m c ⟨0, h⟩) (X0_5 m c ⟨0, h⟩) (X0_6 m c ⟨0, h⟩)
        (iblk m c 7 ⟨0, h⟩) (iblk m c 8 ⟨0, h⟩) (iblk m c 9 ⟨0, h⟩) (iblk m c 10 ⟨0, h⟩) _ a b).trans ?_
    rw [zeros.2.2.1 a b, zero_add]
    exact point_dwb m c ⟨0, h⟩ (Nat.zero_lt_succ 15) a b
  · have e := outsAt0_B m c ⟨n + 1, h⟩ (by have := lt_points h; dsimp only; omega)
    rw [show outsAt0 m c (n + 1) h = _ from e]
    dsimp only
    rw [dwb_B]
    refine (dwb_apply (iblk m c 0 ⟨n + 1, h⟩) (iblk m c 2 ⟨n + 1, h⟩) (iblk m c 3 ⟨n + 1, h⟩) (X0_4 m c ⟨n + 1, h⟩) (X0_5 m c ⟨n + 1, h⟩) (X0_6 m c ⟨n + 1, h⟩)
        (iblk m c 7 ⟨n + 1, h⟩) (iblk m c 8 ⟨n + 1, h⟩) (iblk m c 9 ⟨n + 1, h⟩) (iblk m c 10 ⟨n + 1, h⟩) _ a b).trans ?_
    exact congrArg (_ + ·) (point_dwb m c ⟨n + 1, h⟩ (lt_points h) a b)

theorem point_gain (t : Fin cfg0.N) (h : t.val < 16) (b : Fin 128) :
    (∑ s : Fin 256, gainTerm (rowAt m c t s) (wtsAt m c t) b : EReal)
      = ∑ s ∈ Finset.range 256, dwonTerm (A0 m c) (A2 m c) (A3 m c) (A4 m c) (A5 m c) (A6 m c) (A7 m c) (A8 m c) b (Fin.ofNat 4096 (t.val * 256 + s)) := by
  rw [← point_sum (dwonTerm (A0 m c) (A2 m c) (A3 m c) (A4 m c) (A5 m c) (A6 m c) (A7 m c) (A8 m c) b) t.val h]
  exact Finset.sum_congr rfl fun s _ => by rw [row_blk m c t h s, wts_blk m c t]; rfl

theorem sum_gain (a : Fin 8) (b : Fin 128) (n : ℕ) (hn : n < cfg0.N) :
    ((outsAt0 m c n hn).2.2.2.2.2.2.2 (ix2 a b) : EReal)
      = ∑ r ∈ Finset.range ((n + 1) * 256), dwonTerm (A0 m c) (A2 m c) (A3 m c) (A4 m c) (A5 m c) (A6 m c) (A7 m c) (A8 m c) b (Fin.ofNat 4096 r) := by
  refine sum_points (fun r => dwonTerm (A0 m c) (A2 m c) (A3 m c) (A4 m c) (A5 m c) (A6 m c) (A7 m c) (A8 m c) b (Fin.ofNat 4096 r)) (fun n hn => (outsAt0 m c n hn).2.2.2.2.2.2.2 (ix2 a b)) (fun h => ?_)
    (fun n h => ?_) n hn
  · have e := outsAt0_A m c ⟨0, h⟩ rfl
    rw [show outsAt0 m c 0 h = _ from e]
    dsimp only
    rw [gain_A]
    refine (gain_apply (iblk m c 0 ⟨0, h⟩) (iblk m c 2 ⟨0, h⟩) (iblk m c 3 ⟨0, h⟩) (X0_4 m c ⟨0, h⟩) (X0_5 m c ⟨0, h⟩) (X0_6 m c ⟨0, h⟩)
        (iblk m c 7 ⟨0, h⟩) (iblk m c 8 ⟨0, h⟩) (iblk m c 9 ⟨0, h⟩) (iblk m c 10 ⟨0, h⟩) _ a b).trans ?_
    rw [zeros.2.2.2 a b, zero_add]
    exact point_gain m c ⟨0, h⟩ (Nat.zero_lt_succ 15) b
  · have e := outsAt0_B m c ⟨n + 1, h⟩ (by have := lt_points h; dsimp only; omega)
    rw [show outsAt0 m c (n + 1) h = _ from e]
    dsimp only
    rw [gain_B]
    refine (gain_apply (iblk m c 0 ⟨n + 1, h⟩) (iblk m c 2 ⟨n + 1, h⟩) (iblk m c 3 ⟨n + 1, h⟩) (X0_4 m c ⟨n + 1, h⟩) (X0_5 m c ⟨n + 1, h⟩) (X0_6 m c ⟨n + 1, h⟩)
        (iblk m c 7 ⟨n + 1, h⟩) (iblk m c 8 ⟨n + 1, h⟩) (iblk m c 9 ⟨n + 1, h⟩) (iblk m c 10 ⟨n + 1, h⟩) _ a b).trans ?_
    exact congrArg (_ + ·) (point_gain m c ⟨n + 1, h⟩ (lt_points h) b)

/-- The final arrays. -/
theorem final_dya : (dats m 0 c).arrAt 11 cfg0.N = dyaArr (A0 m c) (A2 m c) (A3 m c) (A4 m c) (A5 m c) (A6 m c) (A7 m c) (A8 m c) := by
  refine (dats m 0 c).arrAt_eq_of_covers 11 _ (by decide +kernel) fun t hf y => ?_
  have e := idx_11 t
  have hN : t.val < 16 := lt_points t.isLt
  blk_simp
  rw [after0_11]
  rw [eq_ix2 y]
  refine (wrote_dya m c t hN (y 0) (y 1)).trans ?_
  exact congrArg (dyaArr (A0 m c) (A2 m c) (A3 m c) (A4 m c) (A5 m c) (A6 m c) (A7 m c) (A8 m c)) (by blk_ext [e, at'])

theorem final_dob : (dats m 0 c).arrAt 12 cfg0.N = dobArr (A0 m c) (A2 m c) (A3 m c) (A4 m c) (A5 m c) (A6 m c) (A7 m c) (A8 m c) := by
  refine (dats m 0 c).arrAt_eq_of_covers 12 _ (by decide +kernel) fun t hf y => ?_
  have e := idx_12 t
  have hN : t.val < 16 := lt_points t.isLt
  blk_simp
  rw [after0_12]
  rw [eq_ix2 y]
  refine (wrote_dob m c t hN (y 0) (y 1)).trans ?_
  exact congrArg (dobArr (A0 m c) (A2 m c) (A3 m c) (A4 m c) (A5 m c) (A6 m c) (A7 m c) (A8 m c)) (by blk_ext [e, at'])

theorem final_dz : (dats m 0 c).arrAt 13 cfg0.N = dzArr (A0 m c) (A2 m c) (A3 m c) (A4 m c) (A5 m c) (A6 m c) (A7 m c) (A8 m c) := by
  refine (dats m 0 c).arrAt_eq_of_covers 13 _ (by decide +kernel) fun t hf y => ?_
  have e := idx_13 t
  have hN : t.val < 16 := lt_points t.isLt
  blk_simp
  rw [after0_13]
  rw [eq_ix2 y]
  refine (wrote_dz m c t hN (y 0) (y 1)).trans ?_
  exact congrArg (dzArr (A0 m c) (A2 m c) (A3 m c) (A4 m c) (A5 m c) (A6 m c) (A7 m c) (A8 m c)) (by blk_ext [e, at'])

theorem final_dg : (dats m 0 c).arrAt 14 cfg0.N = dgArr (A0 m c) (A2 m c) (A3 m c) (A4 m c) (A5 m c) (A6 m c) (A7 m c) (A8 m c) := by
  refine (dats m 0 c).arrAt_eq_of_covers 14 _ (by decide +kernel) fun t hf y => ?_
  have e := idx_14 t
  have hN : t.val < 16 := lt_points t.isLt
  blk_simp
  rw [after0_14]
  rw [eq_ix2 y]
  refine (wrote_dg m c t hN (y 0) (y 1)).trans ?_
  exact congrArg (dgArr (A0 m c) (A2 m c) (A3 m c) (A4 m c) (A5 m c) (A6 m c) (A7 m c) (A8 m c)) (by blk_ext [e, at'])

theorem final_dwo : (dats m 0 c).arrAt 15 cfg0.N = dwoArr (A0 m c) (A1 m c) (A2 m c) (A3 m c) (A4 m c) := by
  refine (dats m 0 c).arrAt_eq_of_covers 15 _ (by decide +kernel) fun t hf y => ?_
  have e := idx_15 t
  have hk : t.val = 15 := by
    have := (flush0_15 t).mp hf
    have := lt_points t.isLt
    omega
  blk_simp
  rw [after0_15]
  rw [eq_ix2 y]
  refine (sum_dwo m c (y 0) (y 1) t.val t.isLt).trans ?_
  rw [hk]
  show dwoArr (A0 m c) (A1 m c) (A2 m c) (A3 m c) (A4 m c) (ix2 (y 0) (y 1)) = _
  exact congrArg (dwoArr (A0 m c) (A1 m c) (A2 m c) (A3 m c) (A4 m c)) (by blk_ext [e])

theorem final_dwa : (dats m 0 c).arrAt 16 cfg0.N = dwaArr (A0 m c) (A2 m c) (A3 m c) (A4 m c) (A5 m c) (A6 m c) (A7 m c) (A8 m c) := by
  refine (dats m 0 c).arrAt_eq_of_covers 16 _ (by decide +kernel) fun t hf y => ?_
  have e := idx_16 t
  have hk : t.val = 15 := by
    have := (flush0_16 t).mp hf
    have := lt_points t.isLt
    omega
  blk_simp
  rw [after0_16]
  rw [eq_ix2 y]
  refine (sum_dwa m c (y 0) (y 1) t.val t.isLt).trans ?_
  rw [hk]
  show dwaArr (A0 m c) (A2 m c) (A3 m c) (A4 m c) (A5 m c) (A6 m c) (A7 m c) (A8 m c) (ix2 (y 0) (y 1)) = _
  exact congrArg (dwaArr (A0 m c) (A2 m c) (A3 m c) (A4 m c) (A5 m c) (A6 m c) (A7 m c) (A8 m c)) (by blk_ext [e])

theorem final_dwb : (dats m 0 c).arrAt 17 cfg0.N = dwbArr (A0 m c) (A2 m c) (A3 m c) (A4 m c) (A5 m c) (A6 m c) (A7 m c) (A8 m c) := by
  refine (dats m 0 c).arrAt_eq_of_covers 17 _ (by decide +kernel) fun t hf y => ?_
  have e := idx_17 t
  have hk : t.val = 15 := by
    have := (flush0_17 t).mp hf
    have := lt_points t.isLt
    omega
  blk_simp
  rw [after0_17]
  rw [eq_ix2 y]
  refine (sum_dwb m c (y 0) (y 1) t.val t.isLt).trans ?_
  rw [hk]
  show dwbArr (A0 m c) (A2 m c) (A3 m c) (A4 m c) (A5 m c) (A6 m c) (A7 m c) (A8 m c) (ix2 (y 0) (y 1)) = _
  exact congrArg (dwbArr (A0 m c) (A2 m c) (A3 m c) (A4 m c) (A5 m c) (A6 m c) (A7 m c) (A8 m c)) (by blk_ext [e])

theorem final_gain : (dats m 0 c).arrAt 18 cfg0.N = dwonArr (A0 m c) (A2 m c) (A3 m c) (A4 m c) (A5 m c) (A6 m c) (A7 m c) (A8 m c) := by
  refine (dats m 0 c).arrAt_eq_of_covers 18 _ (by decide +kernel) fun t hf y => ?_
  have e := idx_18 t
  have hk : t.val = 15 := by
    have := (flush0_18 t).mp hf
    have := lt_points t.isLt
    omega
  blk_simp
  rw [after0_18]
  rw [eq_ix2 y]
  refine (sum_gain m c (y 0) (y 1) t.val t.isLt).trans ?_
  rw [hk]
  show dwonArr (A0 m c) (A2 m c) (A3 m c) (A4 m c) (A5 m c) (A6 m c) (A7 m c) (A8 m c) (ix2 (y 0) (y 1)) = _
  exact congrArg (dwonArr (A0 m c) (A2 m c) (A3 m c) (A4 m c) (A5 m c) (A6 m c) (A7 m c) (A8 m c)) (by blk_ext [e])

theorem kernel_run (ρ : Dev nD → PrngReg) : θ_run (defs (F := Ideal)) (onTc (τ := τ) (main (F := Ideal))) ⟨m, fun _ => 0, ρ⟩ fun r =>
      ∀ c : Dev nD, r.2.mem ((c.tc : Thread nD τ).loc main_v0_0) = dyaArr (A0 m c) (A2 m c) (A3 m c) (A4 m c) (A5 m c) (A6 m c) (A7 m c) (A8 m c)
      ∧ r.2.mem ((c.tc : Thread nD τ).loc main_v0_1) = dobArr (A0 m c) (A2 m c) (A3 m c) (A4 m c) (A5 m c) (A6 m c) (A7 m c) (A8 m c)
      ∧ r.2.mem ((c.tc : Thread nD τ).loc main_v0_2) = dzArr (A0 m c) (A2 m c) (A3 m c) (A4 m c) (A5 m c) (A6 m c) (A7 m c) (A8 m c)
      ∧ r.2.mem ((c.tc : Thread nD τ).loc main_v0_3) = dgArr (A0 m c) (A2 m c) (A3 m c) (A4 m c) (A5 m c) (A6 m c) (A7 m c) (A8 m c)
      ∧ r.2.mem ((c.tc : Thread nD τ).loc main_v0_4) = dwoArr (A0 m c) (A1 m c) (A2 m c) (A3 m c) (A4 m c)
      ∧ r.2.mem ((c.tc : Thread nD τ).loc main_v0_5) = dwaArr (A0 m c) (A2 m c) (A3 m c) (A4 m c) (A5 m c) (A6 m c) (A7 m c) (A8 m c)
      ∧ r.2.mem ((c.tc : Thread nD τ).loc main_v0_6) = dwbArr (A0 m c) (A2 m c) (A3 m c) (A4 m c) (A5 m c) (A6 m c) (A7 m c) (A8 m c)
      ∧ r.2.mem ((c.tc : Thread nD τ).loc main_v0_7) = dwonArr (A0 m c) (A2 m c) (A3 m c) (A4 m c) (A5 m c) (A6 m c) (A7 m c) (A8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (final_dya m c), (h c).2.1.trans (final_dob m c), (h c).2.2.1.trans (final_dz m c), (h c).2.2.2.1.trans (final_dg m c), (h c).2.2.2.2.1.trans (final_dwo m c), (h c).2.2.2.2.2.1.trans (final_dwa m c), (h c).2.2.2.2.2.2.1.trans (final_dwb m c), (h c).2.2.2.2.2.2.2.1.trans (final_gain m c), (h c).2.2.2.2.2.2.2.2⟩) (run_blocks m ρ)

end Cert.MidBwd

end
-- ==== Proof.MidBwdRef.lean ====
/- The reference's gradients of the middle of the layer: on real inputs, the kernel's eight arrays. -/
module

public import proofs.«01_k».proof.Proof.MidBwd
public import proofs.«01_k».proof.Proof.Gen.Reference12Ideal.Run
public import Idealize.ShloMosaic.Lib.Quiescent

@[expose] public section

set_option maxRecDepth 16384

noncomputable section

namespace Cert.MidBwd

open Idealize.ShloMosaic Idealize.ShloMosaic.TcCoe Idealize.SL.Sem Cert.FeedForward Cert.Mid Cert.Reference12Ideal Cert.Reference12Ideal.Gen
  Cert.Reference12Ideal.Value

section Terms

variable (a0 : FVec Ideal S4096x1024 .f32) (a1 : FVec Ideal S4096x1024 .bf16) (a2 a3 : FVec Ideal S4096x512 .f32)
  (a4 : FVec Ideal S4096x5760 .bf16) (a5 : FVec Ideal S1x128 .f32) (a6 a7 : FVec Ideal S512x1024 .bf16) (a8 : FVec Ideal S1024x1024 .bf16)

/-- The second branch and its gate by heads, the gate's sigmoid, the mean squares, and the branch normed. -/
abbrev refO : FVec Ideal S4096x4x128 .f32 :=
  shapeCast _ a3 shapeCasts_S4096x512_S4096x4x128

abbrev refZ : FVec Ideal S4096x4x128 .f32 :=
  shapeCast _ (extractStridedSlice S4096x512 ![0, 5120] (extf .f32 a4 bitsLt_bf16_f32 : FVec Ideal S4096x5760 .f32)
    slices_S4096x5760_S4096x512_0_5120) shapeCasts_S4096x512_S4096x4x128

abbrev refSig : FVec Ideal S4096x4x128 .f32 :=
  Host.divf (broadcastInDim S4096x4x128 ![] bcast_S_S4096x4x128 (constant S_ .f32 0x3F800000#32)) (addf (broadcastInDim
    S4096x4x128 ![] bcast_S_S4096x4x128 (constant S_ .f32 0x3F800000#32)) (Host.exp (Host.negf (refZ a4))))

abbrev refMean : FVec Ideal S4096x4x1 .f32 :=
  addf (Host.divf (broadcastInDim S4096x4x1 ![0, 1] bcast_S4096x4_S4096x4x1_0_1 (Host.reduceAdd (mulf (refO a3) (refO a3))
    (constant S_ .f32 0x00000000#32) reducesTo_S4096x4x128_S4096x4_d2 h_S_)) (broadcastInDim S4096x4x1 ![] bcast_S_S4096x4x1
    (constant S_ .f32 0x43000000#32))) (broadcastInDim S4096x4x1 ![] bcast_S_S4096x4x1 (constant S_ .f32 0x358637BD#32))

abbrev refScale : FVec Ideal S4096x4x1 .f32 :=
  Host.rsqrt (refMean a3)

abbrev refNrm : FVec Ideal S4096x4x128 .f32 :=
  mulf (refO a3) (broadcastInDim S4096x4x128 ![0, 1, 2] bcast_S4096x4x1_S4096x4x128_0_1_2 (refScale a3))

abbrev refGain : FVec Ideal S4096x4x128 .f32 :=
  broadcastInDim S4096x4x128 ![0, 1, 2] bcast_S1x1x128_S4096x4x128_0_1_2 (broadcastInDim S1x1x128 ![2] bcast_S128_S1x1x128_2
    (shapeCast _ a5 shapeCasts_S1x128_S128))

/-- The gates, and the branches' gradients back to the second branch's product. -/
abbrev refGateA : FVec Ideal S4096x1024 .f32 :=
  Host.divf (broadcastInDim S4096x1024 ![] bcast_S_S4096x1024 (constant S_ .f32 0x3F800000#32)) (addf (broadcastInDim
    S4096x1024 ![] bcast_S_S4096x1024 (constant S_ .f32 0x3F800000#32)) (Host.exp (Host.negf (extractStridedSlice S4096x1024
    ![0, 0] (extractStridedSlice S4096x2048 ![0, 0] (extf .f32 a4 bitsLt_bf16_f32 : FVec Ideal S4096x5760 .f32)
    slices_S4096x5760_S4096x2048_0_0) slices_S4096x2048_S4096x1024_0_0))))

abbrev refGateB : FVec Ideal S4096x1024 .f32 :=
  Host.divf (broadcastInDim S4096x1024 ![] bcast_S_S4096x1024 (constant S_ .f32 0x3F800000#32)) (addf (broadcastInDim
    S4096x1024 ![] bcast_S_S4096x1024 (constant S_ .f32 0x3F800000#32)) (Host.exp (Host.negf (extractStridedSlice S4096x1024
    ![0, 1024] (extractStridedSlice S4096x2048 ![0, 0] (extf .f32 a4 bitsLt_bf16_f32 : FVec Ideal S4096x5760 .f32)
    slices_S4096x5760_S4096x2048_0_0) slices_S4096x2048_S4096x1024_0_1024))))

abbrev refDm : FVec Ideal S4096x1024 .f32 :=
  Host.dotGeneral dot_S4096x1024_S1024x1024_S4096x1024_1_1_0_0_n_n none a0 (extf .f32 a8 bitsLt_bf16_f32 : FVec Ideal
    S1024x1024 .f32)

abbrev refDub : FVec Ideal S4096x1024 .f32 :=
  mulf (refGateB a4) (refDm a0 a8)

abbrev refDua : FVec Ideal S4096x1024 .f32 :=
  mulf (refGateA a4) (refDm a0 a8)

abbrev refDyb : FVec Ideal S4096x4x128 .f32 :=
  shapeCast _ (Host.dotGeneral dot_S4096x1024_S512x1024_S4096x512_1_1_0_0_n_n none (refDub a0 a4 a8) (extf .f32 a7
    bitsLt_bf16_f32 : FVec Ideal S512x1024 .f32)) shapeCasts_S4096x512_S4096x4x128

abbrev refDn : FVec Ideal S4096x4x128 .f32 :=
  mulf (refDyb a0 a4 a7 a8) (mulf (refZ a4) (refSig a4))

/-- The branch normed and gated, and the part of its gradient through the mean square. -/
abbrev refGated : FVec Ideal S4096x512 .f32 :=
  shapeCast _ (mulf (mulf (refNrm a3) (refGain a5)) (mulf (refZ a4) (refSig a4))) shapeCasts_S4096x4x128_S4096x512

abbrev refPull : FVec Ideal S4096x4x128 .f32 :=
  broadcastInDim S4096x4x128 ![0, 1] bcast_S4096x4_S4096x4x128_0_1 (Host.reduceAdd (Host.divf (mulf (shapeCast _
    (Host.reduceAdd (mulf (refO a3) (mulf (refDn a0 a4 a7 a8) (refGain a5))) (constant S_ .f32 0x00000000#32)
    reducesTo_S4096x4x128_S4096x4_d2 h_S_) shapeCasts_S4096x4_S4096x4x1) (mulf (broadcastInDim S4096x4x1 ![] bcast_S_S4096x4x1
    (constant S_ .f32 0xBF000000#32)) (Host.divf (refScale a3) (refMean a3)))) (broadcastInDim S4096x4x1 ![] bcast_S_S4096x4x1
    (constant S_ .f32 0x43000000#32))) (constant S_ .f32 0x00000000#32) reducesTo_S4096x4x1_S4096x4_d2 h_S_)

/-- The eight results. -/
abbrev refDya : FVec Ideal S4096x512 .f32 :=
  Host.dotGeneral dot_S4096x1024_S512x1024_S4096x512_1_1_0_0_n_n none (refDua a0 a4 a8) (extf .f32 a6 bitsLt_bf16_f32 : FVec
    Ideal S512x1024 .f32)

abbrev refDob : FVec Ideal S4096x512 .f32 :=
  shapeCast _ (addf (addf (mulf (mulf (refDn a0 a4 a7 a8) (refGain a5)) (broadcastInDim S4096x4x128 ![0, 1, 2]
    bcast_S4096x4x1_S4096x4x128_0_1_2 (refScale a3))) (mulf (refO a3) (refPull a0 a3 a4 a5 a7 a8))) (mulf (refPull a0 a3 a4 a5
    a7 a8) (refO a3))) shapeCasts_S4096x4x128_S4096x512

abbrev refUa : FVec Ideal S4096x1024 .f32 :=
  Host.dotGeneral dot_S4096x512_S512x1024_S4096x1024_1_0_0_1_n_n none a2 (extf .f32 a6 bitsLt_bf16_f32 : FVec Ideal S512x1024
    .f32)

abbrev refUb : FVec Ideal S4096x1024 .f32 :=
  Host.dotGeneral dot_S4096x512_S512x1024_S4096x1024_1_0_0_1_n_n none (refGated a3 a4 a5) (extf .f32 a7 bitsLt_bf16_f32 : FVec
    Ideal S512x1024 .f32)

abbrev refDz : FVec Ideal S4096x512 .bf16 :=
  truncf .bf16 (shapeCast _ (addf (mulf (mulf (mulf (refNrm a3) (refGain a5)) (refDyb a0 a4 a7 a8)) (refSig a4)) (mulf (mulf
    (refZ a4) (mulf (mulf (refNrm a3) (refGain a5)) (refDyb a0 a4 a7 a8))) (mulf (refSig a4) (subf (broadcastInDim S4096x4x128
    ![] bcast_S_S4096x4x128 (constant S_ .f32 0x3F800000#32)) (refSig a4))))) shapeCasts_S4096x4x128_S4096x512)
    bitsLt_bf16_f32

abbrev refDg : FVec Ideal S4096x2048 .bf16 :=
  truncf .bf16 (addf (pad S4096x2048 ![0, 1024] ![0, 0] ![0, 0] (mulf (mulf (refDm a0 a8) (refUb a3 a4 a5 a7)) (mulf (refGateB
    a4) (subf (broadcastInDim S4096x1024 ![] bcast_S_S4096x1024 (constant S_ .f32 0x3F800000#32)) (refGateB a4)))) (constant
    S_ .f32 0x00000000#32) pads_S4096x1024_S4096x2048_000_102400 h_S_) (pad S4096x2048 ![0, 0] ![0, 1024] ![0, 0] (mulf (mulf
    (refDm a0 a8) (refUa a2 a6)) (mulf (refGateA a4) (subf (broadcastInDim S4096x1024 ![] bcast_S_S4096x1024 (constant S_ .f32
    0x3F800000#32)) (refGateA a4)))) (constant S_ .f32 0x00000000#32) pads_S4096x1024_S4096x2048_000_010240 h_S_))
    bitsLt_bf16_f32

abbrev refDwo : FVec Ideal S1024x1024 .f32 :=
  transpose S1024x1024 [1, 0] (Host.dotGeneral dot_S4096x1024_S4096x1024_S1024x1024_0_0_1_1_n_n none a0 (extf .f32 a1
    bitsLt_bf16_f32 : FVec Ideal S4096x1024 .f32)) transposes_S1024x1024_S1024x1024_1_0

abbrev refDwa : FVec Ideal S512x1024 .f32 :=
  transpose S512x1024 [1, 0] (Host.dotGeneral dot_S4096x1024_S4096x512_S1024x512_0_0_1_1_n_n none (refDua a0 a4 a8) a2)
    transposes_S1024x512_S512x1024_1_0

abbrev refDwb : FVec Ideal S512x1024 .f32 :=
  transpose S512x1024 [1, 0] (Host.dotGeneral dot_S4096x1024_S4096x512_S1024x512_0_0_1_1_n_n none (refDub a0 a4 a8) (refGated
    a3 a4 a5)) transposes_S1024x512_S512x1024_1_0

abbrev refDwon : FVec Ideal S8x128 .f32 :=
  broadcastInDim S8x128 ![1] bcast_S128_S8x128_1 (Host.reduceAdd (shapeCast _ (Host.reduceAdd (mulf (refNrm a3) (refDn a0 a4
    a7 a8)) (constant S_ .f32 0x00000000#32) reducesTo_S4096x4x128_S128_d0_1 h_S_) shapeCasts_S128_S1x1x128) (constant S_ .f32
    0x00000000#32) reducesTo_S1x1x128_S128_d0_1 h_S_)

/-- A head's entries within the row. -/
theorem head_part (v : Fin 512 → EReal) (h : Fin 4) (l : Fin 128) : head v ⟨h.val * 128 + l.val, by omega⟩ = part v h := by
  funext k
  have hh : (h.val * 128 + l.val) / 128 = h.val := by omega
  unfold head part
  exact congrArg v (Fin.ext (by dsimp only; rw [hh]))

theorem refGateA_apply (r : Fin 4096) (k : Fin 1024) :
    (refGateA a4 (ix2 r k) : EReal) = sigmoid ((rowArr a0 a2 a3 a4 r).ga k) := by
  rw [← expit_eq]
  unfold expit rowArr
  pointwise [refGateA]

theorem refGateB_apply (r : Fin 4096) (k : Fin 1024) :
    (refGateB a4 (ix2 r k) : EReal) = sigmoid ((rowArr a0 a2 a3 a4 r).gb k) := by
  rw [← expit_eq]
  unfold expit rowArr
  pointwise [refGateB]

theorem refGated_apply (r : Fin 4096) (j : Fin 512) : (refGated a3 a4 a5 (ix2 r j) : EReal)
    = gated (rowArr a0 a2 a3 a4 r).o (rowArr a0 a2 a3 a4 r).z (wts a5 a6 a7 a8).w j := by
  unfold gated headScale head rowArr wts
  rw [← expit_eq]
  unfold expit
  pointwise [refGated, refNrm, refScale, refMean, refGain, refSig, refZ, refO]

theorem refDm_apply (r : Fin 4096) (k : Fin 1024) :
    (refDm a0 a8 (ix2 r k) : EReal) = dm (rowArr a0 a2 a3 a4 r) (wts a5 a6 a7 a8) k := by
  unfold dm rowArr wts
  pointwise [refDm]

theorem refDua_apply (r : Fin 4096) (k : Fin 1024) :
    (refDua a0 a4 a8 (ix2 r k) : EReal) = dua (rowArr a0 a2 a3 a4 r) (wts a5 a6 a7 a8) k := by
  unfold dua
  rw [← refDm_apply, ← refGateA_apply, mul_comm]
  rfl

theorem refDub_apply (r : Fin 4096) (k : Fin 1024) :
    (refDub a0 a4 a8 (ix2 r k) : EReal) = dub (rowArr a0 a2 a3 a4 r) (wts a5 a6 a7 a8) k := by
  unfold dub
  rw [← refDm_apply, ← refGateB_apply, mul_comm]
  rfl

theorem refDya_apply (r : Fin 4096) (j : Fin 512) :
    (refDya a0 a4 a6 a8 (ix2 r j) : EReal) = dya (rowArr a0 a2 a3 a4 r) (wts a5 a6 a7 a8) j := by
  unfold dya
  simp only [← refDua_apply]
  unfold refDya
  generalize refDua a0 a4 a8 = d
  unfold wts
  pointwise []

theorem refDya_eq : refDya a0 a4 a6 a8 = dyaArr a0 a2 a3 a4 a5 a6 a7 a8 := by
  funext i
  rw [eq_ix2 i]
  exact refDya_apply a0 a2 a3 a4 a5 a6 a7 a8 (i 0) (i 1)

theorem refDyb_apply (r : Fin 4096) (h : Fin 4) (l : Fin 128) :
    (refDyb a0 a4 a7 a8 (ix3 r h l) : EReal) = part (dyb (rowArr a0 a2 a3 a4 r) (wts a5 a6 a7 a8)) h l := by
  unfold part dyb
  simp only [← refDub_apply]
  unfold refDyb
  generalize refDub a0 a4 a8 = d
  unfold wts
  pointwise []

theorem refO_apply (r : Fin 4096) (h : Fin 4) (l : Fin 128) :
    (refO a3 (ix3 r h l) : EReal) = part (rowArr a0 a2 a3 a4 r).o h l := by
  unfold part rowArr
  pointwise [refO]

theorem refZ_apply (r : Fin 4096) (h : Fin 4) (l : Fin 128) :
    (refZ a4 (ix3 r h l) : EReal) = part (rowArr a0 a2 a3 a4 r).z h l := by
  unfold part rowArr
  pointwise [refZ]

theorem refSig_apply (r : Fin 4096) (h : Fin 4) (l : Fin 128) :
    (refSig a4 (ix3 r h l) : EReal) = expit (part (rowArr a0 a2 a3 a4 r).z h l) := by
  rw [← refZ_apply]
  unfold expit refSig
  generalize refZ a4 = z
  pointwise []

theorem refGain_apply (r : Fin 4096) (h : Fin 4) (l : Fin 128) : (refGain a5 (ix3 r h l) : EReal) = (wts a5 a6 a7 a8).w l := by
  unfold wts
  pointwise [refGain]

theorem refMean_apply (r : Fin 4096) (h : Fin 4) :
    (refMean a3 (ix3 r h 0) : EReal)
      = Ideal.div (∑ l, part (rowArr a0 a2 a3 a4 r).o h l * part (rowArr a0 a2 a3 a4 r).o h l) headWidth + eps := by
  simp only [← refO_apply]
  unfold refMean
  generalize refO a3 = o
  pointwise []

theorem refScale_apply (r : Fin 4096) (h : Fin 4) :
    (refScale a3 (ix3 r h 0) : EReal) = headScale (part (rowArr a0 a2 a3 a4 r).o h) := by
  unfold headScale
  rw [← refMean_apply]
  rfl

theorem refNrm_apply (r : Fin 4096) (h : Fin 4) (l : Fin 128) :
    (refNrm a3 (ix3 r h l) : EReal) = part (nrm (rowArr a0 a2 a3 a4 r)) h l := by
  unfold part nrm
  rw [head_part, ← refScale_apply]
  refine Eq.trans ?_ (congrArg (· * _) (refO_apply a0 a2 a3 a4 r h l))
  unfold refNrm
  generalize refO a3 = o, refScale a3 = s
  pointwise []

theorem refDn_apply (r : Fin 4096) (h : Fin 4) (l : Fin 128) :
    (refDn a0 a4 a7 a8 (ix3 r h l) : EReal) = part (dn (rowArr a0 a2 a3 a4 r) (wts a5 a6 a7 a8)) h l := by
  unfold part dn
  rw [← expit_eq]
  exact congrArg₂ (· * ·) (refDyb_apply a0 a2 a3 a4 a5 a6 a7 a8 r h l)
    (congrArg₂ (· * ·) (refZ_apply a0 a2 a3 a4 r h l) (refSig_apply a0 a2 a3 a4 r h l))

theorem refPull_apply (r : Fin 4096) (h : Fin 4) (l : Fin 128) :
    (refPull a0 a3 a4 a5 a7 a8 (ix3 r h l) : EReal)
      = headPull (part (rowArr a0 a2 a3 a4 r).o h) (part (dn (rowArr a0 a2 a3 a4 r) (wts a5 a6 a7 a8)) h) (wts a5 a6 a7 a8).w := by
  unfold headPull
  rw [← refMean_apply, ← refScale_apply]
  simp only [← refO_apply, ← refDn_apply]
  simp only [← refGain_apply a5 a6 a7 a8 r h]
  unfold refPull
  generalize refO a3 = o, refDn a0 a4 a7 a8 = d, refGain a5 = g, refScale a3 = s, refMean a3 = v
  pointwise []
  exact Finset.sum_congr rfl fun x _ => by rw [Subsingleton.elim x 0]

/-- An entry by its head and its place there. -/
theorem part_div (v : Fin 512 → EReal) (j : Fin 512) : part v ⟨j.val / 128, by omega⟩ ⟨j.val % 128, by omega⟩ = v j :=
  congrArg v (Fin.ext (by dsimp only; omega))

theorem sum_rows (f : Fin 4096 → EReal) : ∑ r, f r = ∑ r ∈ Finset.range 4096, f (Fin.ofNat 4096 r) := by
  rw [Finset.sum_range]
  exact Finset.sum_congr rfl fun r _ => congrArg f (Fin.ext (Nat.mod_eq_of_lt r.isLt).symm)

theorem refDg_apply (r : Fin 4096) (k : Fin 2048) :
    (refDg a0 a2 a3 a4 a5 a6 a7 a8 (ix2 r k) : EReal) = dgates (rowArr a0 a2 a3 a4 r) (wts a5 a6 a7 a8) k := by
  have ha : ∀ k, (refUa a2 a6 (ix2 r k) : EReal) = ua (rowArr a0 a2 a3 a4 r) (wts a5 a6 a7 a8) k := fun k => by
    unfold ua rowArr wts
    pointwise [refUa]
  have hb : ∀ k, (refUb a3 a4 a5 a7 (ix2 r k) : EReal) = ub (rowArr a0 a2 a3 a4 r) (wts a5 a6 a7 a8) k := fun k => by
    unfold ub
    rw [Finset.sum_congr rfl fun j _ => congrArg (· * _) (refGated_apply a0 a2 a3 a4 a5 a6 a7 a8 r j).symm]
    unfold refUb
    generalize refGated a3 a4 a5 = g
    unfold wts
    pointwise []
  unfold dgates dga dgb
  simp only [← ha, ← hb, ← refDm_apply, ← refGateA_apply, ← refGateB_apply, mul_assoc]
  unfold refDg
  generalize refDm a0 a8 = d, refUa a2 a6 = s, refUb a3 a4 a5 a7 = t, refGateA a4 = u, refGateB a4 = v
  pointwise []
  by_cases hk : k.val < 1024
  · rw [dif_neg (by omega), dif_pos hk, dif_pos hk, zero_add, mul_assoc]
  · rw [dif_pos (by omega), dif_neg hk, dif_neg hk, add_zero, mul_assoc]

theorem refDg_eq : refDg a0 a2 a3 a4 a5 a6 a7 a8 = dgArr a0 a2 a3 a4 a5 a6 a7 a8 := by
  funext i
  rw [eq_ix2 i]
  exact refDg_apply a0 a2 a3 a4 a5 a6 a7 a8 (i 0) (i 1)

theorem refDwo_apply (a b : Fin 1024) : (refDwo a0 a1 (ix2 a b) : EReal) = ∑ r, dwoTerm a0 a1 a2 a3 a4 a b r := by
  unfold dwoTerm rowArr
  simp only [mul_comm (a1 _ : EReal)]
  pointwise [refDwo]

theorem refDwa_apply (a : Fin 512) (b : Fin 1024) :
    (refDwa a0 a2 a4 a8 (ix2 a b) : EReal) = ∑ r, dwaTerm a0 a2 a3 a4 a5 a6 a7 a8 a b r := by
  unfold dwaTerm
  simp only [← refDua_apply]
  unfold refDwa
  generalize refDua a0 a4 a8 = d
  simp only [mul_comm _ (d _ : EReal)]
  unfold rowArr
  pointwise []

theorem refDwb_apply (a : Fin 512) (b : Fin 1024) :
    (refDwb a0 a3 a4 a5 a8 (ix2 a b) : EReal) = ∑ r, dwbTerm a0 a2 a3 a4 a5 a6 a7 a8 a b r := by
  unfold dwbTerm
  simp only [← refDub_apply, ← refGated_apply]
  unfold refDwb
  generalize refDub a0 a4 a8 = d, refGated a3 a4 a5 = g
  simp only [mul_comm (g _ : EReal)]
  pointwise []

/-- A sum over an array's two leading axes. -/
theorem sum_leading {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ i : Fin n0, ∑ j : Fin n1, v (ix3 i j l) := by
  have hf (i : (⟨3, ![n0, n1, n2]⟩ : Shape).Idx) : h.drop i = ix1 l ↔ ∃ k : Fin n0 × Fin n1, ix3 k.1 k.2 l = i := by
    constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  refine congrArg (init + ·) ((Finset.sum_filter_eq_sum_of_fiber _ (fun k : Fin n0 × Fin n1 => ix3 k.1 k.2 l)
    (fun _ _ e => Prod.ext (congrFun e 0) (congrFun e 1)) hf v).trans ?_)
  simp only [Fintype.sum_prod_type]

theorem refDwon_apply (a : Fin 8) (b : Fin 128) :
    (refDwon a0 a3 a4 a7 a8 (ix2 a b) : EReal) = ∑ r, dwonTerm a0 a2 a3 a4 a5 a6 a7 a8 b r := by
  unfold dwonTerm gainTerm
  simp only [← refDn_apply, ← refNrm_apply]
  unfold refDwon
  generalize refDn a0 a4 a7 a8 = d, refNrm a3 = n
  simp only [mul_comm (d _ : EReal)]
  pointwise []
  rw [sum_leading, zero_add, Fin.sum_univ_one, Fin.sum_univ_one]
  pointwise []
  rw [sum_leading]
  pointwise []

theorem refDwo_eq : refDwo a0 a1 = dwoArr a0 a1 a2 a3 a4 := by
  funext i
  rw [eq_ix2 i]
  exact (refDwo_apply a0 a1 a2 a3 a4 (i 0) (i 1)).trans (sum_rows _)

theorem refDwa_eq : refDwa a0 a2 a4 a8 = dwaArr a0 a2 a3 a4 a5 a6 a7 a8 := by
  funext i
  rw [eq_ix2 i]
  exact (refDwa_apply a0 a2 a3 a4 a5 a6 a7 a8 (i 0) (i 1)).trans (sum_rows _)

theorem refDwb_eq : refDwb a0 a3 a4 a5 a8 = dwbArr a0 a2 a3 a4 a5 a6 a7 a8 := by
  funext i
  rw [eq_ix2 i]
  exact (refDwb_apply a0 a2 a3 a4 a5 a6 a7 a8 (i 0) (i 1)).trans (sum_rows _)

theorem refDwon_eq : refDwon a0 a3 a4 a7 a8 = dwonArr a0 a2 a3 a4 a5 a6 a7 a8 := by
  funext i
  rw [eq_ix2 i]
  exact (refDwon_apply a0 a2 a3 a4 a5 a6 a7 a8 (i 0) (i 1)).trans (sum_rows _)

/-- The inputs the second branch's gradients divide and cancel are real. -/
structure Real : Prop where
  dx (i : S4096x1024.Idx) : ∃ r : ℝ, (a0 i : EReal) = (r : EReal)
  ob (i : S4096x512.Idx) : ∃ r : ℝ, (a3 i : EReal) = (r : EReal)
  proj (i : S4096x5760.Idx) : ∃ r : ℝ, (a4 i : EReal) = (r : EReal)
  w (i : S1x128.Idx) : ∃ r : ℝ, (a5 i : EReal) = (r : EReal)
  wb (i : S512x1024.Idx) : ∃ r : ℝ, (a7 i : EReal) = (r : EReal)
  wo (i : S1024x1024.Idx) : ∃ r : ℝ, (a8 i : EReal) = (r : EReal)

variable {a0 a3 a4 a5 a7 a8}

theorem dyb_real (k : Real a0 a3 a4 a5 a7 a8) (r : Fin 4096) (j : Fin 512) :
    ∃ v : ℝ, dyb (rowArr a0 a2 a3 a4 r) (wts a5 a6 a7 a8) j = (v : EReal) := by
  choose X hX using k.dx
  choose O hO using k.wo
  choose W hW using k.wb
  choose S hS _ using sigmoid_real
  unfold dyb dub dm rowArr wts
  simp only [hX, hO, hW, hS, ← EReal.coe_mul, coe_sum]
  exact ⟨_, rfl⟩

theorem dn_real (k : Real a0 a3 a4 a5 a7 a8) (r : Fin 4096) (j : Fin 512) :
    ∃ v : ℝ, dn (rowArr a0 a2 a3 a4 r) (wts a5 a6 a7 a8) j = (v : EReal) := by
  obtain ⟨d, hd⟩ := dyb_real a2 a6 k r j
  obtain ⟨s, hs, _⟩ := sigmoid_real ((rowArr a0 a2 a3 a4 r).z j)
  obtain ⟨z, hz⟩ := k.proj (ix2 r ⟨5120 + j.val, by omega⟩)
  have hz' : (rowArr a0 a2 a3 a4 r).z j = (z : EReal) := hz
  unfold dn
  rw [hd, hs, hz', ← EReal.coe_mul, ← EReal.coe_mul]
  exact ⟨_, rfl⟩

theorem nrm_real (k : Real a0 a3 a4 a5 a7 a8) (r : Fin 4096) (j : Fin 512) (l : Fin 128) :
    ∃ v : ℝ, nrm (rowArr a0 a2 a3 a4 r) j * (wts a5 a6 a7 a8).w l = (v : EReal) := by
  choose O hO using k.ob
  obtain ⟨w, hw⟩ := k.w (ix2 0 l)
  obtain ⟨s, _, hs, _⟩ := headScale_real (head (rowArr a0 a2 a3 a4 r).o j) _ fun _ => hO _
  have hw' : (wts a5 a6 a7 a8).w l = (w : EReal) := hw
  have ho' : (rowArr a0 a2 a3 a4 r).o j = (_ : EReal) := hO (ix2 r j)
  unfold nrm
  rw [hs, hw', ho', ← EReal.coe_mul, ← EReal.coe_mul]
  exact ⟨_, rfl⟩

theorem refDob_eq (k : Real a0 a3 a4 a5 a7 a8) : refDob a0 a3 a4 a5 a7 a8 = dobArr a0 a2 a3 a4 a5 a6 a7 a8 := by
  have H : ∀ (r : Fin 4096) (j : Fin 512),
      (refDob a0 a3 a4 a5 a7 a8 (ix2 r j) : EReal) = dob (rowArr a0 a2 a3 a4 r) (wts a5 a6 a7 a8) j := fun r j => by
    choose O hO using k.ob
    choose W hW using k.w
    choose D hD using dn_real a2 a6 k r
    unfold dob dobPart
    rw [← ref_head (part (rowArr a0 a2 a3 a4 r).o _) (part (dn _ _) _) (wts a5 a6 a7 a8).w _ _ _
      (fun _ => hO _) (fun _ => hD _) (fun _ => hW _),
      ← refScale_apply, ← refPull_apply a0 a2 a3 a4 a5 a6 a7 a8 r _ ⟨j.val % 128, by omega⟩, ← refO_apply, ← refDn_apply,
      ← refGain_apply a5 a6 a7 a8 r ⟨j.val / 128, by omega⟩]
    unfold refDob
    generalize refO a3 = o, refDn a0 a4 a7 a8 = d, refGain a5 = g, refScale a3 = s, refPull a0 a3 a4 a5 a7 a8 = v
    pointwise []
  funext i
  rw [eq_ix2 i]
  exact H (i 0) (i 1)

theorem refDz_eq (k : Real a0 a3 a4 a5 a7 a8) : refDz a0 a3 a4 a5 a7 a8 = dzArr a0 a2 a3 a4 a5 a6 a7 a8 := by
  have H : ∀ (r : Fin 4096) (j : Fin 512),
      (refDz a0 a3 a4 a5 a7 a8 (ix2 r j) : EReal) = dz (rowArr a0 a2 a3 a4 r) (wts a5 a6 a7 a8) j := fun r j => by
    obtain ⟨U, hU⟩ := dyb_real a2 a6 k r j
    obtain ⟨T, hT⟩ := nrm_real a2 a6 k r j ⟨j.val % 128, by omega⟩
    have e : dz (rowArr a0 a2 a3 a4 r) (wts a5 a6 a7 a8) j = gateGrad (T : EReal) ((rowArr a0 a2 a3 a4 r).z j) (U : EReal) := by
      unfold dz gateGrad
      rw [hU, hT]
      ac_rfl
    rw [e, ← ref_gate, ← hU, ← hT, ← part_div (nrm _) j, ← part_div (dyb _ _) j, ← part_div (rowArr a0 a2 a3 a4 r).z j,
      ← refSig_apply, ← refZ_apply, ← refNrm_apply, ← refDyb_apply, ← refGain_apply a5 a6 a7 a8 r ⟨j.val / 128, by omega⟩]
    unfold refDz
    generalize refNrm a3 = n, refDyb a0 a4 a7 a8 = d, refGain a5 = g, refSig a4 = s, refZ a4 = z
    pointwise []
  funext i
  rw [eq_ix2 i]
  exact H (i 0) (i 1)

end Terms

variable (m : (ℓ : Loc nD τ sig) → Buf (Elt Ideal) ℓ) (ρ : Dev nD → PrngReg)

set_option maxHeartbeats 2000000 in
/-- The reference's run, from real arguments. -/
theorem reference_run (a0 : Dev nD → FVec Ideal S4096x1024 .f32) (a1 : Dev nD → FVec Ideal S4096x1024 .bf16)
    (a2 a3 : Dev nD → FVec Ideal S4096x512 .f32) (a4 : Dev nD → FVec Ideal S4096x5760 .bf16) (a5 : Dev nD → FVec Ideal S1x128 .f32)
    (a6 a7 : Dev nD → FVec Ideal S512x1024 .bf16) (a8 : Dev nD → FVec Ideal S1024x1024 .bf16)
    (e0 : ∀ c : Dev nD, m ((c.tc : Thread nD τ).loc main_arg0) = a0 c)
    (e1 : ∀ c : Dev nD, m ((c.tc : Thread nD τ).loc main_arg1) = a1 c)
    (e2 : ∀ c : Dev nD, m ((c.tc : Thread nD τ).loc main_arg2) = a2 c)
    (e3 : ∀ c : Dev nD, m ((c.tc : Thread nD τ).loc main_arg3) = a3 c)
    (e4 : ∀ c : Dev nD, m ((c.tc : Thread nD τ).loc main_arg4) = a4 c)
    (e5 : ∀ c : Dev nD, m ((c.tc : Thread nD τ).loc main_arg5) = a5 c)
    (e6 : ∀ c : Dev nD, m ((c.tc : Thread nD τ).loc main_arg6) = a6 c)
    (e7 : ∀ c : Dev nD, m ((c.tc : Thread nD τ).loc main_arg7) = a7 c)
    (e8 : ∀ c : Dev nD, m ((c.tc : Thread nD τ).loc main_arg8) = a8 c)
    (h : ∀ c, Real (a0 c) (a3 c) (a4 c) (a5 c) (a7 c) (a8 c)) :
    θ_run (defs (F := Ideal)) (onTc (τ := τ) (main (F := Ideal))) ⟨m, fun _ => 0, ρ⟩ fun r =>
      ∀ c : Dev nD, r.2.mem ((c.tc : Thread nD τ).loc main_v69) = dyaArr (a0 c) (a2 c) (a3 c) (a4 c) (a5 c) (a6 c) (a7 c) (a8 c)
      ∧ r.2.mem ((c.tc : Thread nD τ).loc main_v98) = dobArr (a0 c) (a2 c) (a3 c) (a4 c) (a5 c) (a6 c) (a7 c) (a8 c)
      ∧ r.2.mem ((c.tc : Thread nD τ).loc main_v99) = dzArr (a0 c) (a2 c) (a3 c) (a4 c) (a5 c) (a6 c) (a7 c) (a8 c)
      ∧ r.2.mem ((c.tc : Thread nD τ).loc main_v100) = dgArr (a0 c) (a2 c) (a3 c) (a4 c) (a5 c) (a6 c) (a7 c) (a8 c)
      ∧ r.2.mem ((c.tc : Thread nD τ).loc main_v7) = dwoArr (a0 c) (a1 c) (a2 c) (a3 c) (a4 c)
      ∧ r.2.mem ((c.tc : Thread nD τ).loc main_v68) = dwaArr (a0 c) (a2 c) (a3 c) (a4 c) (a5 c) (a6 c) (a7 c) (a8 c)
      ∧ r.2.mem ((c.tc : Thread nD τ).loc main_v61) = dwbArr (a0 c) (a2 c) (a3 c) (a4 c) (a5 c) (a6 c) (a7 c) (a8 c)
      ∧ r.2.mem ((c.tc : Thread nD τ).loc main_v101) = dwonArr (a0 c) (a2 c) (a3 c) (a4 c) (a5 c) (a6 c) (a7 c) (a8 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r k c => ?_) (Value.run m ρ)
  have k' := k c
  unfold res_main_v98 res_main_v99 res_main_v100 at k'
  obtain ⟨k0, k1, k2, k3, k4, k5, k6, k7, kr⟩ := k'
  refine ⟨k0.trans ?_, k1.trans ?_, k2.trans ?_, k3.trans ?_, k4.trans ?_, k5.trans ?_, k6.trans ?_, k7.trans ?_, kr⟩
  · rw [e0 c, e4 c, e6 c, e8 c]
    exact refDya_eq (a0 c) (a2 c) (a3 c) (a4 c) (a5 c) (a6 c) (a7 c) (a8 c)
  · rw [e0 c, e3 c, e4 c, e5 c, e7 c, e8 c]
    exact refDob_eq (a2 c) (a6 c) (h c)
  · rw [e0 c, e3 c, e4 c, e5 c, e7 c, e8 c]
    exact refDz_eq (a2 c) (a6 c) (h c)
  · rw [e0 c, e2 c, e3 c, e4 c, e5 c, e6 c, e7 c, e8 c]
    exact refDg_eq (a0 c) (a2 c) (a3 c) (a4 c) (a5 c) (a6 c) (a7 c) (a8 c)
  · rw [e0 c, e1 c]
    exact refDwo_eq (a0 c) (a1 c) (a2 c) (a3 c) (a4 c)
  · rw [e0 c, e2 c, e4 c, e8 c]
    exact refDwa_eq (a0 c) (a2 c) (a3 c) (a4 c) (a5 c) (a6 c) (a7 c) (a8 c)
  · rw [e0 c, e3 c, e4 c, e5 c, e8 c]
    exact refDwb_eq (a0 c) (a2 c) (a3 c) (a4 c) (a5 c) (a6 c) (a7 c) (a8 c)
  · rw [e0 c, e3 c, e4 c, e7 c, e8 c]
    exact refDwon_eq (a0 c) (a2 c) (a3 c) (a4 c) (a5 c) (a6 c) (a7 c) (a8 c)

/-- The reference keeps its arguments and has no semaphore to leave raised. -/
theorem reference_frame : θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run defs _ _).mono (fun r h => ⟨fun c => (h c).2.2.2.2.2.2.2.2, sem_eq_zero_of_no_sems (by decide) r.2⟩) (Value.run m ρ)

end Cert.MidBwd

end
-- ==== Proof.MidGradients.lean ====
/- The claim on the middle's gradients: finite inputs are real, and there kernel and reference agree. -/
module

public import proofs.«01_k».proof.Defs
public import proofs.«01_k».proof.Proof.Gradients
public import proofs.«01_k».proof.Proof.MidBwdRef

@[expose] public section

set_option maxRecDepth 16384

noncomputable section

namespace Cert.Proof

open Idealize.ShloMosaic Idealize.ShloMosaic.TcCoe Idealize.SL.Sem Cert.FeedForward

theorem pre_facts12 : Cert.Pre_finite12.Facts where
  bcast_S_S4096x1024 := by decide
  bcast_S_S4096x512 := by decide
  bitsLt_bf16_f32 := by decide
  bcast_S_S4096x5760 := by decide
  bcast_S_S1x128 := by decide
  bcast_S_S512x1024 := by decide
  bcast_S_S1024x1024 := by decide

theorem mid_bwd : Cert.algebraic_Kernel12Ideal_Reference12Ideal_pre_finite12 (hPre_finite12 := pre_facts12) := fun m g m' g' hp hm => by
  have R : ∀ c, MidBwd.Real (MidBwd.A0 m c) (MidBwd.A3 m c) (MidBwd.A4 m c) (MidBwd.A5 m c) (MidBwd.A7 m c) (MidBwd.A8 m c) := fun c => by
    obtain ⟨h0, h1, h2, h3, h4, h5⟩ := hp c
    exact ⟨real_of_ones (fun _ => zero_word) h0, real_of_ones (fun _ => zero_word) h1, real_of_ones (fun _ => zero_word) h2,
      real_of_ones (fun _ => zero_word) h3, real_of_ones (fun _ => zero_word) h4, real_of_ones (fun _ => zero_word) h5⟩
  exact ⟨_, _, _, _, _, _, _, _, MidBwd.kernel_run m g, MidBwd.reference_run m' g' (MidBwd.A0 m) (MidBwd.A1 m) (MidBwd.A2 m) (MidBwd.A3 m) (MidBwd.A4 m)
    (MidBwd.A5 m) (MidBwd.A6 m) (MidBwd.A7 m) (MidBwd.A8 m) (fun c => (hm c).1) (fun c => (hm c).2.1) (fun c => (hm c).2.2.1)
    (fun c => (hm c).2.2.2.1) (fun c => (hm c).2.2.2.2.1) (fun c => (hm c).2.2.2.2.2.1) (fun c => (hm c).2.2.2.2.2.2.1)
    (fun c => (hm c).2.2.2.2.2.2.2.1) (fun c => (hm c).2.2.2.2.2.2.2.2) R⟩

end Cert.Proof

end
-- ==== Proof.lean ====
/- The claims of the delta scan's backward pass, of the feed-forward part and of the projection. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel10.Frame
public import proofs.«01_k».proof.Proof.Gen.Kernel10Ideal.Frame
public import proofs.«01_k».proof.Proof.Gen.Kernel20.Frame
public import proofs.«01_k».proof.Proof.Gen.Kernel20Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel23.Frame
public import proofs.«01_k».proof.Proof.Gen.Kernel23Ideal.Frame
public import proofs.«01_k».proof.Proof.Gen.Kernel24.Frame
public import proofs.«01_k».proof.Proof.Gen.Kernel24Ideal.Frame
public import proofs.«01_k».proof.Proof.Gen.Kernel25.Frame
public import proofs.«01_k».proof.Proof.Gen.Kernel25Ideal.Frame
public import proofs.«01_k».proof.Proof.Gen.Kernel26.Frame
public import proofs.«01_k».proof.Proof.Gen.Kernel26Ideal.Frame
public import proofs.«01_k».proof.Proof.Gen.Kernel11.Frame
public import proofs.«01_k».proof.Proof.Gen.Kernel11Ideal.Frame
public import proofs.«01_k».proof.Proof.Gen.Kernel12.Frame
public import proofs.«01_k».proof.Proof.Gen.Kernel12Ideal.Frame
public import proofs.«01_k».proof.Proof.Runs
public import proofs.«01_k».proof.Proof.Products
public import proofs.«01_k».proof.Proof.Gradients
public import proofs.«01_k».proof.Proof.Projection
public import proofs.«01_k».proof.Proof.DownProduct
public import proofs.«01_k».proof.Proof.WeightPieces
public import proofs.«01_k».proof.Proof.MidMerge
public import proofs.«01_k».proof.Proof.MidGradients

@[expose] public section

noncomputable section

namespace Cert.Proof

open Idealize.ShloMosaic Idealize.SL.Sem Cert.ScanBwd

theorem scan : Cert.algebraic_KernelIdeal_ReferenceIdeal_pre_finite (hPre_finite := pre_facts) := fun m g m' g' hp hm => by
  have E : ∀ c, refData m' c = kernelData m c := fun c => by
    obtain ⟨h0, h1, h2, h3, h4, h5, h6⟩ := hm c
    exact data_eq m m' c h0 h1 h2 h3 h4 h5 h6 rfl rfl rfl rfl rfl rfl rfl
  have R : ∀ c, (refData m' c).Real := fun c => by
    rw [E c]
    exact @kernel_real m pre_facts c (hp c)
  have K := kernel_run m g
  have L := reference_run m' g' R
  simp only [E] at L
  exact ⟨fun c => actArr (kernelData m c).gU, fun c => actArr (kernelData m c).gWk, fun c => actArr (kernelData m c).gQ,
    fun c => actArr (kernelData m c).gKd, fun c => scoreArr (kernelData m c).gP, fun c => decayArr (kernelData m c).gE, K, L⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel10.Gen.facts, Cert.Kernel10Ideal.Gen.facts, Cert.Reference10Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    pre_facts, pre_facts2, pre_facts4, pre_facts7, pre_facts12,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Kernel2.Gen.frame m ρ, fun m ρ _ => Cert.Kernel2Ideal.Gen.frame m ρ,
    fun m ρ _ => Cert.Kernel2Ideal.Gen.frame m ρ, fun m ρ _ => FfnIn.reference_frame m ρ, fun m ρ _ => FfnIn.reference_frame m ρ,
    fun m ρ _ => Cert.Kernel3.Gen.frame m ρ, fun m ρ _ => Cert.Kernel3Ideal.Gen.frame m ρ,
    fun m ρ _ => DwDown.reference_frame m ρ,
    fun m ρ _ => Cert.Kernel4.Gen.frame m ρ, fun m ρ _ => Cert.Kernel4Ideal.Gen.frame m ρ,
    fun m ρ _ => Cert.Kernel4Ideal.Gen.frame m ρ, fun m ρ _ => FfnAct.reference_frame m ρ, fun m ρ _ => FfnAct.reference_frame m ρ,
    fun m ρ _ => Cert.Kernel5.Gen.frame m ρ, fun m ρ _ => Cert.Kernel5Ideal.Gen.frame m ρ,
    fun m ρ _ => DwGate.reference_frame m ρ,
    fun m ρ _ => Cert.Kernel6.Gen.frame m ρ, fun m ρ _ => Cert.Kernel6Ideal.Gen.frame m ρ,
    fun m ρ _ => DwUp.reference_frame m ρ,
    fun m ρ _ => Cert.Kernel7.Gen.frame m ρ, fun m ρ _ => Cert.Kernel7Ideal.Gen.frame m ρ,
    fun m ρ _ => Cert.Kernel7Ideal.Gen.frame m ρ, fun m ρ _ => InProj.reference_frame m ρ, fun m ρ _ => InProj.reference_frame m ρ,
    fun m ρ _ => Cert.Kernel10.Gen.frame m ρ, fun m ρ _ => Cert.Kernel10Ideal.Gen.frame m ρ,
    fun m ρ _ => FfnDown.reference_frame m ρ,
    fun m ρ _ => Cert.Kernel20.Gen.frame m ρ, fun m ρ _ => Cert.Kernel20Ideal.Gen.frame m ρ,
    fun m ρ _ => DwIn0.reference_frame m ρ,
    fun m ρ _ => Cert.Kernel21.Gen.frame m ρ, fun m ρ _ => Cert.Kernel21Ideal.Gen.frame m ρ,
    fun m ρ _ => DwIn1.reference_frame m ρ,
    fun m ρ _ => Cert.Kernel22.Gen.frame m ρ, fun m ρ _ => Cert.Kernel22Ideal.Gen.frame m ρ,
    fun m ρ _ => DwIn2.reference_frame m ρ,
    fun m ρ _ => Cert.Kernel23.Gen.frame m ρ, fun m ρ _ => Cert.Kernel23Ideal.Gen.frame m ρ,
    fun m ρ _ => DwIn3.reference_frame m ρ,
    fun m ρ _ => Cert.Kernel24.Gen.frame m ρ, fun m ρ _ => Cert.Kernel24Ideal.Gen.frame m ρ,
    fun m ρ _ => DwIn4.reference_frame m ρ,
    fun m ρ _ => Cert.Kernel25.Gen.frame m ρ, fun m ρ _ => Cert.Kernel25Ideal.Gen.frame m ρ,
    fun m ρ _ => DwIn5.reference_frame m ρ,
    fun m ρ _ => Cert.Kernel26.Gen.frame m ρ, fun m ρ _ => Cert.Kernel26Ideal.Gen.frame m ρ,
    fun m ρ _ => DwIn6.reference_frame m ρ,
    fun m ρ _ => Cert.Kernel11.Gen.frame m ρ, fun m ρ _ => Cert.Kernel11Ideal.Gen.frame m ρ,
    fun m ρ _ => Mid.reference_frame m ρ,
    fun m ρ _ => Cert.Kernel12.Gen.frame m ρ, fun m ρ _ => Cert.Kernel12Ideal.Gen.frame m ρ,
    fun m ρ _ => Cert.Kernel12Ideal.Gen.frame m ρ, fun m ρ _ => MidBwd.reference_frame m ρ, fun m ρ _ => MidBwd.reference_frame m ρ,
    trivial, scan, trivial, ffn_in, trivial, down, trivial, ffn_act, trivial, gate, trivial, up, trivial, in_proj, trivial, ffn_down, trivial, dw_in_0, trivial, dw_in_1, trivial, dw_in_2, trivial, dw_in_3, trivial, dw_in_4, trivial, dw_in_5, trivial, dw_in_6, trivial, mid, trivial, mid_bwd⟩

end Cert.Proof

end
